-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)) (v2 : (c : Dev Cert.Kernel2Ideal.nD) → Buf (Elt Ideal) ((c.tc : Thread Cert.Kernel2Ideal.nD Cert.Kernel2Ideal.τ).loc Cert.Kernel2Ideal.main_v44_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_v44_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v61) = v3 c
          ∧ r.2.mem ((c.tc : Thread Cert.Reference3Ideal.nD Cert.Reference3Ideal.τ).loc Cert.Reference3Ideal.main_v53) = v4 c
          ∧ r.2.mem ((c.tc : Thread Cert.Reference3Ideal.nD Cert.Reference3Ideal.τ).loc Cert.Reference3Ideal.main_v56) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "inv_c1" .f32 0x3FC48605#32 ((8388608 / 5463681 : ℝ) : EReal)
  ∧ IdealRules.named_const.Statement Cert.Kernel8Ideal.κ "inv_c2" .f32 0x42C8E6D3#32 ((268435456 / 2672307 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "inv_c1" .f32 0x3FC48605#32 ((8388608 / 5463681 : ℝ) : EReal)
  ∧ IdealRules.named_const.Statement Cert.Kernel9Ideal.κ "inv_c2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "inv_c1" .f32 0x3FC48605#32 ((8388608 / 5463681 : ℝ) : EReal)
  ∧ IdealRules.named_const.Statement Cert.Kernel10Ideal.κ "inv_c2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "inv_c1" .f32 0x3FC48605#32 ((8388608 / 5463681 : ℝ) : EReal)
  ∧ IdealRules.named_const.Statement Cert.Kernel11Ideal.κ "inv_c2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "inv_c1" .f32 0x3FC48605#32 ((8388608 / 5463681 : ℝ) : EReal)
  ∧ IdealRules.named_const.Statement Cert.Kernel12Ideal.κ "inv_c2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "inv_c1" .f32 0x3FC48605#32 ((8388608 / 5463681 : ℝ) : EReal)
  ∧ IdealRules.named_const.Statement Cert.Kernel13Ideal.κ "inv_c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4096x1024 : Shape := ⟨2, ![4096, 1024]⟩
abbrev S4096x512 : Shape := ⟨2, ![4096, 512]⟩
abbrev S1024x1024 : Shape := ⟨2, ![1024, 1024]⟩
abbrev S8x1024 : Shape := ⟨2, ![8, 1024]⟩
abbrev S1x1024 : Shape := ⟨2, ![1, 1024]⟩
abbrev S1024x5632 : Shape := ⟨2, ![1024, 5632]⟩
abbrev S4096x2816 : Shape := ⟨2, ![4096, 2816]⟩
abbrev S5632x1024 : Shape := ⟨2, ![5632, 1024]⟩
abbrev S512x2816 : Shape := ⟨2, ![512, 2816]⟩
abbrev S512x1024 : Shape := ⟨2, ![512, 1024]⟩
abbrev S512x512 : Shape := ⟨2, ![512, 512]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S8x1024, .f32⟩
  | .hbm, ⟨5, _⟩ => ⟨S1x1024, .f32⟩
  | .hbm, ⟨6, _⟩ => ⟨S1024x5632, .f32⟩
  | .hbm, ⟨7, _⟩ => ⟨S4096x2816, .bf16⟩
  | .hbm, ⟨8, _⟩ => ⟨S4096x2816, .bf16⟩
  | .hbm, ⟨9, _⟩ => ⟨S4096x1024, .f32⟩
  | .hbm, ⟨10, _⟩ => ⟨S1x1024, .f32⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S5632x1024, .f32⟩
  | .hbm, ⟨19, _⟩ => ⟨S5632x1024, .bf16⟩
  | .hbm, ⟨20, _⟩ => ⟨S1024x1024, .bf16⟩
  | .hbm, ⟨21, _⟩ => ⟨S4096x1024, .f32⟩
  | .hbm, ⟨22, _⟩ => ⟨S4096x512, .bf16⟩
  | .hbm, ⟨23, _⟩ => ⟨S4096x512, .f32⟩
  | .hbm, ⟨24, _⟩ => ⟨S1024x1024, .bf16⟩
  | .hbm, ⟨25, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S8x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S1024x1024, .bf16⟩
  | .local _ .vmem, ⟨25, _⟩ => ⟨S8x1024, .f32⟩
  | .local _ .vmem, ⟨26, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_47 : BitVec 32 := 0#32
  let v83 : BitVec 1 := Scalar.cmpi .ne v82 c0_i32_47
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S4096x512 : Shape := ⟨2, ![4096, 512]⟩
abbrev S1024x1024 : Shape := ⟨2, ![1024, 1024]⟩
abbrev S8x1024 : Shape := ⟨2, ![8, 1024]⟩
abbrev S1x1024 : Shape := ⟨2, ![1, 1024]⟩
abbrev S1024x5632 : Shape := ⟨2, ![1024, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩
abbrev S4x1024 : Shape := ⟨2, ![4, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S8x1024, .f32⟩
  | .hbm, ⟨5, _⟩ => ⟨S1x1024, .f32⟩
  | .hbm, ⟨6, _⟩ => ⟨S1024x5632, .f32⟩
  | .hbm, ⟨7, _⟩ => ⟨S4096x2816, .bf16⟩
  | .hbm, ⟨8, _⟩ => ⟨S4096x2816, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x5632, .f32⟩
  | .hbm, ⟨47, _⟩ => ⟨S4096x5632, .bf16⟩
  | .hbm, ⟨48, _⟩ => ⟨S4096x5632, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S1024x1024, .f32⟩
  | .hbm, ⟨91, _⟩ => ⟨S1024x1024, .f32⟩
  | .hbm, ⟨92, _⟩ => ⟨S4096x1024, .f32⟩
  | .hbm, ⟨93, _⟩ => ⟨S4096x512, .f32⟩
  | .hbm, ⟨94, _⟩ => ⟨S4096x512, .f32⟩
  | .hbm, ⟨95, _⟩ => ⟨S_, .f32⟩
  | .hbm, ⟨96, _⟩ => ⟨S4x1024, .f32⟩
  | .hbm, ⟨97, _⟩ => ⟨S8x1024, .f32⟩
  | .hbm, ⟨98, _⟩ => ⟨S4096x512, .bf16⟩
  | .hbm, ⟨99, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel2.lean ====
abbrev S4096x1024 : Shape := ⟨2, ![4096, 1024]⟩
abbrev S256x1024 : Shape := ⟨2, ![256, 1024]⟩
abbrev S8x1024 : Shape := ⟨2, ![8, 1024]⟩
abbrev S1x1024 : Shape := ⟨2, ![1, 1024]⟩
abbrev S1024x2560 : Shape := ⟨2, ![1024, 2560]⟩
abbrev S4096x512 : Shape := ⟨2, ![4096, 512]⟩
abbrev S4352x512 : Shape := ⟨2, ![4352, 512]⟩
abbrev S2560x1024 : Shape := ⟨2, ![2560, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x1024 : Shape := ⟨2, ![4352, 1024]⟩
abbrev S256x512 : Shape := ⟨2, ![256, 512]⟩
abbrev S512x1024 : Shape := ⟨2, ![512, 1024]⟩
abbrev S1024 : Shape := ⟨1, ![1024]⟩

abbrev nBuf : Space → Nat
  | .hbm => 66
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S8x1024, .f32⟩
  | .hbm, ⟨3, _⟩ => ⟨S1x1024, .f32⟩
  | .hbm, ⟨4, _⟩ => ⟨S1024x2560, .f32⟩
  | .hbm, ⟨5, _⟩ => ⟨S4096x512, .bf16⟩
  | .hbm, ⟨6, _⟩ => ⟨S4352x512, .f32⟩
  | .hbm, ⟨7, _⟩ => ⟨S4352x512, .f32⟩
  | .hbm, ⟨8, _⟩ => ⟨S4096x512, .bf16⟩
  | .hbm, ⟨9, _⟩ => ⟨S4096x512, .bf16⟩
  | .hbm, ⟨10, _⟩ => ⟨S4096x1024, .f32⟩
  | .hbm, ⟨11, _⟩ => ⟨S2560x1024, .f32⟩
  | .hbm, ⟨12, _⟩ => ⟨S2560x1024, .bf16⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S256x1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S4352x1024, .f32⟩
  | .hbm, ⟨62, _⟩ => ⟨S4352x1024, .bf16⟩
  | .hbm, ⟨63, _⟩ => ⟨S4096x1024, .f32⟩
  | .hbm, ⟨64, _⟩ => ⟨S2560x1024, .bf16⟩
  | .hbm, ⟨65, _⟩ => ⟨S8x1024, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S2560x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S2560x1024, .bf16⟩
  | .local _ .vmem, ⟨23, _⟩ => ⟨S8x1024, .f32⟩
  | .local _ .vmem, ⟨24, _⟩ => ⟨S2560x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![17], ![false]⟩

def k0_cond3 (i : grid0.Coords) : BitVec 1 :=
  let arg0 : BitVec 32 := BitVec.ofNat 32 (i 0).val
  let c16_i32 : BitVec 32 := 16#32
  let v0 : BitVec 1 := Scalar.cmpi .eq arg0 c16_i32
  let v_true : BitVec 1 := 1#1
  let v32 : BitVec 1 := Scalar.xori v0 v_true
  let v33 : BitVec 32 := Scalar.extui v32
  let c0_i32_22 : BitVec 32 := 0#32
  let v34 : BitVec 1 := Scalar.cmpi .ne v33 c0_i32_22
  v34

def k0_cond2 (i : grid0.Coords) : BitVec 1 :=
  let arg0 : BitVec 32 := BitVec.ofNat 32 (i 0).val
  let c16_i32 : BitVec 32 := 16#32
  let v0 : BitVec 1 := Scalar.cmpi .eq arg0 c16_i32
  let v30 : BitVec 32 := Scalar.extui v0
  let c0_i32_21 : BitVec 32 := 0#32
  let v31 : BitVec 1 := Scalar.cmpi .ne v30 c0_i32_21
  v31

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2560x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S4096x1024 : Shape := ⟨2, ![4096, 1024]⟩
abbrev S256x1024 : Shape := ⟨2, ![256, 1024]⟩
abbrev S8x1024 : Shape := ⟨2, ![8, 1024]⟩
abbrev S1x1024 : Shape := ⟨2, ![1, 1024]⟩
abbrev S1024x2560 : Shape := ⟨2, ![1024, 2560]⟩
abbrev S4096x512 : Shape := ⟨2, ![4096, 512]⟩
abbrev S4352x512 : Shape := ⟨2, ![4352, 512]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4096x2560 : Shape := ⟨2, ![4096, 2560]⟩
abbrev S1024x1024 : Shape := ⟨2, ![1024, 1024]⟩
abbrev S256x512 : Shape := ⟨2, ![256, 512]⟩
abbrev S2560x1024 : Shape := ⟨2, ![2560, 1024]⟩
abbrev S1024 : Shape := ⟨1, ![1024]⟩
abbrev S3x1024 : Shape := ⟨2, ![3, 1024]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S256x1024, .f32⟩
  | 2 => ⟨S8x1024, .f32⟩
  | 3 => ⟨S1x1024, .f32⟩
  | 4 => ⟨S1024x2560, .f32⟩
  | 5 => ⟨S4096x512, .bf16⟩
  | 6 => ⟨S4352x512, .f32⟩
  | 7 => ⟨S4352x512, .f32⟩
  | 8 => ⟨S4096x512, .bf16⟩
  | 9 => ⟨S4096x512, .bf16⟩
  | 10 => ⟨S4096x1024, .f32⟩
  | 11 => ⟨S1x1024, .f32⟩
  | 12 => ⟨S1x1024, .f32⟩
  | 13 => ⟨S1x1024, .f32⟩
  | 14 => ⟨S1x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S1x1024, .f32⟩
  | 36 => ⟨S1x1024, .f32⟩
  | 37 => ⟨S4096x1024, .f32⟩
  | 38 => ⟨S4096x1024, .f32⟩
  | 39 => ⟨S4096x1024, .f32⟩
  | 40 => ⟨S4096x1024, .f32⟩
  | 41 => ⟨S256x1024, .f32⟩
  | 42 => ⟨S_, .f32⟩
  | 43 => ⟨S256, .f32⟩
  | 44 => ⟨S256x1, .f32⟩
  | 45 => ⟨S_, .f32⟩
  | 46 => ⟨S256x1, .f32⟩
  | 47 => ⟨S256x1, .f32⟩
  | 48 => ⟨S_, .f32⟩
  | 49 => ⟨S256x1, .f32⟩
  | 50 => ⟨S256x1, .f32⟩
  | 51 => ⟨S256x1, .f32⟩
  | 52 => ⟨S256x1, .f32⟩
  | 53 => ⟨S_, .f32⟩
  | 54 => ⟨S256x1, .f32⟩
  | 55 => ⟨S256x1, .f32⟩
  | 56 => ⟨S256x1024, .f32⟩
  | 57 => ⟨S256x1024, .f32⟩
  | 58 => ⟨S256x1024, .f32⟩
  | 59 => ⟨S256x1024, .f32⟩
  | 60 => ⟨S_, .f32⟩
  | 61 => ⟨S1x1024, .f32⟩
  | 62 => ⟨S1x1024, .f32⟩
  | 63 => ⟨S256x1024, .f32⟩
  | 64 => ⟨S256x1024, .f32⟩
  | 65 => ⟨S256x1024, .f32⟩
  | 66 => ⟨S256x1024, .f32⟩
  | 67 => ⟨S4096x2560, .f32⟩
  | 68 => ⟨S1024x1024, .f32⟩
  | 69 => ⟨S256x1024, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x2560, .f32⟩
  | 76 => ⟨S256x512, .f32⟩
  | 77 => ⟨S256x512, .f32⟩
  | 78 => ⟨S256x1024, .f32⟩
  | 79 => ⟨S1024x1024, .f32⟩
  | 80 => ⟨S1024x1024, .f32⟩
  | 81 => ⟨S256x1024, .f32⟩
  | 82 => ⟨S_, .f32⟩
  | 83 => ⟨S1024x2560, .f32⟩
  | 84 => ⟨S2560x1024, .f32⟩
  | 85 => ⟨S1024x2560, .f32⟩
  | 86 => ⟨S1024x2560, .f32⟩
  | 87 => ⟨S4096x1024, .f32⟩
  | 88 => ⟨S_, .f32⟩
  | 89 => ⟨S1024, .f32⟩
  | 90 => ⟨S1x1024, .f32⟩
  | 91 => ⟨S256x1024, .f32⟩
  | 92 => ⟨S_, .f32⟩
  | 93 => ⟨S1024, .f32⟩
  | 94 => ⟨S1x1024, .f32⟩
  | 95 => ⟨S256x1024, .f32⟩
  | 96 => ⟨S256x1024, .f32⟩
  | 97 => ⟨S256x1024, .f32⟩
  | 98 => ⟨S_, .f32⟩
  | 99 => ⟨S1024, .f32⟩
  | 100 => ⟨S1x1024, .f32⟩
  | 101 => ⟨S256x1024, .f32⟩
  | 102 => ⟨S256x1024, .f32⟩
  | 103 => ⟨S256x1024, .f32⟩
  | 104 => ⟨S_, .f32⟩
  | 105 => ⟨S256, .f32⟩
  | 106 => ⟨S256x1, .f32⟩
  | 107 => ⟨S256x1024, .f32⟩
  | 108 => ⟨S256x1024, .f32⟩
  | 109 => ⟨S256x1, .f32⟩
  | 110 => ⟨S_, .f32⟩
  | 111 => ⟨S256x1, .f32⟩
  | 112 => ⟨S256x1, .f32⟩
  | 113 => ⟨S_, .f32⟩
  | 114 => ⟨S256, .f32⟩
  | 115 => ⟨S256x1024, .f32⟩
  | 116 => ⟨S256x1024, .f32⟩
  | 117 => ⟨S256x1024, .f32⟩
  | 118 => ⟨S256x1024, .f32⟩
  | 119 => ⟨S256x1024, .f32⟩
  | 120 => ⟨S_, .f32⟩
  | 121 => ⟨S1024, .f32⟩
  | 122 => ⟨S1x1024, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S1x1024, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S4096x1024, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S3x1024, .f32⟩
  | 28 => ⟨S8x1024, .f32⟩
  | 29 => ⟨S2560x1024, .f32⟩
  | 30 => ⟨S2560x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_18 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_19 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_20 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== Kernel3.lean ====
abbrev S4096x1024 : Shape := ⟨2, ![4096, 1024]⟩
abbrev S256x1024 : Shape := ⟨2, ![256, 1024]⟩
abbrev S8x1024 : Shape := ⟨2, ![8, 1024]⟩
abbrev S1x1024 : Shape := ⟨2, ![1, 1024]⟩
abbrev S1024x2560 : Shape := ⟨2, ![1024, 2560]⟩
abbrev S2560x1024 : Shape := ⟨2, ![2560, 1024]⟩
abbrev S4352x1024 : Shape := ⟨2, ![4352, 1024]⟩
abbrev S4352x512 : Shape := ⟨2, ![4352, 512]⟩
abbrev S256x512 : Shape := ⟨2, ![256, 512]⟩
abbrev S256 : Shape := ⟨1, ![256]⟩
abbrev S256x1 : Shape := ⟨2, ![256, 1]⟩
abbrev S512x1024 : Shape := ⟨2, ![512, 1024]⟩

abbrev nBuf : Space → Nat
  | .hbm => 13
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S8x1024, .f32⟩
  | .hbm, ⟨3, _⟩ => ⟨S1x1024, .f32⟩
  | .hbm, ⟨4, _⟩ => ⟨S1024x2560, .f32⟩
  | .hbm, ⟨5, _⟩ => ⟨S2560x1024, .f32⟩
  | .hbm, ⟨6, _⟩ => ⟨S2560x1024, .bf16⟩
  | .hbm, ⟨7, _⟩ => ⟨S4352x1024, .bf16⟩
  | .hbm, ⟨8, _⟩ => ⟨S4352x512, .bf16⟩
  | .hbm, ⟨9, _⟩ => ⟨S4352x512, .bf16⟩
  | .hbm, ⟨10, _⟩ => ⟨S4352x512, .bf16⟩
  | .hbm, ⟨11, _⟩ => ⟨S4352x512, .f32⟩
  | .hbm, ⟨12, _⟩ => ⟨S4352x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S8x1024, .f32⟩
  | .local _ .vmem, ⟨5, _⟩ => ⟨S2560x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4096x1024 : Shape := ⟨2, ![4096, 1024]⟩
abbrev S256x1024 : Shape := ⟨2, ![256, 1024]⟩
abbrev S8x1024 : Shape := ⟨2, ![8, 1024]⟩
abbrev S1x1024 : Shape := ⟨2, ![1, 1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4096x2560 : Shape := ⟨2, ![4096, 2560]⟩
abbrev S256x2560 : Shape := ⟨2, ![256, 2560]⟩
abbrev S4096x512 : Shape := ⟨2, ![4096, 512]⟩
abbrev S256x512 : Shape := ⟨2, ![256, 512]⟩
abbrev S4352x512 : Shape := ⟨2, ![4352, 512]⟩
abbrev S4352x1024 : Shape := ⟨2, ![4352, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S8x1024, .f32⟩
  | .hbm, ⟨3, _⟩ => ⟨S1x1024, .f32⟩
  | .hbm, ⟨4, _⟩ => ⟨S1024x2560, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S4096x2560, .f32⟩
  | .hbm, ⟨54, _⟩ => ⟨S256x2560, .f32⟩
  | .hbm, ⟨55, _⟩ => ⟨S4096x512, .f32⟩
  | .hbm, ⟨56, _⟩ => ⟨S256x512, .f32⟩
  | .hbm, ⟨57, _⟩ => ⟨S4352x512, .f32⟩
  | .hbm, ⟨58, _⟩ => ⟨S4096x512, .f32⟩
  | .hbm, ⟨59, _⟩ => ⟨S256x512, .f32⟩
  | .hbm, ⟨60, _⟩ => ⟨S4352x512, .f32⟩
  | .hbm, ⟨61, _⟩ => ⟨S4096x512, .f32⟩
  | .hbm, ⟨62, _⟩ => ⟨S256x512, .f32⟩
  | .hbm, ⟨63, _⟩ => ⟨S4352x512, .f32⟩
  | .hbm, ⟨64, _⟩ => ⟨S4096x512, .f32⟩
  | .hbm, ⟨65, _⟩ => ⟨S256x512, .f32⟩
  | .hbm, ⟨66, _⟩ => ⟨S4352x512, .f32⟩
  | .hbm, ⟨67, _⟩ => ⟨S4096x512, .f32⟩
  | .hbm, ⟨68, _⟩ => ⟨S256x512, .f32⟩
  | .hbm, ⟨69, _⟩ => ⟨S4352x512, .f32⟩
  | .hbm, ⟨70, _⟩ => ⟨S4352x1024, .f32⟩
  | .hbm, ⟨71, _⟩ => ⟨S4352x1024, .bf16⟩
  | .hbm, ⟨72, _⟩ => ⟨S4352x512, .bf16⟩
  | .hbm, ⟨73, _⟩ => ⟨S4352x512, .bf16⟩
  | .hbm, ⟨74, _⟩ => ⟨S4352x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S1024x1024 : Shape := ⟨2, ![1024, 1024]⟩
abbrev S8x1024 : Shape := ⟨2, ![8, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S8x1024, .f32⟩
  | .hbm, ⟨5, _⟩ => ⟨S1x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S8x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4096x1024 : Shape := ⟨2, ![4096, 1024]⟩
abbrev S4096x512 : Shape := ⟨2, ![4096, 512]⟩
abbrev S1024x1024 : Shape := ⟨2, ![1024, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S1024x1024, .f32⟩
  | .hbm, ⟨4, _⟩ => ⟨S8x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S5632x1024 : Shape := ⟨2, ![5632, 1024]⟩
abbrev S4096x5632 : Shape := ⟨2, ![4096, 5632]⟩
abbrev S16x1024 : Shape := ⟨2, ![16, 1024]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S2048x512 : Shape := ⟨2, ![2048, 512]⟩
abbrev S2080x1024 : Shape := ⟨2, ![2080, 1024]⟩
abbrev S2080x512 : Shape := ⟨2, ![2080, 512]⟩
abbrev S2048x256 : Shape := ⟨2, ![2048, 256]⟩
abbrev S1056x1024 : Shape := ⟨2, ![1056, 1024]⟩
abbrev S1056x256 : Shape := ⟨2, ![1056, 256]⟩
abbrev S1024x1024 : Shape := ⟨2, ![1024, 1024]⟩
abbrev S1024x256 : Shape := ⟨2, ![1024, 256]⟩
abbrev S3x512 : Shape := ⟨2, ![3, 512]⟩
abbrev S1x512 : Shape := ⟨2, ![1, 512]⟩
abbrev S48x512 : Shape := ⟨2, ![48, 512]⟩
abbrev S32x512 : Shape := ⟨2, ![32, 512]⟩
abbrev S32x256 : Shape := ⟨2, ![32, 256]⟩

abbrev nBuf : Space → Nat
  | .hbm => 11
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S4096x1024, .f32⟩
  | .hbm, ⟨9, _⟩ => ⟨S4096x5632, .bf16⟩
  | .hbm, ⟨10, _⟩ => ⟨S4096x5632, .f32⟩
  | .local _ .vmem, ⟨0, _⟩ => ⟨S16x1024, .bf16⟩
  | .local _ .vmem, ⟨1, _⟩ => ⟨S16x1024, .bf16⟩
  | .local _ .vmem, ⟨2, _⟩ => ⟨S2048x1024, .bf16⟩
  | .local _ .vmem, ⟨3, _⟩ => ⟨S2048x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x1024, .bf16⟩
  | .local _ .vmem, ⟨19, _⟩ => ⟨S256x1024, .bf16⟩
  | .local _ .vmem, ⟨20, _⟩ => ⟨S2048x1024, .f32⟩
  | .local _ .vmem, ⟨21, _⟩ => ⟨S2048x1024, .f32⟩
  | .local _ .vmem, ⟨22, _⟩ => ⟨S2048x512, .bf16⟩
  | .local _ .vmem, ⟨23, _⟩ => ⟨S2048x512, .bf16⟩
  | .local _ .vmem, ⟨24, _⟩ => ⟨S2048x512, .f32⟩
  | .local _ .vmem, ⟨25, _⟩ => ⟨S2048x512, .f32⟩
  | .local _ .vmem, ⟨26, _⟩ => ⟨S2080x1024, .bf16⟩
  | .local _ .vmem, ⟨27, _⟩ => ⟨S2080x512, .f32⟩
  | .local _ .vmem, ⟨28, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S4096x1024 : Shape := ⟨2, ![4096, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4096x5632 : Shape := ⟨2, ![4096, 5632]⟩
abbrev S_ : Shape := ⟨0, ![]⟩
abbrev S4098x5632 : Shape := ⟨2, ![4098, 5632]⟩
abbrev S4096x2816 : Shape := ⟨2, ![4096, 2816]⟩
abbrev S4096x2x11x256 : Shape := ⟨4, ![4096, 2, 11, 256]⟩
abbrev S4096x11x2x256 : Shape := ⟨4, ![4096, 11, 2, 256]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S4096x1024, .f32⟩
  | .hbm, ⟨6, _⟩ => ⟨S4096x5632, .f32⟩
  | .hbm, ⟨7, _⟩ => ⟨S_, .i32⟩
  | .hbm, ⟨8, _⟩ => ⟨S_, .f32⟩
  | .hbm, ⟨9, _⟩ => ⟨S4098x5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x2x11x256, .f32⟩
  | .hbm, ⟨40, _⟩ => ⟨S4096x11x2x256, .f32⟩
  | .hbm, ⟨41, _⟩ => ⟨S4096x5632, .f32⟩
  | .hbm, ⟨42, _⟩ => ⟨S4096x5632, .bf16⟩
  | .hbm, ⟨43, _⟩ => ⟨S4096x2x11x256, .f32⟩
  | .hbm, ⟨44, _⟩ => ⟨S4096x11x2x256, .f32⟩
  | .hbm, ⟨45, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel6.lean ====
abbrev S4096x1024 : Shape := ⟨2, ![4096, 1024]⟩
abbrev S8x1024 : Shape := ⟨2, ![8, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x1024 : Shape := ⟨2, ![4096, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4x1024 : Shape := ⟨2, ![4, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S1x1024, .f32⟩
  | .hbm, ⟨84, _⟩ => ⟨S_, .f32⟩
  | .hbm, ⟨85, _⟩ => ⟨S4x1024, .f32⟩
  | .hbm, ⟨86, _⟩ => ⟨S8x1024, .f32⟩
  | .hbm, ⟨87, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel7.lean ====
abbrev S16x1024 : Shape := ⟨2, ![16, 1024]⟩
abbrev S16x768 : Shape := ⟨2, ![16, 768]⟩
abbrev S1024x768 : Shape := ⟨2, ![1024, 768]⟩
abbrev S8x1024 : Shape := ⟨2, ![8, 1024]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S1024x768, .f32⟩
  | .hbm, ⟨4, _⟩ => ⟨S8x1024, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | .local _ .vmem, ⟨3, _⟩ => ⟨S1024x768, .f32⟩
  | .local _ .vmem, ⟨4, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference7Ideal.lean ====
abbrev S16x1024 : Shape := ⟨2, ![16, 1024]⟩
abbrev S16x768 : Shape := ⟨2, ![16, 768]⟩
abbrev S1024x768 : Shape := ⟨2, ![1024, 768]⟩
abbrev S_ : Shape := ⟨0, ![]⟩
abbrev S768x1024 : Shape := ⟨2, ![768, 1024]⟩
abbrev S8x1024 : Shape := ⟨2, ![8, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S768x1024, .f32⟩
  | .hbm, ⟨14, _⟩ => ⟨S1024x768, .f32⟩
  | .hbm, ⟨15, _⟩ => ⟨S16x1024, .f32⟩
  | .hbm, ⟨16, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference8Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S704x1024 : Shape := ⟨2, ![704, 1024]⟩
abbrev S8x704x1024 : Shape := ⟨3, ![8, 704, 1024]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel9Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference9Ideal.lean ====
abbrev S704x1024 : Shape := ⟨2, ![704, 1024]⟩
abbrev S8x704x1024 : Shape := ⟨3, ![8, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x704x1024, .bf16⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S320x1024 : Shape := ⟨2, ![320, 1024]⟩

abbrev nBuf : Space → Nat
  | .hbm => 7
  | .vmem => 7
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S320x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel10Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference10Ideal.lean ====
abbrev S320x1024 : Shape := ⟨2, ![320, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S_, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference11Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S352x1024, .f32⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference12Ideal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S200x128 : Shape := ⟨2, ![200, 128]⟩

abbrev nBuf : Space → Nat
  | .hbm => 7
  | .vmem => 7
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S200x128, .f32⟩
  | .hbm, ⟨5, _⟩ => ⟨S200x128, .f32⟩
  | .hbm, ⟨6, _⟩ => ⟨S200x128, .f32⟩
  | .local _ .vmem, ⟨0, _⟩ => ⟨S200x128, .f32⟩
  | .local _ .vmem, ⟨1, _⟩ => ⟨S200x128, .f32⟩
  | .local _ .vmem, ⟨2, _⟩ => ⟨S200x128, .f32⟩
  | .local _ .vmem, ⟨3, _⟩ => ⟨S200x128, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | _, _ => ⟨S200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference13Ideal.lean ====
abbrev S200x128 : Shape := ⟨2, ![200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S_, .f32⟩
  | .hbm, ⟨5, _⟩ => ⟨S200x128, .f32⟩
  | .hbm, ⟨6, _⟩ => ⟨S200x128, .f32⟩
  | .hbm, ⟨7, _⟩ => ⟨S_, .f32⟩
  | .hbm, ⟨8, _⟩ => ⟨S200x128, .f32⟩
  | .hbm, ⟨9, _⟩ => ⟨S200x128, .f32⟩
  | .hbm, ⟨10, _⟩ => ⟨S200x128, .f32⟩
  | .hbm, ⟨11, _⟩ => ⟨S_, .f32⟩
  | .hbm, ⟨12, _⟩ => ⟨S200x128, .f32⟩
  | .hbm, ⟨13, _⟩ => ⟨S200x128, .f32⟩
  | .hbm, ⟨14, _⟩ => ⟨S200x128, .f32⟩
  | .hbm, ⟨15, _⟩ => ⟨S_, .f32⟩
  | .hbm, ⟨16, _⟩ => ⟨S200x128, .f32⟩
  | .hbm, ⟨17, _⟩ => ⟨S200x128, .f32⟩
  | .hbm, ⟨18, _⟩ => ⟨S200x128, .f32⟩
  | .hbm, ⟨19, _⟩ => ⟨S_, .f32⟩
  | .hbm, ⟨20, _⟩ => ⟨S200x128, .f32⟩
  | .hbm, ⟨21, _⟩ => ⟨S200x128, .f32⟩
  | .hbm, ⟨22, _⟩ => ⟨S_, .f32⟩
  | .hbm, ⟨23, _⟩ => ⟨S200x128, .f32⟩
  | .hbm, ⟨24, _⟩ => ⟨S200x128, .f32⟩
  | .hbm, ⟨25, _⟩ => ⟨S200x128, .f32⟩
  | .hbm, ⟨26, _⟩ => ⟨S_, .f32⟩
  | .hbm, ⟨27, _⟩ => ⟨S200x128, .f32⟩
  | .hbm, ⟨28, _⟩ => ⟨S200x128, .f32⟩
  | .hbm, ⟨29, _⟩ => ⟨S200x128, .f32⟩
  | .hbm, ⟨30, _⟩ => ⟨S_, .f32⟩
  | .hbm, ⟨31, _⟩ => ⟨S200x128, .f32⟩
  | .hbm, ⟨32, _⟩ => ⟨S200x128, .f32⟩
  | .hbm, ⟨33, _⟩ => ⟨S200x128, .f32⟩
  | .hbm, ⟨34, _⟩ => ⟨S_, .f32⟩
  | .hbm, ⟨35, _⟩ => ⟨S200x128, .f32⟩
  | .hbm, ⟨36, _⟩ => ⟨S200x128, .f32⟩
  | _, _ => ⟨S200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8x176x128 : Shape := ⟨3, ![8, 176, 128]⟩
abbrev S176x128 : Shape := ⟨2, ![176, 128]⟩
abbrev S1x176x128 : Shape := ⟨3, ![1, 176, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x176x128, .f32⟩
  | .hbm, ⟨1, _⟩ => ⟨S176x128, .f32⟩
  | .local _ .vmem, ⟨0, _⟩ => ⟨S8x176x128, .f32⟩
  | .local _ .vmem, ⟨1, _⟩ => ⟨S176x128, .f32⟩
  | _, _ => ⟨S8x176x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference14Ideal.lean ====
abbrev S8x176x128 : Shape := ⟨3, ![8, 176, 128]⟩
abbrev S_ : Shape := ⟨0, ![]⟩
abbrev S176x128 : Shape := ⟨2, ![176, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x176x128, .f32⟩
  | .hbm, ⟨1, _⟩ => ⟨S_, .f32⟩
  | .hbm, ⟨2, _⟩ => ⟨S176x128, .f32⟩
  | _, _ => ⟨S8x176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .local _ .vmem, ⟨0, _⟩ => ⟨S8x8x128, .f32⟩
  | .local _ .vmem, ⟨1, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference15Ideal.lean ====
abbrev S8x8x128 : Shape := ⟨3, ![8, 8, 128]⟩
abbrev S_ : Shape := ⟨0, ![]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S_, .f32⟩
  | .hbm, ⟨2, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Pieces.lean ====
/- Stores of whole rows of a matrix, read back at an index. -/
module

public import Idealize.ShloMosaic.Lib.Pipeline.ValueKit.Tiles
public import Idealize.ShloMosaic.Lib.WritesUnit
public import Idealize.ShloMosaic.Lib.Pointwise

@[expose] public section

noncomputable section

namespace Cert.Pieces

open Idealize.ShloMosaic

variable {Val : EltTy → Type} {e : EltTy} {n k o h : Nat}

theorem zz : (![0, 0] : Fin 2 → Nat) = fun _ => 0 := funext fun a => by fin_cases a <;> rfl

/-- A load of the whole matrix reads it. -/
theorem ld_whole (x : (⟨2, ![n, k]⟩ : Shape).Idx → Val e) (inb) :
    View.ld x (Rect.unit (s := ⟨2, ![n, k]⟩) ![0, 0] ![n, k] inb) = x := View.ld_unit_zero zz _ _

/-- A load of `h` rows from row `o`, at an index. -/
theorem ld_rows (x : (⟨2, ![n, k]⟩ : Shape).Idx → Val e) (inb) (r : Fin h) (c : Fin k) (y : Fin n) (hy : y.val = o + r.val) :
    View.ld x (Rect.unit (s := ⟨2, ![n, k]⟩) ![o, 0] ![h, k] inb) (ix2 r c) = x (ix2 y c) :=
  View.ld_unit_apply_of x _ _ _ _ _ fun a => by fin_cases a <;> simp [hy]

variable [∀ e, Nonempty (Val e)]

/-- A row under the newest store reads its payload. -/
theorem canon_mem (inb) (w : (⟨2, ![h, k]⟩ : Shape).Idx → Val e) (L : List (View.Piece Val ⟨2, ![n, k]⟩ e)) (y : Fin n) (r : Fin h)
    (c : Fin k) (hy : y.val = o + r.val) :
    View.canon ((⟨Rect.unit (s := ⟨2, ![n, k]⟩) ![o, 0] ![h, k] inb, w⟩ : View.Piece Val ⟨2, ![n, k]⟩ e) :: L) (ix2 y c) = w (ix2 r c) := by
  have hi : (Rect.unit (s := ⟨2, ![n, k]⟩) ![o, 0] ![h, k] inb).emb (ix2 r c) = ix2 y c := funext fun a => Fin.ext (by
    fin_cases a
    · show o + 1 * r.val = y.val; omega
    · show 0 + 1 * c.val = c.val; omega)
  rw [← hi]
  exact View.canon_cons_emb _ _ _ _

/-- A row off the newest store reads what the older ones left. -/
theorem canon_not_mem (inb) (w : (⟨2, ![h, k]⟩ : Shape).Idx → Val e) (L : List (View.Piece Val ⟨2, ![n, k]⟩ e)) (y : Fin n)
    (c : Fin k) (hy : y.val < o ∨ o + h ≤ y.val) :
    View.canon ((⟨Rect.unit (s := ⟨2, ![n, k]⟩) ![o, 0] ![h, k] inb, w⟩ : View.Piece Val ⟨2, ![n, k]⟩ e) :: L) (ix2 y c) =
      View.canon L (ix2 y c) := by
  refine View.canon_cons_of_not_mem _ _ fun hm => ?_
  rw [Rect.mem_set_unit] at hm
  have := hm 0
  change o ≤ y.val ∧ y.val < o + h at this
  omega

/-- A store of the whole matrix, newest, reads back its payload. -/
theorem canon_whole (inb) (w : (⟨2, ![n, k]⟩ : Shape).Idx → Val e) (L : List (View.Piece Val ⟨2, ![n, k]⟩ e)) :
    View.canon ((⟨Rect.unit (s := ⟨2, ![n, k]⟩) ![0, 0] ![n, k] inb, w⟩ : View.Piece Val ⟨2, ![n, k]⟩ e) :: L) = w :=
  View.canon_cons_unit_zero zz _ _ _

/-- A load of rows over stores that cover them, at an index. -/
theorem readCov_rows {sig : RefSig} {κ : Kind} {sp : Space} (v : View sig κ sp ⟨2, ![n, k]⟩ e)
    (L : List (View.Piece Val ⟨2, ![n, k]⟩ e)) (inb) (r : Fin h) (c : Fin k) (y : Fin n) (hy : y.val = o + r.val) :
    v.readCov L (Rect.unit (s := ⟨2, ![n, k]⟩) ![o, 0] ![h, k] inb).toLoadRect (ix2 r c) = View.canon L (ix2 y c) := by
  rw [View.readCov_eq_canon']
  refine congrArg (View.canon L) (funext fun a => Fin.ext ?_)
  fin_cases a
  · show o + 1 * r.val = y.val; omega
  · show 0 + 1 * c.val = c.val; omega

/-- A load of the whole matrix over stores reads back what they left. -/
theorem readCov_whole {sig : RefSig} {κ : Kind} {sp : Space} (v : View sig κ sp ⟨2, ![n, k]⟩ e)
    (L : List (View.Piece Val ⟨2, ![n, k]⟩ e)) (inb) :
    v.readCov L (Rect.unit (s := ⟨2, ![n, k]⟩) ![0, 0] ![n, k] inb).toLoadRect = View.canon L := by
  funext j
  rw [View.readCov_eq_canon']
  refine congrArg (View.canon L) (funext fun a => Fin.ext ?_)
  fin_cases a
  · show 0 + 1 * (j 0).val = (j 0).val; omega
  · show 0 + 1 * (j 1).val = (j 1).val; omega

end Cert.Pieces

end
-- ==== Proof.N2.Spec.lean ====
/- The gradient of the output projection and of the second modulated norm, one row at a time, over the extended
   reals: the functions that both the kernel's blocks and the reference's arrays are shown to be. -/
module

public import Idealize.ShloMosaic.PureOps.Ideal.Laws
public import Idealize.ShloMosaic.Lib.Pointwise

@[expose] public section

noncomputable section

namespace Cert.N2

open Idealize.ShloMosaic

/-- A row of `n` extended reals. -/
abbrev Row (n : Nat) := Fin n → EReal

/-- The place of gate column `k` among the 5632 columns. -/
abbrev lo (k : Fin 2816) : Fin 5632 := ⟨k.val, by omega⟩
/-- The place of value column `k` among the 5632 columns. -/
abbrev hi (k : Fin 2816) : Fin 5632 := ⟨2816 + k.val, by omega⟩

/-- The word of the norm's `eps`. -/
abbrev epsC : EReal := Ideal.ofBits .f32 0x358637BD#32
/-- The word of the row length. -/
abbrev lenC : EReal := Ideal.ofBits .f32 0x44800000#32

/-- The gradient of the modulated norm's output: the gate half and the value half of the row, times the weights. -/
def dhR (w : Fin 5632 → Row 1024) (u v : Row 2816) : Row 1024 := fun c =>
  ∑ k, u k * w (lo k) c + ∑ k, v k * w (hi k) c

/-- The reciprocal root of the row's mean square. -/
def rstd (x : Row 1024) : EReal := Ideal.rsqrt (Ideal.div (∑ k, x k * x k) lenC + epsC)

/-- The normalised row. -/
def xhR (x : Row 1024) : Row 1024 := fun c => x c * rstd x

/-- The gradient of the norm's output before the modulation. -/
def dnR (sc dh : Row 1024) : Row 1024 := fun c => dh c * (1 + sc c)

/-- The gradient of the normalised row. -/
def dxhR (g sc dh : Row 1024) : Row 1024 := fun c => dnR sc dh c * g c

/-- The gradient of the row: what passes by the norm, and what comes through it. -/
def dxR (g sc dh x e : Row 1024) : Row 1024 := fun c =>
  e c + rstd x * (dxhR g sc dh c - xhR x c * Ideal.div (∑ k, dxhR g sc dh k * xhR x k) lenC)

/-- The gradient of the projection's row. -/
def dpR (gt dx : Row 1024) : Row 1024 := fun c => dx c * gt c

/-- The gradient of the row that was projected. -/
def dyR (wo : Fin 1024 → Row 1024) (dp : Row 1024) : Row 1024 := fun c => ∑ k, dp k * wo c k

/-- The row length is 1024. -/
theorem lenC_eq : lenC = ((1024 : ℝ) : EReal) := by
  show Ideal.ofBits .f32 0x44800000#32 = _
  have h : (1024 : ℝ) = 8388608 * (2 ^ 13)⁻¹ := by norm_num
  rw [h, EReal.coe_mul]
  simp [Ideal.ofBits, Ideal.ieee]

/-- The norm's `eps` is a positive real. -/
theorem epsC_pos : ∃ e : ℝ, 0 < e ∧ epsC = (e : EReal) := by
  refine ⟨8796093 * (2 ^ 43)⁻¹, by norm_num, ?_⟩
  rw [EReal.coe_mul]
  show Ideal.ofBits .f32 0x358637BD#32 = _
  simp [Ideal.ofBits, Ideal.ieee]

end Cert.N2

end
-- ==== Proof.N2.Block.lean ====
/- One grid point of the kernel: what the payloads of its body are at an index of the block, over the extended reals,
   as the row functions of Spec.lean. -/
module

public import proofs.«01_k».proof.Proof.Gen.KernelIdeal.Skeleton
public import Idealize.ShloMosaic.Lib.Pipeline.ValueKit.Tiles
public import proofs.«01_k».proof.Proof.N2.Spec

@[expose] public section

set_option maxRecDepth 16384

noncomputable section

namespace Cert.N2

open Idealize.ShloMosaic Cert.KernelIdeal Cert.KernelIdeal.Gen

section Blocks

variable {F : FTy → Type} [FloatOps F]
  (x0 x1 : Vec F S512x2816 .bf16) (x2 : Vec F S5632x1024 .bf16) (x3 x4 : Vec F S512x1024 .f32) (x5 : Vec F S512x1024 .bf16)
  (x6 : Vec F S1024x1024 .bf16) (x7 x8 : Vec F S512x512 .bf16) (x9 : Vec F S8x1024 .f32) (x10 : Vec F S1x1024 .f32)

/-- The weights of the gate half. -/
abbrev wLo : Vec F S2816x1024 .bf16 := View.ld x2 (Rect.unit (s := S5632x1024) ![0, 0] ![2816, 1024] inb_S5632x1024_S2816x1024_0_0)
/-- The weights of the value half. -/
abbrev wHi : Vec F S2816x1024 .bf16 := View.ld x2 (Rect.unit (s := S5632x1024) ![2816, 0] ![2816, 1024] inb_S5632x1024_S2816x1024_2816_0)
/-- The scale's row of the modulation. -/
abbrev scRow : Vec F S1x1024 .f32 := View.ld x9 (Rect.unit (s := S8x1024) ![4, 0] ![1, 1024] inb_S8x1024_S1x1024_4_0)
/-- The gate's row of the modulation. -/
abbrev gtRow : Vec F S1x1024 .f32 := View.ld x9 (Rect.unit (s := S8x1024) ![2, 0] ![1, 1024] inb_S8x1024_S1x1024_2_0)

/-- The block of the gradient of the modulated norm's output. -/
abbrev bDh : FVec F S512x1024 .f32 := k0_pay4 x0 (wLo x2) x1 (wHi x2)
/-- The block of the gradient before the modulation. -/
abbrev bDn : FVec F S512x1024 .f32 := k0_pay9 x0 (wLo x2) x1 (wHi x2) (scRow x9)
/-- The block of the stream's gradient. -/
abbrev bDx : FVec F S512x1024 .f32 := k0_pay15 (k0_pay6 x3) (k0_pay7 x3) (k0_pay10 x0 (wLo x2) x1 (wHi x2) x10 (scRow x9))
  (k0_pay11 x0 (wLo x2) x1 (wHi x2) x3 x10 (scRow x9)) x4
/-- The block of the projection's gradient. -/
abbrev bDp : FVec F S512x1024 .bf16 := k0_pay16 (k0_pay6 x3) (k0_pay7 x3) (k0_pay10 x0 (wLo x2) x1 (wHi x2) x10 (scRow x9))
  (k0_pay11 x0 (wLo x2) x1 (wHi x2) x3 x10 (scRow x9)) x4 (gtRow x9)
/-- The left half of the gradient of the projected block. -/
abbrev bDya : FVec F S512x512 .bf16 := k0_pay18 (k0_pay6 x3) (k0_pay7 x3) (k0_pay10 x0 (wLo x2) x1 (wHi x2) x10 (scRow x9))
  (k0_pay11 x0 (wLo x2) x1 (wHi x2) x3 x10 (scRow x9)) x4 (gtRow x9) x6
/-- The right half of the gradient of the projected block. -/
abbrev bDyc : FVec F S512x512 .f32 := k0_pay19 (k0_pay6 x3) (k0_pay7 x3) (k0_pay10 x0 (wLo x2) x1 (wHi x2) x10 (scRow x9))
  (k0_pay11 x0 (wLo x2) x1 (wHi x2) x3 x10 (scRow x9)) x4 (gtRow x9) x6
/-- The block's addend to the upper half of the projection weights' gradient. -/
abbrev bDwa : FVec F S512x1024 .f32 := k0_pay20 (k0_pay6 x3) (k0_pay7 x3) (k0_pay10 x0 (wLo x2) x1 (wHi x2) x10 (scRow x9))
  (k0_pay11 x0 (wLo x2) x1 (wHi x2) x3 x10 (scRow x9)) x4 (gtRow x9) x7

end Blocks

section Apply

variable (x0 x1 : Vec Ideal S512x2816 .bf16) (x2 : Vec Ideal S5632x1024 .bf16) (x3 x4 : Vec Ideal S512x1024 .f32)
  (x5 : Vec Ideal S512x1024 .bf16) (x6 : Vec Ideal S1024x1024 .bf16) (x7 x8 : Vec Ideal S512x512 .bf16)
  (x9 : Vec Ideal S8x1024 .f32) (x10 : Vec Ideal S1x1024 .f32)

/-- The gradient of the modulated norm's output in row `r` of the block. -/
abbrev dhB (r : Fin 512) : Row 1024 := dhR (fun k c => x2 (ix2 k c)) (fun k => x0 (ix2 r k)) (fun k => x1 (ix2 r k))
/-- The scale. -/
abbrev scB : Row 1024 := fun k => x9 (ix2 4 k)
/-- The gate. -/
abbrev gtB : Row 1024 := fun k => x9 (ix2 2 k)
/-- The gain. -/
abbrev gB : Row 1024 := fun k => x10 (ix2 0 k)
/-- The stream's gradient in row `r` of the block. -/
abbrev dxB (r : Fin 512) : Row 1024 := dxR (gB x10) (scB x9) (dhB x0 x1 x2 r) (fun k => x3 (ix2 r k)) (fun k => x4 (ix2 r k))
/-- The projection's gradient in row `r` of the block. -/
abbrev dpB (r : Fin 512) : Row 1024 := dpR (gtB x9) (dxB x0 x1 x2 x3 x4 x9 x10 r)

theorem wLo_apply (k : Fin 2816) (c : Fin 1024) : wLo x2 (ix2 k c) = x2 (ix2 (lo k) c) :=
  View.ld_unit_apply_of x2 _ _ _ _ _ fun a => by fin_cases a <;> simp
theorem wHi_apply (k : Fin 2816) (c : Fin 1024) : wHi x2 (ix2 k c) = x2 (ix2 (hi k) c) :=
  View.ld_unit_apply_of x2 _ _ _ _ _ fun a => by fin_cases a <;> simp
theorem scRow_apply (i : Fin 1) (c : Fin 1024) : scRow x9 (ix2 i c) = x9 (ix2 4 c) :=
  View.ld_unit_apply_of x9 _ _ _ _ _ fun a => by fin_cases a <;> simp
theorem gtRow_apply (i : Fin 1) (c : Fin 1024) : gtRow x9 (ix2 i c) = x9 (ix2 2 c) :=
  View.ld_unit_apply_of x9 _ _ _ _ _ fun a => by fin_cases a <;> simp

theorem bDh_apply (r : Fin 512) (c : Fin 1024) : bDh x0 x1 x2 (ix2 r c) = dhB x0 x1 x2 r c := by
  have h := wLo_apply x2
  have h' := wHi_apply x2
  unfold bDh
  generalize wLo x2 = y at h ⊢
  generalize wHi x2 = y' at h' ⊢
  pointwise [k0_pay4]
  simp only [h, h']
  rfl

theorem bDn_apply (r : Fin 512) (c : Fin 1024) : bDn x0 x1 x2 x9 (ix2 r c) = dnR (scB x9) (dhB x0 x1 x2 r) c := by
  have h := bDh_apply x0 x1 x2 r c
  unfold bDh at h
  unfold bDn k0_pay9
  generalize k0_pay4 x0 (wLo x2) x1 (wHi x2) = y at h
  pointwise
  rw [h, scRow_apply]
  rfl

theorem bDx_apply (r : Fin 512) (c : Fin 1024) :
    bDx x0 x1 x2 x3 x4 x9 x10 (ix2 r c) = dxB x0 x1 x2 x3 x4 x9 x10 r c := by
  have h := bDn_apply x0 x1 x2 x9 r
  unfold bDn at h
  unfold bDx k0_pay15 k0_pay11 k0_pay10
  generalize k0_pay9 x0 (wLo x2) x1 (wHi x2) (scRow x9) = y at h
  pointwise [k0_pay7, k0_pay6, k0_pay5]
  simp only [h]
  rfl

theorem bDp_apply (r : Fin 512) (c : Fin 1024) :
    bDp x0 x1 x2 x3 x4 x9 x10 (ix2 r c) = dpB x0 x1 x2 x3 x4 x9 x10 r c := by
  have h := bDx_apply x0 x1 x2 x3 x4 x9 x10 r c
  unfold bDx at h
  unfold bDp k0_pay16
  generalize k0_pay15 _ _ _ _ x4 = y at h ⊢
  pointwise
  rw [h, gtRow_apply]
  rfl

theorem bDya_apply (r : Fin 512) (c : Fin 512) :
    bDya x0 x1 x2 x3 x4 x6 x9 x10 (ix2 r c) = dyR (fun c k => x6 (ix2 c k)) (dpB x0 x1 x2 x3 x4 x9 x10 r) ⟨c.val, by omega⟩ := by
  have h := bDp_apply x0 x1 x2 x3 x4 x9 x10 r
  unfold bDp at h
  unfold bDya k0_pay18 k0_pay17
  generalize k0_pay16 _ _ _ _ x4 _ = y at h ⊢
  pointwise
  simp only [h]
  rfl

theorem bDyc_apply (r : Fin 512) (c : Fin 512) :
    bDyc x0 x1 x2 x3 x4 x6 x9 x10 (ix2 r c) = dyR (fun c k => x6 (ix2 c k)) (dpB x0 x1 x2 x3 x4 x9 x10 r) ⟨512 + c.val, by omega⟩ := by
  have h := bDp_apply x0 x1 x2 x3 x4 x9 x10 r
  unfold bDp at h
  unfold bDyc k0_pay19 k0_pay17
  generalize k0_pay16 _ _ _ _ x4 _ = y at h ⊢
  pointwise
  simp only [h]
  rfl

theorem bDwa_apply (i : Fin 512) (c : Fin 1024) :
    bDwa x0 x1 x2 x3 x4 x7 x9 x10 (ix2 i c) = ∑ r : Fin 512, x7 (ix2 r i) * dpB x0 x1 x2 x3 x4 x9 x10 r c := by
  have h := fun r => bDp_apply x0 x1 x2 x3 x4 x9 x10 r
  unfold bDp at h
  unfold bDwa k0_pay20
  generalize k0_pay16 _ _ _ _ x4 _ = y at h ⊢
  pointwise
  simp only [h]

theorem bDwc_apply (y : FVec Ideal S512x1024 .f32) (i : Fin 512) (c : Fin 1024) :
    k0_pay22 (bDp x0 x1 x2 x3 x4 x9 x10) y x8 (ix2 i c) =
      y (ix2 i c) + ∑ r : Fin 512, x8 (ix2 r i) * dpB x0 x1 x2 x3 x4 x9 x10 r c := by
  have h := fun r => bDp_apply x0 x1 x2 x3 x4 x9 x10 r
  generalize bDp x0 x1 x2 x3 x4 x9 x10 = z at h ⊢
  pointwise [k0_pay22]
  simp only [h]

/-- The block's column sums: of the shift's gradient, the scale's, the gain's and the gate's; nothing in the other rows. -/
def sAdd (ρ : Fin 8) (c : Fin 1024) : EReal := match ρ with
  | 0 => ∑ r : Fin 512, dhB x0 x1 x2 r c
  | 1 => ∑ r : Fin 512, dhB x0 x1 x2 r c * (xhR (fun k => x3 (ix2 r k)) c * gB x10 c)
  | 2 => ∑ r : Fin 512, dnR (scB x9) (dhB x0 x1 x2 r) c * xhR (fun k => x3 (ix2 r k)) c
  | 3 => ∑ r : Fin 512, dxB x0 x1 x2 x3 x4 x9 x10 r c * x5 (ix2 r c)
  | _ => 0

theorem s0_apply (y : FVec Ideal S1x1024 .f32) (i : Fin 1) (c : Fin 1024) :
    k0_pay24 (k0_pay12 (bDh x0 x1 x2)) y (ix2 i c) = y (ix2 i c) + sAdd x0 x1 x2 x3 x4 x5 x9 x10 0 c := by
  have h := fun r => bDh_apply x0 x1 x2 r
  generalize bDh x0 x1 x2 = z at h ⊢
  pointwise [k0_pay24, k0_pay12]
  simp only [h]
  rfl

theorem s1_apply (y : FVec Ideal S1x1024 .f32) (i : Fin 1) (c : Fin 1024) :
    k0_pay25 (k0_pay13 (bDh x0 x1 x2) (k0_pay8 x3 x10)) y (ix2 i c) = y (ix2 i c) + sAdd x0 x1 x2 x3 x4 x5 x9 x10 1 c := by
  have h := fun r => bDh_apply x0 x1 x2 r
  generalize bDh x0 x1 x2 = z at h ⊢
  pointwise [k0_pay25, k0_pay13, k0_pay8, k0_pay7, k0_pay6, k0_pay5]
  simp only [h]
  rfl

theorem s2_apply (y : FVec Ideal S1x1024 .f32) (i : Fin 1) (c : Fin 1024) :
    k0_pay26 (k0_pay14 (k0_pay7 x3) (bDn x0 x1 x2 x9)) y (ix2 i c) = y (ix2 i c) + sAdd x0 x1 x2 x3 x4 x5 x9 x10 2 c := by
  have h := fun r => bDn_apply x0 x1 x2 x9 r
  generalize bDn x0 x1 x2 x9 = z at h ⊢
  pointwise [k0_pay26, k0_pay14, k0_pay7, k0_pay6, k0_pay5]
  simp only [h]
  rfl

theorem s3_apply (y : FVec Ideal S1x1024 .f32) (i : Fin 1) (c : Fin 1024) :
    k0_pay1 (bDx x0 x1 x2 x3 x4 x9 x10) (k0_pay27 y) x5 (ix2 i c) = y (ix2 i c) + sAdd x0 x1 x2 x3 x4 x5 x9 x10 3 c := by
  have h := fun r => bDx_apply x0 x1 x2 x3 x4 x9 x10 r
  generalize bDx x0 x1 x2 x3 x4 x9 x10 = z at h ⊢
  pointwise [k0_pay1, k0_pay27]
  simp only [h]
  rfl

end Apply

end Cert.N2

end
-- ==== Proof.N2.Stores.lean ====
/- The stores of the kernel's body read back at an index: the four rows of column sums, and the two halves of the
   accumulator of the projection weights' gradient. -/
module

public import proofs.«01_k».proof.Proof.Pieces
public import proofs.«01_k».proof.Proof.N2.Block

@[expose] public section

set_option maxRecDepth 16384

noncomputable section

namespace Cert.N2

open Idealize.ShloMosaic Cert.KernelIdeal Cert.KernelIdeal.Gen Cert.Pieces

/-- Four stores of a row each over what `L` left. -/
theorem rows4 {sig : RefSig} {κ : Kind} {sp : Space} (v : View sig κ sp S8x1024 .f32) (f : v.ty.Contents (Elt Ideal))
    (i3 i2 i1 i0) (w3 w2 w1 w0 : S1x1024.Idx → EReal) (L : List (View.Piece (Elt Ideal) S8x1024 .f32)) (g : Fin 8 → Fin 1024 → EReal)
    (h3 : ∀ q, w3 (ix2 0 q) = g 3 q) (h2 : ∀ q, w2 (ix2 0 q) = g 2 q) (h1 : ∀ q, w1 (ix2 0 q) = g 1 q) (h0 : ∀ q, w0 (ix2 0 q) = g 0 q)
    (hL : ∀ q (p : Fin 8), 4 ≤ p.val → v.read (Elt Ideal) (v.writes (Elt Ideal) f L) (ix2 p q) = g p q) (p : Fin 8) (q : Fin 1024) :
    v.read (Elt Ideal) (v.writes (Elt Ideal) f (⟨Rect.unit (s := S8x1024) ![3, 0] ![1, 1024] i3, w3⟩ ::
      ⟨Rect.unit (s := S8x1024) ![2, 0] ![1, 1024] i2, w2⟩ :: ⟨Rect.unit (s := S8x1024) ![1, 0] ![1, 1024] i1, w1⟩ ::
      ⟨Rect.unit (s := S8x1024) ![0, 0] ![1, 1024] i0, w0⟩ :: L)) (ix2 p q) = g p q := by
  by_cases e3 : p = 3
  · subst e3
    rw [View.read_writes_cons_rows_of_mem v f i3 w3 _ (ix2 3 q) (ix2 0 q) rfl rfl rfl, h3]
  rw [View.read_writes_cons_rows_of_not_mem v f i3 w3 _ (ix2 p q) rfl rfl (show p.val < 3 ∨ 3 + 1 ≤ p.val by omega)]
  by_cases e2 : p = 2
  · subst e2
    rw [View.read_writes_cons_rows_of_mem v f i2 w2 _ (ix2 2 q) (ix2 0 q) rfl rfl rfl, h2]
  rw [View.read_writes_cons_rows_of_not_mem v f i2 w2 _ (ix2 p q) rfl rfl (show p.val < 2 ∨ 2 + 1 ≤ p.val by omega)]
  by_cases e1 : p = 1
  · subst e1
    rw [View.read_writes_cons_rows_of_mem v f i1 w1 _ (ix2 1 q) (ix2 0 q) rfl rfl rfl, h1]
  rw [View.read_writes_cons_rows_of_not_mem v f i1 w1 _ (ix2 p q) rfl rfl (show p.val < 1 ∨ 1 + 1 ≤ p.val by omega)]
  by_cases e0 : p = 0
  · subst e0
    rw [View.read_writes_cons_rows_of_mem v f i0 w0 _ (ix2 0 q) (ix2 0 q) rfl rfl rfl, h0]
  rw [View.read_writes_cons_rows_of_not_mem v f i0 w0 _ (ix2 p q) rfl rfl (show p.val < 0 ∨ 0 + 1 ≤ p.val by omega)]
  exact hL q p (by omega)

/-- Row `p` of the lower half. -/
abbrev dn (p : Fin 512) : Fin 1024 := ⟨p.val, by omega⟩
/-- Row `p` of the upper half. -/
abbrev up (p : Fin 512) : Fin 1024 := ⟨512 + p.val, by omega⟩

/-- Two stores of half the rows each. -/
theorem halves2 (i1 i0) (w1 w0 : Vec Ideal S512x1024 .f32) (L : List (View.Piece (Elt Ideal) S1024x1024 .f32)) (g : Fin 1024 → Fin 1024 → EReal)
    (h1 : ∀ p q, w1 (ix2 p q) = g (up p) q) (h0 : ∀ p q, w0 (ix2 p q) = g (dn p) q) (p q : Fin 1024) :
    View.canon (Val := Elt Ideal) (e := .f32) (⟨Rect.unit (s := S1024x1024) ![512, 0] ![512, 1024] i1, w1⟩ ::
      ⟨Rect.unit (s := S1024x1024) ![0, 0] ![512, 1024] i0, w0⟩ :: L) (ix2 p q) = g p q := by
  by_cases hp : p.val < 512
  · rw [canon_not_mem (Val := Elt Ideal) (e := .f32) i1 w1 _ p q (.inl hp), canon_mem (Val := Elt Ideal) (e := .f32) i0 w0 L p ⟨p.val, hp⟩ q (Nat.zero_add _).symm, h0]
  · have e : p = up ⟨p.val - 512, by omega⟩ := Fin.ext (show p.val = 512 + (p.val - 512) by omega)
    rw [canon_mem (Val := Elt Ideal) (e := .f32) i1 w1 _ p ⟨p.val - 512, by omega⟩ q (show p.val = 512 + (p.val - 512) by omega), h1, ← e]

variable (x0 x1 : Vec Ideal S512x2816 .bf16) (x2 : Vec Ideal S5632x1024 .bf16) (x3 x4 : Vec Ideal S512x1024 .f32)
  (x5 : Vec Ideal S512x1024 .bf16) (x7 x8 : Vec Ideal S512x512 .bf16) (x9 : Vec Ideal S8x1024 .f32) (x10 : Vec Ideal S1x1024 .f32)

/-- The block's addend to the projection weights' gradient. -/
def wAdd (p q : Fin 1024) : EReal :=
  if h : p.val < 512 then ∑ r : Fin 512, x7 (ix2 r ⟨p.val, h⟩) * dpB x0 x1 x2 x3 x4 x9 x10 r q
  else ∑ r : Fin 512, x8 (ix2 r ⟨p.val - 512, by omega⟩) * dpB x0 x1 x2 x3 x4 x9 x10 r q

theorem wAdd_dn (p : Fin 512) (q : Fin 1024) :
    wAdd x0 x1 x2 x3 x4 x7 x8 x9 x10 (dn p) q = ∑ r : Fin 512, x7 (ix2 r p) * dpB x0 x1 x2 x3 x4 x9 x10 r q := by
  rw [wAdd, dif_pos p.isLt]
theorem wAdd_up (p : Fin 512) (q : Fin 1024) :
    wAdd x0 x1 x2 x3 x4 x7 x8 x9 x10 (up p) q = ∑ r : Fin 512, x8 (ix2 r p) * dpB x0 x1 x2 x3 x4 x9 x10 r q := by
  rw [wAdd, dif_neg (show ¬ 512 + p.val < 512 by omega)]
  have e : (⟨(up p).val - 512, by show 512 + p.val - 512 < 512; omega⟩ : Fin 512) = p := Fin.ext (show 512 + p.val - 512 = p.val by omega)
  rw [e]

/-- Rows four to seven get no addend. -/
theorem sAdd_rest (p : Fin 8) (q : Fin 1024) (hp : 4 ≤ p.val) : sAdd x0 x1 x2 x3 x4 x5 x9 x10 p q = 0 := by
  unfold sAdd
  split
  · exact absurd hp (by decide)
  · exact absurd hp (by decide)
  · exact absurd hp (by decide)
  · exact absurd hp (by decide)
  · rfl

theorem pay2_apply (p : Fin 8) (q : Fin 1024) : k0_pay2 (F := Ideal) (ix2 p q) = 0 := by pointwise [k0_pay2]
theorem pay3_apply (p q : Fin 1024) : k0_pay3 (F := Ideal) (ix2 p q) = 0 := by pointwise [k0_pay3]
theorem pay21_apply (y z : FVec Ideal S512x1024 .f32) (p : Fin 512) (q : Fin 1024) : k0_pay21 y z (ix2 p q) = y (ix2 p q) + z (ix2 p q) := by
  pointwise [k0_pay21]
theorem pay23_apply (y : FVec Ideal S1024x1024 .f32) (p q : Fin 1024) : k0_pay23 (F := Ideal) y (ix2 p q) = y (ix2 p q) := by
  pointwise [k0_pay23]

end Cert.N2

end
-- ==== Proof.N2.CaseA.lean ====
/- What the first point of the grid leaves in each output block and in the scratch. -/
module

public import proofs.«01_k».proof.Proof.Gen.KernelIdeal.Frame
public import proofs.«01_k».proof.Proof.N2.Stores

@[expose] public section

set_option maxRecDepth 16384

noncomputable section

namespace Cert.N2

open Idealize.ShloMosaic Cert.KernelIdeal Cert.KernelIdeal.Gen Cert.Pieces

variable (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S8x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1024x1024 .bf16) (harg15 : arg15.IsWhole) (arg16 : Memref sig .tc .vmem S8x1024 .f32) (harg16 : arg16.IsWhole) (arg17 : Memref sig .tc .vmem S1024x1024 .f32) (harg17 : arg17.IsWhole)
  (hc0 : cond0_0 i) (hc1 : ¬cond0_1 i)
  (x0 x1 : Vec Ideal S512x2816 .bf16) (x2 : Vec Ideal S5632x1024 .bf16) (x3 x4 : Vec Ideal S512x1024 .f32)
  (x5 : Vec Ideal S512x1024 .bf16) (x6 : Vec Ideal S1024x1024 .bf16) (x7 x8 : Vec Ideal S512x512 .bf16) (x9 : Vec Ideal S8x1024 .f32)
  (x10 : Vec Ideal S1x1024 .f32) (xo15 : Vec Ideal S8x1024 .f32) (xs0 : Vec Ideal S1024x1024 .f32)

/-- Output 11: the block of the stream's gradient. -/
theorem out_A_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = bDx x0 x1 x2 x3 x4 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 12: the left half of the gradient of the projected block. -/
theorem out_A_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = bDya x0 x1 x2 x3 x4 x6 x9 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 13: the right half of the gradient of the projected block. -/
theorem out_A_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = bDyc x0 x1 x2 x3 x4 x6 x9 x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 15: the block's column sums, over zero. -/
theorem out_A_15 (ρ : Fin 8) (q : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 (ix2 ρ q) = sAdd x0 x1 x2 x3 x4 x5 x9 x10 ρ q := by
  unfold out0_A_15
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine rows4 _ _ _ _ _ _ _ _ _ _ _ (sAdd x0 x1 x2 x3 x4 x5 x9 x10) ?_ ?_ ?_ ?_ ?_ ρ q <;> intro q
  · rw [s3_apply, readCov_rows _ _ _ 0 q 3 rfl, canon_not_mem _ _ _ _ _ (by decide), canon_not_mem _ _ _ _ _ (by decide), canon_not_mem _ _ _ _ _ (by decide), canon_whole, pay2_apply, zero_add]
  · rw [s2_apply x0 x1 x2 x3 x4 x5, readCov_rows _ _ _ 0 q 2 rfl, canon_not_mem _ _ _ _ _ (by decide), canon_not_mem _ _ _ _ _ (by decide), canon_whole, pay2_apply, zero_add]
  · rw [s1_apply x0 x1 x2 x3 x4 x5 x9, readCov_rows _ _ _ 0 q 1 rfl, canon_not_mem _ _ _ _ _ (by decide), canon_whole, pay2_apply, zero_add]
  · rw [s0_apply x0 x1 x2 x3 x4 x5 x9 x10, readCov_rows _ _ _ 0 q 0 rfl, canon_whole, pay2_apply, zero_add]
  · intro p hp
    rw [View.read_writes_junk_eq_canon, canon_whole, pay2_apply, sAdd_rest _ _ _ _ _ _ _ _ _ _ hp]

/-- The scratch: the block's addend to the weights' gradient, over zero. -/
theorem sout_A (p q : Fin 1024) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 (ix2 p q) = wAdd x0 x1 x2 x3 x4 x7 x8 x9 x10 p q := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine halves2 _ _ _ _ _ (wAdd x0 x1 x2 x3 x4 x7 x8 x9 x10) ?_ ?_ p q <;> intro p q
  · rw [bDwc_apply, readCov_rows _ _ _ p q (up p) rfl, canon_not_mem _ _ _ _ _ (.inr (Nat.le_add_right _ _)), canon_whole, pay3_apply, zero_add, wAdd_up]
  · rw [pay21_apply, readCov_rows _ _ _ p q (dn p) (Nat.zero_add _).symm, canon_whole, pay3_apply, zero_add, wAdd_dn]
    exact bDwa_apply x0 x1 x2 x3 x4 x7 x9 x10 p q

end Cert.N2

end
-- ==== Proof.N2.CaseB.lean ====
/- What a point between of the grid leaves in each output block and in the scratch. -/
module

public import proofs.«01_k».proof.Proof.Gen.KernelIdeal.Frame
public import proofs.«01_k».proof.Proof.N2.Stores

@[expose] public section

set_option maxRecDepth 16384

noncomputable section

namespace Cert.N2

open Idealize.ShloMosaic Cert.KernelIdeal Cert.KernelIdeal.Gen Cert.Pieces

variable (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S8x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1024x1024 .bf16) (harg15 : arg15.IsWhole) (arg16 : Memref sig .tc .vmem S8x1024 .f32) (harg16 : arg16.IsWhole) (arg17 : Memref sig .tc .vmem S1024x1024 .f32) (harg17 : arg17.IsWhole)
  (hc0 : ¬cond0_0 i) (hc1 : ¬cond0_1 i)
  (x0 x1 : Vec Ideal S512x2816 .bf16) (x2 : Vec Ideal S5632x1024 .bf16) (x3 x4 : Vec Ideal S512x1024 .f32)
  (x5 : Vec Ideal S512x1024 .bf16) (x6 : Vec Ideal S1024x1024 .bf16) (x7 x8 : Vec Ideal S512x512 .bf16) (x9 : Vec Ideal S8x1024 .f32)
  (x10 : Vec Ideal S1x1024 .f32) (xo15 : Vec Ideal S8x1024 .f32) (xs0 : Vec Ideal S1024x1024 .f32)

/-- Output 11: the block of the stream's gradient. -/
theorem out_B_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDx x0 x1 x2 x3 x4 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_B
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 12: the left half of the gradient of the projected block. -/
theorem out_B_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDya x0 x1 x2 x3 x4 x6 x9 x10 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_B
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 13: the right half of the gradient of the projected block. -/
theorem out_B_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDyc x0 x1 x2 x3 x4 x6 x9 x10 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_B
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 15: the block's column sums, over what was there. -/
theorem out_B_15 (ρ : Fin 8) (q : Fin 1024) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 (ix2 ρ q) = xo15 (ix2 ρ q) + sAdd x0 x1 x2 x3 x4 x5 x9 x10 ρ q := by
  unfold out0_B_15
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine rows4 _ _ _ _ _ _ _ _ _ _ _ (fun ρ q => xo15 (ix2 ρ q) + sAdd x0 x1 x2 x3 x4 x5 x9 x10 ρ q) ?_ ?_ ?_ ?_ ?_ ρ q <;> intro q
  · rw [s3_apply, ld_rows _ _ 0 q 3 rfl]
  · rw [s2_apply x0 x1 x2 x3 x4 x5, ld_rows _ _ 0 q 2 rfl]
  · rw [s1_apply x0 x1 x2 x3 x4 x5 x9, ld_rows _ _ 0 q 1 rfl]
  · rw [s0_apply x0 x1 x2 x3 x4 x5 x9 x10, ld_rows _ _ 0 q 0 rfl]
  · intro p hp
    rw [sAdd_rest _ _ _ _ _ _ _ _ _ _ hp, add_zero, View.writes_nil, harg16.read_unread]

/-- The scratch: the block's addend to the weights' gradient, over what was there. -/
theorem sout_B (p q : Fin 1024) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 (ix2 p q) = xs0 (ix2 p q) + wAdd x0 x1 x2 x3 x4 x7 x8 x9 x10 p q := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine halves2 _ _ _ _ _ (fun p q => xs0 (ix2 p q) + wAdd x0 x1 x2 x3 x4 x7 x8 x9 x10 p q) ?_ ?_ p q <;> intro p q
  · rw [bDwc_apply, ld_rows _ _ p q (up p) rfl, wAdd_up]
  · rw [pay21_apply, ld_rows _ _ p q (dn p) (Nat.zero_add _).symm, wAdd_dn]
    exact congrArg (xs0 (ix2 (dn p) q) + ·) (bDwa_apply x0 x1 x2 x3 x4 x7 x9 x10 p q)

end Cert.N2

end
-- ==== Proof.N2.CaseC.lean ====
/- What the last point of the grid leaves in each output block and in the scratch. -/
module

public import proofs.«01_k».proof.Proof.Gen.KernelIdeal.Frame
public import proofs.«01_k».proof.Proof.N2.Stores

@[expose] public section

set_option maxRecDepth 16384

noncomputable section

namespace Cert.N2

open Idealize.ShloMosaic Cert.KernelIdeal Cert.KernelIdeal.Gen Cert.Pieces

variable (c : Dev nD) (i : grid0.Coords) (arg1 : Memref sig .tc .vmem S512x2816 .bf16) (harg1 : arg1.IsWhole) (arg2 : Memref sig .tc .vmem S512x2816 .bf16) (harg2 : arg2.IsWhole) (arg3 : Memref sig .tc .vmem S5632x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S8x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x512 .bf16) (harg13 : arg13.IsWhole) (arg14 : Memref sig .tc .vmem S512x512 .f32) (harg14 : arg14.IsWhole) (arg15 : Memref sig .tc .vmem S1024x1024 .bf16) (harg15 : arg15.IsWhole) (arg16 : Memref sig .tc .vmem S8x1024 .f32) (harg16 : arg16.IsWhole) (arg17 : Memref sig .tc .vmem S1024x1024 .f32) (harg17 : arg17.IsWhole)
  (hc0 : ¬cond0_0 i) (hc1 : cond0_1 i)
  (x0 x1 : Vec Ideal S512x2816 .bf16) (x2 : Vec Ideal S5632x1024 .bf16) (x3 x4 : Vec Ideal S512x1024 .f32)
  (x5 : Vec Ideal S512x1024 .bf16) (x6 : Vec Ideal S1024x1024 .bf16) (x7 x8 : Vec Ideal S512x512 .bf16) (x9 : Vec Ideal S8x1024 .f32)
  (x10 : Vec Ideal S1x1024 .f32) (xo15 : Vec Ideal S8x1024 .f32) (xs0 : Vec Ideal S1024x1024 .f32)

/-- Output 11: the block of the stream's gradient. -/
theorem out_C_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDx x0 x1 x2 x3 x4 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_C
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 12: the left half of the gradient of the projected block. -/
theorem out_C_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDya x0 x1 x2 x3 x4 x6 x9 x10 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_C
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 13: the right half of the gradient of the projected block. -/
theorem out_C_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 = bDyc x0 x1 x2 x3 x4 x6 x9 x10 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_C
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]

/-- Output 15: the block's column sums, over what was there. -/
theorem out_C_15 (ρ : Fin 8) (q : Fin 1024) : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 (ix2 ρ q) = xo15 (ix2 ρ q) + sAdd x0 x1 x2 x3 x4 x5 x9 x10 ρ q := by
  unfold out0_C_15
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine rows4 _ _ _ _ _ _ _ _ _ _ _ (fun ρ q => xo15 (ix2 ρ q) + sAdd x0 x1 x2 x3 x4 x5 x9 x10 ρ q) ?_ ?_ ?_ ?_ ?_ ρ q <;> intro q
  · rw [s3_apply, ld_rows _ _ 0 q 3 rfl]
  · rw [s2_apply x0 x1 x2 x3 x4 x5, ld_rows _ _ 0 q 2 rfl]
  · rw [s1_apply x0 x1 x2 x3 x4 x5 x9, ld_rows _ _ 0 q 1 rfl]
  · rw [s0_apply x0 x1 x2 x3 x4 x5 x9 x10, ld_rows _ _ 0 q 0 rfl]
  · intro p hp
    rw [sAdd_rest _ _ _ _ _ _ _ _ _ _ hp, add_zero, View.writes_nil, harg16.read_unread]

/-- The scratch: the block's addend to the weights' gradient, over what was there. -/
theorem sout_C (p q : Fin 1024) : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 (ix2 p q) = xs0 (ix2 p q) + wAdd x0 x1 x2 x3 x4 x7 x8 x9 x10 p q := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  refine halves2 _ _ _ _ _ (fun p q => xs0 (ix2 p q) + wAdd x0 x1 x2 x3 x4 x7 x8 x9 x10 p q) ?_ ?_ p q <;> intro p q
  · rw [bDwc_apply, ld_rows _ _ p q (up p) rfl, wAdd_up]
  · rw [pay21_apply, ld_rows _ _ p q (dn p) (Nat.zero_add _).symm, wAdd_dn]
    exact congrArg (xs0 (ix2 (dn p) q) + ·) (bDwa_apply x0 x1 x2 x3 x4 x7 x9 x10 p q)

/-- Output 14: the scratch at its end. -/
theorem out_C_14 (p q : Fin 1024) : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0 (ix2 p q) = xs0 (ix2 p q) + wAdd x0 x1 x2 x3 x4 x7 x8 x9 x10 p q := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 xo15 xs0)]
  unfold kernelRun0_C
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg16.read_unread, harg17.read_unread,
    ld_whole, shapeCast_self]
  rw [pay23_apply, readCov_whole]
  refine halves2 _ _ _ _ _ (fun p q => xs0 (ix2 p q) + wAdd x0 x1 x2 x3 x4 x7 x8 x9 x10 p q) ?_ ?_ p q <;> intro p q
  · rw [bDwc_apply, ld_rows _ _ p q (up p) rfl, wAdd_up]
  · rw [pay21_apply, ld_rows _ _ p q (dn p) (Nat.zero_add _).symm, wAdd_dn]
    exact congrArg (xs0 (ix2 (dn p) q) + ·) (bDwa_apply x0 x1 x2 x3 x4 x7 x9 x10 p q)

end Cert.N2

end
-- ==== Proof.N2.Fold.lean ====
/- What one grid point leaves, and what the points up to `n` leave together: the three row-blocked outputs are the
   point's own blocks, and the two accumulators are sums over the points. -/
module

public import proofs.«01_k».proof.Proof.Gen.KernelIdeal.Value
public import proofs.«01_k».proof.Proof.N2.CaseA
public import proofs.«01_k».proof.Proof.N2.CaseB
public import proofs.«01_k».proof.Proof.N2.CaseC

@[expose] public section

set_option maxRecDepth 16384

noncomputable section

namespace Cert.N2

open Idealize.ShloMosaic Cert.KernelIdeal Cert.KernelIdeal.Gen Cert.KernelIdeal.Value Cert.Pieces

variable (m : (ℓ : Loc nD τ sig) → Buf (Elt Ideal) ℓ) (c : Dev nD)

/-- The stream's gradient block of point `t`. -/
abbrev tDx (t : Fin cfg0.N) := bDx (iblk m c 0 t) (iblk m c 1 t) (iblk m c 2 t) (iblk m c 3 t) (iblk m c 4 t) (iblk m c 9 t) (iblk m c 10 t)
/-- The left half of the projected gradient's block of point `t`. -/
abbrev tDya (t : Fin cfg0.N) := bDya (iblk m c 0 t) (iblk m c 1 t) (iblk m c 2 t) (iblk m c 3 t) (iblk m c 4 t) (iblk m c 6 t) (iblk m c 9 t) (iblk m c 10 t)
/-- The right half of the projected gradient's block of point `t`. -/
abbrev tDyc (t : Fin cfg0.N) := bDyc (iblk m c 0 t) (iblk m c 1 t) (iblk m c 2 t) (iblk m c 3 t) (iblk m c 4 t) (iblk m c 6 t) (iblk m c 9 t) (iblk m c 10 t)
/-- The column sums point `t` adds. -/
abbrev tS (t : Fin cfg0.N) := sAdd (iblk m c 0 t) (iblk m c 1 t) (iblk m c 2 t) (iblk m c 3 t) (iblk m c 4 t) (iblk m c 5 t) (iblk m c 9 t) (iblk m c 10 t)
/-- The weight gradient point `t` adds. -/
abbrev tW (t : Fin cfg0.N) := wAdd (iblk m c 0 t) (iblk m c 1 t) (iblk m c 2 t) (iblk m c 3 t) (iblk m c 4 t) (iblk m c 7 t) (iblk m c 8 t) (iblk m c 9 t) (iblk m c 10 t)

variable (t : Fin cfg0.N)
  (acc : Vec Ideal S512x1024 .f32 × Vec Ideal S512x512 .bf16 × Vec Ideal S512x512 .f32 × Vec Ideal S1024x1024 .bf16 × Vec Ideal S8x1024 .f32 × Vec Ideal S1024x1024 .f32)

/-- Every point leaves its stream's gradient block in output 11. -/
theorem st_11 : (stAt0 m c t.val t.isLt acc).1 = tDx m c t := by
  by_cases h0 : t.val % 8 = 0
  · rw [stAt0_A m c t acc h0 (by omega)]; dsimp only; exact out_A_11 ..
  · by_cases h1 : t.val % 8 = 7
    · rw [stAt0_C m c t acc h0 h1]; dsimp only; exact out_C_11 ..
    · rw [stAt0_B m c t acc h0 h1]; dsimp only; exact out_B_11 ..

/-- Every point leaves the left half of its projected gradient in output 12. -/
theorem st_12 : (stAt0 m c t.val t.isLt acc).2.1 = tDya m c t := by
  by_cases h0 : t.val % 8 = 0
  · rw [stAt0_A m c t acc h0 (by omega)]; dsimp only; exact out_A_12 ..
  · by_cases h1 : t.val % 8 = 7
    · rw [stAt0_C m c t acc h0 h1]; dsimp only; exact out_C_12 ..
    · rw [stAt0_B m c t acc h0 h1]; dsimp only; exact out_B_12 ..

/-- Every point leaves the right half of its projected gradient in output 13. -/
theorem st_13 : (stAt0 m c t.val t.isLt acc).2.2.1 = tDyc m c t := by
  by_cases h0 : t.val % 8 = 0
  · rw [stAt0_A m c t acc h0 (by omega)]; dsimp only; exact out_A_13 ..
  · by_cases h1 : t.val % 8 = 7
    · rw [stAt0_C m c t acc h0 h1]; dsimp only; exact out_C_13 ..
    · rw [stAt0_B m c t acc h0 h1]; dsimp only; exact out_B_13 ..

/-- The first point leaves its own column sums. -/
theorem st_15_first (h0 : t.val % 8 = 0) (p : Fin 8) (q : Fin 1024) : (stAt0 m c t.val t.isLt acc).2.2.2.2.1 (ix2 p q) = tS m c t p q := by
  rw [stAt0_A m c t acc h0 (by omega)]; dsimp only; exact out_A_15 ..

/-- A later point adds its column sums to what it found. -/
theorem st_15_next (h0 : ¬t.val % 8 = 0) (p : Fin 8) (q : Fin 1024) :
    (stAt0 m c t.val t.isLt acc).2.2.2.2.1 (ix2 p q) = acc.2.2.2.2.1 (ix2 p q) + tS m c t p q := by
  by_cases h1 : t.val % 8 = 7
  · rw [stAt0_C m c t acc h0 h1]; dsimp only; exact out_C_15 ..
  · rw [stAt0_B m c t acc h0 h1]; dsimp only; exact out_B_15 ..

/-- The first point leaves its own weight gradient in the scratch. -/
theorem st_s_first (h0 : t.val % 8 = 0) (p q : Fin 1024) : (stAt0 m c t.val t.isLt acc).2.2.2.2.2 (ix2 p q) = tW m c t p q := by
  rw [stAt0_A m c t acc h0 (by omega)]; dsimp only; exact sout_A ..

/-- A later point adds its weight gradient to the scratch. -/
theorem st_s_next (h0 : ¬t.val % 8 = 0) (p q : Fin 1024) :
    (stAt0 m c t.val t.isLt acc).2.2.2.2.2 (ix2 p q) = acc.2.2.2.2.2 (ix2 p q) + tW m c t p q := by
  by_cases h1 : t.val % 8 = 7
  · rw [stAt0_C m c t acc h0 h1]; dsimp only; exact sout_C ..
  · rw [stAt0_B m c t acc h0 h1]; dsimp only; exact sout_B ..

/-- The last point writes the scratch with its own weight gradient added. -/
theorem st_14 (h1 : t.val % 8 = 7) (p q : Fin 1024) :
    (stAt0 m c t.val t.isLt acc).2.2.2.1 (ix2 p q) = acc.2.2.2.2.2 (ix2 p q) + tW m c t p q := by
  rw [stAt0_C m c t acc (by omega) h1]; dsimp only; exact out_C_14 ..

/-- The fold over the points up to `n`. -/
abbrev fold (n : ℕ) (h : n < cfg0.N) := Pipeline.accAt (fun n h => stAt0 m c n h junk0) (stAt0 m c) 0 n (by omega)

/-- The fold at a point is that point's step over something. -/
theorem fold_step (n : ℕ) (h : n < cfg0.N) : ∃ acc, fold m c n h = stAt0 m c n h acc := by
  unfold fold
  rw [← outsAt0_sweep m c n h]
  cases n with
  | zero => exact ⟨_, outsAt0_zero m c h⟩
  | succ n => exact ⟨_, outsAt0_succ m c n h⟩

/-- Point `s` of the grid, `s < 8`. -/
abbrev pt (s : Fin 8) : Fin cfg0.N := ⟨s.val, lt_of_lt_of_eq s.isLt (show (8 : ℕ) = cfg0.N from N_0.symm)⟩

/-- The accumulators after point `n` are the sums over the points up to `n`. -/
theorem outs_sums (n : ℕ) (h : n < cfg0.N) :
    (∀ (p : Fin 8) (q : Fin 1024), (outsAt0 m c n h).2.2.2.2.1 (ix2 p q) = ∑ s : Fin (n + 1), tS m c ⟨s.val, Nat.lt_of_lt_of_le s.isLt h⟩ p q) ∧
    (∀ (p q : Fin 1024), (outsAt0 m c n h).2.2.2.2.2 (ix2 p q) = ∑ s : Fin (n + 1), tW m c ⟨s.val, Nat.lt_of_lt_of_le s.isLt h⟩ p q) := by
  induction n with
  | zero =>
    rw [outsAt0_zero m c h]
    refine ⟨fun p q => ?_, fun p q => ?_⟩
    · rw [Fin.sum_univ_one]; exact st_15_first m c ⟨0, h⟩ junk0 rfl p q
    · rw [Fin.sum_univ_one]; exact st_s_first m c ⟨0, h⟩ junk0 rfl p q
  | succ n ih =>
    have hN : n + 1 < 8 := lt_of_lt_of_eq h (show cfg0.N = 8 from N_0)
    have hne : ¬ (n + 1) % 8 = 0 := by omega
    obtain ⟨ih1, ih2⟩ := ih (by omega)
    rw [outsAt0_succ m c n h]
    refine ⟨fun p q => ?_, fun p q => ?_⟩
    · rw [Fin.sum_univ_castSucc]
      exact (st_15_next m c ⟨n + 1, h⟩ _ hne p q).trans (congrArg (· + tS m c ⟨n + 1, h⟩ p q) (ih1 p q))
    · rw [Fin.sum_univ_castSucc]
      exact (st_s_next m c ⟨n + 1, h⟩ _ hne p q).trans (congrArg (· + tW m c ⟨n + 1, h⟩ p q) (ih2 p q))

/-- There is a point 7. -/
theorem lt7 : 7 < cfg0.N := lt_of_lt_of_eq (by decide) N_0.symm

/-- The array of column sums after the run. -/
theorem G15_sum (p : Fin 8) (q : Fin 1024) : G15 m c (ix2 p q) = ∑ s : Fin 8, tS m c (pt s) p q := by
  rw [G15_last, ← outsAt0_sweep m c 7 lt7]
  exact (outs_sums m c 7 lt7).1 p q

/-- The weight gradient after the run. -/
theorem G14_sum (p q : Fin 1024) : G14 m c (ix2 p q) = ∑ s : Fin 8, tW m c (pt s) p q := by
  rw [G14_last, ← outsAt0_sweep m c 7 lt7, outsAt0_succ m c 6 lt7, Fin.sum_univ_castSucc]
  have e := st_14 m c ⟨7, lt7⟩ (outsAt0 m c 6 (Nat.lt_of_succ_lt lt7)) rfl p q
  rw [(outs_sums m c 6 (Nat.lt_of_succ_lt lt7)).2 p q] at e
  exact e

/-- Row `512 s + r` of an array of 4096 rows. -/
abbrev row (s : Fin 8) (r : Fin 512) : Fin 4096 := ⟨512 * s.val + r.val, by omega⟩

/-- The stream's gradient after the run, by blocks of rows. -/
theorem G11_row (s : Fin 8) (r : Fin 512) (q : Fin 1024) : G11 m c (ix2 (row s r) q) = tDx m c (pt s) (ix2 r q) := by
  have hp : pt11Of (ix2 (row s r) q) = s.val := by
    show 1 * ((512 * s.val + r.val) / 512 - 0) + 1 * (q.val / 1024 - 0) = s.val
    have := r.isLt; have := q.isLt; omega
  have hl : loc11Of (ix2 (row s r) q) = ix2 r q := by
    funext a; apply Fin.ext
    match a with
    | ⟨0, _⟩ => show (512 * s.val + r.val) % 512 = r.val; have := r.isLt; omega
    | ⟨1, _⟩ => show q.val % 1024 = q.val; have := q.isLt; omega
  unfold G11
  rw [dif_pos (by rw [hp]; exact (pt s).isLt), hl, fold0_congr m c _ _ _ _ hp]
  obtain ⟨acc, e⟩ := fold_step m c s.val (pt s).isLt
  exact (congrArg (·.1 (ix2 r q)) e).trans (congrFun (st_11 m c (pt s) acc) _)

/-- The left half of the projected gradient after the run, by blocks of rows. -/
theorem G12_row (s : Fin 8) (r : Fin 512) (q : Fin 512) : G12 m c (ix2 (row s r) q) = tDya m c (pt s) (ix2 r q) := by
  have hp : pt12Of (ix2 (row s r) q) = s.val := by
    show 1 * ((512 * s.val + r.val) / 512 - 0) + 1 * (q.val / 512 - 0) = s.val
    have := r.isLt; have := q.isLt; omega
  have hl : loc12Of (ix2 (row s r) q) = ix2 r q := by
    funext a; apply Fin.ext
    match a with
    | ⟨0, _⟩ => show (512 * s.val + r.val) % 512 = r.val; have := r.isLt; omega
    | ⟨1, _⟩ => show q.val % 512 = q.val; have := q.isLt; omega
  unfold G12
  rw [dif_pos (by rw [hp]; exact (pt s).isLt), hl, fold0_congr m c _ _ _ _ hp]
  obtain ⟨acc, e⟩ := fold_step m c s.val (pt s).isLt
  exact (congrArg (·.2.1 (ix2 r q)) e).trans (congrFun (st_12 m c (pt s) acc) _)

/-- The right half of the projected gradient after the run, by blocks of rows. -/
theorem G13_row (s : Fin 8) (r : Fin 512) (q : Fin 512) : G13 m c (ix2 (row s r) q) = tDyc m c (pt s) (ix2 r q) := by
  have hp : pt13Of (ix2 (row s r) q) = s.val := by
    show 1 * ((512 * s.val + r.val) / 512 - 0) + 1 * (q.val / 512 - 0) = s.val
    have := r.isLt; have := q.isLt; omega
  have hl : loc13Of (ix2 (row s r) q) = ix2 r q := by
    funext a; apply Fin.ext
    match a with
    | ⟨0, _⟩ => show (512 * s.val + r.val) % 512 = r.val; have := r.isLt; omega
    | ⟨1, _⟩ => show q.val % 512 = q.val; have := q.isLt; omega
  unfold G13
  rw [dif_pos (by rw [hp]; exact (pt s).isLt), hl, fold0_congr m c _ _ _ _ hp]
  obtain ⟨acc, e⟩ := fold_step m c s.val (pt s).isLt
  exact (congrArg (·.2.2.1 (ix2 r q)) e).trans (congrFun (st_13 m c (pt s) acc) _)

end Cert.N2
-- ==== Proof.N2.Whole.lean ====
/- The call's five results as functions of its ten arrays, row by row: the common terms both programs are read as. -/
module

public import proofs.«01_k».proof.Proof.N2.Spec

@[expose] public section

noncomputable section

namespace Cert.N2

/-- The ten arrays of the call: the stream, the two branches' outputs, the projection weights, the modulation rows, the
    norm's gain, the up-projection weights, the two halves of the gradient of its result, and the stream's gradient. -/
structure Arrays where
  /-- The residual stream. -/
  x : Fin 4096 → Row 1024
  /-- The attention branch's output. -/
  ya : Fin 4096 → Row 512
  /-- The convolution branch's output. -/
  yc : Fin 4096 → Row 512
  /-- The output projection's weights. -/
  wo : Fin 1024 → Row 1024
  /-- The modulation rows: gate 2, shift 3, scale 4. -/
  md : Fin 8 → Row 1024
  /-- The norm's gain. -/
  g : Row 1024
  /-- The up-projection's weights. -/
  wu : Fin 1024 → Row 5632
  /-- The gradient of the gate half of the up-projection's result. -/
  ug : Fin 4096 → Row 2816
  /-- The gradient of the value half of the up-projection's result. -/
  uv : Fin 4096 → Row 2816
  /-- The gradient of the stream from above. -/
  e : Fin 4096 → Row 1024

/-- A row of the first 512 of 1024. -/
abbrev rl (p : Fin 512) : Fin 1024 := ⟨p.val, by omega⟩
/-- A row of the last 512 of 1024. -/
abbrev rr (p : Fin 512) : Fin 1024 := ⟨512 + p.val, by omega⟩

namespace Arrays

variable (A : Arrays)

/-- The projected branches. -/
def pj (t : Fin 4096) : Row 1024 := fun q => ∑ k, A.ya t k * A.wo (rl k) q + ∑ k, A.yc t k * A.wo (rr k) q

/-- The stream after the gated residual. -/
def x1 (t : Fin 4096) : Row 1024 := fun q => A.x t q + A.md 2 q * A.pj t q

/-- The gradient of the modulated norm. -/
def dh (t : Fin 4096) : Row 1024 := dhR (fun k q => A.wu q k) (A.ug t) (A.uv t)

/-- The gradient of the stream. -/
def dx (t : Fin 4096) : Row 1024 := dxR A.g (A.md 4) (A.dh t) (A.x1 t) (A.e t)

/-- The gradient of the projected branches. -/
def dp (t : Fin 4096) : Row 1024 := dpR (A.md 2) (A.dx t)

/-- The gradient of the branches. -/
def dy (t : Fin 4096) : Row 1024 := dyR A.wo (A.dp t)

/-- The gradient of the projection's weights at a row of the attention half. -/
def dwa (p : Fin 512) : Row 1024 := fun q => ∑ t, A.ya t p * A.dp t q

/-- The gradient of the projection's weights at a row of the convolution half. -/
def dwc (p : Fin 512) : Row 1024 := fun q => ∑ t, A.yc t p * A.dp t q

/-- The sums over the rows: the gradients of the shift, of the scale, of the gain and of the gate. -/
def sums (p : Fin 8) : Row 1024 := fun q => match p with
  | 0 => ∑ t, A.dh t q
  | 1 => ∑ t, A.dh t q * (xhR (A.x1 t) q * A.g q)
  | 2 => ∑ t, dnR (A.md 4) (A.dh t) q * xhR (A.x1 t) q
  | 3 => ∑ t, A.dx t q * A.pj t q
  | _ => 0

end Arrays

end Cert.N2
-- ==== Proof.N2.Host.lean ====
/- The kernel's blocks as rows of the call's ten arrays: the arrays the host code prepares are read at an index, and
   block `s` of a row-blocked array is its rows `512 s` to `512 s + 511`. -/
module

public import proofs.«01_k».proof.Proof.N2.Fold
public import proofs.«01_k».proof.Proof.N2.Whole
public import Idealize.ShloMosaic.Lib.StableHlo.ReadAt
public import Idealize.ShloMosaic.Lib.Claim
public import Idealize.ShloMosaic.Lib.Pipeline.ValueKit.Geometry

@[expose] public section

set_option maxRecDepth 16384

noncomputable section

namespace Cert.N2

open Idealize.ShloMosaic Cert.KernelIdeal Cert.KernelIdeal.Gen Cert.KernelIdeal.Value Cert.Pieces Idealize.ShloMosaic.TcCoe

variable (m : (ℓ : Loc nD τ sig) → Buf (Elt Ideal) ℓ) (c : Dev nD)

/-- The ten arrays as the kernel's program is given them. -/
def arrays : Arrays where
  x := fun p q => (m ((c : Thread nD τ).loc main_arg0) : Vec Ideal S4096x1024 .f32) (ix2 p q)
  ya := fun p q => (m ((c : Thread nD τ).loc main_arg1) : Vec Ideal S4096x512 .bf16) (ix2 p q)
  yc := fun p q => (m ((c : Thread nD τ).loc main_arg2) : Vec Ideal S4096x512 .bf16) (ix2 p q)
  wo := fun p q => (m ((c : Thread nD τ).loc main_arg3) : Vec Ideal S1024x1024 .f32) (ix2 p q)
  md := fun p q => (m ((c : Thread nD τ).loc main_arg4) : Vec Ideal S8x1024 .f32) (ix2 p q)
  g := fun q => (m ((c : Thread nD τ).loc main_arg5) : Vec Ideal S1x1024 .f32) (ix2 0 q)
  wu := fun p q => (m ((c : Thread nD τ).loc main_arg6) : Vec Ideal S1024x5632 .f32) (ix2 p q)
  ug := fun p q => (m ((c : Thread nD τ).loc main_arg7) : Vec Ideal S4096x2816 .bf16) (ix2 p q)
  uv := fun p q => (m ((c : Thread nD τ).loc main_arg8) : Vec Ideal S4096x2816 .bf16) (ix2 p q)
  e := fun p q => (m ((c : Thread nD τ).loc main_arg9) : Vec Ideal S4096x1024 .f32) (ix2 p q)

/-- The projection weights after the cast. -/
theorem V10_apply (p q : Fin 1024) : (V m c main_v10 : Vec Ideal S1024x1024 .bf16) (ix2 p q) = (arrays m c).wo p q := by
  unfold arrays V
  after_reads_at

/-- The up-projection weights after the transpose and the cast. -/
theorem V9_apply (p : Fin 5632) (q : Fin 1024) : (V m c main_v9 : Vec Ideal S5632x1024 .bf16) (ix2 p q) = (arrays m c).wu q p := by
  unfold arrays V
  after_reads_at

/-- The projected branches. -/
theorem V7_apply (p : Fin 4096) (q : Fin 1024) : (V m c main_v7 : Vec Ideal S4096x1024 .bf16) (ix2 p q) = (arrays m c).pj p q := by
  unfold arrays Arrays.pj V
  after_reads_at
  rfl

/-- The stream after the gated residual. -/
theorem V6_apply (p : Fin 4096) (q : Fin 1024) : (V m c main_v6 : Vec Ideal S4096x1024 .f32) (ix2 p q) = (arrays m c).x1 p q := by
  unfold arrays Arrays.x1 Arrays.pj V
  after_reads_at
  rfl

variable (s : Fin 8)

/-- Window 0's place in its array. -/
theorem place_0 : ∀ t : Fin cfg0.N, win0_0.index t = ![t.val, 0] := (by decide +kernel : ∀ t : Fin grid0.N, _)
/-- Window 0's block at a point, at an index. -/
theorem blk_0 (r : Fin 512) (q : Fin 2816) : (iblk m c 0 (pt s) : Vec Ideal S512x2816 .bf16) (ix2 r q) = (arrays m c).ug (row s r) q := by
  unfold arrays
  show _ = m ((c : Thread nD τ).loc main_arg7) (ix2 (row s r) q)
  rw [← V_main_arg7 m c]
  unfold iblk
  rw [View.read_apply]
  show V m c main_arg7 _ = V m c main_arg7 _
  congr 1
  funext a
  apply Fin.ext
  match a with
  | ⟨0, _⟩ => blk_simp [place_0]; show s.val * 512 + r.val = 512 * s.val + r.val; omega
  | ⟨1, _⟩ => blk_simp [place_0]

/-- Window 1's place in its array. -/
theorem place_1 : ∀ t : Fin cfg0.N, win0_1.index t = ![t.val, 0] := (by decide +kernel : ∀ t : Fin grid0.N, _)
/-- Window 1's block at a point, at an index. -/
theorem blk_1 (r : Fin 512) (q : Fin 2816) : (iblk m c 1 (pt s) : Vec Ideal S512x2816 .bf16) (ix2 r q) = (arrays m c).uv (row s r) q := by
  unfold arrays
  show _ = m ((c : Thread nD τ).loc main_arg8) (ix2 (row s r) q)
  rw [← V_main_arg8 m c]
  unfold iblk
  rw [View.read_apply]
  show V m c main_arg8 _ = V m c main_arg8 _
  congr 1
  funext a
  apply Fin.ext
  match a with
  | ⟨0, _⟩ => blk_simp [place_1]; show s.val * 512 + r.val = 512 * s.val + r.val; omega
  | ⟨1, _⟩ => blk_simp [place_1]

/-- Window 2's place in its array. -/
theorem place_2 : ∀ t : Fin cfg0.N, win0_2.index t = ![0, 0] := (by decide +kernel : ∀ t : Fin grid0.N, _)
/-- Window 2's block at a point, at an index. -/
theorem blk_2 (r : Fin 5632) (q : Fin 1024) : (iblk m c 2 (pt s) : Vec Ideal S5632x1024 .bf16) (ix2 r q) = (arrays m c).wu q r := by
  rw [← V9_apply m c]
  show _ = V m c main_v9 (ix2 r q)
  unfold iblk
  rw [View.read_apply]
  show V m c main_v9 _ = V m c main_v9 _
  congr 1
  funext a
  apply Fin.ext
  match a with
  | ⟨0, _⟩ => blk_simp [place_2]
  | ⟨1, _⟩ => blk_simp [place_2]

/-- Window 3's place in its array. -/
theorem place_3 : ∀ t : Fin cfg0.N, win0_3.index t = ![t.val, 0] := (by decide +kernel : ∀ t : Fin grid0.N, _)
/-- Window 3's block at a point, at an index. -/
theorem blk_3 (r : Fin 512) (q : Fin 1024) : (iblk m c 3 (pt s) : Vec Ideal S512x1024 .f32) (ix2 r q) = (arrays m c).x1 (row s r) q := by
  rw [← V6_apply m c]
  show _ = V m c main_v6 (ix2 (row s r) q)
  unfold iblk
  rw [View.read_apply]
  show V m c main_v6 _ = V m c main_v6 _
  congr 1
  funext a
  apply Fin.ext
  match a with
  | ⟨0, _⟩ => blk_simp [place_3]; show s.val * 512 + r.val = 512 * s.val + r.val; omega
  | ⟨1, _⟩ => blk_simp [place_3]

/-- Window 4's place in its array. -/
theorem place_4 : ∀ t : Fin cfg0.N, win0_4.index t = ![t.val, 0] := (by decide +kernel : ∀ t : Fin grid0.N, _)
/-- Window 4's block at a point, at an index. -/
theorem blk_4 (r : Fin 512) (q : Fin 1024) : (iblk m c 4 (pt s) : Vec Ideal S512x1024 .f32) (ix2 r q) = (arrays m c).e (row s r) q := by
  unfold arrays
  show _ = m ((c : Thread nD τ).loc main_arg9) (ix2 (row s r) q)
  rw [← V_main_arg9 m c]
  unfold iblk
  rw [View.read_apply]
  show V m c main_arg9 _ = V m c main_arg9 _
  congr 1
  funext a
  apply Fin.ext
  match a with
  | ⟨0, _⟩ => blk_simp [place_4]; show s.val * 512 + r.val = 512 * s.val + r.val; omega
  | ⟨1, _⟩ => blk_simp [place_4]

/-- Window 5's place in its array. -/
theorem place_5 : ∀ t : Fin cfg0.N, win0_5.index t = ![t.val, 0] := (by decide +kernel : ∀ t : Fin grid0.N, _)
/-- Window 5's block at a point, at an index. -/
theorem blk_5 (r : Fin 512) (q : Fin 1024) : (iblk m c 5 (pt s) : Vec Ideal S512x1024 .bf16) (ix2 r q) = (arrays m c).pj (row s r) q := by
  rw [← V7_apply m c]
  show _ = V m c main_v7 (ix2 (row s r) q)
  unfold iblk
  rw [View.read_apply]
  show V m c main_v7 _ = V m c main_v7 _
  congr 1
  funext a
  apply Fin.ext
  match a with
  | ⟨0, _⟩ => blk_simp [place_5]; show s.val * 512 + r.val = 512 * s.val + r.val; omega
  | ⟨1, _⟩ => blk_simp [place_5]

/-- Window 6's place in its array. -/
theorem place_6 : ∀ t : Fin cfg0.N, win0_6.index t = ![0, 0] := (by decide +kernel : ∀ t : Fin grid0.N, _)
/-- Window 6's block at a point, at an index. -/
theorem blk_6 (r : Fin 1024) (q : Fin 1024) : (iblk m c 6 (pt s) : Vec Ideal S1024x1024 .bf16) (ix2 r q) = (arrays m c).wo r q := by
  rw [← V10_apply m c]
  show _ = V m c main_v10 (ix2 r q)
  unfold iblk
  rw [View.read_apply]
  show V m c main_v10 _ = V m c main_v10 _
  congr 1
  funext a
  apply Fin.ext
  match a with
  | ⟨0, _⟩ => blk_simp [place_6]
  | ⟨1, _⟩ => blk_simp [place_6]

/-- Window 7's place in its array. -/
theorem place_7 : ∀ t : Fin cfg0.N, win0_7.index t = ![t.val, 0] := (by decide +kernel : ∀ t : Fin grid0.N, _)
/-- Window 7's block at a point, at an index. -/
theorem blk_7 (r : Fin 512) (q : Fin 512) : (iblk m c 7 (pt s) : Vec Ideal S512x512 .bf16) (ix2 r q) = (arrays m c).ya (row s r) q := by
  unfold arrays
  show _ = m ((c : Thread nD τ).loc main_arg1) (ix2 (row s r) q)
  rw [← V_main_arg1 m c]
  unfold iblk
  rw [View.read_apply]
  show V m c main_arg1 _ = V m c main_arg1 _
  congr 1
  funext a
  apply Fin.ext
  match a with
  | ⟨0, _⟩ => blk_simp [place_7]; show s.val * 512 + r.val = 512 * s.val + r.val; omega
  | ⟨1, _⟩ => blk_simp [place_7]

/-- Window 8's place in its array. -/
theorem place_8 : ∀ t : Fin cfg0.N, win0_8.index t = ![t.val, 0] := (by decide +kernel : ∀ t : Fin grid0.N, _)
/-- Window 8's block at a point, at an index. -/
theorem blk_8 (r : Fin 512) (q : Fin 512) : (iblk m c 8 (pt s) : Vec Ideal S512x512 .bf16) (ix2 r q) = (arrays m c).yc (row s r) q := by
  unfold arrays
  show _ = m ((c : Thread nD τ).loc main_arg2) (ix2 (row s r) q)
  rw [← V_main_arg2 m c]
  unfold iblk
  rw [View.read_apply]
  show V m c main_arg2 _ = V m c main_arg2 _
  congr 1
  funext a
  apply Fin.ext
  match a with
  | ⟨0, _⟩ => blk_simp [place_8]; show s.val * 512 + r.val = 512 * s.val + r.val; omega
  | ⟨1, _⟩ => blk_simp [place_8]

/-- Window 9's place in its array. -/
theorem place_9 : ∀ t : Fin cfg0.N, win0_9.index t = ![0, 0] := (by decide +kernel : ∀ t : Fin grid0.N, _)
/-- Window 9's block at a point, at an index. -/
theorem blk_9 (r : Fin 8) (q : Fin 1024) : (iblk m c 9 (pt s) : Vec Ideal S8x1024 .f32) (ix2 r q) = (arrays m c).md r q := by
  unfold arrays
  show _ = m ((c : Thread nD τ).loc main_arg4) (ix2 r q)
  rw [← V_main_arg4 m c]
  unfold iblk
  rw [View.read_apply]
  show V m c main_arg4 _ = V m c main_arg4 _
  congr 1
  funext a
  apply Fin.ext
  match a with
  | ⟨0, _⟩ => blk_simp [place_9]
  | ⟨1, _⟩ => blk_simp [place_9]

/-- Window 10's place in its array. -/
theorem place_10 : ∀ t : Fin cfg0.N, win0_10.index t = ![0, 0] := (by decide +kernel : ∀ t : Fin grid0.N, _)
/-- Window 10's block at a point, at an index. -/
theorem blk_10 (q : Fin 1024) : (iblk m c 10 (pt s) : Vec Ideal S1x1024 .f32) (ix2 0 q) = (arrays m c).g q := by
  unfold arrays
  show _ = m ((c : Thread nD τ).loc main_arg5) (ix2 0 q)
  rw [← V_main_arg5 m c]
  unfold iblk
  rw [View.read_apply]
  show V m c main_arg5 _ = V m c main_arg5 _
  congr 1
  funext a
  apply Fin.ext
  match a with
  | ⟨0, _⟩ => blk_simp [place_10]
  | ⟨1, _⟩ => blk_simp [place_10]

/-- A sum over the 4096 rows by blocks of 512. -/
theorem sum_rows (f : Fin 4096 → EReal) : ∑ t, f t = ∑ s : Fin 8, ∑ r : Fin 512, f (row s r) := by
  rw [← Fintype.sum_prod_type']
  refine (Fintype.sum_equiv (finProdFinEquiv : Fin 8 × Fin 512 ≃ Fin 4096) (fun p => f (row p.1 p.2)) f fun p => ?_).symm
  congr 1
  exact Fin.ext (show 512 * p.1.val + p.2.val = p.2.val + 512 * p.1.val from Nat.add_comm _ _)

end Cert.N2
-- ==== Proof.N2.Results.lean ====
/- The kernel's five result arrays at an index, in the common terms. -/
module

public import proofs.«01_k».proof.Proof.N2.Host

@[expose] public section

set_option maxRecDepth 16384

noncomputable section

namespace Cert.N2

open Idealize.ShloMosaic Cert.KernelIdeal Cert.KernelIdeal.Gen Cert.KernelIdeal.Value

variable (m : (ℓ : Loc nD τ sig) → Buf (Elt Ideal) ℓ) (c : Dev nD) (s : Fin 8) (r : Fin 512)

/-- Row `r` of block `s` of the norm's gradient. -/
theorem row_dh : dhB (iblk m c 0 (pt s)) (iblk m c 1 (pt s)) (iblk m c 2 (pt s)) r = (arrays m c).dh (row s r) :=
  congr (congr (congrArg dhR (funext fun k => funext fun q => blk_2 m c s k q)) (funext (blk_0 m c s r))) (funext (blk_1 m c s r))

/-- Row `r` of block `s` of the gated residual stream. -/
theorem row_x1 : (fun k => (iblk m c 3 (pt s) : Vec Ideal S512x1024 .f32) (ix2 r k)) = (arrays m c).x1 (row s r) := funext (blk_3 m c s r)

/-- The scale row. -/
theorem row_sc : scB (iblk m c 9 (pt s)) = (arrays m c).md 4 := funext (blk_9 m c s 4)
/-- The gate row. -/
theorem row_gt : gtB (iblk m c 9 (pt s)) = (arrays m c).md 2 := funext (blk_9 m c s 2)
/-- The gain. -/
theorem row_g : gB (iblk m c 10 (pt s)) = (arrays m c).g := funext (blk_10 m c s)

/-- Row `r` of block `s` of the stream's gradient. -/
theorem row_dx : dxB (iblk m c 0 (pt s)) (iblk m c 1 (pt s)) (iblk m c 2 (pt s)) (iblk m c 3 (pt s)) (iblk m c 4 (pt s)) (iblk m c 9 (pt s)) (iblk m c 10 (pt s)) r
    = (arrays m c).dx (row s r) :=
  congr (congr (congr (congr (congrArg dxR (row_g m c s)) (row_sc m c s)) (row_dh m c s r)) (row_x1 m c s r)) (funext (blk_4 m c s r))

/-- Row `r` of block `s` of the projected gradient. -/
theorem row_dp : dpB (iblk m c 0 (pt s)) (iblk m c 1 (pt s)) (iblk m c 2 (pt s)) (iblk m c 3 (pt s)) (iblk m c 4 (pt s)) (iblk m c 9 (pt s)) (iblk m c 10 (pt s)) r
    = (arrays m c).dp (row s r) :=
  congr (congrArg dpR (row_gt m c s)) (row_dx m c s r)

/-- Every row of 4096 is a row of a block. -/
theorem eq_row (t : Fin 4096) : ∃ s r, t = row s r :=
  ⟨⟨t.val / 512, by omega⟩, ⟨t.val % 512, by omega⟩, Fin.ext (show t.val = 512 * (t.val / 512) + t.val % 512 by omega)⟩

/-- The stream's gradient. -/
theorem G11_apply (t : Fin 4096) (q : Fin 1024) : G11 m c (ix2 t q) = (arrays m c).dx t q := by
  obtain ⟨s, r, rfl⟩ := eq_row t
  exact (G11_row m c s r q).trans ((bDx_apply _ _ _ _ _ _ _ r q).trans (congrFun (row_dx m c s r) q))

/-- The gradient of the projected row's operand, over a block's rows. -/
theorem row_dy : dyR (fun p k => (iblk m c 6 (pt s) : Vec Ideal S1024x1024 .bf16) (ix2 p k)) (dpB (iblk m c 0 (pt s)) (iblk m c 1 (pt s)) (iblk m c 2 (pt s)) (iblk m c 3 (pt s)) (iblk m c 4 (pt s)) (iblk m c 9 (pt s)) (iblk m c 10 (pt s)) r)
    = (arrays m c).dy (row s r) :=
  congr (congrArg dyR (funext fun p => funext fun q => blk_6 m c s p q)) (row_dp m c s r)

/-- The attention branch's gradient. -/
theorem G12_apply (t : Fin 4096) (q : Fin 512) : G12 m c (ix2 t q) = (arrays m c).dy t (rl q) := by
  obtain ⟨s, r, rfl⟩ := eq_row t
  exact (G12_row m c s r q).trans ((bDya_apply _ _ _ _ _ _ _ _ r q).trans (congrFun (row_dy m c s r) (rl q)))

/-- The convolution branch's gradient. -/
theorem G13_apply (t : Fin 4096) (q : Fin 512) : G13 m c (ix2 t q) = (arrays m c).dy t (rr q) := by
  obtain ⟨s, r, rfl⟩ := eq_row t
  exact (G13_row m c s r q).trans ((bDyc_apply _ _ _ _ _ _ _ _ r q).trans (congrFun (row_dy m c s r) (rr q)))

/-- The attention half of the projection weights' gradient. -/
theorem G14_lo (p : Fin 512) (q : Fin 1024) : G14 m c (ix2 (rl p) q) = (arrays m c).dwa p q := by
  rw [G14_sum, Arrays.dwa, sum_rows]
  show @Eq EReal _ _
  refine Finset.sum_congr rfl fun s _ => (wAdd_dn _ _ _ _ _ _ _ _ _ p q).trans ?_
  exact Finset.sum_congr rfl fun r _ => congr (congrArg HMul.hMul (blk_7 m c s r p)) (congrFun (row_dp m c s r) q)

/-- The convolution half of the projection weights' gradient. -/
theorem G14_hi (p : Fin 512) (q : Fin 1024) : G14 m c (ix2 (rr p) q) = (arrays m c).dwc p q := by
  rw [G14_sum, Arrays.dwc, sum_rows]
  show @Eq EReal _ _
  refine Finset.sum_congr rfl fun s _ => (wAdd_up _ _ _ _ _ _ _ _ _ p q).trans ?_
  exact Finset.sum_congr rfl fun r _ => congr (congrArg HMul.hMul (blk_8 m c s r p)) (congrFun (row_dp m c s r) q)

/-- The sums over the rows. -/
theorem G15_apply (p : Fin 8) (q : Fin 1024) : G15 m c (ix2 p q) = (arrays m c).sums p q := by
  rw [G15_sum]
  show @Eq EReal _ _
  match p with
  | 0 =>
    refine (Finset.sum_congr rfl fun s _ => ?_).trans (sum_rows _).symm
    exact Finset.sum_congr rfl fun r _ => congrFun (row_dh m c s r) q
  | 1 =>
    refine (Finset.sum_congr rfl fun s _ => ?_).trans (sum_rows _).symm
    exact Finset.sum_congr rfl fun r _ => congr (congrArg HMul.hMul (congrFun (row_dh m c s r) q))
      (congr (congrArg HMul.hMul (congrFun (congrArg xhR (row_x1 m c s r)) q)) (congrFun (row_g m c s) q))
  | 2 =>
    refine (Finset.sum_congr rfl fun s _ => ?_).trans (sum_rows _).symm
    exact Finset.sum_congr rfl fun r _ => congr (congrArg HMul.hMul (congrFun (congr (congrArg dnR (row_sc m c s)) (row_dh m c s r)) q))
      (congrFun (congrArg xhR (row_x1 m c s r)) q)
  | 3 =>
    refine (Finset.sum_congr rfl fun s _ => ?_).trans (sum_rows _).symm
    exact Finset.sum_congr rfl fun r _ => congr (congrArg HMul.hMul (congrFun (row_dx m c s r) q)) (blk_5 m c s r q)
  | 4 => exact Finset.sum_eq_zero fun s _ => rfl
  | 5 => exact Finset.sum_eq_zero fun s _ => rfl
  | 6 => exact Finset.sum_eq_zero fun s _ => rfl
  | 7 => exact Finset.sum_eq_zero fun s _ => rfl

end Cert.N2
-- ==== Proof.NormGrad.lean ====
/- The gradient of the root-mean-square norm, one row at a time, over the extended reals: the form with one
   factored `rstd * (d - xh * mean (d * xh))` equals the form that differentiates the mean square and the
   reciprocal square root one after the other. No finiteness is assumed of the row or of the gradients. -/
module

public import Idealize.ShloMosaic.PureOps.Ideal.Laws
public import Idealize.ShloMosaic.Lib.Pointwise

@[expose] public section

noncomputable section

namespace Cert.NormGrad

open Idealize.ShloMosaic

/-- A square is not negative. -/
theorem sq_nonneg (x : EReal) : 0 ≤ x * x := by
  rcases le_total 0 x with h | h
  · exact mul_nonneg h h
  · have := mul_nonneg (EReal.neg_nonneg.mpr h) (EReal.neg_nonneg.mpr h)
    simpa using this

/-- A real factor that is not negative goes into a sum. -/
theorem mul_sum {n : Nat} (r : ℝ) (hr : 0 ≤ r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (by exact_mod_cast hr) (EReal.coe_ne_top r), ih]

/-- Twice half of a real multiple of `s` is the whole multiple, `s` infinite or not. -/
theorem half_add_half (s : EReal) (q : ℝ) : s * (q : EReal) + s * (q : EReal) = s * ((2 * q : ℝ) : EReal) := by
  rw [two_mul, EReal.coe_add]
  induction s with
  | coe s => rw [← EReal.coe_add, ← EReal.coe_mul, ← EReal.coe_mul, ← EReal.coe_add]; congr 1; ring
  | bot =>
    rcases lt_trichotomy q 0 with h | h | h
    · rw [← EReal.coe_add, EReal.bot_mul_coe_of_neg h, EReal.bot_mul_coe_of_neg (by linarith)]; rfl
    · subst h; simp
    · rw [← EReal.coe_add, EReal.bot_mul_coe_of_pos h, EReal.bot_mul_coe_of_pos (by linarith)]; rfl
  | top =>
    rcases lt_trichotomy q 0 with h | h | h
    · rw [← EReal.coe_add, EReal.top_mul_coe_of_neg h, EReal.top_mul_coe_of_neg (by linarith)]; rfl
    · subst h; simp
    · rw [← EReal.coe_add, EReal.top_mul_coe_of_pos h, EReal.top_mul_coe_of_pos (by linarith)]; rfl

/-- The mean square of a row plus a positive real is `⊤` or a positive real. -/
theorem ms_cases {n : Nat} (x : Fin n → EReal) (N eps : ℝ) (hN : 0 < N) (he : 0 < eps) :
    Ideal.div (∑ k, x k * x k) (N : EReal) + (eps : EReal) = ⊤ ∨
      ∃ a : ℝ, 0 < a ∧ Ideal.div (∑ k, x k * x k) (N : EReal) + (eps : EReal) = (a : EReal) := by
  have hs : 0 ≤ ∑ k, x k * x k := Finset.sum_nonneg fun k _ => sq_nonneg (x k)
  rw [Ideal.div_coe hN.ne']
  have hp : (0 : ℝ) < 1 / N := by positivity
  generalize (∑ k, x k * x k) = s at hs
  induction s with
  | bot => exact absurd hs (by simp)
  | top => left; rw [EReal.top_mul_coe_of_pos hp]; rfl
  | coe s =>
    right
    have hs' : 0 ≤ s := by exact_mod_cast hs
    exact ⟨s * (1 / N) + eps, by positivity, by rw [← EReal.coe_mul, ← EReal.coe_add]⟩

/-- A row element of the input's gradient of the norm, added to the gradient `e` that passes by it: the two forms agree. -/
theorem norm_grad {n : Nat} (x d : Fin n → EReal) (e : EReal) (N eps : ℝ) (hN : 0 < N) (he : 0 < eps) (j : Fin n)
    (a R c : EReal) (ha : a = Ideal.div (∑ k, x k * x k) (N : EReal) + (eps : EReal)) (hR : R = Ideal.rsqrt a)
    (hc : c = Ideal.div ((∑ k, x k * d k) * (((-(1 / 2) : ℝ) : EReal) * Ideal.div R a)) (N : EReal)) :
    e + R * (d j - (x j * R) * Ideal.div (∑ k, d k * (x k * R)) (N : EReal)) = ((e + d j * R) + x j * c) + c * x j := by
  rcases ms_cases x N eps hN he with h | ⟨b, hb, h⟩
  · rw [h] at ha
    subst ha
    have hR0 : R = 0 := hR
    subst hR0
    have : c = 0 := by rw [hc]; simp [Ideal.div_coe hN.ne', Ideal.div, hN.ne']
    subst this
    simp
  · rw [h] at ha
    subst ha
    have hr : R = (((Real.sqrt b)⁻¹ : ℝ) : EReal) := by
      rw [hR]; show (if b < 0 then (⊥ : EReal) else if b = 0 then ⊤ else _) = _
      rw [if_neg hb.le.not_gt, if_neg hb.ne']
    have hsq : 0 < Real.sqrt b := Real.sqrt_pos.mpr hb
    have hbb : b = Real.sqrt b * Real.sqrt b := (Real.mul_self_sqrt hb.le).symm
    generalize Real.sqrt b = w at hr hsq hbb
    subst hr
    have hw : 0 < w⁻¹ := inv_pos.mpr hsq
    have hsum : (∑ k, d k * (x k * ((w⁻¹ : ℝ) : EReal))) = ((w⁻¹ : ℝ) : EReal) * ∑ k, x k * d k := by
      rw [mul_sum _ hw.le]
      exact Finset.sum_congr rfl fun k _ => by ac_rfl
    rw [hsum]
    generalize (∑ k, x k * d k) = S at hc
    rw [Ideal.div_coe hb.ne', Ideal.div_coe hN.ne'] at hc
    rw [Ideal.div_coe hN.ne', sub_eq_add_neg,
      EReal.left_distrib_of_nonneg_of_ne_top (by exact_mod_cast hw.le) (EReal.coe_ne_top _), add_assoc, add_assoc]
    refine congrArg (e + ·) ?_
    rw [mul_comm (d j)]
    refine congrArg (((w⁻¹ : ℝ) : EReal) * d j + ·) ?_
    have hx : x j * c = (S * x j) * ((-(1 / 2) * (w⁻¹ * (1 / b)) * (1 / N) : ℝ) : EReal) := by
      rw [hc, EReal.coe_mul, EReal.coe_mul, EReal.coe_mul]; ac_rfl
    rw [mul_comm c, hx, half_add_half]
    have hy : ((w⁻¹ : ℝ) : EReal) * (x j * ((w⁻¹ : ℝ) : EReal) * (((w⁻¹ : ℝ) : EReal) * S * ((1 / N : ℝ) : EReal))) =
        (S * x j) * ((w⁻¹ * w⁻¹ * w⁻¹ * (1 / N) : ℝ) : EReal) := by
      rw [EReal.coe_mul, EReal.coe_mul, EReal.coe_mul]; ac_rfl
    rw [mul_neg, hy, ← mul_neg, ← EReal.coe_neg]
    congr 2
    rw [hbb]
    field_simp

end Cert.NormGrad

end
-- ==== Proof.N2.Ref.lean ====
/- The reference's stages at an index, as the common terms. -/
module

public import proofs.«01_k».proof.Proof.Gen.ReferenceIdeal.Read
public import proofs.«01_k».proof.Proof.NormGrad
public import proofs.«01_k».proof.Proof.N2.Whole
public import Idealize.ShloMosaic.Lib.Pointwise

@[expose] public section

set_option maxRecDepth 16384

noncomputable section

namespace Cert.N2

open Idealize.ShloMosaic Cert.ReferenceIdeal Cert.ReferenceIdeal.Read

variable (x0 : Vec Ideal S4096x1024 .f32) (x1 x2 : Vec Ideal S4096x512 .bf16) (x3 : Vec Ideal S1024x1024 .f32) (x4 : Vec Ideal S8x1024 .f32)
  (x5 : Vec Ideal S1x1024 .f32) (x6 : Vec Ideal S1024x5632 .f32) (x7 x8 : Vec Ideal S4096x2816 .bf16) (x9 : Vec Ideal S4096x1024 .f32)

/-- The ten arrays as the reference is given them. -/
def given : Arrays where
  x := fun p q => x0 (ix2 p q)
  ya := fun p q => x1 (ix2 p q)
  yc := fun p q => x2 (ix2 p q)
  wo := fun p q => x3 (ix2 p q)
  md := fun p q => x4 (ix2 p q)
  g := fun q => x5 (ix2 0 q)
  wu := fun p q => x6 (ix2 p q)
  ug := fun p q => x7 (ix2 p q)
  uv := fun p q => x8 (ix2 p q)
  e := fun p q => x9 (ix2 p q)

/-- The projected branches. -/
theorem stage_6 (t : Fin 4096) (q : Fin 1024) : val_main_v6 (F := Ideal) x1 x2 x3 (ix2 t q) = (given x0 x1 x2 x3 x4 x5 x6 x7 x8 x9).pj t q := by
  unfold val_main_v6
  unfold val_main_v5 val_main_v3 val_main_v4
  pointwise
  rfl

/-- The stream after the gated residual. -/
theorem stage_9 (t : Fin 4096) (q : Fin 1024) : val_main_v9 (F := Ideal) x0 x1 x2 x3 x4 (ix2 t q) = (given x0 x1 x2 x3 x4 x5 x6 x7 x8 x9).x1 t q := by
  have h0 := stage_6 x0 x1 x2 x3 x4 x5 x6 x7 x8 x9
  unfold val_main_v9
  unfold val_main_v8 val_main_v7 val_main_v0
  generalize val_main_v6 (F := Ideal) x1 x2 x3 = y0 at h0 ⊢
  pointwise
  simp only [h0]
  rfl

/-- The mean square of a row, and the small constant. -/
theorem stage_16 (t : Fin 4096) : val_main_v16 (F := Ideal) x0 x1 x2 x3 x4 (ix2 t 0) = Ideal.div (∑ k, (given x0 x1 x2 x3 x4 x5 x6 x7 x8 x9).x1 t k * (given x0 x1 x2 x3 x4 x5 x6 x7 x8 x9).x1 t k) lenC + epsC := by
  have h0 := stage_9 x0 x1 x2 x3 x4 x5 x6 x7 x8 x9 t
  unfold val_main_v16
  unfold val_main_v14 val_main_v15 val_main_v13 val_main_v12 val_main_v11 val_main_v10 val_main_cst val_main_cst_0 val_main_cst_1
  generalize val_main_v9 (F := Ideal) x0 x1 x2 x3 x4 = y0 at h0 ⊢
  pointwise
  simp only [h0]

/-- The reciprocal root of the mean square. -/
theorem stage_17 (t : Fin 4096) : val_main_v17 (F := Ideal) x0 x1 x2 x3 x4 (ix2 t 0) = rstd ((given x0 x1 x2 x3 x4 x5 x6 x7 x8 x9).x1 t) := by
  have h0 := stage_16 x0 x1 x2 x3 x4 x5 x6 x7 x8 x9 t
  unfold val_main_v17
  generalize val_main_v16 (F := Ideal) x0 x1 x2 x3 x4 = y0 at h0 ⊢
  pointwise
  simp only [h0]
  rfl

/-- The normalised row. -/
theorem stage_22 (t : Fin 4096) (q : Fin 1024) : val_main_v22 (F := Ideal) x0 x1 x2 x3 x4 (ix2 t q) = xhR ((given x0 x1 x2 x3 x4 x5 x6 x7 x8 x9).x1 t) q := by
  have h0 := stage_9 x0 x1 x2 x3 x4 x5 x6 x7 x8 x9 t
  have h1 := stage_17 x0 x1 x2 x3 x4 x5 x6 x7 x8 x9 t
  unfold val_main_v22
  unfold val_main_v21
  generalize val_main_v9 (F := Ideal) x0 x1 x2 x3 x4 = y0 at h0 ⊢
  generalize val_main_v17 (F := Ideal) x0 x1 x2 x3 x4 = y1 at h1 ⊢
  pointwise
  simp only [h0, h1]
  rfl

/-- The gradient of the modulated norm. -/
theorem stage_34 (t : Fin 4096) (q : Fin 1024) : val_main_v34 (F := Ideal) x6 x7 x8 (ix2 t q) = (given x0 x1 x2 x3 x4 x5 x6 x7 x8 x9).dh t q := by
  unfold val_main_v34
  unfold val_main_v33 val_main_v32
  pointwise
  rfl

/-- The gradient of the norm's output. -/
theorem stage_41 (t : Fin 4096) (q : Fin 1024) : val_main_v41 (F := Ideal) x4 x6 x7 x8 (ix2 t q) = dnR ((given x0 x1 x2 x3 x4 x5 x6 x7 x8 x9).md 4) ((given x0 x1 x2 x3 x4 x5 x6 x7 x8 x9).dh t) q := by
  have h0 := stage_34 x0 x1 x2 x3 x4 x5 x6 x7 x8 x9 t
  unfold val_main_v41
  unfold val_main_v40 val_main_v26 val_main_v25 val_main_v2 val_main_cst_3
  generalize val_main_v34 (F := Ideal) x6 x7 x8 = y0 at h0 ⊢
  pointwise
  simp only [h0]
  rfl

/-- The gradient of the normalised row. -/
theorem stage_46 (t : Fin 4096) (q : Fin 1024) : val_main_v46 (F := Ideal) x4 x5 x6 x7 x8 (ix2 t q) = dxhR (given x0 x1 x2 x3 x4 x5 x6 x7 x8 x9).g ((given x0 x1 x2 x3 x4 x5 x6 x7 x8 x9).md 4) ((given x0 x1 x2 x3 x4 x5 x6 x7 x8 x9).dh t) q := by
  have h0 := stage_41 x0 x1 x2 x3 x4 x5 x6 x7 x8 x9 t
  unfold val_main_v46
  unfold val_main_v45
  generalize val_main_v41 (F := Ideal) x4 x6 x7 x8 = y0 at h0 ⊢
  pointwise
  simp only [h0]
  rfl

/-- The row's product with the gradient of its normal form. -/
theorem stage_49 (t : Fin 4096) : val_main_v49 (F := Ideal) x0 x1 x2 x3 x4 x5 x6 x7 x8 (ix2 t 0) = ∑ k, (given x0 x1 x2 x3 x4 x5 x6 x7 x8 x9).x1 t k * dxhR (given x0 x1 x2 x3 x4 x5 x6 x7 x8 x9).g ((given x0 x1 x2 x3 x4 x5 x6 x7 x8 x9).md 4) ((given x0 x1 x2 x3 x4 x5 x6 x7 x8 x9).dh t) k := by
  have h0 := stage_9 x0 x1 x2 x3 x4 x5 x6 x7 x8 x9 t
  have h1 := stage_46 x0 x1 x2 x3 x4 x5 x6 x7 x8 x9 t
  unfold val_main_v49
  unfold val_main_v48 val_main_v47 val_main_cst_7
  generalize val_main_v9 (F := Ideal) x0 x1 x2 x3 x4 = y0 at h0 ⊢
  generalize val_main_v46 (F := Ideal) x4 x5 x6 x7 x8 = y1 at h1 ⊢
  pointwise
  simp only [h0, h1]

/-- The coefficient of the row in its own gradient. -/
theorem stage_57 (t : Fin 4096) (q : Fin 1024) : val_main_v57 (F := Ideal) x0 x1 x2 x3 x4 x5 x6 x7 x8 (ix2 t q) = Ideal.div ((∑ k, (given x0 x1 x2 x3 x4 x5 x6 x7 x8 x9).x1 t k * dxhR (given x0 x1 x2 x3 x4 x5 x6 x7 x8 x9).g ((given x0 x1 x2 x3 x4 x5 x6 x7 x8 x9).md 4) ((given x0 x1 x2 x3 x4 x5 x6 x7 x8 x9).dh t) k) *
    ((((-(1 / 2) : ℝ) : EReal)) * Ideal.div (rstd ((given x0 x1 x2 x3 x4 x5 x6 x7 x8 x9).x1 t)) (Ideal.div (∑ k, (given x0 x1 x2 x3 x4 x5 x6 x7 x8 x9).x1 t k * (given x0 x1 x2 x3 x4 x5 x6 x7 x8 x9).x1 t k) lenC + epsC))) lenC := by
  have h0 := stage_49 x0 x1 x2 x3 x4 x5 x6 x7 x8 x9 t
  have h1 := stage_17 x0 x1 x2 x3 x4 x5 x6 x7 x8 x9 t
  have h2 := stage_16 x0 x1 x2 x3 x4 x5 x6 x7 x8 x9 t
  have e : Ideal.ofBits .f32 0xBF000000#32 = ((-(1 / 2) : ℝ) : EReal) := by
    rw [show (-(1 / 2) : ℝ) = -(8388608 * (2 ^ 24)⁻¹) by norm_num, EReal.coe_neg, EReal.coe_mul]
    simp [Ideal.ofBits, Ideal.ieee]
  unfold val_main_v57 val_main_v56 val_main_v55 val_main_v54 val_main_v53 val_main_v20 val_main_v19 val_main_v18 val_main_cst_8 val_main_cst_9 val_main_cst_2
  generalize val_main_v49 (F := Ideal) x0 x1 x2 x3 x4 x5 x6 x7 x8 = y0 at h0 ⊢
  generalize val_main_v17 (F := Ideal) x0 x1 x2 x3 x4 = y1 at h1 ⊢
  generalize val_main_v16 (F := Ideal) x0 x1 x2 x3 x4 = y2 at h2 ⊢
  pointwise
  rw [Fin.sum_univ_one, h0, h1, h2, e]

/-- The gradient of the stream. -/
theorem stage_61 (t : Fin 4096) (q : Fin 1024) : val_main_v61 (F := Ideal) x0 x1 x2 x3 x4 x5 x6 x7 x8 x9 (ix2 t q) = (given x0 x1 x2 x3 x4 x5 x6 x7 x8 x9).dx t q := by
  have h0 := stage_9 x0 x1 x2 x3 x4 x5 x6 x7 x8 x9 t
  have h1 := stage_46 x0 x1 x2 x3 x4 x5 x6 x7 x8 x9 t
  have h2 := stage_17 x0 x1 x2 x3 x4 x5 x6 x7 x8 x9 t
  have h3 := stage_57 x0 x1 x2 x3 x4 x5 x6 x7 x8 x9 t
  unfold val_main_v61
  unfold val_main_v59 val_main_v60 val_main_v58 val_main_v52 val_main_v51 val_main_v50
  generalize val_main_v9 (F := Ideal) x0 x1 x2 x3 x4 = y0 at h0 ⊢
  generalize val_main_v46 (F := Ideal) x4 x5 x6 x7 x8 = y1 at h1 ⊢
  generalize val_main_v17 (F := Ideal) x0 x1 x2 x3 x4 = y2 at h2 ⊢
  generalize val_main_v57 (F := Ideal) x0 x1 x2 x3 x4 x5 x6 x7 x8 = y3 at h3 ⊢
  pointwise
  simp only [h0, h1, h2, h3]
  obtain ⟨ε, hε, e⟩ := epsC_pos
  have k := NormGrad.norm_grad ((given x0 x1 x2 x3 x4 x5 x6 x7 x8 x9).x1 t) (dxhR (given x0 x1 x2 x3 x4 x5 x6 x7 x8 x9).g ((given x0 x1 x2 x3 x4 x5 x6 x7 x8 x9).md 4) ((given x0 x1 x2 x3 x4 x5 x6 x7 x8 x9).dh t)) (x9 (ix2 t q)) 1024 ε (by norm_num) hε q
    (Ideal.div (∑ k, (given x0 x1 x2 x3 x4 x5 x6 x7 x8 x9).x1 t k * (given x0 x1 x2 x3 x4 x5 x6 x7 x8 x9).x1 t k) lenC + epsC) (rstd ((given x0 x1 x2 x3 x4 x5 x6 x7 x8 x9).x1 t)) _ (by rw [lenC_eq, e]) rfl rfl
  rw [← lenC_eq] at k
  exact k.symm

/-- The gradient of the projected branches. -/
theorem stage_64 (t : Fin 4096) (q : Fin 1024) : val_main_v64 (F := Ideal) x0 x1 x2 x3 x4 x5 x6 x7 x8 x9 (ix2 t q) = (given x0 x1 x2 x3 x4 x5 x6 x7 x8 x9).dp t q := by
  have h0 := stage_61 x0 x1 x2 x3 x4 x5 x6 x7 x8 x9 t
  unfold val_main_v64
  unfold val_main_v63 val_main_v62 val_main_v0
  generalize val_main_v61 (F := Ideal) x0 x1 x2 x3 x4 x5 x6 x7 x8 x9 = y0 at h0 ⊢
  pointwise
  simp only [h0]
  exact mul_comm _ _

/-- The gradient of the branches. -/
theorem stage_70 (t : Fin 4096) (q : Fin 1024) : val_main_v70 (F := Ideal) x0 x1 x2 x3 x4 x5 x6 x7 x8 x9 (ix2 t q) = (given x0 x1 x2 x3 x4 x5 x6 x7 x8 x9).dy t q := by
  have h0 := stage_64 x0 x1 x2 x3 x4 x5 x6 x7 x8 x9 t
  unfold val_main_v70
  generalize val_main_v64 (F := Ideal) x0 x1 x2 x3 x4 x5 x6 x7 x8 x9 = y0 at h0 ⊢
  pointwise
  simp only [h0]
  rfl

/-- The attention branch's gradient. -/
theorem stage_75 (t : Fin 4096) (q : Fin 512) : val_main_v75 (F := Ideal) x0 x1 x2 x3 x4 x5 x6 x7 x8 x9 (ix2 t q) = (given x0 x1 x2 x3 x4 x5 x6 x7 x8 x9).dy t (rl q) := by
  have h0 := stage_70 x0 x1 x2 x3 x4 x5 x6 x7 x8 x9 t
  unfold val_main_v75
  unfold val_main_v71
  generalize val_main_v70 (F := Ideal) x0 x1 x2 x3 x4 x5 x6 x7 x8 x9 = y0 at h0 ⊢
  pointwise
  simp only [h0]

/-- The convolution branch's gradient. -/
theorem stage_72 (t : Fin 4096) (q : Fin 512) : val_main_v72 (F := Ideal) x0 x1 x2 x3 x4 x5 x6 x7 x8 x9 (ix2 t q) = (given x0 x1 x2 x3 x4 x5 x6 x7 x8 x9).dy t (rr q) := by
  have h0 := stage_70 x0 x1 x2 x3 x4 x5 x6 x7 x8 x9 t
  unfold val_main_v72
  generalize val_main_v70 (F := Ideal) x0 x1 x2 x3 x4 x5 x6 x7 x8 x9 = y0 at h0 ⊢
  pointwise
  simp only [h0]

/-- The attention half of the projection weights' gradient. -/
theorem stage_76 (p : Fin 512) (q : Fin 1024) : val_main_v76 (F := Ideal) x0 x1 x2 x3 x4 x5 x6 x7 x8 x9 (ix2 (rl p) q) = (given x0 x1 x2 x3 x4 x5 x6 x7 x8 x9).dwa p q := by
  have h0 := stage_64 x0 x1 x2 x3 x4 x5 x6 x7 x8 x9
  unfold val_main_v76
  unfold val_main_v69 val_main_v68 val_main_v5 val_main_v3 val_main_v4
  generalize val_main_v64 (F := Ideal) x0 x1 x2 x3 x4 x5 x6 x7 x8 x9 = y0 at h0 ⊢
  pointwise
  simp only [h0]
  exact Finset.sum_congr rfl fun t _ => mul_comm _ _

/-- The convolution half of the projection weights' gradient. -/
theorem stage_76r (p : Fin 512) (q : Fin 1024) : val_main_v76 (F := Ideal) x0 x1 x2 x3 x4 x5 x6 x7 x8 x9 (ix2 (rr p) q) = (given x0 x1 x2 x3 x4 x5 x6 x7 x8 x9).dwc p q := by
  have h0 := stage_64 x0 x1 x2 x3 x4 x5 x6 x7 x8 x9
  unfold val_main_v76
  unfold val_main_v69 val_main_v68 val_main_v5 val_main_v3 val_main_v4
  generalize val_main_v64 (F := Ideal) x0 x1 x2 x3 x4 x5 x6 x7 x8 x9 = y0 at h0 ⊢
  pointwise
  simp only [h0]
  exact Finset.sum_congr rfl fun t _ => mul_comm _ _

/-- The shift's gradient. -/
theorem stage_36 (q : Fin 1024) : val_main_v36 (F := Ideal) x6 x7 x8 (ix2 0 q) = ∑ t, (given x0 x1 x2 x3 x4 x5 x6 x7 x8 x9).dh t q := by
  have h0 := stage_34 x0 x1 x2 x3 x4 x5 x6 x7 x8 x9
  unfold val_main_v36
  unfold val_main_v35 val_main_cst_4
  generalize val_main_v34 (F := Ideal) x6 x7 x8 = y0 at h0 ⊢
  pointwise
  simp only [h0]

/-- The scale's gradient. -/
theorem stage_39 (q : Fin 1024) : val_main_v39 (F := Ideal) x0 x1 x2 x3 x4 x5 x6 x7 x8 (ix2 0 q) = ∑ t, (given x0 x1 x2 x3 x4 x5 x6 x7 x8 x9).dh t q * (xhR ((given x0 x1 x2 x3 x4 x5 x6 x7 x8 x9).x1 t) q * (given x0 x1 x2 x3 x4 x5 x6 x7 x8 x9).g q) := by
  have h0 := stage_22 x0 x1 x2 x3 x4 x5 x6 x7 x8 x9
  have h1 := stage_34 x0 x1 x2 x3 x4 x5 x6 x7 x8 x9
  unfold val_main_v39
  unfold val_main_v38 val_main_v37 val_main_v24 val_main_v23 val_main_cst_5
  generalize val_main_v22 (F := Ideal) x0 x1 x2 x3 x4 = y0 at h0 ⊢
  generalize val_main_v34 (F := Ideal) x6 x7 x8 = y1 at h1 ⊢
  pointwise
  simp only [h0, h1]
  exact Finset.sum_congr rfl fun t _ => mul_comm _ _

/-- The gain's gradient. -/
theorem stage_44 (q : Fin 1024) : val_main_v44 (F := Ideal) x0 x1 x2 x3 x4 x6 x7 x8 (ix2 0 q) = ∑ t, dnR ((given x0 x1 x2 x3 x4 x5 x6 x7 x8 x9).md 4) ((given x0 x1 x2 x3 x4 x5 x6 x7 x8 x9).dh t) q * xhR ((given x0 x1 x2 x3 x4 x5 x6 x7 x8 x9).x1 t) q := by
  have h0 := stage_22 x0 x1 x2 x3 x4 x5 x6 x7 x8 x9
  have h1 := stage_41 x0 x1 x2 x3 x4 x5 x6 x7 x8 x9
  unfold val_main_v44
  unfold val_main_v43 val_main_v42 val_main_cst_6
  generalize val_main_v22 (F := Ideal) x0 x1 x2 x3 x4 = y0 at h0 ⊢
  generalize val_main_v41 (F := Ideal) x4 x6 x7 x8 = y1 at h1 ⊢
  pointwise
  simp only [h0, h1]
  exact Finset.sum_congr rfl fun t _ => mul_comm _ _

/-- The gate's gradient. -/
theorem stage_67 (q : Fin 1024) : val_main_v67 (F := Ideal) x0 x1 x2 x3 x4 x5 x6 x7 x8 x9 (ix2 0 q) = ∑ t, (given x0 x1 x2 x3 x4 x5 x6 x7 x8 x9).dx t q * (given x0 x1 x2 x3 x4 x5 x6 x7 x8 x9).pj t q := by
  have h0 := stage_61 x0 x1 x2 x3 x4 x5 x6 x7 x8 x9
  have h1 := stage_6 x0 x1 x2 x3 x4 x5 x6 x7 x8 x9
  unfold val_main_v67
  unfold val_main_v66 val_main_v65 val_main_v62 val_main_cst_10
  generalize val_main_v61 (F := Ideal) x0 x1 x2 x3 x4 x5 x6 x7 x8 x9 = y0 at h0 ⊢
  generalize val_main_v6 (F := Ideal) x1 x2 x3 = y1 at h1 ⊢
  pointwise
  simp only [h0, h1]

/-- The sums over the rows, row by row. -/
theorem stage_74 (p : Fin 8) (q : Fin 1024) : val_main_v74 (F := Ideal) x0 x1 x2 x3 x4 x5 x6 x7 x8 x9 (ix2 p q) = (given x0 x1 x2 x3 x4 x5 x6 x7 x8 x9).sums p q := by
  have h0 := stage_36 x0 x1 x2 x3 x4 x5 x6 x7 x8 x9 q
  have h1 := stage_39 x0 x1 x2 x3 x4 x5 x6 x7 x8 x9 q
  have h2 := stage_44 x0 x1 x2 x3 x4 x5 x6 x7 x8 x9 q
  have h3 := stage_67 x0 x1 x2 x3 x4 x5 x6 x7 x8 x9 q
  unfold val_main_v74
  generalize val_main_v36 (F := Ideal) x6 x7 x8 = y0 at h0 ⊢
  generalize val_main_v39 (F := Ideal) x0 x1 x2 x3 x4 x5 x6 x7 x8 = y1 at h1 ⊢
  generalize val_main_v44 (F := Ideal) x0 x1 x2 x3 x4 x6 x7 x8 = y2 at h2 ⊢
  generalize val_main_v67 (F := Ideal) x0 x1 x2 x3 x4 x5 x6 x7 x8 x9 = y3 at h3 ⊢
  match p with
  | 0 => pointwise; exact h0
  | 1 => pointwise; exact h1
  | 2 => pointwise; exact h2
  | 3 => pointwise; exact h3
  | 4 => pointwise [val_main_v73, val_main_cst_11]; rfl
  | 5 => pointwise [val_main_v73, val_main_cst_11]; rfl
  | 6 => pointwise [val_main_v73, val_main_cst_11]; rfl
  | 7 => pointwise [val_main_v73, val_main_cst_11]; rfl

end Cert.N2
-- ==== Proof.N2.Claim.lean ====
/- The value claim: the kernel's five results are the reference's five results, at every argument. -/
module

public import proofs.«01_k».proof.Defs
public import proofs.«01_k».proof.Proof.Gen.ReferenceIdeal.Run
public import proofs.«01_k».proof.Proof.N2.Results
public import proofs.«01_k».proof.Proof.N2.Ref

@[expose] public section

set_option maxRecDepth 16384

noncomputable section

namespace Cert.N2

open Idealize.ShloMosaic Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference's ten arrays, off its memory. -/
abbrev refArrays : Arrays := given (m' ((c.tc : Thread ReferenceIdeal.nD ReferenceIdeal.τ).loc ReferenceIdeal.main_arg0))
  (m' ((c.tc : Thread ReferenceIdeal.nD ReferenceIdeal.τ).loc ReferenceIdeal.main_arg1))
  (m' ((c.tc : Thread ReferenceIdeal.nD ReferenceIdeal.τ).loc ReferenceIdeal.main_arg2))
  (m' ((c.tc : Thread ReferenceIdeal.nD ReferenceIdeal.τ).loc ReferenceIdeal.main_arg3))
  (m' ((c.tc : Thread ReferenceIdeal.nD ReferenceIdeal.τ).loc ReferenceIdeal.main_arg4))
  (m' ((c.tc : Thread ReferenceIdeal.nD ReferenceIdeal.τ).loc ReferenceIdeal.main_arg5))
  (m' ((c.tc : Thread ReferenceIdeal.nD ReferenceIdeal.τ).loc ReferenceIdeal.main_arg6))
  (m' ((c.tc : Thread ReferenceIdeal.nD ReferenceIdeal.τ).loc ReferenceIdeal.main_arg7))
  (m' ((c.tc : Thread ReferenceIdeal.nD ReferenceIdeal.τ).loc ReferenceIdeal.main_arg8))
  (m' ((c.tc : Thread ReferenceIdeal.nD ReferenceIdeal.τ).loc ReferenceIdeal.main_arg9))

variable {m m' c}

/-- The stream's gradient. -/
theorem equal_dx (e : refArrays m' c = arrays m c) : ReferenceIdeal.Value.res_main_v61 m' c = KernelIdeal.Value.G11 m c := by
  rw [ReferenceIdeal.Read.val_main_v61_eq]
  funext j
  idx_vars j
  exact (stage_61 _ _ _ _ _ _ _ _ _ _ _ _).trans ((congrArg (fun A : Arrays => A.dx _ _) e).trans (G11_apply m c _ _).symm)

/-- The attention branch's gradient. -/
theorem equal_dya (e : refArrays m' c = arrays m c) : ReferenceIdeal.Value.res_main_v75 m' c = KernelIdeal.Value.G12 m c := by
  rw [ReferenceIdeal.Read.val_main_v75_eq]
  funext j
  idx_vars j
  exact (stage_75 _ _ _ _ _ _ _ _ _ _ _ _).trans ((congrArg (fun A : Arrays => A.dy _ _) e).trans (G12_apply m c _ _).symm)

/-- The convolution branch's gradient. -/
theorem equal_dyc (e : refArrays m' c = arrays m c) : ReferenceIdeal.Value.res_main_v72 m' c = KernelIdeal.Value.G13 m c := by
  rw [ReferenceIdeal.Read.val_main_v72_eq]
  funext j
  idx_vars j
  exact (stage_72 _ _ _ _ _ _ _ _ _ _ _ _).trans ((congrArg (fun A : Arrays => A.dy _ _) e).trans (G13_apply m c _ _).symm)

/-- A row of 1024 is in the first half or in the second. -/
theorem half (p : Fin 1024) : (∃ k, p = rl k) ∨ ∃ k, p = rr k := by
  by_cases h : p.val < 512
  · exact .inl ⟨⟨p.val, h⟩, rfl⟩
  · exact .inr ⟨⟨p.val - 512, by omega⟩, Fin.ext (show p.val = 512 + (p.val - 512) by omega)⟩

/-- The projection weights' gradient. -/
theorem equal_dw (e : refArrays m' c = arrays m c) : ReferenceIdeal.Value.res_main_v76 m' c = KernelIdeal.Value.G14 m c := by
  rw [ReferenceIdeal.Read.val_main_v76_eq]
  funext j
  idx_vars j
  rcases half j0 with ⟨k, rfl⟩ | ⟨k, rfl⟩
  · exact (stage_76 _ _ _ _ _ _ _ _ _ _ _ _).trans ((congrArg (fun A : Arrays => A.dwa _ _) e).trans (G14_lo m c _ _).symm)
  · exact (stage_76r _ _ _ _ _ _ _ _ _ _ _ _).trans ((congrArg (fun A : Arrays => A.dwc _ _) e).trans (G14_hi m c _ _).symm)

/-- The sums over the rows. -/
theorem equal_sums (e : refArrays m' c = arrays m c) : ReferenceIdeal.Value.res_main_v74 m' c = KernelIdeal.Value.G15 m c := by
  rw [ReferenceIdeal.Read.val_main_v74_eq]
  funext j
  idx_vars j
  exact (stage_74 _ _ _ _ _ _ _ _ _ _ _ _).trans ((congrArg (fun A : Arrays => A.sums _ _) e).trans (G15_apply m c _ _).symm)

/-- The claim that both programs run and leave the same five arrays. -/
theorem value : algebraic_KernelIdeal_ReferenceIdeal (hKernelIdeal := KernelIdeal.Gen.facts) (hReferenceIdeal := ReferenceIdeal.Gen.facts) := by
  intro m g m' g' _ hag
  have e : ∀ c, refArrays m' c = arrays m c := fun c => by
    obtain ⟨a0, a1, a2, a3, a4, a5, a6, a7, a8, a9⟩ := hag c
    rw [refArrays, a0, a1, a2, a3, a4, a5, a6, a7, a8, a9]
    rfl
  refine ⟨_, _, _, _, _, KernelIdeal.Value.run (F := Ideal) m g, ?_⟩
  exact (θ_run ReferenceIdeal.defs _ _).mono (fun _ h c => ⟨(h c).1.trans (equal_dx (e c)), (h c).2.1.trans (equal_dya (e c)),
    (h c).2.2.1.trans (equal_dyc (e c)), (h c).2.2.2.1.trans (equal_dw (e c)), (h c).2.2.2.2.1.trans (equal_sums (e c)),
    (h c).2.2.2.2.2⟩) (ReferenceIdeal.Value.run (F := Ideal) m' g')

end Cert.N2
-- ==== Proof.N1.Points.lean ====
/- The launch's points: which of the body's three branches each takes, and which windows each uses and writes back. -/
module

public import proofs.«01_k».proof.Proof.Gen.Kernel2Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.N1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body starts its accumulators here: at the first point. -/
abbrev cond0_0 (i : grid0.Coords) : Prop := k0_cond1 i = 1#1
/-- It is so at the first point only. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, k0_cond1, e0]
    word_cmp
   : ∀ t : Fin grid0.N, cond0_0 (grid0.coords t) ↔ t.val % 17 = 0)

/-- The body finishes here: at the last point. -/
abbrev cond0_1 (i : grid0.Coords) : Prop := k0_cond2 i = 1#1
/-- It is so at the last point only. -/
theorem hcond0_1 : ∀ t : Fin cfg0.N, cond0_1 (grid0.coords t) ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [cond0_1, k0_cond2, e0]
    word_cmp
   : ∀ t : Fin grid0.N, cond0_1 (grid0.coords t) ↔ t.val % 17 = 16)

/-- The body handles a block of the stream here. -/
abbrev cond0_2 (i : grid0.Coords) : Prop := k0_cond3 i = 1#1
/-- It is so at every point but the last. -/
theorem hcond0_2 : ∀ t : Fin cfg0.N, cond0_2 (grid0.coords t) ↔ t.val < 16 :=
  (by decide +kernel : ∀ t : Fin grid0.N, cond0_2 (grid0.coords t) ↔ t.val < 16)

/-- The body uses window 0 at every point. -/
theorem liveAt0_0 : ∀ t : Fin cfg0.N, cfg0.idle 0 (grid0.coords t) = false := fun _ => rfl
/-- The body uses window 1 at every point. -/
theorem liveAt0_1 : ∀ t : Fin cfg0.N, cfg0.idle 1 (grid0.coords t) = false := fun _ => rfl
/-- The body uses window 2 at every point. -/
theorem liveAt0_2 : ∀ t : Fin cfg0.N, cfg0.idle 2 (grid0.coords t) = false := fun _ => rfl
/-- The body uses window 3 at every point. -/
theorem liveAt0_3 : ∀ t : Fin cfg0.N, cfg0.idle 3 (grid0.coords t) = false := fun _ => rfl
/-- The body uses window 4 at every point. -/
theorem liveAt0_4 : ∀ t : Fin cfg0.N, cfg0.idle 4 (grid0.coords t) = false := fun _ => rfl
/-- The body uses window 5 at every point. -/
theorem liveAt0_5 : ∀ t : Fin cfg0.N, cfg0.idle 5 (grid0.coords t) = false := fun _ => rfl
/-- The body uses window 6 at every point. -/
theorem liveAt0_6 : ∀ t : Fin cfg0.N, cfg0.idle 6 (grid0.coords t) = false := fun _ => rfl
/-- The body uses window 7 at every point. -/
theorem liveAt0_7 : ∀ t : Fin cfg0.N, cfg0.idle 7 (grid0.coords t) = false := fun _ => rfl
/-- The body uses window 8 at every point. -/
theorem liveAt0_8 : ∀ t : Fin cfg0.N, cfg0.idle 8 (grid0.coords t) = false := fun _ => rfl
/-- The body uses window 9 at every point. -/
theorem liveAt0_9 : ∀ t : Fin cfg0.N, cfg0.idle 9 (grid0.coords t) = false := fun _ => rfl
/-- The body uses window 10 at every point. -/
theorem liveAt0_10 : ∀ t : Fin cfg0.N, cfg0.idle 10 (grid0.coords t) = false := fun _ => rfl
/-- The body uses window 11 at every point. -/
theorem liveAt0_11 : ∀ t : Fin cfg0.N, cfg0.idle 11 (grid0.coords t) = false := fun _ => rfl
/-- Before which points output 12's buffer holds nothing the body stored. -/
def freshTab0_12 : ℕ → Bool
  | 0 => true
  | n + 1 => (0x17fff : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
/-- The body stores into output 12 at the first point. -/
theorem liveAt0_12_A : ∀ t : Fin cfg0.N, cond0_0 (grid0.coords t) → ¬cond0_1 (grid0.coords t) → cond0_2 (grid0.coords t) → cfg0.idle 12 (grid0.coords t) = false := by decide +kernel
/-- The body stores into output 12 at a point between the first and the last. -/
theorem liveAt0_12_B : ∀ t : Fin cfg0.N, ¬cond0_0 (grid0.coords t) → ¬cond0_1 (grid0.coords t) → cond0_2 (grid0.coords t) → cfg0.idle 12 (grid0.coords t) = false := by decide +kernel
/-- The body stores nothing into output 12 at the last point. -/
theorem idleAt0_12_C : ∀ t : Fin cfg0.N, ¬cond0_0 (grid0.coords t) → cond0_1 (grid0.coords t) → ¬cond0_2 (grid0.coords t) → cfg0.idle 12 (grid0.coords t) = true := by decide +kernel
/-- Yet output 12 is written back at the last point. -/
theorem flushAt0_12_C : ∀ t : Fin cfg0.N, ¬cond0_0 (grid0.coords t) → cond0_1 (grid0.coords t) → ¬cond0_2 (grid0.coords t) → (cfg0.win 12).flush t = true := by decide +kernel
/-- Output 12's buffer holds what the body stored earlier, at the last point. -/
theorem notFresh0_12_C : ∀ t : Fin cfg0.N, ¬cond0_0 (grid0.coords t) → cond0_1 (grid0.coords t) → ¬cond0_2 (grid0.coords t) → cfg0.fresh 12 t.val = false := by
  intro t; rw [fresh0_12_eq t]; revert t; decide +kernel
/-- The body stores nothing into output 13 at the first point. -/
theorem idleAt0_13_A : ∀ t : Fin cfg0.N, cond0_0 (grid0.coords t) → ¬cond0_1 (grid0.coords t) → cond0_2 (grid0.coords t) → cfg0.idle 13 (grid0.coords t) = true := by decide +kernel
/-- Output 13 is not written back at the first point. -/
theorem noFlush0_13_A : ∀ t : Fin cfg0.N, cond0_0 (grid0.coords t) → ¬cond0_1 (grid0.coords t) → cond0_2 (grid0.coords t) → (cfg0.win 13).flush t = false := by decide +kernel
/-- The body stores nothing into output 13 at a point between the first and the last. -/
theorem idleAt0_13_B : ∀ t : Fin cfg0.N, ¬cond0_0 (grid0.coords t) → ¬cond0_1 (grid0.coords t) → cond0_2 (grid0.coords t) → cfg0.idle 13 (grid0.coords t) = true := by decide +kernel
/-- Output 13 is not written back at a point between the first and the last. -/
theorem noFlush0_13_B : ∀ t : Fin cfg0.N, ¬cond0_0 (grid0.coords t) → ¬cond0_1 (grid0.coords t) → cond0_2 (grid0.coords t) → (cfg0.win 13).flush t = false := by decide +kernel
/-- The body stores into output 13 at the last point. -/
theorem liveAt0_13_C : ∀ t : Fin cfg0.N, ¬cond0_0 (grid0.coords t) → cond0_1 (grid0.coords t) → ¬cond0_2 (grid0.coords t) → cfg0.idle 13 (grid0.coords t) = false := by decide +kernel
/-- Before which points output 14's buffer holds nothing the body stored. -/
def freshTab0_14 : ℕ → Bool
  | 0 => true
  | n + 1 => (0x10000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- The body stores into output 14 at the first point. -/
theorem liveAt0_14_A : ∀ t : Fin cfg0.N, cond0_0 (grid0.coords t) → ¬cond0_1 (grid0.coords t) → cond0_2 (grid0.coords t) → cfg0.idle 14 (grid0.coords t) = false := by decide +kernel
/-- The body stores into output 14 at a point between the first and the last. -/
theorem liveAt0_14_B : ∀ t : Fin cfg0.N, ¬cond0_0 (grid0.coords t) → ¬cond0_1 (grid0.coords t) → cond0_2 (grid0.coords t) → cfg0.idle 14 (grid0.coords t) = false := by decide +kernel
/-- Output 14's buffer holds what the body stored earlier, at a point between the first and the last. -/
theorem notFresh0_14_B : ∀ t : Fin cfg0.N, ¬cond0_0 (grid0.coords t) → ¬cond0_1 (grid0.coords t) → cond0_2 (grid0.coords t) → cfg0.fresh 14 t.val = false := by
  intro t; rw [fresh0_14_eq t]; revert t; decide +kernel
/-- The body stores into output 14 at the last point. -/
theorem liveAt0_14_C : ∀ t : Fin cfg0.N, ¬cond0_0 (grid0.coords t) → cond0_1 (grid0.coords t) → ¬cond0_2 (grid0.coords t) → cfg0.idle 14 (grid0.coords t) = false := by decide +kernel
/-- Output 14's buffer holds what the body stored earlier, at the last point. -/
theorem notFresh0_14_C : ∀ t : Fin cfg0.N, ¬cond0_0 (grid0.coords t) → cond0_1 (grid0.coords t) → ¬cond0_2 (grid0.coords t) → cfg0.fresh 14 t.val = false := by
  intro t; rw [fresh0_14_eq t]; revert t; decide +kernel

/-- A buffer through which output 12's contents are stated. -/
abbrev VO0_12 : View sig .tc .vmem S256x1024 .f32 := (Memref.whole cc0_stg12_0 : Memref sig .tc .vmem S256x1024 .f32).view
/-- A buffer through which output 13's contents are stated. -/
abbrev VO0_13 : View sig .tc .vmem S2560x1024 .bf16 := (Memref.whole cc0_stg13_0 : Memref sig .tc .vmem S2560x1024 .bf16).view
/-- A buffer through which output 14's contents are stated. -/
abbrev VO0_14 : View sig .tc .vmem S8x1024 .f32 := (Memref.whole cc0_stg14_0 : Memref sig .tc .vmem S8x1024 .f32).view
/-- Window 0's buffer at a point. -/
abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
/-- Window 1's buffer at a point. -/
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
/-- Window 2's buffer at a point. -/
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
/-- Window 3's buffer at a point. -/
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
/-- Window 4's buffer at a point. -/
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- Window 5's buffer at a point. -/
abbrev ms0_5 (t : Fin cfg0.N) : Memref sig .tc .vmem S2560x1024 .bf16 := win0_5.stage (cfg0.slots t 5)
abbrev hs0_5 (t : Fin cfg0.N) : (ms0_5 t).IsWhole := hstage0_5 ((cfg0.slots t 5).cast nbuf0_5)
/-- Window 6's buffer at a point. -/
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
/-- Window 7's buffer at a point. -/
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
/-- Window 8's buffer at a point. -/
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
/-- Window 9's buffer at a point. -/
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
/-- Window 10's buffer at a point. -/
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)
/-- Window 11's buffer at a point. -/
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
/-- Window 12's buffer at a point. -/
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
/-- Window 13's buffer at a point. -/
abbrev ms0_13 (t : Fin cfg0.N) : Memref sig .tc .vmem S2560x1024 .bf16 := win0_13.stage (cfg0.slots t 13)
abbrev hs0_13 (t : Fin cfg0.N) : (ms0_13 t).IsWhole := hstage0_13 ((cfg0.slots t 13).cast nbuf0_13)
/-- Window 14's buffer at a point. -/
abbrev ms0_14 (t : Fin cfg0.N) : Memref sig .tc .vmem S8x1024 .f32 := win0_14.stage (cfg0.slots t 14)
abbrev hs0_14 (t : Fin cfg0.N) : (ms0_14 t).IsWhole := hstage0_14 ((cfg0.slots t 14).cast nbuf0_14)
/-- The scratch accumulator. -/
abbrev scM0_0 : Memref sig .tc .vmem S2560x1024 .f32 := Memref.whole cc0_scratch0
abbrev VS0_0 : View sig .tc .vmem S2560x1024 .f32 := scM0_0.view

/-- What the launch keeps between points: the scratch at some contents, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.N1

end
-- ==== Proof.N1.RunA.lean ====
/- The body at the first point: the accumulators start. -/
module

public import proofs.«01_k».proof.Proof.N1.Points
public import proofs.«01_k».proof.Proof.Gen.Kernel2Ideal.Skeleton

@[expose] public section

set_option maxRecDepth 16384

noncomputable section

namespace Cert.N1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the stores it makes into each output and the scratch, and that it makes them. -/
noncomputable def kernelRun0_A (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2560x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S2560x1024 .bf16) (harg14 : arg14.IsWhole) (arg15 : Memref sig .tc .vmem S8x1024 .f32) (harg15 : arg15.IsWhole) (arg16 : Memref sig .tc .vmem S2560x1024 .f32) (harg16 : arg16.IsWhole) (hc0 : cond0_0 i) (hc1 : ¬cond0_1 i) (hc2 : cond0_2 i)
    (x0 : Vec F S256x512 .bf16) (x1 : Vec F S256x512 .f32) (x2 : Vec F S256x512 .f32) (x3 : Vec F S256x512 .bf16) (x4 : Vec F S256x512 .bf16) (x5 : Vec F S2560x1024 .bf16) (x6 : Vec F S256x1024 .f32) (x7 : Vec F S256x1024 .f32) (x8 : Vec F S256x1024 .bf16) (x9 : Vec F S256x1024 .f32) (x10 : Vec F S8x1024 .f32) (x11 : Vec F S1x1024 .f32) :
    Σ' (L12 : List (View.Piece (Elt F) S256x1024 .f32)), Σ' (L13 : List (View.Piece (Elt F) S2560x1024 .bf16)), Σ' (L14 : List (View.Piece (Elt F) S8x1024 .f32)), { LS0 : List (View.Piece (Elt F) S2560x1024 .f32) //
      ∀ (xi13 : Vec F S2560x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc0_norm1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, fun xi13 E K => ?run⟩
  case run =>
    simp only [cc0_norm1_bwd_eq_skeleton]; unfold cc0_norm1_bwd_skel
    simp only [k0_part4_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]; · iexists _; iexact H14
    iexists _; iexact HS0

end Cert.N1

end
-- ==== Proof.N1.RunB.lean ====
/- The body at the points between. -/
module

public import proofs.«01_k».proof.Proof.N1.RunA
public import proofs.«01_k».proof.Proof.Gen.Kernel2Ideal.Skeleton

@[expose] public section

set_option maxRecDepth 16384

noncomputable section

namespace Cert.N1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point between the first and the last: the stores it makes into each output and the scratch, and that it makes them. -/
noncomputable def kernelRun0_B (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2560x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S2560x1024 .bf16) (harg14 : arg14.IsWhole) (arg15 : Memref sig .tc .vmem S8x1024 .f32) (harg15 : arg15.IsWhole) (arg16 : Memref sig .tc .vmem S2560x1024 .f32) (harg16 : arg16.IsWhole) (hc0 : ¬cond0_0 i) (hc1 : ¬cond0_1 i) (hc2 : cond0_2 i)
    (x0 : Vec F S256x512 .bf16) (x1 : Vec F S256x512 .f32) (x2 : Vec F S256x512 .f32) (x3 : Vec F S256x512 .bf16) (x4 : Vec F S256x512 .bf16) (x5 : Vec F S2560x1024 .bf16) (x6 : Vec F S256x1024 .f32) (x7 : Vec F S256x1024 .f32) (x8 : Vec F S256x1024 .bf16) (x9 : Vec F S256x1024 .f32) (x10 : Vec F S8x1024 .f32) (x11 : Vec F S1x1024 .f32) (xo14 : Vec F S8x1024 .f32) (xs0 : Vec F S2560x1024 .f32) :
    Σ' (L12 : List (View.Piece (Elt F) S256x1024 .f32)), Σ' (L13 : List (View.Piece (Elt F) S2560x1024 .bf16)), Σ' (L14 : List (View.Piece (Elt F) S8x1024 .f32)), { LS0 : List (View.Piece (Elt F) S2560x1024 .f32) //
      ∀ (xi13 : Vec F S2560x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ owns (c : Thread nD τ) arg15 fullShare xo14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ (arg15.view.loc (c : Thread nD τ) ↦[arg15.view.set]{fullShare} arg15.view.writes (Elt F) (harg15.unread xo14) L14) ∗ (∃ f, arg16.view.loc (c : Thread nD τ) ↦[arg16.view.set]{fullShare} arg16.view.writes (Elt F) f LS0)) -∗ K ⟨⟩))
          ⊢ wp frame (wpE (defs₀ (F := F)) Variants.none c none) E (cc0_norm1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, fun xi13 E K => ?run⟩
  case run =>
    simp only [cc0_norm1_bwd_eq_skeleton]; unfold cc0_norm1_bwd_skel
    simp only [k0_part4_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]; · iexact H14
    iexists _; iexact HS0

end Cert.N1

end
-- ==== Proof.N1.RunC.lean ====
/- The body at the last point: the context's rows are added and the sums stored. -/
module

public import proofs.«01_k».proof.Proof.N1.RunB
public import proofs.«01_k».proof.Proof.Gen.Kernel2Ideal.Skeleton

@[expose] public section

set_option maxRecDepth 16384

noncomputable section

namespace Cert.N1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point: the stores it makes into each output and the scratch, and that it makes them. -/
noncomputable def kernelRun0_C (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S2560x1024 .bf16) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S1x1024 .f32) (harg12 : arg12.IsWhole) (arg13 : Memref sig .tc .vmem S256x1024 .f32) (harg13 : arg13.IsWhole) (arg14 : Memref sig .tc .vmem S2560x1024 .bf16) (harg14 : arg14.IsWhole) (arg15 : Memref sig .tc .vmem S8x1024 .f32) (harg15 : arg15.IsWhole) (arg16 : Memref sig .tc .vmem S2560x1024 .f32) (harg16 : arg16.IsWhole) (hc0 : ¬cond0_0 i) (hc1 : cond0_1 i) (hc2 : ¬cond0_2 i)
    (x0 : Vec F S256x512 .bf16) (x1 : Vec F S256x512 .f32) (x2 : Vec F S256x512 .f32) (x3 : Vec F S256x512 .bf16) (x4 : Vec F S256x512 .bf16) (x5 : Vec F S2560x1024 .bf16) (x6 : Vec F S256x1024 .f32) (x7 : Vec F S256x1024 .f32) (x8 : Vec F S256x1024 .bf16) (x9 : Vec F S256x1024 .f32) (x10 : Vec F S8x1024 .f32) (x11 : Vec F S1x1024 .f32) (xo12 : Vec F S256x1024 .f32) (xo14 : Vec F S8x1024 .f32) (xs0 : Vec F S2560x1024 .f32) :
    Σ' (L12 : List (View.Piece (Elt F) S256x1024 .f32)), Σ' (L13 : List (View.Piece (Elt F) S2560x1024 .bf16)), Σ' (L14 : List (View.Piece (Elt F) S8x1024 .f32)), { LS0 : List (View.Piece (Elt F) S2560x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo12 ∗ (∃ d, owns (c : Thread nD τ) arg14 fullShare d) ∗ owns (c : Thread nD τ) arg15 fullShare xo14 ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xo12 ∗ (∃ f, arg14.view.loc (c : Thread nD τ) ↦[arg14.view.set]{fullShare} arg14.view.writes (Elt F) f L13) ∗ (arg15.view.loc (c : Thread nD τ) ↦[arg15.view.set]{fullShare} arg15.view.writes (Elt F) (harg15.unread xo14) L14) ∗ (arg16.view.loc (c : Thread nD τ) ↦[arg16.view.set]{fullShare} arg16.view.writes (Elt F) (harg16.unread xs0) LS0)) -∗ K ⟨⟩))
          ⊢ wp frame (wpE (defs₀ (F := F)) Variants.none c none) E (cc0_norm1_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, fun E K => ?run⟩
  case run =>
    simp only [cc0_norm1_bwd_eq_skeleton]; unfold cc0_norm1_bwd_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14; obtain rfl := harg16.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexact H14
    iexact HS0

end Cert.N1

end
-- ==== Proof.N1.Frame.lean ====
/- What the outputs and the scratch hold after each point, and the launch's run. -/
module

public import proofs.«01_k».proof.Proof.N1.RunC
public import Idealize.ShloMosaic.Lib.Claim

@[expose] public section

set_option maxRecDepth 16384

noncomputable section

namespace Cert.N1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x512 .bf16) (harg1 : arg1.IsWhole)
    (arg2 : Memref sig .tc .vmem S256x512 .f32) (harg2 : arg2.IsWhole)
    (arg3 : Memref sig .tc .vmem S256x512 .f32) (harg3 : arg3.IsWhole)
    (arg4 : Memref sig .tc .vmem S256x512 .bf16) (harg4 : arg4.IsWhole)
    (arg5 : Memref sig .tc .vmem S256x512 .bf16) (harg5 : arg5.IsWhole)
    (arg6 : Memref sig .tc .vmem S2560x1024 .bf16) (harg6 : arg6.IsWhole)
    (arg7 : Memref sig .tc .vmem S256x1024 .f32) (harg7 : arg7.IsWhole)
    (arg8 : Memref sig .tc .vmem S256x1024 .f32) (harg8 : arg8.IsWhole)
    (arg9 : Memref sig .tc .vmem S256x1024 .bf16) (harg9 : arg9.IsWhole)
    (arg10 : Memref sig .tc .vmem S256x1024 .f32) (harg10 : arg10.IsWhole)
    (arg11 : Memref sig .tc .vmem S8x1024 .f32) (harg11 : arg11.IsWhole)
    (arg12 : Memref sig .tc .vmem S1x1024 .f32) (harg12 : arg12.IsWhole)
    (arg13 : Memref sig .tc .vmem S256x1024 .f32) (harg13 : arg13.IsWhole)
    (arg14 : Memref sig .tc .vmem S2560x1024 .bf16) (harg14 : arg14.IsWhole)
    (arg15 : Memref sig .tc .vmem S8x1024 .f32) (harg15 : arg15.IsWhole)
    (arg16 : Memref sig .tc .vmem S2560x1024 .f32) (harg16 : arg16.IsWhole)

section
variable (hc0 : cond0_0 i) (hc1 : ¬cond0_1 i) (hc2 : cond0_2 i)
    (x0 : Vec F S256x512 .bf16) (x1 : Vec F S256x512 .f32) (x2 : Vec F S256x512 .f32) (x3 : Vec F S256x512 .bf16)
    (x4 : Vec F S256x512 .bf16) (x5 : Vec F S2560x1024 .bf16) (x6 : Vec F S256x1024 .f32)
    (x7 : Vec F S256x1024 .f32) (x8 : Vec F S256x1024 .bf16) (x9 : Vec F S256x1024 .f32)
    (x10 : Vec F S8x1024 .f32) (x11 : Vec F S1x1024 .f32)

/-- The stores into output 12 at the first point fill it. -/
theorem cover0_A_12 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).1 S256x1024.size (by sl_kernel_rfl) y

/-- What output 12 holds after the first point. -/
def out0_A_12 : Vec F S256x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).1)

/-- What output 13 holds after the first point. -/
def out0_A_13 : Vec F S2560x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.1)

/-- The stores into output 14 at the first point fill it. -/
theorem cover0_A_14 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.1 ![1, 1024] (by sl_kernel_rfl) y

/-- What output 14 holds after the first point. -/
def out0_A_14 : Vec F S8x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.1)

/-- The stores into the scratch at the first point fill it. -/
theorem scover0_A_0 (y : S2560x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.2.1 (by sl_whole_mem) y

/-- What the scratch holds after the first point. -/
def sout0_A_0 : Vec F S2560x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11).2.2.2.1)

end

section
variable (hc0 : ¬cond0_0 i) (hc1 : ¬cond0_1 i) (hc2 : cond0_2 i)
    (x0 : Vec F S256x512 .bf16) (x1 : Vec F S256x512 .f32) (x2 : Vec F S256x512 .f32) (x3 : Vec F S256x512 .bf16)
    (x4 : Vec F S256x512 .bf16) (x5 : Vec F S2560x1024 .bf16) (x6 : Vec F S256x1024 .f32)
    (x7 : Vec F S256x1024 .f32) (x8 : Vec F S256x1024 .bf16) (x9 : Vec F S256x1024 .f32)
    (x10 : Vec F S8x1024 .f32) (x11 : Vec F S1x1024 .f32) (xo14 : Vec F S8x1024 .f32)
    (xs0 : Vec F S2560x1024 .f32)

/-- The stores into output 12 at a point between the first and the last fill it. -/
theorem cover0_B_12 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).1 S256x1024.size (by sl_kernel_rfl) y

/-- What output 12 holds after a point between the first and the last. -/
def out0_B_12 : Vec F S256x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).1)

/-- What output 13 holds after a point between the first and the last. -/
def out0_B_13 : Vec F S2560x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).2.1)

/-- What output 14 holds after a point between the first and the last. -/
def out0_B_14 : Vec F S8x1024 .f32 :=
  arg15.view.read (Elt F) (arg15.view.writes (Elt F) (harg15.unread xo14) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).2.2.1)

/-- The stores into the scratch at a point between the first and the last fill it. -/
theorem scover0_B_0 (y : S2560x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).2.2.2.1 S512x1024.size (by sl_kernel_rfl) y

/-- What the scratch holds after a point between the first and the last. -/
def sout0_B_0 : Vec F S2560x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0).2.2.2.1)

end

section
variable (hc0 : ¬cond0_0 i) (hc1 : cond0_1 i) (hc2 : ¬cond0_2 i)
    (x0 : Vec F S256x512 .bf16) (x1 : Vec F S256x512 .f32) (x2 : Vec F S256x512 .f32) (x3 : Vec F S256x512 .bf16)
    (x4 : Vec F S256x512 .bf16) (x5 : Vec F S2560x1024 .bf16) (x6 : Vec F S256x1024 .f32)
    (x7 : Vec F S256x1024 .f32) (x8 : Vec F S256x1024 .bf16) (x9 : Vec F S256x1024 .f32)
    (x10 : Vec F S8x1024 .f32) (x11 : Vec F S1x1024 .f32) (xo12 : Vec F S256x1024 .f32)
    (xo14 : Vec F S8x1024 .f32) (xs0 : Vec F S2560x1024 .f32)

/-- The stores into output 13 at the last point fill it. -/
theorem cover0_C_13 (y : S2560x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0).2.1 S2560x1024.size (by sl_kernel_rfl) y

/-- What output 13 holds after the last point. -/
def out0_C_13 : Vec F S2560x1024 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0).2.1)

/-- What output 14 holds after the last point. -/
def out0_C_14 : Vec F S8x1024 .f32 :=
  arg15.view.read (Elt F) (arg15.view.writes (Elt F) (harg15.unread xo14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0).2.2.1)

/-- What the scratch holds after the last point. -/
def sout0_C_0 : Vec F S2560x1024 .f32 :=
  arg16.view.read (Elt F) (arg16.view.writes (Elt F) (harg16.unread xs0) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0).2.2.2.1)

end

end

/-- What the three outputs and the scratch hold after each point. -/
def outsAt0 (c : Dev nD) : (n : ℕ) → n < cfg0.N → Vec F S256x1024 .f32 × Vec F S2560x1024 .bf16 × Vec F S8x1024 .f32 × Vec F S2560x1024 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 17 = 0 then
      if h1 : (n + 1) % 17 = 16 then
        False.elim (by have hN : n + 1 < 17 := lt_of_lt_of_eq hn (show cfg0.N = 17 from N_0); omega)
      else
        if h2 : (n + 1) < 16 then
          (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
        else
          False.elim (by have hN : n + 1 < 17 := lt_of_lt_of_eq hn (show cfg0.N = 17 from N_0); omega)
    else
      if h1 : (n + 1) % 17 = 16 then
        if h2 : (n + 1) < 16 then
          False.elim (by have hN : n + 1 < 17 := lt_of_lt_of_eq hn (show cfg0.N = 17 from N_0); omega)
        else
          ((outsAt0 c n (Nat.lt_of_succ_lt hn)).1, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2.2.1 (outsAt0 c n (Nat.lt_of_succ_lt hn)).2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2.2.1 (outsAt0 c n (Nat.lt_of_succ_lt hn)).2.2.2)
      else
        if h2 : (n + 1) < 16 then
          (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.2.1 (outsAt0 c n (Nat.lt_of_succ_lt hn)).2.2.2)
        else
          False.elim (by have hN : n + 1 < 17 := lt_of_lt_of_eq hn (show cfg0.N = 17 from N_0); omega)

/-- The same at the first point. -/
theorem outsAt0_A (c : Dev nD) (t : Fin cfg0.N) (h0 : t.val % 17 = 0) (h1 : ¬t.val % 17 = 16) (h2 : t.val < 16) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans ((dif_pos h2).trans rfl))

/-- The same at a point between the first and the last. -/
theorem outsAt0_B (c : Dev nD) (t : Fin cfg0.N) (h0 : ¬t.val % 17 = 0) (h1 : ¬t.val % 17 = 16) (h2 : t.val < 16) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The same at the last point. -/
theorem outsAt0_C (c : Dev nD) (t : Fin cfg0.N) (h0 : ¬t.val % 17 = 0) (h1 : t.val % 17 = 16) (h2 : ¬t.val < 16) :
    outsAt0 m c t.val t.isLt = ((outsAt0 m c (t.val - 1) (Nat.lt_of_le_of_lt (Nat.sub_le _ _) t.isLt)).1, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- Between points: the scratch at what the point before left in it, and the generator. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-- The launch: the arrays it finds, what each window holds after each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
  Φ t := PhiS m c t.val (Nat.le_of_lt_succ t.isLt)
  q _ := fullShare
  owed _ := 0

/-- The arrays are those the launch finds. -/
theorem A_eq (c : Dev nD) (w : Fin cfg0.W) : (dats m 0 c).A w = V m c (Pipeline.arrRef spec0 w) := by
  dsimp only [dats]

/-- What is kept before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]

/-- Where the body leaves output 12 alone it keeps what the point before left. -/
theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 17 := lt_of_lt_of_eq t.isLt (show cfg0.N = 17 from N_0)
  rw [after0_12, after0_12]
  by_cases h0 : t.val % 17 = 0
  · by_cases h1 : t.val % 17 = 16
    · exfalso; omega
    · by_cases h2 : t.val < 16
      · rw [liveAt0_12_A t ((hcond0_0 t).mpr h0) (fun h => h1 ((hcond0_1 t).mp h)) ((hcond0_2 t).mpr h2)] at hi
        exact absurd hi Bool.false_ne_true
      · exfalso; omega
  · by_cases h1 : t.val % 17 = 16
    · by_cases h2 : t.val < 16
      · exfalso; omega
      · rw [outsAt0_C m c t h0 h1 h2]
    · by_cases h2 : t.val < 16
      · rw [liveAt0_12_B t (fun h => h0 ((hcond0_0 t).mp h)) (fun h => h1 ((hcond0_1 t).mp h)) ((hcond0_2 t).mpr h2)] at hi
        exact absurd hi Bool.false_ne_true
      · exfalso; omega

/-- Where the body leaves output 14 alone it keeps what the point before left. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 17 := lt_of_lt_of_eq t.isLt (show cfg0.N = 17 from N_0)
  rw [after0_14, after0_14]
  by_cases h0 : t.val % 17 = 0
  · by_cases h1 : t.val % 17 = 16
    · exfalso; omega
    · by_cases h2 : t.val < 16
      · rw [liveAt0_14_A t ((hcond0_0 t).mpr h0) (fun h => h1 ((hcond0_1 t).mp h)) ((hcond0_2 t).mpr h2)] at hi
        exact absurd hi Bool.false_ne_true
      · exfalso; omega
  · by_cases h1 : t.val % 17 = 16
    · by_cases h2 : t.val < 16
      · exfalso; omega
      · rw [liveAt0_14_C t (fun h => h0 ((hcond0_0 t).mp h)) ((hcond0_1 t).mpr h1) (fun h => h2 ((hcond0_2 t).mp h))] at hi
        exact absurd hi Bool.false_ne_true
    · by_cases h2 : t.val < 16
      · rw [liveAt0_14_B t (fun h => h0 ((hcond0_0 t).mp h)) (fun h => h1 ((hcond0_1 t).mp h)) ((hcond0_2 t).mpr h2)] at hi
        exact absurd hi Bool.false_ne_true
      · exfalso; omega
/-- What output 14 holds on entry to a point between the first and the last. -/
theorem before0_14_B (c : Dev nD) (t : Fin cfg0.N) (h0 : ¬t.val % 17 = 0) (h1 : ¬t.val % 17 = 16) (h2 : t.val < 16) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) (fun h => h1 ((hcond0_1 t).mp h)) ((hcond0_2 t).mpr h2)]; exact Bool.false_ne_true)]
  dsimp only [dats]
/-- What output 12 holds on entry to the last point. -/
theorem before0_12_C (c : Dev nD) (t : Fin cfg0.N) (h0 : ¬t.val % 17 = 0) (h1 : t.val % 17 = 16) (h2 : ¬t.val < 16) (d) :
    (dats m 0 c).before 12 t d = (outsAt0 m c (t.val - 1) (Nat.lt_of_le_of_lt (Nat.sub_le _ _) t.isLt)).1 := by
  rw [Dat.before_out_traj _ 12 rfl (fun _ _ => rfl) (hcarry0_12 m c) t.val t rfl d,
    if_neg (by rw [notFresh0_12_C t (fun h => h0 ((hcond0_0 t).mp h)) ((hcond0_1 t).mpr h1) (fun h => h2 ((hcond0_2 t).mp h))]; exact Bool.false_ne_true)]
  dsimp only [dats]
/-- What output 14 holds on entry to the last point. -/
theorem before0_14_C (c : Dev nD) (t : Fin cfg0.N) (h0 : ¬t.val % 17 = 0) (h1 : t.val % 17 = 16) (h2 : ¬t.val < 16) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_C t (fun h => h0 ((hcond0_0 t).mp h)) ((hcond0_1 t).mpr h1) (fun h => h2 ((hcond0_2 t).mp h))]; exact Bool.false_ne_true)]
  dsimp only [dats]

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 19200000 in
/-- The body takes the one to the other at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 17 := lt_of_lt_of_eq t.isLt (show cfg0.N = 17 from N_0)
  by_cases h0 : t.val % 17 = 0
  · by_cases h1 : t.val % 17 = 16
    · exfalso; omega
    · by_cases h2 : t.val < 16
      · simp only [leaves0_0, leaves0_1, leaves0_2, leaves0_3, leaves0_4, leaves0_5, leaves0_6, leaves0_7, leaves0_8, leaves0_9, leaves0_10, leaves0_11]
        rw [show (dats m 0 c).leavesExact 12 t = owns (c : Thread nD τ) (ms0_12 t) fullShare ((dats m 0 c).after 12 t) from by
      unfold Dat.leavesExact; rw [liveAt0_12_A t ((hcond0_0 t).mpr h0) (fun h => h1 ((hcond0_1 t).mp h)) ((hcond0_2 t).mpr h2)], after0_12]
        rw [Dat.leavesExact_idle (dats m 0 c) 13 t (idleAt0_13_A t ((hcond0_0 t).mpr h0) (fun h => h1 ((hcond0_1 t).mp h)) ((hcond0_2 t).mpr h2)) (noFlush0_13_A t ((hcond0_0 t).mpr h0) (fun h => h1 ((hcond0_1 t).mp h)) ((hcond0_2 t).mpr h2))]
        rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h)) ((hcond0_2 t).mpr h2)], after0_14]
        by_cases hz : t.val = 0
        · rw [PhiS_castSucc m c t, PhiS_zero m c _ _ hz, PhiA0_eq]
          rw [outsAt0_A m c t h0 h1 h2]
          unfold out0_A_12 out0_A_14 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexists _; iexact H14
          isplitl [HS0]; · iexact HS0
          iintro ⟨H0, H1, H2, H3, H4, H5, H6, H7, H8, H9, H10, H11, ⟨%e12, H12⟩, H13, ⟨%e14, H14⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
          isplitl [H13]; · iexists _; iexact H13
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
        · exfalso; have hN : t.val < 17 := lt_of_lt_of_eq t.isLt (show cfg0.N = 17 from N_0); omega
      · exfalso; omega
  · by_cases h1 : t.val % 17 = 16
    · by_cases h2 : t.val < 16
      · exfalso; omega
      · simp only [leaves0_0, leaves0_1, leaves0_2, leaves0_3, leaves0_4, leaves0_5, leaves0_6, leaves0_7, leaves0_8, leaves0_9, leaves0_10, leaves0_11]
        rw [show (dats m 0 c).leavesExact 12 t = owns (c : Thread nD τ) (ms0_12 t) fullShare ((dats m 0 c).after 12 t) from by
      unfold Dat.leavesExact; rw [idleAt0_12_C t (fun h => h0 ((hcond0_0 t).mp h)) ((hcond0_1 t).mpr h1) (fun h => h2 ((hcond0_2 t).mp h))]; rw [flushAt0_12_C t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) ((hcond0_1 t).mpr h1) (fun h => h2 ((hcond0_2 t).mp h))], after0_14]
        by_cases hz : t.val = 0
        · exfalso; have hN : t.val < 17 := lt_of_lt_of_eq t.isLt (show cfg0.N = 17 from N_0); omega
        · rw [PhiS_castSucc m c t, PhiS_pos m c _ _ hz]
          rw [outsAt0_C m c t h0 h1 h2]
          simp only [before0_12_C m c t h0 h1 h2, before0_14_C m c t h0 h1 h2]
          unfold out0_C_13 out0_C_14 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [H14]; · iexact H14
          isplitl [HS0]; · iexact HS0
          iintro ⟨H0, H1, H2, H3, H4, H5, H6, H7, H8, H9, H10, H11, H12, ⟨%e13, H13⟩, H14, HS0⟩
          isplitl [HS0 Hg]
          · isplitl [HS0]
            · unfold owns; iexists _; isplitr
              swap; · iexact HS0
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; rfl
    · by_cases h2 : t.val < 16
      · simp only [leaves0_0, leaves0_1, leaves0_2, leaves0_3, leaves0_4, leaves0_5, leaves0_6, leaves0_7, leaves0_8, leaves0_9, leaves0_10, leaves0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) (fun h => h1 ((hcond0_1 t).mp h)) ((hcond0_2 t).mpr h2)], after0_12]
        rw [Dat.leavesExact_idle (dats m 0 c) 13 t (idleAt0_13_B t (fun h => h0 ((hcond0_0 t).mp h)) (fun h => h1 ((hcond0_1 t).mp h)) ((hcond0_2 t).mpr h2)) (noFlush0_13_B t (fun h => h0 ((hcond0_0 t).mp h)) (fun h => h1 ((hcond0_1 t).mp h)) ((hcond0_2 t).mpr h2))]
        rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2)], after0_14]
        by_cases hz : t.val = 0
        · exfalso; have hN : t.val < 17 := lt_of_lt_of_eq t.isLt (show cfg0.N = 17 from N_0); omega
        · rw [PhiS_castSucc m c t, PhiS_pos m c _ _ hz]
          rw [outsAt0_B m c t h0 h1 h2]
          simp only [before0_14_B m c t h0 h1 h2]
          unfold out0_B_12 out0_B_14 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexact H14
          isplitl [HS0]; · iexact HS0
          iintro ⟨H0, H1, H2, H3, H4, H5, H6, H7, H8, H9, H10, H11, ⟨%e12, H12⟩, H13, H14, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
          isplitl [H13]; · iexists _; iexact H13
          unfold owns; iexists _; isplitr
          swap; · iexact H14
          ipureintro; rfl
      · exfalso; omega

theorem defs₀_row (t : Fin cfg0.N) :
    defs₀ (F := F) .tc cfg0.body (cfg0.bodyArgs t (cfg0.slots t)) = bodyAt0 t := by
  unfold defs₀; rw [Defs.onTc_tc]

/-- The same for every core and point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What is kept before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the scratch may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- So after the last. -/
theorem hout (c : Dev nD) : (dats m 0 c).Φ (Fin.last cfg0.N) ⊢ Pipeline.ΦA spec0 c :=
  Phi_out m c _ (by rw [Fin.val_last]; have : cfg0.N = 17 := N_0; omega)

set_option backward.isDefEq.respectTransparency.types false in
/-- The launch runs, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch runs and leaves every array at what the windows wrote back. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.N1

end
-- ==== Proof.N1.Spec.lean ====
/- The gradient of the input projection, one row at a time, over the extended reals: the functions that both the kernel's
   blocks and the reference's arrays are shown to be. The gradient of the norm below it is the row functions of N2/Spec.lean. -/
module

public import proofs.«01_k».proof.Proof.N2.Spec

@[expose] public section

noncomputable section

namespace Cert.N1

open Idealize.ShloMosaic Cert.N2

/-- Column `j` of part `a` of the projection's five: queries, keys, values, and the convolution's input and gate. -/
abbrev seg (a : Fin 5) (j : Fin 512) : Fin 2560 := ⟨512 * a.val + j.val, by omega⟩

/-- Every column of the projection is a column of a part. -/
theorem eq_seg (p : Fin 2560) : ∃ a j, p = seg a j :=
  ⟨⟨p.val / 512, by omega⟩, ⟨p.val % 512, by omega⟩, Fin.ext (show p.val = 512 * (p.val / 512) + p.val % 512 by omega)⟩

/-- The gradient of a row of the modulated norm, through the keys and values: what a row of the context gets. -/
def kvR (w : Fin 2560 → Row 1024) (k v : Row 512) : Row 1024 := fun c =>
  ∑ j, k j * w (seg 1 j) c + ∑ j, v j * w (seg 2 j) c

/-- The gradient of a row of the modulated norm, through all five parts: what a row of the stream gets. -/
def dhR (w : Fin 2560 → Row 1024) (q k v a g : Row 512) : Row 1024 := fun c =>
  kvR w k v c + ∑ j, q j * w (seg 0 j) c + ∑ j, a j * w (seg 3 j) c + ∑ j, g j * w (seg 4 j) c

/-- The modulated norm of a row. -/
def hR (sh sc g x : Row 1024) : Row 1024 := fun c => xhR x c * g c * (1 + sc c) + sh c

end Cert.N1

end
-- ==== Proof.N1.Block.lean ====
/- One grid point of the kernel: what the payloads of its body are at an index of the block, over the extended reals,
   as row functions. -/
module

public import proofs.«01_k».proof.Proof.Gen.Kernel2Ideal.Skeleton
public import Idealize.ShloMosaic.Lib.Pipeline.ValueKit.Tiles
public import proofs.«01_k».proof.Proof.N1.Spec

@[expose] public section

set_option maxRecDepth 16384

noncomputable section

namespace Cert.N1

open Idealize.ShloMosaic Cert.Kernel2Ideal Cert.Kernel2Ideal.Gen Cert.N2

section Blocks

variable {F : FTy → Type} [FloatOps F]
  (x0 : Vec F S256x512 .bf16) (x1 x2 : Vec F S256x512 .f32) (x3 x4 : Vec F S256x512 .bf16) (x5 : Vec F S2560x1024 .bf16)
  (x6 x7 : Vec F S256x1024 .f32) (x8 : Vec F S256x1024 .bf16) (x9 : Vec F S256x1024 .f32) (x10 : Vec F S8x1024 .f32)
  (x11 : Vec F S1x1024 .f32)

/-- The weights of the query columns. -/
abbrev wQ : Vec F S512x1024 .bf16 := View.ld x5 (Rect.unit (s := S2560x1024) ![0, 0] ![512, 1024] inb_S2560x1024_S512x1024_0_0)
/-- The weights of the key columns. -/
abbrev wK : Vec F S512x1024 .bf16 := View.ld x5 (Rect.unit (s := S2560x1024) ![512, 0] ![512, 1024] inb_S2560x1024_S512x1024_512_0)
/-- The weights of the value columns. -/
abbrev wV : Vec F S512x1024 .bf16 := View.ld x5 (Rect.unit (s := S2560x1024) ![1024, 0] ![512, 1024] inb_S2560x1024_S512x1024_1024_0)
/-- The weights of the convolution's input columns. -/
abbrev wA : Vec F S512x1024 .bf16 := View.ld x5 (Rect.unit (s := S2560x1024) ![1536, 0] ![512, 1024] inb_S2560x1024_S512x1024_1536_0)
/-- The weights of the convolution's gate columns. -/
abbrev wG : Vec F S512x1024 .bf16 := View.ld x5 (Rect.unit (s := S2560x1024) ![2048, 0] ![512, 1024] inb_S2560x1024_S512x1024_2048_0)
/-- The scale's row of the stream's modulation. -/
abbrev scRow : Vec F S1x1024 .f32 := View.ld x10 (Rect.unit (s := S8x1024) ![1, 0] ![1, 1024] inb_S8x1024_S1x1024_1_0)
/-- The scale's row of the context's modulation. -/
abbrev ccRow : Vec F S1x1024 .f32 := View.ld x10 (Rect.unit (s := S8x1024) ![7, 0] ![1, 1024] inb_S8x1024_S1x1024_7_0)

/-- The block of the gradient of the modulated norm's output, through keys and values. -/
abbrev bKV : FVec F S256x1024 .f32 := k0_pay29 x1 x2 (wK x5) (wV x5)
/-- The same with queries and the convolution's input. -/
abbrev bQA : FVec F S256x1024 .f32 := k0_pay13 (bKV x1 x2 x5) x0 x3 (wQ x5) (wA x5)
/-- The block of the gradient of the stream's modulated norm. -/
abbrev bDh : FVec F S256x1024 .f32 := k0_pay14 x4 (bQA x0 x1 x2 x3 x5) (wG x5)
/-- The block of the gradient before the modulation. -/
abbrev bDn : FVec F S256x1024 .f32 := k0_pay17 x4 (bQA x0 x1 x2 x3 x5) (wG x5) (scRow x10)
/-- The block of the stream's gradient. -/
abbrev bDx : FVec F S256x1024 .f32 := k0_pay2 (k0_pay18 x11 x4 (bQA x0 x1 x2 x3 x5) (wG x5) x6 (scRow x10)) x9

end Blocks

variable (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x9 : Vec Ideal S256x1024 .f32) (x10 : Vec Ideal S8x1024 .f32) (x11 : Vec Ideal S1x1024 .f32)

/-- The context's gradient of the modulated norm's output in row `r` of the block. -/
abbrev kvB (r : Fin 256) : Row 1024 := kvR (fun k c => x5 (ix2 k c)) (fun k => x1 (ix2 r k)) (fun k => x2 (ix2 r k))
/-- The stream's in row `r` of the block. -/
abbrev dhB (r : Fin 256) : Row 1024 := dhR (fun k c => x5 (ix2 k c)) (fun k => x0 (ix2 r k)) (fun k => x1 (ix2 r k))
  (fun k => x2 (ix2 r k)) (fun k => x3 (ix2 r k)) (fun k => x4 (ix2 r k))
/-- Row `ρ` of the modulation. -/
abbrev mdB (ρ : Fin 8) : Row 1024 := fun k => x10 (ix2 ρ k)
/-- The gain. -/
abbrev gB : Row 1024 := fun k => x11 (ix2 0 k)
/-- The stream's gradient in row `r` of the block. -/
abbrev dxB (r : Fin 256) : Row 1024 :=
  dxR (gB x11) (mdB x10 1) (dhB x0 x1 x2 x3 x4 x5 r) (fun k => x6 (ix2 r k)) (fun k => x9 (ix2 r k))

theorem wQ_apply (k : Fin 512) (c : Fin 1024) : wQ x5 (ix2 k c) = x5 (ix2 (seg 0 k) c) :=
  View.ld_unit_apply_of x5 _ _ _ _ _ fun a => by fin_cases a <;> simp [seg]
theorem wK_apply (k : Fin 512) (c : Fin 1024) : wK x5 (ix2 k c) = x5 (ix2 (seg 1 k) c) :=
  View.ld_unit_apply_of x5 _ _ _ _ _ fun a => by fin_cases a <;> simp [seg]
theorem wV_apply (k : Fin 512) (c : Fin 1024) : wV x5 (ix2 k c) = x5 (ix2 (seg 2 k) c) :=
  View.ld_unit_apply_of x5 _ _ _ _ _ fun a => by fin_cases a <;> simp [seg]
theorem wA_apply (k : Fin 512) (c : Fin 1024) : wA x5 (ix2 k c) = x5 (ix2 (seg 3 k) c) :=
  View.ld_unit_apply_of x5 _ _ _ _ _ fun a => by fin_cases a <;> simp [seg]
theorem wG_apply (k : Fin 512) (c : Fin 1024) : wG x5 (ix2 k c) = x5 (ix2 (seg 4 k) c) :=
  View.ld_unit_apply_of x5 _ _ _ _ _ fun a => by fin_cases a <;> simp [seg]
theorem scRow_apply (i : Fin 1) (c : Fin 1024) : scRow x10 (ix2 i c) = x10 (ix2 1 c) :=
  View.ld_unit_apply_of x10 _ _ _ _ _ fun a => by fin_cases a <;> simp
theorem ccRow_apply (i : Fin 1) (c : Fin 1024) : ccRow x10 (ix2 i c) = x10 (ix2 7 c) :=
  View.ld_unit_apply_of x10 _ _ _ _ _ fun a => by fin_cases a <;> simp

theorem bKV_apply (r : Fin 256) (c : Fin 1024) : bKV x1 x2 x5 (ix2 r c) = kvB x1 x2 x5 r c := by
  have h := wK_apply x5
  have h' := wV_apply x5
  unfold bKV
  generalize wK x5 = y at h ⊢
  generalize wV x5 = y' at h' ⊢
  pointwise [k0_pay29, k0_pay25, k0_pay26]
  simp only [h, h']
  rfl

theorem bDh_apply (r : Fin 256) (c : Fin 1024) : bDh x0 x1 x2 x3 x4 x5 (ix2 r c) = dhB x0 x1 x2 x3 x4 x5 r c := by
  have h := bKV_apply x1 x2 x5 r c
  have hq := wQ_apply x5
  have ha := wA_apply x5
  have hg := wG_apply x5
  unfold bDh bQA
  generalize bKV x1 x2 x5 = z at h ⊢
  generalize wQ x5 = y at hq ⊢
  generalize wA x5 = y' at ha ⊢
  generalize wG x5 = y'' at hg ⊢
  pointwise [k0_pay14, k0_pay13]
  simp only [h, hq, ha, hg]
  rfl

theorem bDn_apply (r : Fin 256) (c : Fin 1024) :
    bDn x0 x1 x2 x3 x4 x5 x10 (ix2 r c) = dnR (mdB x10 1) (dhB x0 x1 x2 x3 x4 x5 r) c := by
  have h := bDh_apply x0 x1 x2 x3 x4 x5 r c
  unfold bDh at h
  unfold bDn k0_pay17
  generalize k0_pay14 x4 (bQA x0 x1 x2 x3 x5) (wG x5) = y at h ⊢
  pointwise
  rw [h, scRow_apply]
  rfl

theorem bDx_apply (r : Fin 256) (c : Fin 1024) :
    bDx x0 x1 x2 x3 x4 x5 x6 x9 x10 x11 (ix2 r c) = dxB x0 x1 x2 x3 x4 x5 x6 x9 x10 x11 r c := by
  have h := bDn_apply x0 x1 x2 x3 x4 x5 x10 r
  unfold bDn at h
  unfold bDx k0_pay18
  generalize k0_pay17 x4 (bQA x0 x1 x2 x3 x5) (wG x5) (scRow x10) = y at h ⊢
  pointwise [k0_pay2, k0_pay16, k0_pay15]
  simp only [h]
  rfl

/-- A block of the stream adds to the column sums: of the shift's gradient, the scale's and the gain's. -/
def sX (ρ : Fin 8) (c : Fin 1024) : EReal := match ρ with
  | 0 => ∑ r : Fin 256, dhB x0 x1 x2 x3 x4 x5 r c
  | 1 => ∑ r : Fin 256, dhB x0 x1 x2 x3 x4 x5 r c * (xhR (fun k => x6 (ix2 r k)) c * gB x11 c)
  | 2 => ∑ r : Fin 256, dnR (mdB x10 1) (dhB x0 x1 x2 x3 x4 x5 r) c * xhR (fun k => x6 (ix2 r k)) c
  | _ => 0

/-- The context adds to the column sums: of the gain's gradient, the shift's and the scale's. -/
def sC (ρ : Fin 8) (c : Fin 1024) : EReal := match ρ with
  | 2 => ∑ r : Fin 256, dnR (mdB x10 7) (kvB x1 x2 x5 r) c * xhR (fun k => x7 (ix2 r k)) c
  | 3 => ∑ r : Fin 256, kvB x1 x2 x5 r c
  | 4 => ∑ r : Fin 256, kvB x1 x2 x5 r c * (xhR (fun k => x7 (ix2 r k)) c * gB x11 c)
  | _ => 0

theorem sX0_apply (y : FVec Ideal S1x1024 .f32) (i : Fin 1) (c : Fin 1024) :
    k0_pay3 (k0_pay19 x4 (bQA x0 x1 x2 x3 x5) (wG x5)) y (ix2 i c) = y (ix2 i c) + sX x0 x1 x2 x3 x4 x5 x6 x10 x11 0 c := by
  have h := fun r => bDh_apply x0 x1 x2 x3 x4 x5 r c
  unfold bDh at h
  unfold k0_pay19
  generalize k0_pay14 x4 (bQA x0 x1 x2 x3 x5) (wG x5) = z at h ⊢
  pointwise [k0_pay3]
  simp only [h]
  rfl

theorem sX1_apply (y : FVec Ideal S1x1024 .f32) (i : Fin 1) (c : Fin 1024) :
    k0_pay4 (k0_pay20 x11 x4 (bQA x0 x1 x2 x3 x5) (wG x5) x6) y (ix2 i c) = y (ix2 i c) + sX x0 x1 x2 x3 x4 x5 x6 x10 x11 1 c := by
  have h := fun r => bDh_apply x0 x1 x2 x3 x4 x5 r c
  unfold bDh at h
  unfold k0_pay20
  generalize k0_pay14 x4 (bQA x0 x1 x2 x3 x5) (wG x5) = z at h ⊢
  pointwise [k0_pay4, k0_pay16, k0_pay15]
  simp only [h]
  rfl

theorem sX2_apply (y : FVec Ideal S1x1024 .f32) (i : Fin 1) (c : Fin 1024) :
    k0_pay5 (k0_pay21 x4 (bQA x0 x1 x2 x3 x5) (wG x5) x6 (scRow x10)) y (ix2 i c) =
      y (ix2 i c) + sX x0 x1 x2 x3 x4 x5 x6 x10 x11 2 c := by
  have h := fun r => bDn_apply x0 x1 x2 x3 x4 x5 x10 r c
  unfold bDn at h
  unfold k0_pay21
  generalize k0_pay17 x4 (bQA x0 x1 x2 x3 x5) (wG x5) (scRow x10) = z at h ⊢
  pointwise [k0_pay5, k0_pay16, k0_pay15]
  simp only [h]
  rfl

theorem sC2_apply (y : FVec Ideal S1x1024 .f32) (i : Fin 1) (c : Fin 1024) :
    k0_pay7 (bKV x1 x2 x5) x7 (ccRow x10) y (ix2 i c) = y (ix2 i c) + sC x1 x2 x5 x7 x10 x11 2 c := by
  have h := fun r => bKV_apply x1 x2 x5 r c
  have h' := fun i => ccRow_apply x10 i c
  generalize bKV x1 x2 x5 = z at h ⊢
  generalize ccRow x10 = w at h' ⊢
  pointwise [k0_pay7, k0_pay6]
  simp only [h, h']
  rfl

theorem sC3_apply (y : FVec Ideal S1x1024 .f32) (i : Fin 1) (c : Fin 1024) :
    k0_pay8 (bKV x1 x2 x5) y (ix2 i c) = y (ix2 i c) + sC x1 x2 x5 x7 x10 x11 3 c := by
  have h := fun r => bKV_apply x1 x2 x5 r c
  generalize bKV x1 x2 x5 = z at h ⊢
  pointwise [k0_pay8]
  simp only [h]
  rfl

theorem sC4_apply (y : FVec Ideal S1x1024 .f32) (i : Fin 1) (c : Fin 1024) :
    k0_pay9 (bKV x1 x2 x5) x11 x7 y (ix2 i c) = y (ix2 i c) + sC x1 x2 x5 x7 x10 x11 4 c := by
  have h := fun r => bKV_apply x1 x2 x5 r c
  generalize bKV x1 x2 x5 = z at h ⊢
  pointwise [k0_pay9, k0_pay6]
  simp only [h]
  rfl

/-- The parts of a block of the stream that the weights' gradient is taken of. -/
def partX (a : Fin 5) (r : Fin 256) (j : Fin 512) : EReal := match a with
  | 0 => x0 (ix2 r j)
  | 1 => x1 (ix2 r j)
  | 2 => x2 (ix2 r j)
  | 3 => x3 (ix2 r j)
  | 4 => x4 (ix2 r j)

/-- A block of the stream adds to part `a` of the weights' gradient. -/
def wX (a : Fin 5) (j : Fin 512) (c : Fin 1024) : EReal := ∑ r : Fin 256, partX x0 x1 x2 x3 x4 a r j * x8 (ix2 r c)

/-- The context adds to the keys' and the values' part of the weights' gradient. -/
def wC (a : Fin 5) (j : Fin 512) (c : Fin 1024) : EReal := match a with
  | 1 => ∑ r : Fin 256, x1 (ix2 r j) * x8 (ix2 r c)
  | 2 => ∑ r : Fin 256, x2 (ix2 r j) * x8 (ix2 r c)
  | _ => 0

theorem w0_apply (y : FVec Ideal S512x1024 .f32) (j : Fin 512) (c : Fin 1024) :
    k0_pay10 (k0_pay24 x8) x0 y (ix2 j c) = y (ix2 j c) + wX x0 x1 x2 x3 x4 x8 0 j c := by
  pointwise [k0_pay10, k0_pay24]
  rfl
theorem w1_apply (y : FVec Ideal S512x1024 .f32) (j : Fin 512) (c : Fin 1024) :
    k0_pay27 x8 x1 y (ix2 j c) = y (ix2 j c) + wX x0 x1 x2 x3 x4 x8 1 j c := by
  pointwise [k0_pay27, k0_pay25, k0_pay24]
  rfl
theorem w2_apply (y : FVec Ideal S512x1024 .f32) (j : Fin 512) (c : Fin 1024) :
    k0_pay28 x8 x2 y (ix2 j c) = y (ix2 j c) + wX x0 x1 x2 x3 x4 x8 2 j c := by
  pointwise [k0_pay28, k0_pay26, k0_pay24]
  rfl
theorem w3_apply (y : FVec Ideal S512x1024 .f32) (j : Fin 512) (c : Fin 1024) :
    k0_pay11 (k0_pay24 x8) x3 y (ix2 j c) = y (ix2 j c) + wX x0 x1 x2 x3 x4 x8 3 j c := by
  pointwise [k0_pay11, k0_pay24]
  rfl
theorem w4_apply (y : FVec Ideal S512x1024 .f32) (j : Fin 512) (c : Fin 1024) :
    k0_pay12 (k0_pay24 x8) x4 y (ix2 j c) = y (ix2 j c) + wX x0 x1 x2 x3 x4 x8 4 j c := by
  pointwise [k0_pay12, k0_pay24]
  rfl

theorem pay22_apply (p : Fin 8) (q : Fin 1024) : k0_pay22 (F := Ideal) (ix2 p q) = 0 := by pointwise [k0_pay22]
theorem pay23_apply (p : Fin 2560) (q : Fin 1024) : k0_pay23 (F := Ideal) (ix2 p q) = 0 := by pointwise [k0_pay23]
theorem pay1_apply (y : FVec Ideal S2560x1024 .f32) (p : Fin 2560) (q : Fin 1024) : k0_pay1 (F := Ideal) y (ix2 p q) = y (ix2 p q) := by
  pointwise [k0_pay1]

end Cert.N1

end
-- ==== Proof.N1.Stores.lean ====
/- The stores of the kernel's body read back at an index: the rows of column sums, and the five parts of the accumulator
   of the projection weights' gradient. -/
module

public import proofs.«01_k».proof.Proof.Pieces
public import proofs.«01_k».proof.Proof.N1.Block

@[expose] public section

set_option maxRecDepth 16384

noncomputable section

namespace Cert.N1

open Idealize.ShloMosaic Cert.Kernel2Ideal Cert.Kernel2Ideal.Gen Cert.Pieces Cert.N2

/-- A store of `h` rows from row `o` over older stores: the rows under it, and the others. -/
theorem rows_cons {sig : RefSig} {κ : Kind} {sp : Space} {e : EltTy} {n k h o : ℕ} (v : View sig κ sp ⟨2, ![n, k]⟩ e)
    (f : v.ty.Contents (Elt Ideal)) (inb) (w : (⟨2, ![h, k]⟩ : Shape).Idx → Elt Ideal e) (L : List (View.Piece (Elt Ideal) ⟨2, ![n, k]⟩ e))
    (g : Fin n → Fin k → Elt Ideal e) (hw : ∀ (y : Fin n) (r : Fin h) q, y.val = o + r.val → w (ix2 r q) = g y q) (y : Fin n) (q : Fin k)
    (hL : y.val < o ∨ o + h ≤ y.val → v.read (Elt Ideal) (v.writes (Elt Ideal) f L) (ix2 y q) = g y q) :
    v.read (Elt Ideal) (v.writes (Elt Ideal) f (⟨Rect.unit (s := ⟨2, ![n, k]⟩) ![o, 0] ![h, k] inb, w⟩ :: L)) (ix2 y q) = g y q := by
  by_cases hy : o ≤ y.val ∧ y.val < o + h
  · have e : y.val = o + (⟨y.val - o, by omega⟩ : Fin h).val := show y.val = o + (y.val - o) by omega
    rw [View.read_writes_cons_rows_of_mem v f inb w L (ix2 y q) (ix2 ⟨y.val - o, by omega⟩ q) rfl e rfl, hw y _ q e]
  · rw [View.read_writes_cons_rows_of_not_mem v f inb w L (ix2 y q) rfl rfl (show y.val < o ∨ o + h ≤ y.val by omega), hL (by omega)]

/-- Stores of the five parts of the weights' gradient. -/
theorem stores5 {sig : RefSig} {κ : Kind} {sp : Space} (v : View sig κ sp S2560x1024 .f32) (f : v.ty.Contents (Elt Ideal))
    (i4 i3 i0 i2 i1) (w4 w3 w0 w2 w1 : S512x1024.Idx → EReal) (L : List (View.Piece (Elt Ideal) S2560x1024 .f32))
    (g : Fin 2560 → Fin 1024 → EReal) (h4 : ∀ j q, w4 (ix2 j q) = g (seg 4 j) q) (h3 : ∀ j q, w3 (ix2 j q) = g (seg 3 j) q)
    (h0 : ∀ j q, w0 (ix2 j q) = g (seg 0 j) q) (h2 : ∀ j q, w2 (ix2 j q) = g (seg 2 j) q) (h1 : ∀ j q, w1 (ix2 j q) = g (seg 1 j) q)
    (p : Fin 2560) (q : Fin 1024) :
    v.read (Elt Ideal) (v.writes (Elt Ideal) f (⟨Rect.unit (s := S2560x1024) ![2048, 0] ![512, 1024] i4, w4⟩ ::
      ⟨Rect.unit (s := S2560x1024) ![1536, 0] ![512, 1024] i3, w3⟩ :: ⟨Rect.unit (s := S2560x1024) ![0, 0] ![512, 1024] i0, w0⟩ ::
      ⟨Rect.unit (s := S2560x1024) ![1024, 0] ![512, 1024] i2, w2⟩ :: ⟨Rect.unit (s := S2560x1024) ![512, 0] ![512, 1024] i1, w1⟩ :: L))
      (ix2 p q) = g p q := by
  refine rows_cons v f i4 w4 _ g (fun y r q hy => ?_) p q (fun n4 => ?_)
  · rw [h4, (Fin.ext hy : y = seg 4 r)]
  refine rows_cons v f i3 w3 _ g (fun y r q hy => ?_) p q (fun n3 => ?_)
  · rw [h3, (Fin.ext hy : y = seg 3 r)]
  refine rows_cons v f i0 w0 _ g (fun y r q hy => ?_) p q (fun n0 => ?_)
  · rw [h0, (Fin.ext hy : y = seg 0 r)]
  refine rows_cons v f i2 w2 _ g (fun y r q hy => ?_) p q (fun n2 => ?_)
  · rw [h2, (Fin.ext hy : y = seg 2 r)]
  refine rows_cons v f i1 w1 _ g (fun y r q hy => ?_) p q (fun n1 => ?_)
  · rw [h1, (Fin.ext hy : y = seg 1 r)]
  have := p.isLt
  omega

/-- Stores of the keys' and the values' part over older contents. -/
theorem stores2 {sig : RefSig} {κ : Kind} {sp : Space} (v : View sig κ sp S2560x1024 .f32) (f : v.ty.Contents (Elt Ideal))
    (i2 i1) (w2 w1 : S512x1024.Idx → EReal) (g : Fin 2560 → Fin 1024 → EReal)
    (h2 : ∀ j q, w2 (ix2 j q) = g (seg 2 j) q) (h1 : ∀ j q, w1 (ix2 j q) = g (seg 1 j) q)
    (hf : ∀ (y : Fin 2560) q, y.val < 512 ∨ 1536 ≤ y.val → v.read (Elt Ideal) f (ix2 y q) = g y q) (p : Fin 2560) (q : Fin 1024) :
    v.read (Elt Ideal) (v.writes (Elt Ideal) f [⟨Rect.unit (s := S2560x1024) ![1024, 0] ![512, 1024] i2, w2⟩,
      ⟨Rect.unit (s := S2560x1024) ![512, 0] ![512, 1024] i1, w1⟩]) (ix2 p q) = g p q := by
  refine rows_cons v f i2 w2 _ g (fun y r q hy => ?_) p q (fun n2 => ?_)
  · rw [h2, (Fin.ext hy : y = seg 2 r)]
  refine rows_cons v f i1 w1 _ g (fun y r q hy => ?_) p q (fun n1 => ?_)
  · rw [h1, (Fin.ext hy : y = seg 1 r)]
  exact hf p q (by omega)

/-- Stores of three rows of the column sums, from row `o`, over older contents. -/
theorem rows3 {sig : RefSig} {κ : Kind} {sp : Space} (v : View sig κ sp S8x1024 .f32) (f : v.ty.Contents (Elt Ideal)) (o : ℕ) (ho : o < 6)
    (i2 i1 i0) (w2 w1 w0 : S1x1024.Idx → EReal) (L : List (View.Piece (Elt Ideal) S8x1024 .f32)) (g : Fin 8 → Fin 1024 → EReal)
    (h2 : ∀ q, w2 (ix2 0 q) = g ⟨o + 2, by omega⟩ q) (h1 : ∀ q, w1 (ix2 0 q) = g ⟨o + 1, by omega⟩ q)
    (h0 : ∀ q, w0 (ix2 0 q) = g ⟨o, by omega⟩ q)
    (hf : ∀ (y : Fin 8) q, y.val < o ∨ o + 3 ≤ y.val → v.read (Elt Ideal) (v.writes (Elt Ideal) f L) (ix2 y q) = g y q) (p : Fin 8) (q : Fin 1024) :
    v.read (Elt Ideal) (v.writes (Elt Ideal) f (⟨Rect.unit (s := S8x1024) ![o + 2, 0] ![1, 1024] i2, w2⟩ ::
      ⟨Rect.unit (s := S8x1024) ![o + 1, 0] ![1, 1024] i1, w1⟩ :: ⟨Rect.unit (s := S8x1024) ![o, 0] ![1, 1024] i0, w0⟩ :: L))
      (ix2 p q) = g p q := by
  refine rows_cons v f i2 w2 _ g (fun y r q hy => ?_) p q (fun n2 => ?_)
  · obtain rfl : r = 0 := Subsingleton.elim _ _
    rw [h2, (Fin.ext hy : y = ⟨o + 2, by omega⟩)]
  refine rows_cons v f i1 w1 _ g (fun y r q hy => ?_) p q (fun n1 => ?_)
  · obtain rfl : r = 0 := Subsingleton.elim _ _
    rw [h1, (Fin.ext hy : y = ⟨o + 1, by omega⟩)]
  refine rows_cons v f i0 w0 _ g (fun y r q hy => ?_) p q (fun n0 => ?_)
  · obtain rfl : r = 0 := Subsingleton.elim _ _
    rw [h0, (Fin.ext hy : y = ⟨o, by omega⟩)]
  exact hf p q (by omega)

variable (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x10 : Vec Ideal S8x1024 .f32) (x11 : Vec Ideal S1x1024 .f32)

/-- What a block of the stream adds to the weights' gradient, by row. -/
def wXp (p : Fin 2560) (c : Fin 1024) : EReal :=
  wX x0 x1 x2 x3 x4 x8 ⟨p.val / 512, by omega⟩ ⟨p.val % 512, by omega⟩ c

/-- What the context adds to it, by row. -/
def wCp (p : Fin 2560) (c : Fin 1024) : EReal := wC x1 x2 x8 ⟨p.val / 512, by omega⟩ ⟨p.val % 512, by omega⟩ c

theorem seg_div (a : Fin 5) (j : Fin 512) : (⟨(seg a j).val / 512, by omega⟩ : Fin 5) = a :=
  Fin.ext (show (512 * a.val + j.val) / 512 = a.val by omega)
theorem seg_mod (a : Fin 5) (j : Fin 512) : (⟨(seg a j).val % 512, by omega⟩ : Fin 512) = j :=
  Fin.ext (show (512 * a.val + j.val) % 512 = j.val by omega)

theorem wXp_seg (a : Fin 5) (j : Fin 512) (c : Fin 1024) : wXp x0 x1 x2 x3 x4 x8 (seg a j) c = wX x0 x1 x2 x3 x4 x8 a j c := by
  unfold wXp; rw [seg_div, seg_mod]
theorem wCp_seg (a : Fin 5) (j : Fin 512) (c : Fin 1024) : wCp x1 x2 x8 (seg a j) c = wC x1 x2 x8 a j c := by
  unfold wCp; rw [seg_div, seg_mod]

/-- Rows off the keys' and the values' part get nothing of the context. -/
theorem wCp_rest (p : Fin 2560) (c : Fin 1024) (h : p.val < 512 ∨ 1536 ≤ p.val) : wCp x1 x2 x8 p c = 0 := by
  obtain ⟨a, j, rfl⟩ := eq_seg p
  rw [wCp_seg]
  unfold wC
  have h : 512 * a.val + j.val < 512 ∨ 1536 ≤ 512 * a.val + j.val := h
  split
  · exact absurd h (by have := j.isLt; simp; omega)
  · exact absurd h (by have := j.isLt; simp; omega)
  · rfl

/-- Rows three to seven get nothing of the stream. -/
theorem sX_rest (p : Fin 8) (q : Fin 1024) (hp : 3 ≤ p.val) : sX x0 x1 x2 x3 x4 x5 x6 x10 x11 p q = 0 := by
  unfold sX
  split
  · exact absurd hp (by decide)
  · exact absurd hp (by decide)
  · exact absurd hp (by decide)
  · rfl

/-- Rows off two to four get nothing of the context. -/
theorem sC_rest (p : Fin 8) (q : Fin 1024) (hp : p.val < 2 ∨ 5 ≤ p.val) : sC x1 x2 x5 x7 x10 x11 p q = 0 := by
  unfold sC
  split
  · exact absurd hp (by decide)
  · exact absurd hp (by decide)
  · exact absurd hp (by decide)
  · rfl

end Cert.N1

end
-- ==== Proof.N1.CaseA.lean ====
/- What the first point of the grid leaves in each output block and in the scratch. -/
module

public import proofs.«01_k».proof.Proof.N1.Frame
public import proofs.«01_k».proof.Proof.N1.Stores

@[expose] public section

set_option maxRecDepth 16384

noncomputable section

namespace Cert.N1

open Idealize.ShloMosaic Cert.Kernel2Ideal Cert.Kernel2Ideal.Gen Cert.Pieces Cert.N2

variable (c : Dev nD) (i : grid0.Coords) (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S2560x1024 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .bf16) (harg9 : arg9.IsWhole)
  (arg10 : Memref sig .tc .vmem S256x1024 .f32) (harg10 : arg10.IsWhole)
  (arg11 : Memref sig .tc .vmem S8x1024 .f32) (harg11 : arg11.IsWhole)
  (arg12 : Memref sig .tc .vmem S1x1024 .f32) (harg12 : arg12.IsWhole)
  (arg13 : Memref sig .tc .vmem S256x1024 .f32) (harg13 : arg13.IsWhole)
  (arg14 : Memref sig .tc .vmem S2560x1024 .bf16) (harg14 : arg14.IsWhole)
  (arg15 : Memref sig .tc .vmem S8x1024 .f32) (harg15 : arg15.IsWhole)
  (arg16 : Memref sig .tc .vmem S2560x1024 .f32) (harg16 : arg16.IsWhole)
  (hc0 : cond0_0 i) (hc1 : ¬cond0_1 i) (hc2 : cond0_2 i)
  (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x9 : Vec Ideal S256x1024 .f32) (x10 : Vec Ideal S8x1024 .f32) (x11 : Vec Ideal S1x1024 .f32)

/-- Output 12: the block of the stream's gradient. -/
theorem out_A_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 = bDx x0 x1 x2 x3 x4 x5 x6 x9 x10 x11 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11)]
  unfold kernelRun0_A
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]

/-- Output 14: the block's column sums, over zero. -/
theorem out_A_14 (ρ : Fin 8) (q : Fin 1024) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 (ix2 ρ q) = sX x0 x1 x2 x3 x4 x5 x6 x10 x11 ρ q := by
  unfold out0_A_14
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  refine rows3 _ _ 0 (by decide) _ _ _ _ _ _ _ (sX x0 x1 x2 x3 x4 x5 x6 x10 x11) ?_ ?_ ?_ ?_ ρ q <;> intro q
  · rw [sX2_apply x0 x1 x2 x3 x4 x5 x6 x10 x11, readCov_rows _ _ _ 0 q 2 rfl, canon_not_mem _ _ _ _ _ (by decide), canon_not_mem _ _ _ _ _ (by decide), canon_whole, pay22_apply, zero_add]; rfl
  · rw [sX1_apply x0 x1 x2 x3 x4 x5 x6 x10 x11, readCov_rows _ _ _ 0 q 1 rfl, canon_not_mem _ _ _ _ _ (by decide), canon_whole, pay22_apply, zero_add]; rfl
  · rw [sX0_apply x0 x1 x2 x3 x4 x5 x6 x10 x11, readCov_rows _ _ _ 0 q 0 rfl, canon_whole, pay22_apply, zero_add]; rfl
  · intro q' hp
    rw [View.read_writes_junk_eq_canon, canon_whole, pay22_apply, sX_rest _ _ _ _ _ _ _ _ _ _ _ (by omega)]

/-- The scratch: the block's addend to the weights' gradient, over zero. -/
theorem sout_A (p : Fin 2560) (q : Fin 1024) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 (ix2 p q) = wXp x0 x1 x2 x3 x4 x8 p q := by
  unfold sout0_A_0
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  refine stores5 _ _ _ _ _ _ _ _ _ _ _ _ _ (wXp x0 x1 x2 x3 x4 x8) ?_ ?_ ?_ ?_ ?_ p q <;> intro j q
  · rw [w4_apply x0 x1 x2 x3 x4 x8, readCov_rows (o := 2048) _ _ _ j q (seg 4 j) rfl, canon_not_mem _ _ _ _ _ (by simp <;> omega), canon_not_mem _ _ _ _ _ (by simp <;> omega), canon_not_mem _ _ _ _ _ (by simp <;> omega), canon_not_mem _ _ _ _ _ (by simp <;> omega), canon_whole, pay23_apply, zero_add, wXp_seg]
  · rw [w3_apply x0 x1 x2 x3 x4 x8, readCov_rows (o := 1536) _ _ _ j q (seg 3 j) rfl, canon_not_mem _ _ _ _ _ (by simp <;> omega), canon_not_mem _ _ _ _ _ (by simp <;> omega), canon_not_mem _ _ _ _ _ (by simp <;> omega), canon_whole, pay23_apply, zero_add, wXp_seg]
  · rw [w0_apply x0 x1 x2 x3 x4 x8, readCov_rows (o := 0) _ _ _ j q (seg 0 j) rfl, canon_not_mem _ _ _ _ _ (by simp <;> omega), canon_not_mem _ _ _ _ _ (by simp <;> omega), canon_whole, pay23_apply, zero_add, wXp_seg]
  · rw [w2_apply x0 x1 x2 x3 x4 x8, readCov_rows (o := 1024) _ _ _ j q (seg 2 j) rfl, canon_not_mem _ _ _ _ _ (by simp <;> omega), canon_whole, pay23_apply, zero_add, wXp_seg]
  · rw [w1_apply x0 x1 x2 x3 x4 x8, readCov_rows (o := 512) _ _ _ j q (seg 1 j) rfl, canon_whole, pay23_apply, zero_add, wXp_seg]

end Cert.N1

end
-- ==== Proof.N1.CaseB.lean ====
/- What a point of the grid between its first and its last leaves in each output block and in the scratch. -/
module

public import proofs.«01_k».proof.Proof.N1.Frame
public import proofs.«01_k».proof.Proof.N1.Stores

@[expose] public section

set_option maxRecDepth 16384

noncomputable section

namespace Cert.N1

open Idealize.ShloMosaic Cert.Kernel2Ideal Cert.Kernel2Ideal.Gen Cert.Pieces Cert.N2

variable (c : Dev nD) (i : grid0.Coords) (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S2560x1024 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .bf16) (harg9 : arg9.IsWhole)
  (arg10 : Memref sig .tc .vmem S256x1024 .f32) (harg10 : arg10.IsWhole)
  (arg11 : Memref sig .tc .vmem S8x1024 .f32) (harg11 : arg11.IsWhole)
  (arg12 : Memref sig .tc .vmem S1x1024 .f32) (harg12 : arg12.IsWhole)
  (arg13 : Memref sig .tc .vmem S256x1024 .f32) (harg13 : arg13.IsWhole)
  (arg14 : Memref sig .tc .vmem S2560x1024 .bf16) (harg14 : arg14.IsWhole)
  (arg15 : Memref sig .tc .vmem S8x1024 .f32) (harg15 : arg15.IsWhole)
  (arg16 : Memref sig .tc .vmem S2560x1024 .f32) (harg16 : arg16.IsWhole)
  (hc0 : ¬cond0_0 i) (hc1 : ¬cond0_1 i) (hc2 : cond0_2 i)
  (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x9 : Vec Ideal S256x1024 .f32) (x10 : Vec Ideal S8x1024 .f32) (x11 : Vec Ideal S1x1024 .f32)
  (xo14 : Vec Ideal S8x1024 .f32) (xs0 : Vec Ideal S2560x1024 .f32)

/-- Output 12: the block of the stream's gradient. -/
theorem out_B_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0 = bDx x0 x1 x2 x3 x4 x5 x6 x9 x10 x11 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0)]
  unfold kernelRun0_B
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]

/-- Output 14: the block's column sums, over what was there. -/
theorem out_B_14 (ρ : Fin 8) (q : Fin 1024) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0 (ix2 ρ q) = xo14 (ix2 ρ q) + sX x0 x1 x2 x3 x4 x5 x6 x10 x11 ρ q := by
  unfold out0_B_14
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  refine rows3 _ _ 0 (by decide) _ _ _ _ _ _ _ (fun ρ q => xo14 (ix2 ρ q) + sX x0 x1 x2 x3 x4 x5 x6 x10 x11 ρ q) ?_ ?_ ?_ ?_ ρ q <;> intro q
  · rw [sX2_apply x0 x1 x2 x3 x4 x5 x6 x10 x11, ld_rows _ _ 0 q 2 rfl]; rfl
  · rw [sX1_apply x0 x1 x2 x3 x4 x5 x6 x10 x11, ld_rows _ _ 0 q 1 rfl]; rfl
  · rw [sX0_apply x0 x1 x2 x3 x4 x5 x6 x10 x11, ld_rows _ _ 0 q 0 rfl]; rfl
  · intro q' hp
    rw [sX_rest _ _ _ _ _ _ _ _ _ _ _ (by omega), add_zero, View.writes_nil, harg15.read_unread]

/-- The scratch: the block's addend to the weights' gradient, over what was there. -/
theorem sout_B (p : Fin 2560) (q : Fin 1024) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo14 xs0 (ix2 p q) = xs0 (ix2 p q) + wXp x0 x1 x2 x3 x4 x8 p q := by
  unfold sout0_B_0
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  refine stores5 _ _ _ _ _ _ _ _ _ _ _ _ _ (fun p q => xs0 (ix2 p q) + wXp x0 x1 x2 x3 x4 x8 p q) ?_ ?_ ?_ ?_ ?_ p q <;> intro j q
  · rw [w4_apply x0 x1 x2 x3 x4 x8, ld_rows (o := 2048) _ _ j q (seg 4 j) rfl, wXp_seg]
  · rw [w3_apply x0 x1 x2 x3 x4 x8, ld_rows (o := 1536) _ _ j q (seg 3 j) rfl, wXp_seg]
  · rw [w0_apply x0 x1 x2 x3 x4 x8, ld_rows (o := 0) _ _ j q (seg 0 j) rfl, wXp_seg]
  · rw [w2_apply x0 x1 x2 x3 x4 x8, ld_rows (o := 1024) _ _ j q (seg 2 j) rfl, wXp_seg]
  · rw [w1_apply x0 x1 x2 x3 x4 x8, ld_rows (o := 512) _ _ j q (seg 1 j) rfl, wXp_seg]

end Cert.N1

end
-- ==== Proof.N1.CaseC.lean ====
/- What the last point of the grid, the one of the context, leaves in each output block and in the scratch. -/
module

public import proofs.«01_k».proof.Proof.N1.Frame
public import proofs.«01_k».proof.Proof.N1.Stores

@[expose] public section

set_option maxRecDepth 16384

noncomputable section

namespace Cert.N1

open Idealize.ShloMosaic Cert.Kernel2Ideal Cert.Kernel2Ideal.Gen Cert.Pieces Cert.N2

variable (c : Dev nD) (i : grid0.Coords) (arg1 : Memref sig .tc .vmem S256x512 .bf16) (harg1 : arg1.IsWhole)
  (arg2 : Memref sig .tc .vmem S256x512 .f32) (harg2 : arg2.IsWhole)
  (arg3 : Memref sig .tc .vmem S256x512 .f32) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S2560x1024 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .bf16) (harg9 : arg9.IsWhole)
  (arg10 : Memref sig .tc .vmem S256x1024 .f32) (harg10 : arg10.IsWhole)
  (arg11 : Memref sig .tc .vmem S8x1024 .f32) (harg11 : arg11.IsWhole)
  (arg12 : Memref sig .tc .vmem S1x1024 .f32) (harg12 : arg12.IsWhole)
  (arg13 : Memref sig .tc .vmem S256x1024 .f32) (harg13 : arg13.IsWhole)
  (arg14 : Memref sig .tc .vmem S2560x1024 .bf16) (harg14 : arg14.IsWhole)
  (arg15 : Memref sig .tc .vmem S8x1024 .f32) (harg15 : arg15.IsWhole)
  (arg16 : Memref sig .tc .vmem S2560x1024 .f32) (harg16 : arg16.IsWhole)
  (hc0 : ¬cond0_0 i) (hc1 : cond0_1 i) (hc2 : ¬cond0_2 i)
  (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x9 : Vec Ideal S256x1024 .f32) (x10 : Vec Ideal S8x1024 .f32) (x11 : Vec Ideal S1x1024 .f32)
  (xo12 : Vec Ideal S256x1024 .f32) (xo14 : Vec Ideal S8x1024 .f32) (xs0 : Vec Ideal S2560x1024 .f32)

/-- Output 14: the context's column sums, over what was there. -/
theorem out_C_14 (ρ : Fin 8) (q : Fin 1024) : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0 (ix2 ρ q) = xo14 (ix2 ρ q) + sC x1 x2 x5 x7 x10 x11 ρ q := by
  unfold out0_C_14
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  refine rows3 _ _ 2 (by decide) _ _ _ _ _ _ _ (fun ρ q => xo14 (ix2 ρ q) + sC x1 x2 x5 x7 x10 x11 ρ q) ?_ ?_ ?_ ?_ ρ q <;> intro q
  · rw [sC4_apply x1 x2 x5 x7 x10 x11, ld_rows _ _ 0 q 4 rfl]; rfl
  · rw [sC3_apply x1 x2 x5 x7 x10 x11, ld_rows _ _ 0 q 3 rfl]; rfl
  · rw [sC2_apply x1 x2 x5 x7 x10 x11, ld_rows _ _ 0 q 2 rfl]; rfl
  · intro q' hp
    rw [sC_rest _ _ _ _ _ _ _ _ (by omega), add_zero, View.writes_nil, harg15.read_unread]

/-- Output 13: the scratch at its end, the context's addend to the weights' gradient over what was there. -/
theorem out_C_13 (p : Fin 2560) (q : Fin 1024) : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0 (ix2 p q) = xs0 (ix2 p q) + wCp x1 x2 x8 p q := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 x11 xo12 xo14 xs0)]
  unfold kernelRun0_C
  dsimp only
  rw [canon_whole]
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread, harg12.read_unread, harg15.read_unread,
    harg16.read_unread, ld_whole, shapeCast_self]
  rw [pay1_apply]
  refine stores2 _ _ _ _ _ _ (fun p q => xs0 (ix2 p q) + wCp x1 x2 x8 p q) ?_ ?_ ?_ p q
  · intro j q
    rw [w2_apply x0 x1 x2 x3 x4 x8, ld_rows (o := 1024) _ _ j q (seg 2 j) rfl, wCp_seg]; rfl
  · intro j q
    rw [w1_apply x0 x1 x2 x3 x4 x8, ld_rows (o := 512) _ _ j q (seg 1 j) rfl, wCp_seg]; rfl
  · intro p q hp
    rw [wCp_rest _ _ _ _ _ hp, add_zero, harg16.read_unread]

end Cert.N1

end
-- ==== Proof.N1.Fold.lean ====
/- What the outputs and the scratch hold after each point, and what the three result arrays hold after the run: the first
   is the stream's gradient, block by block, and the other two are sums over the points. -/
module

public import proofs.«01_k».proof.Proof.N1.CaseA
public import proofs.«01_k».proof.Proof.N1.CaseB
public import proofs.«01_k».proof.Proof.N1.CaseC
public import Idealize.ShloMosaic.Lib.Pipeline.ValueKit.Geometry

@[expose] public section

set_option maxRecDepth 16384

noncomputable section

namespace Cert.N1

open Idealize.ShloMosaic Idealize.ShloMosaic.TcCoe Cert.Kernel2Ideal Cert.Kernel2Ideal.Gen Cert.Pieces
open Idealize.ShloMosaic.Pipeline (Dat)

variable (m : (ℓ : Loc nD τ sig) → Buf (Elt Ideal) ℓ) (c : Dev nD)

/-- The block of the stream's gradient at point `t`. -/
abbrev tDx (t : Fin cfg0.N) := bDx (iblk m c 0 t) (iblk m c 1 t) (iblk m c 2 t) (iblk m c 3 t) (iblk m c 4 t) (iblk m c 5 t) (iblk m c 6 t) (iblk m c 9 t) (iblk m c 10 t) (iblk m c 11 t)
/-- The column sums a point of the stream adds. -/
abbrev tS (t : Fin cfg0.N) := sX (iblk m c 0 t) (iblk m c 1 t) (iblk m c 2 t) (iblk m c 3 t) (iblk m c 4 t) (iblk m c 5 t) (iblk m c 6 t) (iblk m c 10 t) (iblk m c 11 t)
/-- The column sums the context's point adds. -/
abbrev tSC (t : Fin cfg0.N) := sC (iblk m c 1 t) (iblk m c 2 t) (iblk m c 5 t) (iblk m c 7 t) (iblk m c 10 t) (iblk m c 11 t)
/-- The weights' gradient a point of the stream adds. -/
abbrev tW (t : Fin cfg0.N) := wXp (iblk m c 0 t) (iblk m c 1 t) (iblk m c 2 t) (iblk m c 3 t) (iblk m c 4 t) (iblk m c 8 t)
/-- The weights' gradient the context's point adds. -/
abbrev tWC (t : Fin cfg0.N) := wCp (iblk m c 1 t) (iblk m c 2 t) (iblk m c 8 t)

/-- There are seventeen points. -/
theorem N_eq : cfg0.N = 17 := N_0
/-- Point `s` of the stream. -/
abbrev pt (s : Fin 16) : Fin cfg0.N := ⟨s.val, lt_of_lt_of_eq (show s.val < 17 by omega) N_eq.symm⟩
/-- The context's point. -/
abbrev last : Fin cfg0.N := ⟨16, lt_of_lt_of_eq (by decide) N_eq.symm⟩

/-- Every point of the stream leaves its block of the stream's gradient in output 12. -/
theorem outs_12 (s : Fin 16) : (outsAt0 m c (pt s).val (pt s).isLt).1 = tDx m c (pt s) := by
  have hs : (pt s).val < 16 := s.isLt
  by_cases h0 : (pt s).val % 17 = 0
  · rw [outsAt0_A m c (pt s) h0 (by omega) hs]; dsimp only; exact out_A_12 ..
  · rw [outsAt0_B m c (pt s) h0 (by omega) hs]; dsimp only; exact out_B_12 ..

/-- The first point leaves its own column sums. -/
theorem st_14_first (p : Fin 8) (q : Fin 1024) : (outsAt0 m c (pt 0).val (pt 0).isLt).2.2.1 (ix2 p q) = tS m c (pt 0) p q := by
  rw [outsAt0_A m c (pt 0) (by decide) (by decide) (by decide)]; dsimp only; exact out_A_14 ..

/-- The first point leaves its own weights' gradient in the scratch. -/
theorem st_s_first (p : Fin 2560) (q : Fin 1024) : (outsAt0 m c (pt 0).val (pt 0).isLt).2.2.2 (ix2 p q) = tW m c (pt 0) p q := by
  rw [outsAt0_A m c (pt 0) (by decide) (by decide) (by decide)]; dsimp only; exact sout_A ..

variable (t : Fin cfg0.N)

/-- A later point of the stream adds its column sums to what it found. -/
theorem st_14_next (h0 : ¬ t.val = 0) (h : t.val < 16) (p : Fin 8) (q : Fin 1024) :
    (outsAt0 m c t.val t.isLt).2.2.1 (ix2 p q) =
      (outsAt0 m c (t.val - 1) (Nat.lt_of_le_of_lt (Nat.sub_le _ _) t.isLt)).2.2.1 (ix2 p q) + tS m c t p q := by
  rw [outsAt0_B m c t (by omega) (by omega) h]; dsimp only; exact out_B_14 ..

/-- A later point of the stream adds its weights' gradient to the scratch. -/
theorem st_s_next (h0 : ¬ t.val = 0) (h : t.val < 16) (p : Fin 2560) (q : Fin 1024) :
    (outsAt0 m c t.val t.isLt).2.2.2 (ix2 p q) =
      (outsAt0 m c (t.val - 1) (Nat.lt_of_le_of_lt (Nat.sub_le _ _) t.isLt)).2.2.2 (ix2 p q) + tW m c t p q := by
  rw [outsAt0_B m c t (by omega) (by omega) h]; dsimp only; exact sout_B ..

/-- The context's point leaves the stream's gradient as the point before left it. -/
theorem st_12_last (h : t.val = 16) : (outsAt0 m c t.val t.isLt).1 = (outsAt0 m c (t.val - 1) (Nat.lt_of_le_of_lt (Nat.sub_le _ _) t.isLt)).1 := by
  rw [outsAt0_C m c t (by omega) (by omega) (by omega)]

/-- The context's point adds its column sums to what it found. -/
theorem st_14_last (h : t.val = 16) (p : Fin 8) (q : Fin 1024) :
    (outsAt0 m c t.val t.isLt).2.2.1 (ix2 p q) =
      (outsAt0 m c (t.val - 1) (Nat.lt_of_le_of_lt (Nat.sub_le _ _) t.isLt)).2.2.1 (ix2 p q) + tSC m c t p q := by
  rw [outsAt0_C m c t (by omega) (by omega) (by omega)]; dsimp only; exact out_C_14 ..

/-- The context's point writes the scratch with its weights' gradient added. -/
theorem st_13_last (h : t.val = 16) (p : Fin 2560) (q : Fin 1024) :
    (outsAt0 m c t.val t.isLt).2.1 (ix2 p q) =
      (outsAt0 m c (t.val - 1) (Nat.lt_of_le_of_lt (Nat.sub_le _ _) t.isLt)).2.2.2 (ix2 p q) + tWC m c t p q := by
  rw [outsAt0_C m c t (by omega) (by omega) (by omega)]; dsimp only; exact out_C_13 ..

/-- The accumulators after point `n` of the stream are the sums over the points up to `n`. -/
theorem outs_sums (n : ℕ) (h : n < 16) :
    (∀ (p : Fin 8) (q : Fin 1024), (outsAt0 m c (pt ⟨n, h⟩).val (pt ⟨n, h⟩).isLt).2.2.1 (ix2 p q) = ∑ s : Fin (n + 1), tS m c (pt ⟨s.val, by omega⟩) p q) ∧
    (∀ (p : Fin 2560) (q : Fin 1024), (outsAt0 m c (pt ⟨n, h⟩).val (pt ⟨n, h⟩).isLt).2.2.2 (ix2 p q) = ∑ s : Fin (n + 1), tW m c (pt ⟨s.val, by omega⟩) p q) := by
  induction n with
  | zero =>
    refine ⟨fun p q => ?_, fun p q => ?_⟩
    · rw [Fin.sum_univ_one]; exact st_14_first m c p q
    · rw [Fin.sum_univ_one]; exact st_s_first m c p q
  | succ n ih =>
    obtain ⟨ih1, ih2⟩ := ih (by omega)
    refine ⟨fun p q => ?_, fun p q => ?_⟩
    · rw [Fin.sum_univ_castSucc]
      exact (st_14_next m c (pt ⟨n + 1, h⟩) (Nat.succ_ne_zero n) h p q).trans (congrArg (· + tS m c (pt ⟨n + 1, h⟩) p q) (ih1 p q))
    · rw [Fin.sum_univ_castSucc]
      exact (st_s_next m c (pt ⟨n + 1, h⟩) (Nat.succ_ne_zero n) h p q).trans (congrArg (· + tW m c (pt ⟨n + 1, h⟩) p q) (ih2 p q))

/-- The last point leaves the stream's gradient as the point before left it. -/
theorem last_12 : (outsAt0 m c last.val last.isLt).1 = tDx m c (pt 15) := (st_12_last m c last rfl).trans (outs_12 m c 15)

/-- The last point leaves the column sums of the whole stream and of the context. -/
theorem last_14 (p : Fin 8) (q : Fin 1024) :
    (outsAt0 m c last.val last.isLt).2.2.1 (ix2 p q) = ∑ s : Fin 16, tS m c (pt s) p q + tSC m c last p q :=
  (st_14_last m c last rfl p q).trans (congrArg (· + tSC m c last p q) ((outs_sums m c 15 (by decide)).1 p q))

/-- The last point leaves the weights' gradient of the whole stream and of the context. -/
theorem last_13 (p : Fin 2560) (q : Fin 1024) :
    (outsAt0 m c last.val last.isLt).2.1 (ix2 p q) = ∑ s : Fin 16, tW m c (pt s) p q + tWC m c last p q :=
  (st_13_last m c last rfl p q).trans (congrArg (· + tWC m c last p q) ((outs_sums m c 15 (by decide)).2 p q))

/-! ## The arrays after the run -/

/-- Output 12's array after the run. -/
abbrev G12 : Vec Ideal S4096x1024 .f32 := (dats m 0 c).arrAt 12 cfg0.N
/-- Output 13's array after the run. -/
abbrev G13 : Vec Ideal S2560x1024 .bf16 := (dats m 0 c).arrAt 13 cfg0.N
/-- Output 14's array after the run. -/
abbrev G14 : Vec Ideal S8x1024 .f32 := (dats m 0 c).arrAt 14 cfg0.N

/-- Points that write back different points' blocks write different blocks of output 12. -/
theorem index_12 : ∀ t t' : Fin cfg0.N, (cfg0.win 12).flush t = true → (cfg0.win 12).flush t' = true → win0_12.index t = win0_12.index t' → t = t' :=
  (by decide +kernel : ∀ t t' : Fin grid0.N, win0_12.flush t = true → win0_12.flush t' = true → win0_12.index t = win0_12.index t' → t = t')
/-- Only the last point writes output 13 back. -/
theorem index_13 : ∀ t : Fin cfg0.N, (cfg0.win 13).flush t = true → t.val = 16 :=
  (by decide +kernel : ∀ t : Fin grid0.N, win0_13.flush t = true → t.val = 16)
/-- Only the last point writes output 14 back. -/
theorem index_14 : ∀ t : Fin cfg0.N, (cfg0.win 14).flush t = true → t.val = 16 :=
  (by decide +kernel : ∀ t : Fin grid0.N, win0_14.flush t = true → t.val = 16)

/-- A block of output 12's array is what its point wrote back. -/
theorem blocks_12 (t : Fin cfg0.N) (hf : (cfg0.win 12).flush t = true) :
    ((cfg0.win 12).blk t).view.read (Elt Ideal) ((dats m 0 c).arrAt 12 cfg0.N) = (cfg0.win 12).cut (grid0.coords t) ((dats m 0 c).after 12 t) :=
  (dats m 0 c).read_blk_arrAt_eq_flushed 12 (fun t t' h h' hne => (cfg0.win 12).disjoint_blk fun e => hne (index_12 t t' h h' e)) cfg0.N t t.isLt hf
/-- Output 13's array is what the last point wrote back. -/
theorem blocks_13 (t : Fin cfg0.N) (hf : (cfg0.win 13).flush t = true) :
    ((cfg0.win 13).blk t).view.read (Elt Ideal) ((dats m 0 c).arrAt 13 cfg0.N) = (cfg0.win 13).cut (grid0.coords t) ((dats m 0 c).after 13 t) :=
  (dats m 0 c).read_blk_arrAt_eq_flushed 13 (fun t t' h h' hne => absurd (Fin.ext ((index_13 t h).trans (index_13 t' h').symm)) hne) cfg0.N t t.isLt hf
/-- Output 14's array is what the last point wrote back. -/
theorem blocks_14 (t : Fin cfg0.N) (hf : (cfg0.win 14).flush t = true) :
    ((cfg0.win 14).blk t).view.read (Elt Ideal) ((dats m 0 c).arrAt 14 cfg0.N) = (cfg0.win 14).cut (grid0.coords t) ((dats m 0 c).after 14 t) :=
  (dats m 0 c).read_blk_arrAt_eq_flushed 14 (fun t t' h h' hne => absurd (Fin.ext ((index_14 t h).trans (index_14 t' h').symm)) hne) cfg0.N t t.isLt hf

/-- Row `r` of block `s` of the stream. -/
abbrev row (s : Fin 16) (r : Fin 256) : Fin 4096 := ⟨256 * s.val + r.val, by omega⟩

/-- The point that writes back block `s` of the stream's gradient. -/
abbrev wb (s : Fin 16) : Fin cfg0.N := if s.val = 15 then last else pt s
theorem wb_flush : ∀ s : Fin 16, (cfg0.win 12).flush (wb s) = true := by decide +kernel
theorem place_12 : ∀ s : Fin 16, win0_12.index (wb s) = ![s.val, 0] := by decide +kernel
theorem place_13 : win0_13.index last = ![0, 0] := by decide +kernel
theorem place_14 : win0_14.index last = ![0, 0] := by decide +kernel

/-- Block `s` of the stream's gradient was computed at point `s`. -/
theorem wb_12 (s : Fin 16) : (outsAt0 m c (wb s).val (wb s).isLt).1 = tDx m c (pt s) := by
  by_cases h : s.val = 15
  · obtain rfl : s = 15 := Fin.ext h
    exact last_12 m c
  · have e : wb s = pt s := if_neg h
    rw [e]
    exact outs_12 m c s

/-- The stream's gradient after the run, by blocks of rows. -/
theorem G12_row (s : Fin 16) (r : Fin 256) (q : Fin 1024) : G12 m c (ix2 (row s r) q) = tDx m c (pt s) (ix2 r q) := by
  have e := congrFun (blocks_12 m c (wb s) (wb_flush s)) (ix2 r q)
  rw [View.read_apply] at e
  refine Eq.trans ?_ (e.trans ((congrFun (after0_12 m c (wb s)) _).trans (congrFun (wb_12 m c s) _)))
  show G12 m c _ = G12 m c _
  congr 1
  funext a
  apply Fin.ext
  match a with
  | ⟨0, _⟩ => blk_simp [place_12]; show 256 * s.val + r.val = s.val * 256 + r.val; omega
  | ⟨1, _⟩ => blk_simp [place_12]

/-- The weights' gradient after the run. -/
theorem G13_sum (p : Fin 2560) (q : Fin 1024) : G13 m c (ix2 p q) = ∑ s : Fin 16, tW m c (pt s) p q + tWC m c last p q := by
  have e := congrFun (blocks_13 m c last (by decide +kernel)) (ix2 p q)
  rw [View.read_apply] at e
  refine Eq.trans ?_ (e.trans ((congrFun (after0_13 m c last) _).trans (last_13 m c p q)))
  show G13 m c _ = G13 m c _
  congr 1
  funext a
  apply Fin.ext
  match a with
  | ⟨0, _⟩ => blk_simp [place_13]
  | ⟨1, _⟩ => blk_simp [place_13]

/-- The column sums after the run. -/
theorem G14_sum (p : Fin 8) (q : Fin 1024) : G14 m c (ix2 p q) = ∑ s : Fin 16, tS m c (pt s) p q + tSC m c last p q := by
  have e := congrFun (blocks_14 m c last (by decide +kernel)) (ix2 p q)
  rw [View.read_apply] at e
  refine Eq.trans ?_ (e.trans ((congrFun (after0_14 m c last) _).trans (last_14 m c p q)))
  show G14 m c _ = G14 m c _
  congr 1
  funext a
  apply Fin.ext
  match a with
  | ⟨0, _⟩ => blk_simp [place_14]
  | ⟨1, _⟩ => blk_simp [place_14]

end Cert.N1

end
-- ==== Proof.N1.Whole.lean ====
/- The call's three results as functions of its eleven arrays, row by row: the common terms both programs are read as. -/
module

public import proofs.«01_k».proof.Proof.N1.Spec

@[expose] public section

noncomputable section

namespace Cert.N1

open Idealize.ShloMosaic Cert.N2

/-- The eleven arrays of the call: the stream, the context, the modulation rows, the norm's gain, the input projection's
    weights, the gradients of its five parts (keys and values over the stream and the context), and the stream's gradient. -/
structure Arrays where
  /-- The residual stream. -/
  x : Fin 4096 → Row 1024
  /-- The context. -/
  ctx : Fin 256 → Row 1024
  /-- The modulation rows: the stream's shift 0 and scale 1, the context's shift 6 and scale 7. -/
  md : Fin 8 → Row 1024
  /-- The norm's gain. -/
  g : Row 1024
  /-- The input projection's weights. -/
  w : Fin 1024 → Row 2560
  /-- The gradient of the queries. -/
  dq : Fin 4096 → Row 512
  /-- The gradient of the keys. -/
  dk : Fin 4352 → Row 512
  /-- The gradient of the values. -/
  dv : Fin 4352 → Row 512
  /-- The gradient of the convolution's input. -/
  da : Fin 4096 → Row 512
  /-- The gradient of the convolution's gate. -/
  dg : Fin 4096 → Row 512
  /-- The gradient of the stream from above. -/
  e : Fin 4096 → Row 1024

/-- A row of the stream among the keys' rows. -/
abbrev xr (t : Fin 4096) : Fin 4352 := ⟨t.val, by omega⟩
/-- A row of the context among them. -/
abbrev cr (r : Fin 256) : Fin 4352 := ⟨4096 + r.val, by omega⟩

/-- What rows `k` and `v` of keys and values add to the gradient of the weights of part `a`, column `j`, at norms `h`. -/
def ctxW {n : Nat} (k v : Fin n → Row 512) (h : Fin n → Row 1024) (a : Fin 5) (j : Fin 512) : Row 1024 := fun c => match a with
  | 1 => ∑ r, k r j * h r c
  | 2 => ∑ r, v r j * h r c
  | _ => 0

/-- Column sums over rows of the stream, at the modulated norm's gradient `d`: the gradients of the shift, of the scale and
    of the gain. -/
def sumXR {n : Nat} (sc g : Row 1024) (d x : Fin n → Row 1024) (p : Fin 8) : Row 1024 := fun q => match p with
  | 0 => ∑ t, d t q
  | 1 => ∑ t, d t q * (xhR (x t) q * g q)
  | 2 => ∑ t, dnR sc (d t) q * xhR (x t) q
  | _ => 0

/-- Column sums over rows of the context: the gradients of the gain, of the shift and of the scale. -/
def sumCR {n : Nat} (sc g : Row 1024) (d x : Fin n → Row 1024) (p : Fin 8) : Row 1024 := fun q => match p with
  | 2 => ∑ t, dnR sc (d t) q * xhR (x t) q
  | 3 => ∑ t, d t q
  | 4 => ∑ t, d t q * (xhR (x t) q * g q)
  | _ => 0

namespace Arrays

variable (A : Arrays)

/-- The gradient of the stream's modulated norm. -/
def dh (t : Fin 4096) : Row 1024 := dhR (fun p c => A.w c p) (A.dq t) (A.dk (xr t)) (A.dv (xr t)) (A.da t) (A.dg t)

/-- The gradient of the context's modulated norm. -/
def dhc (r : Fin 256) : Row 1024 := kvR (fun p c => A.w c p) (A.dk (cr r)) (A.dv (cr r))

/-- The gradient of the stream. -/
def dx (t : Fin 4096) : Row 1024 := dxR A.g (A.md 1) (A.dh t) (A.x t) (A.e t)

/-- The stream's modulated norm. -/
def hx (t : Fin 4096) : Row 1024 := hR (A.md 0) (A.md 1) A.g (A.x t)

/-- The context's modulated norm. -/
def hc (r : Fin 256) : Row 1024 := hR (A.md 6) (A.md 7) A.g (A.ctx r)

/-- The gradient of part `a` of the projection over the stream. -/
def part (a : Fin 5) (t : Fin 4096) : Row 512 := match a with
  | 0 => A.dq t
  | 1 => A.dk (xr t)
  | 2 => A.dv (xr t)
  | 3 => A.da t
  | 4 => A.dg t

/-- The context's share of the gradient of the weights of part `a`, column `j`. -/
def dwc (a : Fin 5) (j : Fin 512) : Row 1024 := ctxW (fun r => A.dk (cr r)) (fun r => A.dv (cr r)) A.hc a j

/-- The gradient of the weights of part `a`, column `j`. -/
def dw (a : Fin 5) (j : Fin 512) : Row 1024 := fun c => ∑ t, A.part a t j * A.hx t c + A.dwc a j c

/-- The sums over the stream's rows. -/
def sumX (p : Fin 8) : Row 1024 := sumXR (A.md 1) A.g A.dh A.x p

/-- The sums over the context's rows. -/
def sumC (p : Fin 8) : Row 1024 := sumCR (A.md 7) A.g A.dhc A.ctx p

/-- The sums over the rows. -/
def sums (p : Fin 8) : Row 1024 := fun q => A.sumX p q + A.sumC p q

end Arrays

end Cert.N1

end
-- ==== Proof.N1.Host.lean ====
/- The kernel's blocks as rows of the call's eleven arrays: the arrays the host code prepares are read at an index, and
   block `s` of a row-blocked array is its rows `256 s` to `256 s + 255`. -/
module

public import proofs.«01_k».proof.Proof.N1.Fold
public import proofs.«01_k».proof.Proof.N1.Whole
public import Idealize.ShloMosaic.Lib.StableHlo.ReadAt
public import Idealize.ShloMosaic.Lib.Claim
public import Idealize.ShloMosaic.Lib.Pipeline.ValueKit.Geometry

@[expose] public section

set_option maxRecDepth 16384

noncomputable section

namespace Cert.N1

open Idealize.ShloMosaic Cert.Kernel2Ideal Cert.Kernel2Ideal.Gen Cert.Pieces Idealize.ShloMosaic.TcCoe Cert.N2

variable (m : (ℓ : Loc nD τ sig) → Buf (Elt Ideal) ℓ) (c : Dev nD)

/-- The eleven arrays as the kernel's program is given them. -/
def arrays : Arrays where
  x := fun p q => (m ((c : Thread nD τ).loc main_arg0) : Vec Ideal S4096x1024 .f32) (ix2 p q)
  ctx := fun p q => (m ((c : Thread nD τ).loc main_arg1) : Vec Ideal S256x1024 .f32) (ix2 p q)
  md := fun p q => (m ((c : Thread nD τ).loc main_arg2) : Vec Ideal S8x1024 .f32) (ix2 p q)
  g := fun q => (m ((c : Thread nD τ).loc main_arg3) : Vec Ideal S1x1024 .f32) (ix2 0 q)
  w := fun p q => (m ((c : Thread nD τ).loc main_arg4) : Vec Ideal S1024x2560 .f32) (ix2 p q)
  dq := fun p q => (m ((c : Thread nD τ).loc main_arg5) : Vec Ideal S4096x512 .bf16) (ix2 p q)
  dk := fun p q => (m ((c : Thread nD τ).loc main_arg6) : Vec Ideal S4352x512 .f32) (ix2 p q)
  dv := fun p q => (m ((c : Thread nD τ).loc main_arg7) : Vec Ideal S4352x512 .f32) (ix2 p q)
  da := fun p q => (m ((c : Thread nD τ).loc main_arg8) : Vec Ideal S4096x512 .bf16) (ix2 p q)
  dg := fun p q => (m ((c : Thread nD τ).loc main_arg9) : Vec Ideal S4096x512 .bf16) (ix2 p q)
  e := fun p q => (m ((c : Thread nD τ).loc main_arg10) : Vec Ideal S4096x1024 .f32) (ix2 p q)

/-- The weights after the transpose and the cast. -/
theorem V1_apply (p : Fin 2560) (q : Fin 1024) : (V m c main_v1 : Vec Ideal S2560x1024 .bf16) (ix2 p q) = (arrays m c).w q p := by
  unfold arrays V
  after_reads_at

/-- The stream's modulated norm. -/
theorem V43_x (t : Fin 4096) (q : Fin 1024) : (V m c main_v43 : Vec Ideal S4352x1024 .bf16) (ix2 (xr t) q) = (arrays m c).hx t q := by
  unfold arrays Arrays.hx V
  after_reads_at
  after_reads_at
  rfl

/-- The context's modulated norm. -/
theorem V43_c (r : Fin 256) (q : Fin 1024) : (V m c main_v43 : Vec Ideal S4352x1024 .bf16) (ix2 (cr r) q) = (arrays m c).hc r q := by
  unfold arrays Arrays.hc V
  after_reads_at
  after_reads_at
  rfl

variable (s : Fin 16)

/-- Window 0's place in its array. -/
theorem place_0 : ∀ s : Fin 16, win0_0.index (pt s) = ![s.val, 0] := by decide +kernel
/-- Window 0's block at a point of the stream, at an index. -/
theorem blk_0 (r : Fin 256) (q : Fin 512) : (iblk m c 0 (pt s) : Vec Ideal S256x512 .bf16) (ix2 r q) = (arrays m c).dq (row s r) q := by
  unfold arrays
  show _ = m ((c : Thread nD τ).loc main_arg5) (ix2 (row s r) q)
  rw [← V_main_arg5 m c]
  unfold iblk
  rw [View.read_apply]
  show V m c main_arg5 _ = V m c main_arg5 _
  congr 1
  funext a
  apply Fin.ext
  match a with
  | ⟨0, _⟩ => blk_simp [place_0]; show s.val * 256 + r.val = 256 * s.val + r.val; omega
  | ⟨1, _⟩ => blk_simp [place_0]

/-- Window 1's place in its array. -/
theorem place_1 : ∀ s : Fin 16, win0_1.index (pt s) = ![s.val, 0] := by decide +kernel
/-- Window 1's block at a point of the stream, at an index. -/
theorem blk_1 (r : Fin 256) (q : Fin 512) : (iblk m c 1 (pt s) : Vec Ideal S256x512 .f32) (ix2 r q) = (arrays m c).dk (xr (row s r)) q := by
  unfold arrays
  show _ = m ((c : Thread nD τ).loc main_arg6) (ix2 (xr (row s r)) q)
  rw [← V_main_arg6 m c]
  unfold iblk
  rw [View.read_apply]
  show V m c main_arg6 _ = V m c main_arg6 _
  congr 1
  funext a
  apply Fin.ext
  match a with
  | ⟨0, _⟩ => blk_simp [place_1]; show s.val * 256 + r.val = 256 * s.val + r.val; omega
  | ⟨1, _⟩ => blk_simp [place_1]

/-- Window 1's place in its array. -/
theorem placeC_1 : win0_1.index last = ![16, 0] := by decide +kernel
/-- Window 1's block at the context's point, at an index. -/
theorem blkC_1 (r : Fin 256) (q : Fin 512) : (iblk m c 1 last : Vec Ideal S256x512 .f32) (ix2 r q) = (arrays m c).dk (cr r) q := by
  unfold arrays
  show _ = m ((c : Thread nD τ).loc main_arg6) (ix2 (cr r) q)
  rw [← V_main_arg6 m c]
  unfold iblk
  rw [View.read_apply]
  show V m c main_arg6 _ = V m c main_arg6 _
  congr 1
  funext a
  apply Fin.ext
  match a with
  | ⟨0, _⟩ => blk_simp [placeC_1]
  | ⟨1, _⟩ => blk_simp [placeC_1]

/-- Window 2's place in its array. -/
theorem place_2 : ∀ s : Fin 16, win0_2.index (pt s) = ![s.val, 0] := by decide +kernel
/-- Window 2's block at a point of the stream, at an index. -/
theorem blk_2 (r : Fin 256) (q : Fin 512) : (iblk m c 2 (pt s) : Vec Ideal S256x512 .f32) (ix2 r q) = (arrays m c).dv (xr (row s r)) q := by
  unfold arrays
  show _ = m ((c : Thread nD τ).loc main_arg7) (ix2 (xr (row s r)) q)
  rw [← V_main_arg7 m c]
  unfold iblk
  rw [View.read_apply]
  show V m c main_arg7 _ = V m c main_arg7 _
  congr 1
  funext a
  apply Fin.ext
  match a with
  | ⟨0, _⟩ => blk_simp [place_2]; show s.val * 256 + r.val = 256 * s.val + r.val; omega
  | ⟨1, _⟩ => blk_simp [place_2]

/-- Window 2's place in its array. -/
theorem placeC_2 : win0_2.index last = ![16, 0] := by decide +kernel
/-- Window 2's block at the context's point, at an index. -/
theorem blkC_2 (r : Fin 256) (q : Fin 512) : (iblk m c 2 last : Vec Ideal S256x512 .f32) (ix2 r q) = (arrays m c).dv (cr r) q := by
  unfold arrays
  show _ = m ((c : Thread nD τ).loc main_arg7) (ix2 (cr r) q)
  rw [← V_main_arg7 m c]
  unfold iblk
  rw [View.read_apply]
  show V m c main_arg7 _ = V m c main_arg7 _
  congr 1
  funext a
  apply Fin.ext
  match a with
  | ⟨0, _⟩ => blk_simp [placeC_2]
  | ⟨1, _⟩ => blk_simp [placeC_2]

/-- Window 3's place in its array. -/
theorem place_3 : ∀ s : Fin 16, win0_3.index (pt s) = ![s.val, 0] := by decide +kernel
/-- Window 3's block at a point of the stream, at an index. -/
theorem blk_3 (r : Fin 256) (q : Fin 512) : (iblk m c 3 (pt s) : Vec Ideal S256x512 .bf16) (ix2 r q) = (arrays m c).da (row s r) q := by
  unfold arrays
  show _ = m ((c : Thread nD τ).loc main_arg8) (ix2 (row s r) q)
  rw [← V_main_arg8 m c]
  unfold iblk
  rw [View.read_apply]
  show V m c main_arg8 _ = V m c main_arg8 _
  congr 1
  funext a
  apply Fin.ext
  match a with
  | ⟨0, _⟩ => blk_simp [place_3]; show s.val * 256 + r.val = 256 * s.val + r.val; omega
  | ⟨1, _⟩ => blk_simp [place_3]

/-- Window 4's place in its array. -/
theorem place_4 : ∀ s : Fin 16, win0_4.index (pt s) = ![s.val, 0] := by decide +kernel
/-- Window 4's block at a point of the stream, at an index. -/
theorem blk_4 (r : Fin 256) (q : Fin 512) : (iblk m c 4 (pt s) : Vec Ideal S256x512 .bf16) (ix2 r q) = (arrays m c).dg (row s r) q := by
  unfold arrays
  show _ = m ((c : Thread nD τ).loc main_arg9) (ix2 (row s r) q)
  rw [← V_main_arg9 m c]
  unfold iblk
  rw [View.read_apply]
  show V m c main_arg9 _ = V m c main_arg9 _
  congr 1
  funext a
  apply Fin.ext
  match a with
  | ⟨0, _⟩ => blk_simp [place_4]; show s.val * 256 + r.val = 256 * s.val + r.val; omega
  | ⟨1, _⟩ => blk_simp [place_4]

/-- Window 6's place in its array. -/
theorem place_6 : ∀ s : Fin 16, win0_6.index (pt s) = ![s.val, 0] := by decide +kernel
/-- Window 6's block at a point of the stream, at an index. -/
theorem blk_6 (r : Fin 256) (q : Fin 1024) : (iblk m c 6 (pt s) : Vec Ideal S256x1024 .f32) (ix2 r q) = (arrays m c).x (row s r) q := by
  unfold arrays
  show _ = m ((c : Thread nD τ).loc main_arg0) (ix2 (row s r) q)
  rw [← V_main_arg0 m c]
  unfold iblk
  rw [View.read_apply]
  show V m c main_arg0 _ = V m c main_arg0 _
  congr 1
  funext a
  apply Fin.ext
  match a with
  | ⟨0, _⟩ => blk_simp [place_6]; show s.val * 256 + r.val = 256 * s.val + r.val; omega
  | ⟨1, _⟩ => blk_simp [place_6]

/-- Window 9's place in its array. -/
theorem place_9 : ∀ s : Fin 16, win0_9.index (pt s) = ![s.val, 0] := by decide +kernel
/-- Window 9's block at a point of the stream, at an index. -/
theorem blk_9 (r : Fin 256) (q : Fin 1024) : (iblk m c 9 (pt s) : Vec Ideal S256x1024 .f32) (ix2 r q) = (arrays m c).e (row s r) q := by
  unfold arrays
  show _ = m ((c : Thread nD τ).loc main_arg10) (ix2 (row s r) q)
  rw [← V_main_arg10 m c]
  unfold iblk
  rw [View.read_apply]
  show V m c main_arg10 _ = V m c main_arg10 _
  congr 1
  funext a
  apply Fin.ext
  match a with
  | ⟨0, _⟩ => blk_simp [place_9]; show s.val * 256 + r.val = 256 * s.val + r.val; omega
  | ⟨1, _⟩ => blk_simp [place_9]

/-- Window 8's place in its array. -/
theorem place_8 : ∀ s : Fin 16, win0_8.index (pt s) = ![s.val, 0] := by decide +kernel
/-- Window 8's block at a point of the stream, at an index. -/
theorem blk_8 (r : Fin 256) (q : Fin 1024) : (iblk m c 8 (pt s) : Vec Ideal S256x1024 .bf16) (ix2 r q) = (arrays m c).hx (row s r) q := by
  rw [← V43_x]
  unfold iblk
  rw [View.read_apply]
  show V m c main_v43 _ = V m c main_v43 _
  congr 1
  funext a
  apply Fin.ext
  match a with
  | ⟨0, _⟩ => blk_simp [place_8]; show s.val * 256 + r.val = 256 * s.val + r.val; omega
  | ⟨1, _⟩ => blk_simp [place_8]

/-- Window 8's place in its array. -/
theorem placeC_8 : win0_8.index last = ![16, 0] := by decide +kernel
/-- Window 8's block at the context's point, at an index. -/
theorem blkC_8 (r : Fin 256) (q : Fin 1024) : (iblk m c 8 last : Vec Ideal S256x1024 .bf16) (ix2 r q) = (arrays m c).hc r q := by
  rw [← V43_c]
  unfold iblk
  rw [View.read_apply]
  show V m c main_v43 _ = V m c main_v43 _
  congr 1
  funext a
  apply Fin.ext
  match a with
  | ⟨0, _⟩ => blk_simp [placeC_8]
  | ⟨1, _⟩ => blk_simp [placeC_8]

variable (t : Fin cfg0.N)

/-- Window 7's place in its array. -/
theorem place_7 : ∀ t : Fin cfg0.N, win0_7.index t = ![0, 0] := (by decide +kernel : ∀ t : Fin grid0.N, _)
/-- Window 7's block at any point, at an index. -/
theorem blk_7 (p : Fin 256) (q : Fin 1024) : (iblk m c 7 t : Vec Ideal S256x1024 .f32) (ix2 p q) = (arrays m c).ctx p q := by
  unfold arrays
  show _ = m ((c : Thread nD τ).loc main_arg1) (ix2 p q)
  rw [← V_main_arg1 m c]
  unfold iblk
  rw [View.read_apply]
  show V m c main_arg1 _ = V m c main_arg1 _
  congr 1
  funext a
  apply Fin.ext
  match a with
  | ⟨0, _⟩ => blk_simp [place_7]
  | ⟨1, _⟩ => blk_simp [place_7]

/-- Window 10's place in its array. -/
theorem place_10 : ∀ t : Fin cfg0.N, win0_10.index t = ![0, 0] := (by decide +kernel : ∀ t : Fin grid0.N, _)
/-- Window 10's block at any point, at an index. -/
theorem blk_10 (p : Fin 8) (q : Fin 1024) : (iblk m c 10 t : Vec Ideal S8x1024 .f32) (ix2 p q) = (arrays m c).md p q := by
  unfold arrays
  show _ = m ((c : Thread nD τ).loc main_arg2) (ix2 p q)
  rw [← V_main_arg2 m c]
  unfold iblk
  rw [View.read_apply]
  show V m c main_arg2 _ = V m c main_arg2 _
  congr 1
  funext a
  apply Fin.ext
  match a with
  | ⟨0, _⟩ => blk_simp [place_10]
  | ⟨1, _⟩ => blk_simp [place_10]

/-- Window 11's place in its array. -/
theorem place_11 : ∀ t : Fin cfg0.N, win0_11.index t = ![0, 0] := (by decide +kernel : ∀ t : Fin grid0.N, _)
/-- Window 11's block at any point, at an index. -/
theorem blk_11 (q : Fin 1024) : (iblk m c 11 t : Vec Ideal S1x1024 .f32) (ix2 0 q) = (arrays m c).g q := by
  unfold arrays
  show _ = m ((c : Thread nD τ).loc main_arg3) (ix2 0 q)
  rw [← V_main_arg3 m c]
  unfold iblk
  rw [View.read_apply]
  show V m c main_arg3 _ = V m c main_arg3 _
  congr 1
  funext a
  apply Fin.ext
  match a with
  | ⟨0, _⟩ => blk_simp [place_11]
  | ⟨1, _⟩ => blk_simp [place_11]

/-- Window 5's place in its array. -/
theorem place_5 : ∀ t : Fin cfg0.N, win0_5.index t = ![0, 0] := (by decide +kernel : ∀ t : Fin grid0.N, _)
/-- Window 5's block at any point, at an index. -/
theorem blk_5 (p : Fin 2560) (q : Fin 1024) : (iblk m c 5 t : Vec Ideal S2560x1024 .bf16) (ix2 p q) = (arrays m c).w q p := by
  rw [← V1_apply]
  unfold iblk
  rw [View.read_apply]
  show V m c main_v1 _ = V m c main_v1 _
  congr 1
  funext a
  apply Fin.ext
  match a with
  | ⟨0, _⟩ => blk_simp [place_5]
  | ⟨1, _⟩ => blk_simp [place_5]

end Cert.N1

end
-- ==== Proof.N1.Results.lean ====
/- The kernel's three result arrays at an index, in the common terms. -/
module

public import proofs.«01_k».proof.Proof.N1.Host

@[expose] public section

set_option maxRecDepth 16384

noncomputable section

namespace Cert.N1

open Idealize.ShloMosaic Cert.Kernel2Ideal Cert.Kernel2Ideal.Gen Cert.N2

section Blocks

variable (x0 : Vec Ideal S256x512 .bf16) (x1 x2 : Vec Ideal S256x512 .f32) (x3 x4 : Vec Ideal S256x512 .bf16)
  (x5 : Vec Ideal S2560x1024 .bf16) (x6 x7 : Vec Ideal S256x1024 .f32) (x8 : Vec Ideal S256x1024 .bf16)
  (x10 : Vec Ideal S8x1024 .f32) (x11 : Vec Ideal S1x1024 .f32)

/-- A block's column sums are those of its rows. -/
theorem sX_rows (p : Fin 8) (q : Fin 1024) : sX x0 x1 x2 x3 x4 x5 x6 x10 x11 p q =
    sumXR (mdB x10 1) (gB x11) (dhB x0 x1 x2 x3 x4 x5) (fun r k => x6 (ix2 r k)) p q := match p with
  | 0 => rfl
  | 1 => rfl
  | 2 => rfl
  | 3 => rfl
  | 4 => rfl
  | 5 => rfl
  | 6 => rfl
  | 7 => rfl

/-- The context's column sums are those of its rows. -/
theorem sC_rows (p : Fin 8) (q : Fin 1024) : sC x1 x2 x5 x7 x10 x11 p q =
    sumCR (mdB x10 7) (gB x11) (kvB x1 x2 x5) (fun r k => x7 (ix2 r k)) p q := match p with
  | 0 => rfl
  | 1 => rfl
  | 2 => rfl
  | 3 => rfl
  | 4 => rfl
  | 5 => rfl
  | 6 => rfl
  | 7 => rfl

/-- What the context adds to the gradient of the weights is off its rows. -/
theorem wC_rows (a : Fin 5) (j : Fin 512) (q : Fin 1024) : wC x1 x2 x8 a j q =
    ctxW (fun r k => x1 (ix2 r k)) (fun r k => x2 (ix2 r k)) (fun r k => x8 (ix2 r k)) a j q := by
  fin_cases a <;> rfl

end Blocks

variable (m : (ℓ : Loc nD τ sig) → Buf (Elt Ideal) ℓ) (c : Dev nD) (t : Fin cfg0.N) (s : Fin 16) (r : Fin 256)

/-- The weights. -/
theorem row_w : (fun p q => (iblk m c 5 t : Vec Ideal S2560x1024 .bf16) (ix2 p q)) = fun p q => (arrays m c).w q p :=
  funext fun p => funext fun q => blk_5 m c t p q
/-- A row of the modulation. -/
theorem row_md (ρ : Fin 8) : mdB (iblk m c 10 t) ρ = (arrays m c).md ρ := funext (blk_10 m c t ρ)
/-- The gain. -/
theorem row_g : gB (iblk m c 11 t) = (arrays m c).g := funext (blk_11 m c t)
/-- Row `r` of block `s` of the stream. -/
theorem row_x : (fun k => (iblk m c 6 (pt s) : Vec Ideal S256x1024 .f32) (ix2 r k)) = (arrays m c).x (row s r) := funext (blk_6 m c s r)
/-- Row `r` of the context. -/
theorem row_ctx : (fun k => (iblk m c 7 t : Vec Ideal S256x1024 .f32) (ix2 r k)) = (arrays m c).ctx r := funext (blk_7 m c t r)

/-- Row `r` of block `s` of the modulated norm's gradient. -/
theorem row_dh : dhB (iblk m c 0 (pt s)) (iblk m c 1 (pt s)) (iblk m c 2 (pt s)) (iblk m c 3 (pt s)) (iblk m c 4 (pt s)) (iblk m c 5 (pt s)) r
    = (arrays m c).dh (row s r) :=
  congr (congr (congr (congr (congr (congrArg dhR (row_w m c (pt s))) (funext (blk_0 m c s r))) (funext (blk_1 m c s r))) (funext (blk_2 m c s r)))
    (funext (blk_3 m c s r))) (funext (blk_4 m c s r))

/-- Row `r` of the context's. -/
theorem row_dhc : kvB (iblk m c 1 last) (iblk m c 2 last) (iblk m c 5 last) r = (arrays m c).dhc r := by
  show kvR _ _ _ = kvR _ _ _
  exact congr (congr (congrArg kvR (row_w m c last)) (funext (blkC_1 m c r))) (funext (blkC_2 m c r))

/-- Row `r` of block `s` of the stream's gradient. -/
theorem row_dx : dxB (iblk m c 0 (pt s)) (iblk m c 1 (pt s)) (iblk m c 2 (pt s)) (iblk m c 3 (pt s)) (iblk m c 4 (pt s)) (iblk m c 5 (pt s)) (iblk m c 6 (pt s))
    (iblk m c 9 (pt s)) (iblk m c 10 (pt s)) (iblk m c 11 (pt s)) r = (arrays m c).dx (row s r) :=
  congr (congr (congr (congr (congrArg dxR (row_g m c (pt s))) (row_md m c (pt s) 1)) (row_dh m c s r)) (row_x m c s r)) (funext (blk_9 m c s r))

/-- Every row of 4096 is a row of a block. -/
theorem eq_row (t : Fin 4096) : ∃ s r, t = row s r :=
  ⟨⟨t.val / 256, by omega⟩, ⟨t.val % 256, by omega⟩, Fin.ext (show t.val = 256 * (t.val / 256) + t.val % 256 by omega)⟩

/-- A sum over the rows is the sum over the blocks of the sums over a block's rows. -/
theorem sum_rows (f : Fin 4096 → EReal) : ∑ t, f t = ∑ s : Fin 16, ∑ r : Fin 256, f (row s r) := by
  rw [← Fintype.sum_prod_type']
  refine (Fintype.sum_equiv (finProdFinEquiv : Fin 16 × Fin 256 ≃ Fin 4096) (fun p => f (row p.1 p.2)) f fun p => ?_).symm
  congr 1
  exact Fin.ext (show 256 * p.1.val + p.2.val = p.2.val + 256 * p.1.val from Nat.add_comm _ _)

/-- The stream's gradient. -/
theorem G12_apply (t : Fin 4096) (q : Fin 1024) : G12 m c (ix2 t q) = (arrays m c).dx t q := by
  obtain ⟨s, r, rfl⟩ := eq_row t
  exact (G12_row m c s r q).trans ((bDx_apply _ _ _ _ _ _ _ _ _ _ r q).trans (congrFun (row_dx m c s r) q))

/-- Part `a` of the projection's gradient, over a block's rows. -/
theorem row_part (a : Fin 5) (j : Fin 512) : partX (iblk m c 0 (pt s)) (iblk m c 1 (pt s)) (iblk m c 2 (pt s)) (iblk m c 3 (pt s)) (iblk m c 4 (pt s)) a r j
    = (arrays m c).part a (row s r) j := match a with
  | 0 => blk_0 m c s r j
  | 1 => blk_1 m c s r j
  | 2 => blk_2 m c s r j
  | 3 => blk_3 m c s r j
  | 4 => blk_4 m c s r j

/-- What the context adds to the gradient of the weights. -/
theorem dwc_apply (a : Fin 5) (j : Fin 512) (q : Fin 1024) : wC (iblk m c 1 last) (iblk m c 2 last) (iblk m c 8 last) a j q = (arrays m c).dwc a j q := by
  rw [wC_rows, Arrays.dwc, funext fun r => funext (blkC_1 m c r), funext fun r => funext (blkC_2 m c r), funext fun r => funext (blkC_8 m c r)]

/-- A product of equals. -/
theorem mul_eq {a a' b b' : EReal} (h : a = a') (h' : b = b') : a * b = a' * b' := congr (congrArg HMul.hMul h) h'

/-- The gradient of the weights. -/
theorem G13_apply (a : Fin 5) (j : Fin 512) (q : Fin 1024) : G13 m c (ix2 (seg a j) q) = (arrays m c).dw a j q := by
  rw [G13_sum, Arrays.dw, sum_rows]
  show @Eq EReal _ _
  refine congr (congrArg HAdd.hAdd (Finset.sum_congr rfl fun s _ => (wXp_seg _ _ _ _ _ _ a j q).trans ?_))
    ((wCp_seg _ _ _ a j q).trans (dwc_apply m c a j q))
  exact Finset.sum_congr rfl fun r _ => mul_eq (row_part m c s r a j) (blk_8 m c s r q)

/-- Column sums over all rows are those over the blocks, added. -/
theorem sumXR_blocks (sc g : Row 1024) (d x : Fin 4096 → Row 1024) (p : Fin 8) (q : Fin 1024) :
    sumXR sc g d x p q = ∑ s : Fin 16, sumXR sc g (fun r => d (row s r)) (fun r => x (row s r)) p q := by
  unfold sumXR
  split
  · exact sum_rows _
  · exact sum_rows _
  · exact sum_rows _
  · exact Finset.sum_const_zero.symm

/-- The sums over the stream's rows. -/
theorem sumX_apply (p : Fin 8) (q : Fin 1024) : ∑ s : Fin 16, tS m c (pt s) p q = (arrays m c).sumX p q := by
  rw [Arrays.sumX, sumXR_blocks]
  refine Finset.sum_congr rfl fun s _ => ?_
  rw [tS, sX_rows, row_md, row_g, funext (row_dh m c s), funext (row_x m c s)]

/-- The sums over the context's rows. -/
theorem sumC_apply (p : Fin 8) (q : Fin 1024) : tSC m c last p q = (arrays m c).sumC p q := by
  rw [Arrays.sumC, tSC, sC_rows, row_md, row_g, funext (row_dhc m c), funext (row_ctx m c last)]

/-- The sums over the rows. -/
theorem G14_apply (p : Fin 8) (q : Fin 1024) : G14 m c (ix2 p q) = (arrays m c).sums p q :=
  (G14_sum m c p q).trans (congr (congrArg HAdd.hAdd (sumX_apply m c p q)) (sumC_apply m c p q))

end Cert.N1

end
-- ==== Proof.N1.Ref.lean ====
/- The reference's stages at an index, as the common terms. -/
module

public import proofs.«01_k».proof.Proof.Gen.Reference2Ideal.Read
public import proofs.«01_k».proof.Proof.NormGrad
public import proofs.«01_k».proof.Proof.N1.Whole
public import Idealize.ShloMosaic.Lib.Pointwise

@[expose] public section

set_option maxRecDepth 16384

noncomputable section

namespace Cert.N1

open Idealize.ShloMosaic Cert.Reference2Ideal Cert.Reference2Ideal.Read Cert.N2

variable (x0 : Vec Ideal S4096x1024 .f32) (x1 : Vec Ideal S256x1024 .f32) (x2 : Vec Ideal S8x1024 .f32) (x3 : Vec Ideal S1x1024 .f32)
  (x4 : Vec Ideal S1024x2560 .f32) (x5 : Vec Ideal S4096x512 .bf16) (x6 x7 : Vec Ideal S4352x512 .f32) (x8 x9 : Vec Ideal S4096x512 .bf16)
  (x10 : Vec Ideal S4096x1024 .f32)

/-- The eleven arrays as the reference is given them. -/
def given : Arrays where
  x := fun p q => x0 (ix2 p q)
  ctx := fun p q => x1 (ix2 p q)
  md := fun p q => x2 (ix2 p q)
  g := fun q => x3 (ix2 0 q)
  w := fun p q => x4 (ix2 p q)
  dq := fun p q => x5 (ix2 p q)
  dk := fun p q => x6 (ix2 p q)
  dv := fun p q => x7 (ix2 p q)
  da := fun p q => x8 (ix2 p q)
  dg := fun p q => x9 (ix2 p q)
  e := fun p q => x10 (ix2 p q)

/-- A sum over the projection's columns, part by part. -/
theorem sum_seg (f : Fin 2560 → EReal) : ∑ p, f p = ∑ a : Fin 5, ∑ j : Fin 512, f (seg a j) := by
  rw [← Fintype.sum_prod_type']
  refine (Fintype.sum_equiv (finProdFinEquiv : Fin 5 × Fin 512 ≃ Fin 2560) (fun p => f (seg p.1 p.2)) f fun p => ?_).symm
  congr 1
  exact Fin.ext (show 512 * p.1.val + p.2.val = p.2.val + 512 * p.1.val from Nat.add_comm _ _)

/-- The key columns of the keys' and values' gradients laid side by side. -/
abbrev kl (j : Fin 512) : Fin 1024 := ⟨j.val, by omega⟩
/-- The value columns. -/
abbrev vl (j : Fin 512) : Fin 1024 := ⟨512 + j.val, by omega⟩

/-- A sum over those columns, half by half. -/
theorem sum_half (f : Fin 1024 → EReal) : ∑ p, f p = ∑ j : Fin 512, f (kl j) + ∑ j : Fin 512, f (vl j) :=
  Fin.sum_univ_add (a := 512) (b := 512) f

/-- The mean square of a row, and the small constant. -/
theorem stage_10 (t : Fin 4096) : val_main_v10 (F := Ideal) x0 (ix2 t 0) = Ideal.div (∑ k, (given x0 x1 x2 x3 x4 x5 x6 x7 x8 x9 x10).x t k * (given x0 x1 x2 x3 x4 x5 x6 x7 x8 x9 x10).x t k) lenC + epsC := by
  unfold val_main_v10
  unfold val_main_v8 val_main_v9 val_main_v7 val_main_v6 val_main_v5 val_main_v4 val_main_cst val_main_cst_0 val_main_cst_1
  pointwise
  rfl

/-- The reciprocal root of the mean square. -/
theorem stage_11 (t : Fin 4096) : val_main_v11 (F := Ideal) x0 (ix2 t 0) = rstd ((given x0 x1 x2 x3 x4 x5 x6 x7 x8 x9 x10).x t) := by
  have h0 := stage_10 x0 x1 x2 x3 x4 x5 x6 x7 x8 x9 x10 t
  unfold val_main_v11
  generalize val_main_v10 (F := Ideal) x0 = y0 at h0 ⊢
  pointwise
  simp only [h0]
  rfl

/-- The normalised row. -/
theorem stage_16 (t : Fin 4096) (q : Fin 1024) : val_main_v16 (F := Ideal) x0 (ix2 t q) = xhR ((given x0 x1 x2 x3 x4 x5 x6 x7 x8 x9 x10).x t) q := by
  have h0 := stage_11 x0 x1 x2 x3 x4 x5 x6 x7 x8 x9 x10 t
  unfold val_main_v16
  unfold val_main_v15
  generalize val_main_v11 (F := Ideal) x0 = y0 at h0 ⊢
  pointwise
  simp only [h0]
  rfl

/-- The normalised row times the gain. -/
theorem stage_18 (t : Fin 4096) (q : Fin 1024) : val_main_v18 (F := Ideal) x0 x3 (ix2 t q) = xhR ((given x0 x1 x2 x3 x4 x5 x6 x7 x8 x9 x10).x t) q * (given x0 x1 x2 x3 x4 x5 x6 x7 x8 x9 x10).g q := by
  have h0 := stage_16 x0 x1 x2 x3 x4 x5 x6 x7 x8 x9 x10 t
  unfold val_main_v18
  unfold val_main_v17
  generalize val_main_v16 (F := Ideal) x0 = y0 at h0 ⊢
  pointwise
  simp only [h0]
  rfl

/-- The modulated norm of the stream. -/
theorem stage_24 (t : Fin 4096) (q : Fin 1024) : val_main_v24 (F := Ideal) x0 x2 x3 (ix2 t q) = (given x0 x1 x2 x3 x4 x5 x6 x7 x8 x9 x10).hx t q := by
  have h0 := stage_18 x0 x1 x2 x3 x4 x5 x6 x7 x8 x9 x10 t
  unfold val_main_v24
  unfold val_main_v22 val_main_v23 val_main_v21 val_main_v20 val_main_v19 val_main_v1 val_main_v0 val_main_cst_3
  generalize val_main_v18 (F := Ideal) x0 x3 = y0 at h0 ⊢
  pointwise
  simp only [h0]
  rfl

/-- The mean square of a row of the context, and the small constant. -/
theorem stage_31 (r : Fin 256) : val_main_v31 (F := Ideal) x1 (ix2 r 0) = Ideal.div (∑ k, (given x0 x1 x2 x3 x4 x5 x6 x7 x8 x9 x10).ctx r k * (given x0 x1 x2 x3 x4 x5 x6 x7 x8 x9 x10).ctx r k) lenC + epsC := by
  unfold val_main_v31
  unfold val_main_v29 val_main_v30 val_main_v28 val_main_v27 val_main_v26 val_main_v25 val_main_cst_4 val_main_cst_5 val_main_cst_6
  pointwise
  rfl

/-- The reciprocal root of the mean square. -/
theorem stage_32 (r : Fin 256) : val_main_v32 (F := Ideal) x1 (ix2 r 0) = rstd ((given x0 x1 x2 x3 x4 x5 x6 x7 x8 x9 x10).ctx r) := by
  have h0 := stage_31 x0 x1 x2 x3 x4 x5 x6 x7 x8 x9 x10 r
  unfold val_main_v32
  generalize val_main_v31 (F := Ideal) x1 = y0 at h0 ⊢
  pointwise
  simp only [h0]
  rfl

/-- The normalised row of the context. -/
theorem stage_37 (r : Fin 256) (q : Fin 1024) : val_main_v37 (F := Ideal) x1 (ix2 r q) = xhR ((given x0 x1 x2 x3 x4 x5 x6 x7 x8 x9 x10).ctx r) q := by
  have h0 := stage_32 x0 x1 x2 x3 x4 x5 x6 x7 x8 x9 x10 r
  unfold val_main_v37
  unfold val_main_v36
  generalize val_main_v32 (F := Ideal) x1 = y0 at h0 ⊢
  pointwise
  simp only [h0]
  rfl

/-- The normalised row of the context times the gain. -/
theorem stage_39 (r : Fin 256) (q : Fin 1024) : val_main_v39 (F := Ideal) x1 x3 (ix2 r q) = xhR ((given x0 x1 x2 x3 x4 x5 x6 x7 x8 x9 x10).ctx r) q * (given x0 x1 x2 x3 x4 x5 x6 x7 x8 x9 x10).g q := by
  have h0 := stage_37 x0 x1 x2 x3 x4 x5 x6 x7 x8 x9 x10 r
  unfold val_main_v39
  unfold val_main_v38
  generalize val_main_v37 (F := Ideal) x1 = y0 at h0 ⊢
  pointwise
  simp only [h0]
  rfl

/-- The modulated norm of the context. -/
theorem stage_45 (r : Fin 256) (q : Fin 1024) : val_main_v45 (F := Ideal) x1 x2 x3 (ix2 r q) = (given x0 x1 x2 x3 x4 x5 x6 x7 x8 x9 x10).hc r q := by
  have h0 := stage_39 x0 x1 x2 x3 x4 x5 x6 x7 x8 x9 x10 r
  unfold val_main_v45
  unfold val_main_v43 val_main_v44 val_main_v42 val_main_v41 val_main_v40 val_main_v3 val_main_v2 val_main_cst_8
  generalize val_main_v39 (F := Ideal) x1 x3 = y0 at h0 ⊢
  pointwise
  simp only [h0]
  rfl

/-- The gradient of the projection of the stream, column by column. -/
theorem stage_54 (t : Fin 4096) (a : Fin 5) (j : Fin 512) : val_main_v54 (F := Ideal) x5 x6 x7 x8 x9 (ix2 t (seg a j)) = (given x0 x1 x2 x3 x4 x5 x6 x7 x8 x9 x10).part a t j := by
  match a with
  | 0 => pointwise [val_main_v54, val_main_v49]; rfl
  | 1 => pointwise [val_main_v54, val_main_v50]; rfl
  | 2 => pointwise [val_main_v54, val_main_v51]; rw [dif_neg (by omega), dif_neg (by omega), dif_pos (by omega)]; exact congrArg (fun k => x7 (ix2 (xr t) k)) (Fin.ext (show 1024 + j.val - 512 - 512 = j.val by omega))
  | 3 => pointwise [val_main_v54, val_main_v52]; rw [dif_neg (by omega), dif_neg (by omega), dif_neg (by omega), dif_pos (by omega)]; exact congrArg (fun k => x8 (ix2 t k)) (Fin.ext (show 1536 + j.val - 512 - 512 - 512 = j.val by omega))
  | 4 => pointwise [val_main_v54, val_main_v53]; rw [dif_neg (by omega), dif_neg (by omega), dif_neg (by omega), dif_neg (by omega)]; exact congrArg (fun k => x9 (ix2 t k)) (Fin.ext (show 2048 + j.val - 512 - 512 - 512 - 512 = j.val by omega))

/-- The gradient of the keys of the context. -/
theorem stage_57 (r : Fin 256) (j : Fin 512) : val_main_v57 (F := Ideal) x6 x7 (ix2 r (kl j)) = (given x0 x1 x2 x3 x4 x5 x6 x7 x8 x9 x10).dk (cr r) j := by
  pointwise [val_main_v57, val_main_v55]; rfl

/-- The gradient of the values of the context. -/
theorem stage_57v (r : Fin 256) (j : Fin 512) : val_main_v57 (F := Ideal) x6 x7 (ix2 r (vl j)) = (given x0 x1 x2 x3 x4 x5 x6 x7 x8 x9 x10).dv (cr r) j := by
  pointwise [val_main_v57, val_main_v56]; rfl

/-- The context's share of the gradient of the weights of the keys. -/
theorem stage_59 (q : Fin 1024) (j : Fin 512) : val_main_v59 (F := Ideal) x1 x2 x3 x6 x7 (ix2 q (kl j)) = ∑ r, (given x0 x1 x2 x3 x4 x5 x6 x7 x8 x9 x10).dk (cr r) j * (given x0 x1 x2 x3 x4 x5 x6 x7 x8 x9 x10).hc r q := by
  have h0 := stage_57 x0 x1 x2 x3 x4 x5 x6 x7 x8 x9 x10
  have h1 := stage_45 x0 x1 x2 x3 x4 x5 x6 x7 x8 x9 x10
  unfold val_main_v59
  unfold val_main_v58
  generalize val_main_v57 (F := Ideal) x6 x7 = y0 at h0 ⊢
  generalize val_main_v45 (F := Ideal) x1 x2 x3 = y1 at h1 ⊢
  pointwise
  simp only [h0, h1]

/-- The context's share of the gradient of the weights of the values. -/
theorem stage_59v (q : Fin 1024) (j : Fin 512) : val_main_v59 (F := Ideal) x1 x2 x3 x6 x7 (ix2 q (vl j)) = ∑ r, (given x0 x1 x2 x3 x4 x5 x6 x7 x8 x9 x10).dv (cr r) j * (given x0 x1 x2 x3 x4 x5 x6 x7 x8 x9 x10).hc r q := by
  have h0 := stage_57v x0 x1 x2 x3 x4 x5 x6 x7 x8 x9 x10
  have h1 := stage_45 x0 x1 x2 x3 x4 x5 x6 x7 x8 x9 x10
  unfold val_main_v59
  unfold val_main_v58
  generalize val_main_v57 (F := Ideal) x6 x7 = y0 at h0 ⊢
  generalize val_main_v45 (F := Ideal) x1 x2 x3 = y1 at h1 ⊢
  pointwise
  simp only [h0, h1]

/-- The context's share of the gradient of the weights. -/
theorem stage_61 (q : Fin 1024) (a : Fin 5) (j : Fin 512) : val_main_v61 (F := Ideal) x1 x2 x3 x6 x7 (ix2 q (seg a j)) = (given x0 x1 x2 x3 x4 x5 x6 x7 x8 x9 x10).dwc a j q := by
  have h0 := stage_59 x0 x1 x2 x3 x4 x5 x6 x7 x8 x9 x10 q j
  have h1 := stage_59v x0 x1 x2 x3 x4 x5 x6 x7 x8 x9 x10 q j
  unfold val_main_v61
  generalize val_main_v59 (F := Ideal) x1 x2 x3 x6 x7 = y at h0 h1 ⊢
  match a with
  | 0 => pointwise [val_main_cst_9]; rfl
  | 1 => pointwise; rw [dif_pos (by omega)]; exact h0
  | 2 => pointwise; rw [dif_pos (by omega)]; exact (congrArg (fun k => y (ix2 q k)) (Fin.ext (show 1024 + j.val - 512 = 512 + j.val by omega))).trans h1
  | 3 => pointwise [val_main_cst_9]; rw [dif_neg (by omega)]; rfl
  | 4 => pointwise [val_main_cst_9]; rw [dif_neg (by omega)]; rfl

/-- The gradient of the weights. -/
theorem stage_123 (a : Fin 5) (j : Fin 512) (q : Fin 1024) : val_main_v123 (F := Ideal) x0 x1 x2 x3 x5 x6 x7 x8 x9 (ix2 (seg a j) q) = (given x0 x1 x2 x3 x4 x5 x6 x7 x8 x9 x10).dw a j q := by
  have h0 := stage_54 x0 x1 x2 x3 x4 x5 x6 x7 x8 x9 x10
  have h1 := stage_24 x0 x1 x2 x3 x4 x5 x6 x7 x8 x9 x10
  have h2 := stage_61 x0 x1 x2 x3 x4 x5 x6 x7 x8 x9 x10 q a j
  unfold val_main_v123
  unfold val_main_v122 val_main_v64 val_main_v63 val_main_v62
  generalize val_main_v54 (F := Ideal) x5 x6 x7 x8 x9 = y0 at h0 ⊢
  generalize val_main_v24 (F := Ideal) x0 x2 x3 = y1 at h1 ⊢
  generalize val_main_v61 (F := Ideal) x1 x2 x3 x6 x7 = y2 at h2 ⊢
  pointwise
  simp only [h0, h1, h2]
  exact add_comm _ _

/-- The gradient of the context's modulated norm. -/
theorem stage_60 (r : Fin 256) (q : Fin 1024) : val_main_v60 (F := Ideal) x4 x6 x7 (ix2 r q) = (given x0 x1 x2 x3 x4 x5 x6 x7 x8 x9 x10).dhc r q := by
  have h0 := stage_57 x0 x1 x2 x3 x4 x5 x6 x7 x8 x9 x10 r
  have h1 := stage_57v x0 x1 x2 x3 x4 x5 x6 x7 x8 x9 x10 r
  unfold val_main_v60
  unfold val_main_v47
  generalize val_main_v57 (F := Ideal) x6 x7 = y0 at h0 h1 ⊢
  pointwise
  rw [sum_half]
  simp only [h0, h1]
  rfl

/-- The gradient of the stream's modulated norm. -/
theorem stage_65 (t : Fin 4096) (q : Fin 1024) : val_main_v65 (F := Ideal) x4 x5 x6 x7 x8 x9 (ix2 t q) = (given x0 x1 x2 x3 x4 x5 x6 x7 x8 x9 x10).dh t q := by
  have h0 := stage_54 x0 x1 x2 x3 x4 x5 x6 x7 x8 x9 x10 t
  unfold val_main_v65
  generalize val_main_v54 (F := Ideal) x5 x6 x7 x8 x9 = y0 at h0 ⊢
  pointwise
  rw [sum_seg, Fin.sum_univ_five]
  simp only [h0]

  refine congrArg (· + _) (congrArg (· + _) ?_)
  exact (add_assoc _ _ _).trans (add_comm _ _)

/-- The gradient of the context's shift. -/
theorem stage_67 (q : Fin 1024) : val_main_v67 (F := Ideal) x4 x6 x7 (ix2 0 q) = ∑ r, (given x0 x1 x2 x3 x4 x5 x6 x7 x8 x9 x10).dhc r q := by
  have h0 := stage_60 x0 x1 x2 x3 x4 x5 x6 x7 x8 x9 x10
  unfold val_main_v67
  unfold val_main_v66 val_main_cst_10
  generalize val_main_v60 (F := Ideal) x4 x6 x7 = y0 at h0 ⊢
  pointwise
  simp only [h0]

/-- The gradient of the context's scale. -/
theorem stage_70 (q : Fin 1024) : val_main_v70 (F := Ideal) x1 x3 x4 x6 x7 (ix2 0 q) = ∑ r, (given x0 x1 x2 x3 x4 x5 x6 x7 x8 x9 x10).dhc r q * (xhR ((given x0 x1 x2 x3 x4 x5 x6 x7 x8 x9 x10).ctx r) q * (given x0 x1 x2 x3 x4 x5 x6 x7 x8 x9 x10).g q) := by
  have h0 := stage_39 x0 x1 x2 x3 x4 x5 x6 x7 x8 x9 x10
  have h1 := stage_60 x0 x1 x2 x3 x4 x5 x6 x7 x8 x9 x10
  unfold val_main_v70
  unfold val_main_v69 val_main_v68 val_main_cst_11
  generalize val_main_v39 (F := Ideal) x1 x3 = y0 at h0 ⊢
  generalize val_main_v60 (F := Ideal) x4 x6 x7 = y1 at h1 ⊢
  pointwise
  simp only [h0, h1]
  exact Finset.sum_congr rfl fun r _ => mul_comm _ _

/-- The gradient of the context's norm. -/
theorem stage_72 (r : Fin 256) (q : Fin 1024) : val_main_v72 (F := Ideal) x2 x4 x6 x7 (ix2 r q) = dnR ((given x0 x1 x2 x3 x4 x5 x6 x7 x8 x9 x10).md 7) ((given x0 x1 x2 x3 x4 x5 x6 x7 x8 x9 x10).dhc r) q := by
  have h0 := stage_60 x0 x1 x2 x3 x4 x5 x6 x7 x8 x9 x10 r
  unfold val_main_v72
  unfold val_main_v71 val_main_v41 val_main_v40 val_main_v3 val_main_cst_8
  generalize val_main_v60 (F := Ideal) x4 x6 x7 = y0 at h0 ⊢
  pointwise
  simp only [h0]
  rfl

/-- The context's share of the gain's gradient. -/
theorem stage_75 (q : Fin 1024) : val_main_v75 (F := Ideal) x1 x2 x4 x6 x7 (ix2 0 q) = ∑ r, dnR ((given x0 x1 x2 x3 x4 x5 x6 x7 x8 x9 x10).md 7) ((given x0 x1 x2 x3 x4 x5 x6 x7 x8 x9 x10).dhc r) q * xhR ((given x0 x1 x2 x3 x4 x5 x6 x7 x8 x9 x10).ctx r) q := by
  have h0 := stage_37 x0 x1 x2 x3 x4 x5 x6 x7 x8 x9 x10
  have h1 := stage_72 x0 x1 x2 x3 x4 x5 x6 x7 x8 x9 x10
  unfold val_main_v75
  unfold val_main_v74 val_main_v73 val_main_cst_12
  generalize val_main_v37 (F := Ideal) x1 = y0 at h0 ⊢
  generalize val_main_v72 (F := Ideal) x2 x4 x6 x7 = y1 at h1 ⊢
  pointwise
  simp only [h0, h1]
  exact Finset.sum_congr rfl fun r _ => mul_comm _ _

/-- The gradient of the stream's shift. -/
theorem stage_93 (q : Fin 1024) : val_main_v93 (F := Ideal) x4 x5 x6 x7 x8 x9 (ix2 0 q) = ∑ t, (given x0 x1 x2 x3 x4 x5 x6 x7 x8 x9 x10).dh t q := by
  have h0 := stage_65 x0 x1 x2 x3 x4 x5 x6 x7 x8 x9 x10
  unfold val_main_v93
  unfold val_main_v92 val_main_cst_16
  generalize val_main_v65 (F := Ideal) x4 x5 x6 x7 x8 x9 = y0 at h0 ⊢
  pointwise
  simp only [h0]

/-- The gradient of the stream's scale. -/
theorem stage_96 (q : Fin 1024) : val_main_v96 (F := Ideal) x0 x3 x4 x5 x6 x7 x8 x9 (ix2 0 q) = ∑ t, (given x0 x1 x2 x3 x4 x5 x6 x7 x8 x9 x10).dh t q * (xhR ((given x0 x1 x2 x3 x4 x5 x6 x7 x8 x9 x10).x t) q * (given x0 x1 x2 x3 x4 x5 x6 x7 x8 x9 x10).g q) := by
  have h0 := stage_18 x0 x1 x2 x3 x4 x5 x6 x7 x8 x9 x10
  have h1 := stage_65 x0 x1 x2 x3 x4 x5 x6 x7 x8 x9 x10
  unfold val_main_v96
  unfold val_main_v95 val_main_v94 val_main_cst_17
  generalize val_main_v18 (F := Ideal) x0 x3 = y0 at h0 ⊢
  generalize val_main_v65 (F := Ideal) x4 x5 x6 x7 x8 x9 = y1 at h1 ⊢
  pointwise
  simp only [h0, h1]
  exact Finset.sum_congr rfl fun t _ => mul_comm _ _

/-- The gradient of the stream's norm. -/
theorem stage_98 (t : Fin 4096) (q : Fin 1024) : val_main_v98 (F := Ideal) x2 x4 x5 x6 x7 x8 x9 (ix2 t q) = dnR ((given x0 x1 x2 x3 x4 x5 x6 x7 x8 x9 x10).md 1) ((given x0 x1 x2 x3 x4 x5 x6 x7 x8 x9 x10).dh t) q := by
  have h0 := stage_65 x0 x1 x2 x3 x4 x5 x6 x7 x8 x9 x10 t
  unfold val_main_v98
  unfold val_main_v97 val_main_v20 val_main_v19 val_main_v1 val_main_cst_3
  generalize val_main_v65 (F := Ideal) x4 x5 x6 x7 x8 x9 = y0 at h0 ⊢
  pointwise
  simp only [h0]
  rfl

/-- The stream's share of the gain's gradient. -/
theorem stage_101 (q : Fin 1024) : val_main_v101 (F := Ideal) x0 x2 x4 x5 x6 x7 x8 x9 (ix2 0 q) = ∑ t, dnR ((given x0 x1 x2 x3 x4 x5 x6 x7 x8 x9 x10).md 1) ((given x0 x1 x2 x3 x4 x5 x6 x7 x8 x9 x10).dh t) q * xhR ((given x0 x1 x2 x3 x4 x5 x6 x7 x8 x9 x10).x t) q := by
  have h0 := stage_16 x0 x1 x2 x3 x4 x5 x6 x7 x8 x9 x10
  have h1 := stage_98 x0 x1 x2 x3 x4 x5 x6 x7 x8 x9 x10
  unfold val_main_v101
  unfold val_main_v100 val_main_v99 val_main_cst_18
  generalize val_main_v16 (F := Ideal) x0 = y0 at h0 ⊢
  generalize val_main_v98 (F := Ideal) x2 x4 x5 x6 x7 x8 x9 = y1 at h1 ⊢
  pointwise
  simp only [h0, h1]
  exact Finset.sum_congr rfl fun t _ => mul_comm _ _

/-- The gain's gradient. -/
theorem stage_102 (q : Fin 1024) : val_main_v102 (F := Ideal) x0 x1 x2 x4 x5 x6 x7 x8 x9 (ix2 0 q) = (given x0 x1 x2 x3 x4 x5 x6 x7 x8 x9 x10).sums 2 q := by
  have h0 := stage_75 x0 x1 x2 x3 x4 x5 x6 x7 x8 x9 x10 q
  have h1 := stage_101 x0 x1 x2 x3 x4 x5 x6 x7 x8 x9 x10 q
  unfold val_main_v102
  generalize val_main_v75 (F := Ideal) x1 x2 x4 x6 x7 = y0 at h0 ⊢
  generalize val_main_v101 (F := Ideal) x0 x2 x4 x5 x6 x7 x8 x9 = y1 at h1 ⊢
  pointwise
  simp only [h0, h1]
  exact add_comm _ _

/-- The gradient of the normalised row. -/
theorem stage_104 (t : Fin 4096) (q : Fin 1024) : val_main_v104 (F := Ideal) x2 x3 x4 x5 x6 x7 x8 x9 (ix2 t q) = dxhR (given x0 x1 x2 x3 x4 x5 x6 x7 x8 x9 x10).g ((given x0 x1 x2 x3 x4 x5 x6 x7 x8 x9 x10).md 1) ((given x0 x1 x2 x3 x4 x5 x6 x7 x8 x9 x10).dh t) q := by
  have h0 := stage_98 x0 x1 x2 x3 x4 x5 x6 x7 x8 x9 x10 t
  unfold val_main_v104
  unfold val_main_v103
  generalize val_main_v98 (F := Ideal) x2 x4 x5 x6 x7 x8 x9 = y0 at h0 ⊢
  pointwise
  simp only [h0]
  rfl

/-- The row's product with the gradient of its normal form. -/
theorem stage_107 (t : Fin 4096) : val_main_v107 (F := Ideal) x0 x2 x3 x4 x5 x6 x7 x8 x9 (ix2 t 0) = ∑ k, (given x0 x1 x2 x3 x4 x5 x6 x7 x8 x9 x10).x t k * dxhR (given x0 x1 x2 x3 x4 x5 x6 x7 x8 x9 x10).g ((given x0 x1 x2 x3 x4 x5 x6 x7 x8 x9 x10).md 1) ((given x0 x1 x2 x3 x4 x5 x6 x7 x8 x9 x10).dh t) k := by
  have h0 := stage_104 x0 x1 x2 x3 x4 x5 x6 x7 x8 x9 x10 t
  unfold val_main_v107
  unfold val_main_v106 val_main_v105 val_main_cst_19
  generalize val_main_v104 (F := Ideal) x2 x3 x4 x5 x6 x7 x8 x9 = y0 at h0 ⊢
  pointwise
  simp only [h0]
  rfl

/-- The coefficient of the row in its own gradient. -/
theorem stage_115 (t : Fin 4096) (q : Fin 1024) : val_main_v115 (F := Ideal) x0 x2 x3 x4 x5 x6 x7 x8 x9 (ix2 t q) = Ideal.div ((∑ k, (given x0 x1 x2 x3 x4 x5 x6 x7 x8 x9 x10).x t k * dxhR (given x0 x1 x2 x3 x4 x5 x6 x7 x8 x9 x10).g ((given x0 x1 x2 x3 x4 x5 x6 x7 x8 x9 x10).md 1) ((given x0 x1 x2 x3 x4 x5 x6 x7 x8 x9 x10).dh t) k) *
    ((((-(1 / 2) : ℝ) : EReal)) * Ideal.div (rstd ((given x0 x1 x2 x3 x4 x5 x6 x7 x8 x9 x10).x t)) (Ideal.div (∑ k, (given x0 x1 x2 x3 x4 x5 x6 x7 x8 x9 x10).x t k * (given x0 x1 x2 x3 x4 x5 x6 x7 x8 x9 x10).x t k) lenC + epsC))) lenC := by
  have h0 := stage_107 x0 x1 x2 x3 x4 x5 x6 x7 x8 x9 x10 t
  have h1 := stage_11 x0 x1 x2 x3 x4 x5 x6 x7 x8 x9 x10 t
  have h2 := stage_10 x0 x1 x2 x3 x4 x5 x6 x7 x8 x9 x10 t
  have e : Ideal.ofBits .f32 0xBF000000#32 = ((-(1 / 2) : ℝ) : EReal) := by
    rw [show (-(1 / 2) : ℝ) = -(8388608 * (2 ^ 24)⁻¹) by norm_num, EReal.coe_neg, EReal.coe_mul]
    simp [Ideal.ofBits, Ideal.ieee]
  unfold val_main_v115
  unfold val_main_v114 val_main_v113 val_main_v112 val_main_v111 val_main_v14 val_main_v13 val_main_v12 val_main_cst_20 val_main_cst_21 val_main_cst_2
  generalize val_main_v107 (F := Ideal) x0 x2 x3 x4 x5 x6 x7 x8 x9 = y0 at h0 ⊢
  generalize val_main_v11 (F := Ideal) x0 = y1 at h1 ⊢
  generalize val_main_v10 (F := Ideal) x0 = y2 at h2 ⊢
  pointwise
  rw [Fin.sum_univ_one, h0, h1, h2, e]

/-- The gradient of the stream. -/
theorem stage_119 (t : Fin 4096) (q : Fin 1024) : val_main_v119 (F := Ideal) x0 x2 x3 x4 x5 x6 x7 x8 x9 x10 (ix2 t q) = (given x0 x1 x2 x3 x4 x5 x6 x7 x8 x9 x10).dx t q := by
  have h0 := stage_104 x0 x1 x2 x3 x4 x5 x6 x7 x8 x9 x10 t
  have h1 := stage_11 x0 x1 x2 x3 x4 x5 x6 x7 x8 x9 x10 t
  have h2 := stage_115 x0 x1 x2 x3 x4 x5 x6 x7 x8 x9 x10 t
  unfold val_main_v119
  unfold val_main_v117 val_main_v118 val_main_v116 val_main_v110 val_main_v109 val_main_v108
  generalize val_main_v104 (F := Ideal) x2 x3 x4 x5 x6 x7 x8 x9 = y0 at h0 ⊢
  generalize val_main_v11 (F := Ideal) x0 = y1 at h1 ⊢
  generalize val_main_v115 (F := Ideal) x0 x2 x3 x4 x5 x6 x7 x8 x9 = y2 at h2 ⊢
  pointwise
  simp only [h0, h1, h2]
  obtain ⟨ε, hε, e⟩ := epsC_pos
  have k := NormGrad.norm_grad ((given x0 x1 x2 x3 x4 x5 x6 x7 x8 x9 x10).x t) (dxhR (given x0 x1 x2 x3 x4 x5 x6 x7 x8 x9 x10).g ((given x0 x1 x2 x3 x4 x5 x6 x7 x8 x9 x10).md 1) ((given x0 x1 x2 x3 x4 x5 x6 x7 x8 x9 x10).dh t)) (x10 (ix2 t q)) 1024 ε (by norm_num) hε q
    (Ideal.div (∑ k, (given x0 x1 x2 x3 x4 x5 x6 x7 x8 x9 x10).x t k * (given x0 x1 x2 x3 x4 x5 x6 x7 x8 x9 x10).x t k) lenC + epsC) (rstd ((given x0 x1 x2 x3 x4 x5 x6 x7 x8 x9 x10).x t)) _ (by rw [lenC_eq, e]) rfl rfl
  rw [← lenC_eq] at k
  exact k.symm

/-- The sums over the rows, row by row. -/
theorem stage_121 (p : Fin 8) (q : Fin 1024) : val_main_v121 (F := Ideal) x0 x1 x2 x3 x4 x5 x6 x7 x8 x9 (ix2 p q) = (given x0 x1 x2 x3 x4 x5 x6 x7 x8 x9 x10).sums p q := by
  have h0 := stage_93 x0 x1 x2 x3 x4 x5 x6 x7 x8 x9 x10 q
  have h1 := stage_96 x0 x1 x2 x3 x4 x5 x6 x7 x8 x9 x10 q
  have h2 := stage_102 x0 x1 x2 x3 x4 x5 x6 x7 x8 x9 x10 q
  have h3 := stage_67 x0 x1 x2 x3 x4 x5 x6 x7 x8 x9 x10 q
  have h4 := stage_70 x0 x1 x2 x3 x4 x5 x6 x7 x8 x9 x10 q
  unfold val_main_v121
  generalize val_main_v93 (F := Ideal) x4 x5 x6 x7 x8 x9 = y0 at h0 ⊢
  generalize val_main_v96 (F := Ideal) x0 x3 x4 x5 x6 x7 x8 x9 = y1 at h1 ⊢
  generalize val_main_v102 (F := Ideal) x0 x1 x2 x4 x5 x6 x7 x8 x9 = y2 at h2 ⊢
  generalize val_main_v67 (F := Ideal) x4 x6 x7 = y3 at h3 ⊢
  generalize val_main_v70 (F := Ideal) x1 x3 x4 x6 x7 = y4 at h4 ⊢
  match p with
  | 0 => pointwise; exact h0.trans (add_zero _).symm
  | 1 => pointwise; exact h1.trans (add_zero _).symm
  | 2 => pointwise; exact h2
  | 3 => pointwise; exact h3.trans (zero_add _).symm
  | 4 => pointwise; exact h4.trans (zero_add _).symm
  | 5 => pointwise [val_main_v120, val_main_cst_22]; exact (zero_add _).symm
  | 6 => pointwise [val_main_v120, val_main_cst_22]; exact (zero_add _).symm
  | 7 => pointwise [val_main_v120, val_main_cst_22]; exact (zero_add _).symm

end Cert.N1

end
-- ==== Proof.N1.Claim.lean ====
/- The value claim: the kernel's three results are the reference's three results, at every argument. -/
module

public import proofs.«01_k».proof.Defs
public import proofs.«01_k».proof.Proof.Gen.Reference2Ideal.Run
public import proofs.«01_k».proof.Proof.N1.Results
public import proofs.«01_k».proof.Proof.N1.Ref

@[expose] public section

set_option maxRecDepth 16384

noncomputable section

namespace Cert.N1

open Idealize.ShloMosaic Idealize.SL.Sem

section Run

open Kernel2Ideal Kernel2Ideal.Gen

variable (m : (ℓ : Loc nD τ sig) → Buf (Elt Ideal) ℓ) (ρ : Dev nD → PrngReg)

/-- The kernel's program runs, leaves its three results and keeps its arguments. -/
theorem run : θ_run defs (onTc (τ := τ) (main (F := Ideal))) ⟨m, fun _ => 0, ρ⟩ (fun r => ∀ c : Dev nD,
      r.2.mem ((c.tc : Thread nD τ).loc main_v44_0) = G12 m c
      ∧ r.2.mem ((c.tc : Thread nD τ).loc main_v44_1) = G13 m c
      ∧ r.2.mem ((c.tc : Thread nD τ).loc main_v44_2) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.1 c).1 12, (h.1 c).1 13, (h.1 c).1 14, h.2 c⟩)
    (θ_run_and (run_main m ρ) (unchanged m ρ))

end Run

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Kernel2Ideal.nD)

/-- The reference's eleven arrays, off its memory. -/
abbrev refArrays : Arrays := given (m' ((c.tc : Thread Reference2Ideal.nD Reference2Ideal.τ).loc Reference2Ideal.main_arg0))
  (m' ((c.tc : Thread Reference2Ideal.nD Reference2Ideal.τ).loc Reference2Ideal.main_arg1))
  (m' ((c.tc : Thread Reference2Ideal.nD Reference2Ideal.τ).loc Reference2Ideal.main_arg2))
  (m' ((c.tc : Thread Reference2Ideal.nD Reference2Ideal.τ).loc Reference2Ideal.main_arg3))
  (m' ((c.tc : Thread Reference2Ideal.nD Reference2Ideal.τ).loc Reference2Ideal.main_arg4))
  (m' ((c.tc : Thread Reference2Ideal.nD Reference2Ideal.τ).loc Reference2Ideal.main_arg5))
  (m' ((c.tc : Thread Reference2Ideal.nD Reference2Ideal.τ).loc Reference2Ideal.main_arg6))
  (m' ((c.tc : Thread Reference2Ideal.nD Reference2Ideal.τ).loc Reference2Ideal.main_arg7))
  (m' ((c.tc : Thread Reference2Ideal.nD Reference2Ideal.τ).loc Reference2Ideal.main_arg8))
  (m' ((c.tc : Thread Reference2Ideal.nD Reference2Ideal.τ).loc Reference2Ideal.main_arg9))
  (m' ((c.tc : Thread Reference2Ideal.nD Reference2Ideal.τ).loc Reference2Ideal.main_arg10))

variable {m m' c}

/-- The stream's gradient. -/
theorem equal_dx (e : refArrays m' c = arrays m c) : Reference2Ideal.Value.res_main_v119 m' c = G12 m c := by
  rw [Reference2Ideal.Read.val_main_v119_eq]
  funext j
  idx_vars j
  exact (stage_119 _ _ _ _ _ _ _ _ _ _ _ _ _).trans ((congrArg (fun A : Arrays => A.dx _ _) e).trans (G12_apply m c _ _).symm)

/-- The gradient of the weights. -/
theorem equal_dw (e : refArrays m' c = arrays m c) :
    Reference2Ideal.Read.val_main_v123 (F := Ideal) (m' ((c.tc : Thread Reference2Ideal.nD Reference2Ideal.τ).loc Reference2Ideal.main_arg0))
      (m' ((c.tc : Thread Reference2Ideal.nD Reference2Ideal.τ).loc Reference2Ideal.main_arg1))
      (m' ((c.tc : Thread Reference2Ideal.nD Reference2Ideal.τ).loc Reference2Ideal.main_arg2))
      (m' ((c.tc : Thread Reference2Ideal.nD Reference2Ideal.τ).loc Reference2Ideal.main_arg3))
      (m' ((c.tc : Thread Reference2Ideal.nD Reference2Ideal.τ).loc Reference2Ideal.main_arg5))
      (m' ((c.tc : Thread Reference2Ideal.nD Reference2Ideal.τ).loc Reference2Ideal.main_arg6))
      (m' ((c.tc : Thread Reference2Ideal.nD Reference2Ideal.τ).loc Reference2Ideal.main_arg7))
      (m' ((c.tc : Thread Reference2Ideal.nD Reference2Ideal.τ).loc Reference2Ideal.main_arg8))
      (m' ((c.tc : Thread Reference2Ideal.nD Reference2Ideal.τ).loc Reference2Ideal.main_arg9)) = G13 m c := by
  funext j
  idx_vars j
  obtain ⟨a, k, rfl⟩ := eq_seg j0
  exact (stage_123 _ _ _ _ _ _ _ _ _ _ _ _ _ _).trans ((congrArg (fun A : Arrays => A.dw _ _ _) e).trans (G13_apply m c _ _ _).symm)

/-- The sums over the rows. -/
theorem equal_sums (e : refArrays m' c = arrays m c) : Reference2Ideal.Value.res_main_v121 m' c = G14 m c := by
  rw [Reference2Ideal.Read.val_main_v121_eq]
  funext j
  idx_vars j
  exact (stage_121 _ _ _ _ _ _ _ _ _ _ _ _ _).trans ((congrArg (fun A : Arrays => A.sums _ _) e).trans (G14_apply m c _ _).symm)

/-- The claim that both programs run and leave the same three arrays. -/
theorem value : algebraic_Kernel2Ideal_Reference2Ideal (hKernel2Ideal := Kernel2Ideal.Gen.facts) (hReference2Ideal := Reference2Ideal.Gen.facts) := by
  intro m g m' g' _ hag
  have e : ∀ c, refArrays m' c = arrays m c := fun c => by
    obtain ⟨a0, a1, a2, a3, a4, a5, a6, a7, a8, a9, a10⟩ := hag c
    rw [refArrays, a0, a1, a2, a3, a4, a5, a6, a7, a8, a9, a10]
    rfl
  refine ⟨_, _, _, run m g, ?_⟩
  exact (θ_run Reference2Ideal.defs _ _).mono (fun _ h c => ⟨(h c).1.trans (equal_dx (e c)),
    (h c).2.1.trans ((Reference2Ideal.Read.val_main_v123_eq _ _ _ _ _ _ _ _ _).trans (equal_dw (e c))),
    (h c).2.2.1.trans (equal_sums (e c)), (h c).2.2.2⟩) (Reference2Ideal.Value.run (F := Ideal) m' g')

end Cert.N1

end
-- ==== Proof.N1.Same.lean ====
/- The first norm's program and its idealization are one text: no rule rewrites it and it names no constant. So the run
   of the idealization, stated over any floats, is the program's as well. -/
module

public import proofs.«01_k».proof.Proof.Gen.Kernel2.Frame
public import proofs.«01_k».proof.Proof.N1.Frame

@[expose] public section

set_option maxRecDepth 16384

noncomputable section

namespace Cert.N1

open Idealize.ShloMosaic Idealize.SL.Sem

variable {F : FTy → Type} [FloatOps F]

set_option maxHeartbeats 1600000 in
/-- The two bodies are the same: compared at the one label there is. -/
theorem same_defs₀ : @Kernel2.defs₀ F _ Kernel2.Gen.facts = @Kernel2Ideal.defs₀ F _ Kernel2Ideal.Gen.facts :=
  congrArg Defs.onTc (funext fun l => funext fun a => match l, a with
    | 0, (_, _) => rfl
    | ⟨_ + 1, h⟩, _ => absurd h (Nat.not_lt.2 (Nat.le_add_left _ _)))

/-- So are the pipelines around them. -/
theorem same_defs : @Kernel2.defs F _ Kernel2.Gen.facts = @Kernel2Ideal.defs F _ Kernel2Ideal.Gen.facts :=
  congrArg (Pipeline.defs _) same_defs₀

set_option maxHeartbeats 4000000 in
/-- And the main programs. -/
theorem same_main : @Kernel2.main F _ Kernel2.Gen.facts = @Kernel2Ideal.main F _ Kernel2Ideal.Gen.facts := rfl

/-- What every run of the idealization's text ends with, every run of the program ends with. -/
theorem run_same (m : (ℓ : Loc Kernel2.nD Kernel2.τ Kernel2.sig) → Buf (Elt F) ℓ) (ρ : Dev Kernel2.nD → PrngReg) (P)
    (h : θ_run (@Kernel2Ideal.defs F _ Kernel2Ideal.Gen.facts)
      (onTc (τ := Kernel2Ideal.τ) (@Kernel2Ideal.main F _ Kernel2Ideal.Gen.facts)) ⟨m, fun _ => 0, ρ⟩ P) :
    θ_run (@Kernel2.defs F _ Kernel2.Gen.facts) (onTc (τ := Kernel2.τ) (@Kernel2.main F _ Kernel2.Gen.facts))
      ⟨m, fun _ => 0, ρ⟩ P :=
  (congr (congrArg (fun D M => θ_run D (onTc (τ := Kernel2.τ) M) ⟨m, fun _ => 0, ρ⟩ P) same_defs) same_main).mpr h

end Cert.N1
end
-- ==== Proof.N3.Spec.lean ====
/- The input projection over the extended reals, as functions of the call's five arrays: what both the kernel's results and the
   reference's are shown to be. -/
module

public import proofs.«01_k».proof.Proof.N1.Spec

@[expose] public section

noncomputable section

namespace Cert.N3

open Idealize.ShloMosaic Cert.N2 Cert.N1

/-- The five arrays: the stream, the context, the rows of modulation, the gain and the weights. -/
structure Arrays where
  x : Fin 4096 → Row 1024
  ctx : Fin 256 → Row 1024
  md : Fin 8 → Row 1024
  g : Row 1024
  w : Fin 1024 → Row 2560

/-- Row `t` of the stream, among the rows of both. -/
abbrev xr (t : Fin 4096) : Fin 4352 := ⟨t.val, by omega⟩
/-- Row `r` of the context, among the rows of both. -/
abbrev cr (r : Fin 256) : Fin 4352 := ⟨4096 + r.val, by omega⟩

/-- Every row is a row of the stream or of the context. -/
theorem eq_row (p : Fin 4352) : (∃ t, p = xr t) ∨ ∃ r, p = cr r := by
  by_cases h : p.val < 4096
  · exact .inl ⟨⟨p.val, h⟩, rfl⟩
  · exact .inr ⟨⟨p.val - 4096, by omega⟩, Fin.ext (show p.val = 4096 + (p.val - 4096) by omega)⟩

namespace Arrays

variable (A : Arrays)

/-- The modulated norm of a row of the stream. -/
def hx (t : Fin 4096) : Row 1024 := hR (A.md 0) (A.md 1) A.g (A.x t)
/-- The modulated norm of a row of the context. -/
def hc (r : Fin 256) : Row 1024 := hR (A.md 6) (A.md 7) A.g (A.ctx r)
/-- Part `a` of the projection of a row. -/
def part (h : Row 1024) (a : Fin 5) : Row 512 := fun j => ∑ k, h k * A.w k (seg a j)

end Arrays

end Cert.N3

end
-- ==== Proof.N3.Block.lean ====
/- One grid point of the input projection: what its six stores leave at an index of the block, over the extended reals. -/
module

public import proofs.«01_k».proof.Proof.Gen.Kernel3Ideal.Frame
public import proofs.«01_k».proof.Proof.Pieces
public import proofs.«01_k».proof.Proof.N3.Spec

@[expose] public section

set_option maxRecDepth 16384

noncomputable section

namespace Cert.N3

open Idealize.ShloMosaic Cert.Kernel3Ideal Cert.Kernel3Ideal.Gen Cert.Pieces Cert.N2 Cert.N1

variable (i : grid0.Coords) (x0 x1 : Vec Ideal S256x1024 .f32) (x2 : Vec Ideal S1x1024 .f32) (x3 : Vec Ideal S8x1024 .f32)
  (x4 : Vec Ideal S2560x1024 .bf16)

theorem sel0 {α : Type} (a b : α) : Scalar.select 0#1 a b = b := if_neg (by decide)
theorem sel1 {α : Type} (a b : α) : Scalar.select 1#1 a b = a := if_pos (by decide)

/-- The modulated norm, at a point of the stream. -/
theorem pay6_x (hi : (i 0).val ≠ 16) (v1 v2 : Vec Ideal S256x1024 .f32) (a b c d e : Vec Ideal S1x1024 .f32) (r : Fin 256) (q : Fin 1024) :
    k0_pay6 (F := Ideal) i v1 v2 a b c d e (ix2 r q) =
      hR (fun k => b (ix2 0 k)) (fun k => d (ix2 0 k)) (fun k => e (ix2 0 k)) (fun k => v2 (ix2 r k)) q := by
  have hb : Scalar.cmpi .eq (BitVec.ofNat 32 (i 0).val) 16#32 = 0#1 := by
    have h : (i 0).val < 17 := (i 0).isLt
    generalize (i 0).val = n at hi h
    interval_cases n <;> first | exact absurd rfl hi | decide
  unfold k0_pay6
  dsimp only
  rw [hb]
  simp only [sel0]
  pointwise
  rfl

/-- The modulated norm, at the context's point. -/
theorem pay6_c (hi : (i 0).val = 16) (v1 v2 : Vec Ideal S256x1024 .f32) (a b c d e : Vec Ideal S1x1024 .f32) (r : Fin 256) (q : Fin 1024) :
    k0_pay6 (F := Ideal) i v1 v2 a b c d e (ix2 r q) =
      hR (fun k => a (ix2 0 k)) (fun k => c (ix2 0 k)) (fun k => e (ix2 0 k)) (fun k => v1 (ix2 r k)) q := by
  have hb : Scalar.cmpi .eq (BitVec.ofNat 32 (i 0).val) 16#32 = 1#1 := by
    rw [hi]
    decide
  unfold k0_pay6
  dsimp only
  rw [hb]
  simp only [sel1]
  pointwise
  rfl

/-- A row of the block of modulated norms. -/
def hB (r : Fin 256) : Row 1024 :=
  if (i 0).val = 16 then hR (fun k => x3 (ix2 6 k)) (fun k => x3 (ix2 7 k)) (fun k => x2 (ix2 0 k)) (fun k => x1 (ix2 r k))
  else hR (fun k => x3 (ix2 0 k)) (fun k => x3 (ix2 1 k)) (fun k => x2 (ix2 0 k)) (fun k => x0 (ix2 r k))

theorem row6 (i : Fin 1) (k : Fin 1024) : View.ld x3 r0_1 (ix2 i k) = x3 (ix2 6 k) := ld_rows x3 _ i k 6 (by simp)
theorem row0 (i : Fin 1) (k : Fin 1024) : View.ld x3 r0_2 (ix2 i k) = x3 (ix2 0 k) := ld_rows x3 _ i k 0 (by simp)
theorem row7 (i : Fin 1) (k : Fin 1024) : View.ld x3 r0_3 (ix2 i k) = x3 (ix2 7 k) := ld_rows x3 _ i k 7 (by simp)
theorem row1 (i : Fin 1) (k : Fin 1024) : View.ld x3 r0_4 (ix2 i k) = x3 (ix2 1 k) := ld_rows x3 _ i k 1 (by simp)
theorem gain : View.ld x2 r0_5 = x2 := ld_whole x2 _
theorem whole : View.ld x0 r0_0 = x0 := ld_whole x0 _

theorem hR_congr {a a' b b' g g' x x' : Row 1024} (ha : ∀ k, a k = a' k) (hb : ∀ k, b k = b' k) (hg : ∀ k, g k = g' k)
    (hx : ∀ k, x k = x' k) (q : Fin 1024) : hR a b g x q = hR a' b' g' x' q := by
  rw [funext ha, funext hb, funext hg, funext hx]

/-- The block of modulated norms. -/
theorem pay8_apply (r : Fin 256) (q : Fin 1024) : k0_pay8 (F := Ideal) i x0 x1 x2 x3 x4 (ix2 r q) = hB i x0 x1 x2 x3 r q := by
  unfold k0_pay8 hB
  by_cases hi : (i 0).val = 16
  · rw [if_pos hi, pay6_c i hi]
    exact hR_congr (row6 x3 0) (row7 x3 0) (fun _ => congrFun (gain x2) _) (fun _ => congrFun (whole x1) _) q
  · rw [if_neg hi, pay6_x i hi]
    exact hR_congr (row0 x3 0) (row1 x3 0) (fun _ => congrFun (gain x2) _) (fun _ => congrFun (whole x0) _) q

/-- The first output's block. -/
theorem out5_apply (r : Fin 256) (q : Fin 1024) : out0_5 (F := Ideal) i x0 x1 x2 x3 x4 (ix2 r q) = hB i x0 x1 x2 x3 r q := by
  rw [← pay8_apply i x0 x1 x2 x3 x4 r q]
  unfold out0_5
  exact congrFun (canon_whole _ _ _) _

theorem w0_apply (j : Fin 512) (k : Fin 1024) : View.ld x4 r0_6 (ix2 j k) = x4 (ix2 (seg 0 j) k) :=
  ld_rows x4 _ j k (seg 0 j) (show 512 * 0 + j.val = 0 + j.val by omega)
theorem w1_apply (j : Fin 512) (k : Fin 1024) : View.ld x4 r0_8 (ix2 j k) = x4 (ix2 (seg 1 j) k) :=
  ld_rows x4 _ j k (seg 1 j) (show 512 * 1 + j.val = 512 + j.val by omega)
theorem w2_apply (j : Fin 512) (k : Fin 1024) : View.ld x4 r0_9 (ix2 j k) = x4 (ix2 (seg 2 j) k) :=
  ld_rows x4 _ j k (seg 2 j) (show 512 * 2 + j.val = 1024 + j.val by omega)
theorem w3_apply (j : Fin 512) (k : Fin 1024) : View.ld x4 r0_10 (ix2 j k) = x4 (ix2 (seg 3 j) k) :=
  ld_rows x4 _ j k (seg 3 j) (show 512 * 3 + j.val = 1536 + j.val by omega)
theorem w4_apply (j : Fin 512) (k : Fin 1024) : View.ld x4 r0_11 (ix2 j k) = x4 (ix2 (seg 4 j) k) :=
  ld_rows x4 _ j k (seg 4 j) (show 512 * 4 + j.val = 2048 + j.val by omega)

/-- The product with the first part's weights. -/
theorem prod1 (y : FVec Ideal S256x1024 .bf16) (w : FVec Ideal S512x1024 .bf16) (r : Fin 256) (j : Fin 512) :
    k0_pay1 (F := Ideal) (matmul dot_S256x1024_S512x1024_S256x512_1_1_0_0_n_n none y (shapeCast S512x1024 w shapeCasts_S512x1024_S512x1024) (constant S256x512 .f32 0x00000000#32)) (ix2 r j) =
      ∑ k, y (ix2 r k) * w (ix2 j k) := by
  pointwise [k0_pay1]
/-- The product with a part's weights. -/
theorem prod2 (y : FVec Ideal S256x1024 .bf16) (w : Vec Ideal S512x1024 .bf16) (r : Fin 256) (j : Fin 512) :
    k0_pay2 (F := Ideal) y w (ix2 r j) = ∑ k, y (ix2 r k) * w (ix2 j k) := by
  pointwise [k0_pay2]
/-- The product with a part's weights. -/
theorem prod3 (y : FVec Ideal S256x1024 .bf16) (w : Vec Ideal S512x1024 .bf16) (r : Fin 256) (j : Fin 512) :
    k0_pay3 (F := Ideal) y w (ix2 r j) = ∑ k, y (ix2 r k) * w (ix2 j k) := by
  pointwise [k0_pay3]
/-- The product with a part's weights. -/
theorem prod4 (y : FVec Ideal S256x1024 .bf16) (w : Vec Ideal S512x1024 .bf16) (r : Fin 256) (j : Fin 512) :
    k0_pay4 (F := Ideal) y w (ix2 r j) = ∑ k, y (ix2 r k) * w (ix2 j k) := by
  pointwise [k0_pay4]
/-- The product with a part's weights. -/
theorem prod5 (y : FVec Ideal S256x1024 .bf16) (w : Vec Ideal S512x1024 .bf16) (r : Fin 256) (j : Fin 512) :
    k0_pay5 (F := Ideal) y w (ix2 r j) = ∑ k, y (ix2 r k) * w (ix2 j k) := by
  pointwise [k0_pay5]

/-- A row of the block of a part of the projection. -/
def zB (a : Fin 5) (r : Fin 256) : Row 512 := fun j => ∑ k, hB i x0 x1 x2 x3 r k * x4 (ix2 (seg a j) k)

/-- The block of output 6. -/
theorem out6_apply (r : Fin 256) (j : Fin 512) : out0_6 (F := Ideal) i x0 x1 x2 x3 x4 (ix2 r j) = zB i x0 x1 x2 x3 x4 0 r j := by
  unfold out0_6 zB
  refine (congrFun (canon_whole _ _ _) _).trans ?_
  refine (prod1 (k0_pay8 (F := Ideal) i x0 x1 x2 x3 x4) _ r j).trans ?_
  exact Finset.sum_congr rfl fun k _ => congrArg₂ (· * ·) (pay8_apply i x0 x1 x2 x3 x4 r k) (w0_apply x4 j k)

/-- The block of output 7. -/
theorem out7_apply (r : Fin 256) (j : Fin 512) : out0_7 (F := Ideal) i x0 x1 x2 x3 x4 (ix2 r j) = zB i x0 x1 x2 x3 x4 1 r j := by
  unfold out0_7 zB
  refine (congrFun (canon_whole _ _ _) _).trans ?_
  refine (prod2 (k0_pay8 (F := Ideal) i x0 x1 x2 x3 x4) _ r j).trans ?_
  exact Finset.sum_congr rfl fun k _ => congrArg₂ (· * ·) (pay8_apply i x0 x1 x2 x3 x4 r k) (w1_apply x4 j k)

/-- The block of output 8. -/
theorem out8_apply (r : Fin 256) (j : Fin 512) : out0_8 (F := Ideal) i x0 x1 x2 x3 x4 (ix2 r j) = zB i x0 x1 x2 x3 x4 2 r j := by
  unfold out0_8 zB
  refine (congrFun (canon_whole _ _ _) _).trans ?_
  refine (prod3 (k0_pay8 (F := Ideal) i x0 x1 x2 x3 x4) _ r j).trans ?_
  exact Finset.sum_congr rfl fun k _ => congrArg₂ (· * ·) (pay8_apply i x0 x1 x2 x3 x4 r k) (w2_apply x4 j k)

/-- The block of output 9. -/
theorem out9_apply (r : Fin 256) (j : Fin 512) : out0_9 (F := Ideal) i x0 x1 x2 x3 x4 (ix2 r j) = zB i x0 x1 x2 x3 x4 3 r j := by
  unfold out0_9 zB
  refine (congrFun (canon_whole _ _ _) _).trans ?_
  refine (prod4 (k0_pay8 (F := Ideal) i x0 x1 x2 x3 x4) _ r j).trans ?_
  exact Finset.sum_congr rfl fun k _ => congrArg₂ (· * ·) (pay8_apply i x0 x1 x2 x3 x4 r k) (w3_apply x4 j k)

/-- The block of output 10. -/
theorem out10_apply (r : Fin 256) (j : Fin 512) : out0_10 (F := Ideal) i x0 x1 x2 x3 x4 (ix2 r j) = zB i x0 x1 x2 x3 x4 4 r j := by
  unfold out0_10 zB
  refine (congrFun (canon_whole _ _ _) _).trans ?_
  refine (prod5 (k0_pay8 (F := Ideal) i x0 x1 x2 x3 x4) _ r j).trans ?_
  exact Finset.sum_congr rfl fun k _ => congrArg₂ (· * ·) (pay8_apply i x0 x1 x2 x3 x4 r k) (w4_apply x4 j k)

end Cert.N3

end
-- ==== Proof.N3.Results.lean ====
/- The input projection's six results: the blocks it reads as rows of the call's arrays, and the arrays it leaves as the
   functions of Spec.lean. -/
module

public import proofs.«01_k».proof.Proof.Gen.Kernel3Ideal.Value
public import proofs.«01_k».proof.Proof.N3.Block
public import Idealize.ShloMosaic.Lib.StableHlo.ReadAt
public import Idealize.ShloMosaic.Lib.Pipeline.ValueKit.Geometry

@[expose] public section

set_option maxRecDepth 16384

noncomputable section

namespace Cert.N3

open Idealize.ShloMosaic Cert.Kernel3Ideal Cert.Kernel3Ideal.Gen Cert.Pieces Idealize.ShloMosaic.TcCoe Cert.N2 Cert.N1

variable (m : (ℓ : Loc nD τ sig) → Buf (Elt Ideal) ℓ) (c : Dev nD)

/-- The five arrays as the kernel's program is given them. -/
def arrays : Arrays where
  x := fun p q => (m ((c : Thread nD τ).loc main_arg0) : Vec Ideal S4096x1024 .f32) (ix2 p q)
  ctx := fun p q => (m ((c : Thread nD τ).loc main_arg1) : Vec Ideal S256x1024 .f32) (ix2 p q)
  md := fun p q => (m ((c : Thread nD τ).loc main_arg2) : Vec Ideal S8x1024 .f32) (ix2 p q)
  g := fun q => (m ((c : Thread nD τ).loc main_arg3) : Vec Ideal S1x1024 .f32) (ix2 0 q)
  w := fun p q => (m ((c : Thread nD τ).loc main_arg4) : Vec Ideal S1024x2560 .f32) (ix2 p q)

/-- The weights after the transpose and the cast. -/
theorem V1_apply (p : Fin 2560) (q : Fin 1024) : (V m c main_v1 : Vec Ideal S2560x1024 .bf16) (ix2 p q) = (arrays m c).w q p := by
  unfold arrays V
  after_reads_at

/-- Point `s` of the grid. -/
abbrev pt (s : Fin 17) : Fin cfg0.N := ⟨s.val, lt_of_lt_of_eq s.isLt N_0.symm⟩
/-- Row `r` of block `s` of the stream. -/
abbrev brow (s : Fin 16) (r : Fin 256) : Fin 4096 := ⟨256 * s.val + r.val, by omega⟩
/-- Row `r` of block `s` of a result. -/
abbrev rrow (s : Fin 17) (r : Fin 256) : Fin 4352 := ⟨256 * s.val + r.val, by omega⟩
/-- The point of block `s` of the stream. -/
abbrev px (s : Fin 16) : Fin 17 := ⟨s.val, by omega⟩

theorem coord : ∀ s : Fin 17, (grid0.coords (pt s) 0).val = s.val := by decide +kernel

theorem place_0 : ∀ s : Fin 16, win0_0.index (pt (px s)) = ![s.val, 0] := by decide +kernel
theorem place_1 : ∀ s : Fin 17, win0_1.index (pt s) = ![0, 0] := by decide +kernel
theorem place_2 : ∀ s : Fin 17, win0_2.index (pt s) = ![0, 0] := by decide +kernel
theorem place_3 : ∀ s : Fin 17, win0_3.index (pt s) = ![0, 0] := by decide +kernel
theorem place_4 : ∀ s : Fin 17, win0_4.index (pt s) = ![0, 0] := by decide +kernel
theorem place_5 : ∀ s : Fin 17, win0_5.index (pt s) = ![s.val, 0] := by decide +kernel
theorem place_6 : ∀ s : Fin 17, win0_6.index (pt s) = ![s.val, 0] := by decide +kernel
theorem place_7 : ∀ s : Fin 17, win0_7.index (pt s) = ![s.val, 0] := by decide +kernel
theorem place_8 : ∀ s : Fin 17, win0_8.index (pt s) = ![s.val, 0] := by decide +kernel
theorem place_9 : ∀ s : Fin 17, win0_9.index (pt s) = ![s.val, 0] := by decide +kernel
theorem place_10 : ∀ s : Fin 17, win0_10.index (pt s) = ![s.val, 0] := by decide +kernel

/-- The stream's block at a point of the stream. -/
theorem blk_0 (s : Fin 16) (r : Fin 256) (q : Fin 1024) :
    (iblk m c 0 (pt (px s)) : Vec Ideal S256x1024 .f32) (ix2 r q) = (arrays m c).x (brow s r) q := by
  unfold arrays
  show _ = m ((c : Thread nD τ).loc main_arg0) (ix2 (brow s r) q)
  rw [← V_main_arg0 m c]
  unfold iblk
  rw [View.read_apply]
  show V m c main_arg0 _ = V m c main_arg0 _
  congr 1
  funext a
  apply Fin.ext
  match a with
  | ⟨0, _⟩ => blk_simp [place_0]; show s.val * 256 + r.val = 256 * s.val + r.val; omega
  | ⟨1, _⟩ => blk_simp [place_0]

/-- The context, at every point. -/
theorem blk_1 (s : Fin 17) (r : Fin 256) (q : Fin 1024) : (iblk m c 1 (pt s) : Vec Ideal S256x1024 .f32) (ix2 r q) = (arrays m c).ctx r q := by
  unfold arrays
  show _ = m ((c : Thread nD τ).loc main_arg1) (ix2 r q)
  rw [← V_main_arg1 m c]
  unfold iblk
  rw [View.read_apply]
  show V m c main_arg1 _ = V m c main_arg1 _
  congr 1
  funext a
  apply Fin.ext
  match a with
  | ⟨0, _⟩ => blk_simp [place_1]
  | ⟨1, _⟩ => blk_simp [place_1]

/-- The gain, at every point. -/
theorem blk_2 (s : Fin 17)  (q : Fin 1024) : (iblk m c 2 (pt s) : Vec Ideal S1x1024 .f32) (ix2 0 q) = (arrays m c).g q := by
  unfold arrays
  show _ = m ((c : Thread nD τ).loc main_arg3) (ix2 0 q)
  rw [← V_main_arg3 m c]
  unfold iblk
  rw [View.read_apply]
  show V m c main_arg3 _ = V m c main_arg3 _
  congr 1
  funext a
  apply Fin.ext
  match a with
  | ⟨0, _⟩ => blk_simp [place_2]
  | ⟨1, _⟩ => blk_simp [place_2]

/-- The rows of modulation, at every point. -/
theorem blk_3 (s : Fin 17) (r : Fin 8) (q : Fin 1024) : (iblk m c 3 (pt s) : Vec Ideal S8x1024 .f32) (ix2 r q) = (arrays m c).md r q := by
  unfold arrays
  show _ = m ((c : Thread nD τ).loc main_arg2) (ix2 r q)
  rw [← V_main_arg2 m c]
  unfold iblk
  rw [View.read_apply]
  show V m c main_arg2 _ = V m c main_arg2 _
  congr 1
  funext a
  apply Fin.ext
  match a with
  | ⟨0, _⟩ => blk_simp [place_3]
  | ⟨1, _⟩ => blk_simp [place_3]

/-- The weights, at every point. -/
theorem blk_4 (s : Fin 17) (p : Fin 2560) (q : Fin 1024) : (iblk m c 4 (pt s) : Vec Ideal S2560x1024 .bf16) (ix2 p q) = (arrays m c).w q p := by
  rw [← V1_apply m c]
  unfold iblk
  rw [View.read_apply]
  show V m c main_v1 _ = V m c main_v1 _
  congr 1
  funext a
  apply Fin.ext
  match a with
  | ⟨0, _⟩ => blk_simp [place_4]
  | ⟨1, _⟩ => blk_simp [place_4]

/-- A row of the modulated norms, at a point of the stream. -/
theorem hB_x (s : Fin 16) (r : Fin 256) :
    hB (grid0.coords (pt (px s))) (iblk m c 0 (pt (px s))) (iblk m c 1 (pt (px s))) (iblk m c 2 (pt (px s))) (iblk m c 3 (pt (px s))) r =
      (arrays m c).hx (brow s r) := by
  funext q
  unfold hB Arrays.hx
  rw [if_neg (by rw [coord]; show s.val ≠ 16; omega)]
  exact hR_congr (blk_3 m c _ 0) (blk_3 m c _ 1) (blk_2 m c _) (blk_0 m c s r) q

/-- A row of the modulated norms, at the context's point. -/
theorem hB_c (r : Fin 256) :
    hB (grid0.coords (pt 16)) (iblk m c 0 (pt 16)) (iblk m c 1 (pt 16)) (iblk m c 2 (pt 16)) (iblk m c 3 (pt 16)) r = (arrays m c).hc r := by
  funext q
  unfold hB Arrays.hc
  rw [if_pos (by rw [coord]; rfl)]
  exact hR_congr (blk_3 m c _ 6) (blk_3 m c _ 7) (blk_2 m c _) (blk_1 m c _ r) q

/-- A row of a part of the projection, from the row of the modulated norms. -/
theorem zB_eq (s : Fin 17) (a : Fin 5) (r : Fin 256) (h : Row 1024)
    (e : hB (grid0.coords (pt s)) (iblk m c 0 (pt s)) (iblk m c 1 (pt s)) (iblk m c 2 (pt s)) (iblk m c 3 (pt s)) r = h) :
    zB (grid0.coords (pt s)) (iblk m c 0 (pt s)) (iblk m c 1 (pt s)) (iblk m c 2 (pt s)) (iblk m c 3 (pt s)) (iblk m c 4 (pt s)) a r =
      (arrays m c).part h a := by
  funext j
  unfold zB Arrays.part
  rw [e]
  exact Finset.sum_congr rfl fun k _ => congrArg (h k * ·) (blk_4 m c s (seg a j) k)

theorem xr_row (t : Fin 4096) : ∃ (s : Fin 16) (r : Fin 256), t = brow s r :=
  ⟨⟨t.val / 256, by omega⟩, ⟨t.val % 256, by omega⟩, Fin.ext (show t.val = 256 * (t.val / 256) + t.val % 256 by omega)⟩

/-- Output 5's array after the run. -/
abbrev G5 : Vec Ideal S4352x1024 .bf16 := (dats m 0 c).arrAt 5 cfg0.N
theorem flush_5 : ∀ s : Fin 17, (cfg0.win 5).flush (pt s) = true := by decide +kernel
/-- A block of output 5 is what its point left. -/
theorem G5_row (s : Fin 17) (r : Fin 256) (q : Fin 1024) :
    G5 m c (ix2 (rrow s r) q) = out0_5 (F := Ideal) (grid0.coords (pt s)) (iblk m c 0 (pt s)) (iblk m c 1 (pt s)) (iblk m c 2 (pt s)) (iblk m c 3 (pt s)) (iblk m c 4 (pt s)) (ix2 r q) := by
  have e := congrFun ((Value.blocks5 m c (pt s) (flush_5 s)).trans (Value.flushed5 m c (pt s))) (ix2 r q)
  rw [View.read_apply] at e
  refine Eq.trans ?_ e
  show G5 m c _ = G5 m c _
  congr 1
  funext a
  apply Fin.ext
  match a with
  | ⟨0, _⟩ => blk_simp [place_5]; show 256 * s.val + r.val = s.val * 256 + r.val; omega
  | ⟨1, _⟩ => blk_simp [place_5]
/-- Output 5 over the stream: the modulated norms. -/
theorem G5_x (t : Fin 4096) (q : Fin 1024) : G5 m c (ix2 (xr t) q) = (arrays m c).hx t q := by
  obtain ⟨s, r, rfl⟩ := xr_row t
  exact (G5_row m c (px s) r q).trans ((out5_apply _ _ _ _ _ _ r q).trans (congrFun (hB_x m c s r) q))
/-- Output 5 over the context. -/
theorem G5_c (r : Fin 256) (q : Fin 1024) : G5 m c (ix2 (cr r) q) = (arrays m c).hc r q :=
  (G5_row m c 16 r q).trans ((out5_apply _ _ _ _ _ _ r q).trans (congrFun (hB_c m c r) q))

/-- Output 6's array after the run. -/
abbrev G6 : Vec Ideal S4352x512 .bf16 := (dats m 0 c).arrAt 6 cfg0.N
theorem flush_6 : ∀ s : Fin 17, (cfg0.win 6).flush (pt s) = true := by decide +kernel
/-- A block of output 6 is what its point left. -/
theorem G6_row (s : Fin 17) (r : Fin 256) (q : Fin 512) :
    G6 m c (ix2 (rrow s r) q) = out0_6 (F := Ideal) (grid0.coords (pt s)) (iblk m c 0 (pt s)) (iblk m c 1 (pt s)) (iblk m c 2 (pt s)) (iblk m c 3 (pt s)) (iblk m c 4 (pt s)) (ix2 r q) := by
  have e := congrFun ((Value.blocks6 m c (pt s) (flush_6 s)).trans (Value.flushed6 m c (pt s))) (ix2 r q)
  rw [View.read_apply] at e
  refine Eq.trans ?_ e
  show G6 m c _ = G6 m c _
  congr 1
  funext a
  apply Fin.ext
  match a with
  | ⟨0, _⟩ => blk_simp [place_6]; show 256 * s.val + r.val = s.val * 256 + r.val; omega
  | ⟨1, _⟩ => blk_simp [place_6]
/-- Output 6 over the stream: part 0 of the projection. -/
theorem G6_x (t : Fin 4096) (q : Fin 512) : G6 m c (ix2 (xr t) q) = (arrays m c).part ((arrays m c).hx t) 0 q := by
  obtain ⟨s, r, rfl⟩ := xr_row t
  exact (G6_row m c (px s) r q).trans ((out6_apply _ _ _ _ _ _ r q).trans (congrFun (zB_eq m c (px s) 0 r _ (hB_x m c s r)) q))
/-- Output 6 over the context. -/
theorem G6_c (r : Fin 256) (q : Fin 512) : G6 m c (ix2 (cr r) q) = (arrays m c).part ((arrays m c).hc r) 0 q :=
  (G6_row m c 16 r q).trans ((out6_apply _ _ _ _ _ _ r q).trans (congrFun (zB_eq m c 16 0 r _ (hB_c m c r)) q))

/-- Output 7's array after the run. -/
abbrev G7 : Vec Ideal S4352x512 .bf16 := (dats m 0 c).arrAt 7 cfg0.N
theorem flush_7 : ∀ s : Fin 17, (cfg0.win 7).flush (pt s) = true := by decide +kernel
/-- A block of output 7 is what its point left. -/
theorem G7_row (s : Fin 17) (r : Fin 256) (q : Fin 512) :
    G7 m c (ix2 (rrow s r) q) = out0_7 (F := Ideal) (grid0.coords (pt s)) (iblk m c 0 (pt s)) (iblk m c 1 (pt s)) (iblk m c 2 (pt s)) (iblk m c 3 (pt s)) (iblk m c 4 (pt s)) (ix2 r q) := by
  have e := congrFun ((Value.blocks7 m c (pt s) (flush_7 s)).trans (Value.flushed7 m c (pt s))) (ix2 r q)
  rw [View.read_apply] at e
  refine Eq.trans ?_ e
  show G7 m c _ = G7 m c _
  congr 1
  funext a
  apply Fin.ext
  match a with
  | ⟨0, _⟩ => blk_simp [place_7]; show 256 * s.val + r.val = s.val * 256 + r.val; omega
  | ⟨1, _⟩ => blk_simp [place_7]
/-- Output 7 over the stream: part 1 of the projection. -/
theorem G7_x (t : Fin 4096) (q : Fin 512) : G7 m c (ix2 (xr t) q) = (arrays m c).part ((arrays m c).hx t) 1 q := by
  obtain ⟨s, r, rfl⟩ := xr_row t
  exact (G7_row m c (px s) r q).trans ((out7_apply _ _ _ _ _ _ r q).trans (congrFun (zB_eq m c (px s) 1 r _ (hB_x m c s r)) q))
/-- Output 7 over the context. -/
theorem G7_c (r : Fin 256) (q : Fin 512) : G7 m c (ix2 (cr r) q) = (arrays m c).part ((arrays m c).hc r) 1 q :=
  (G7_row m c 16 r q).trans ((out7_apply _ _ _ _ _ _ r q).trans (congrFun (zB_eq m c 16 1 r _ (hB_c m c r)) q))

/-- Output 8's array after the run. -/
abbrev G8 : Vec Ideal S4352x512 .bf16 := (dats m 0 c).arrAt 8 cfg0.N
theorem flush_8 : ∀ s : Fin 17, (cfg0.win 8).flush (pt s) = true := by decide +kernel
/-- A block of output 8 is what its point left. -/
theorem G8_row (s : Fin 17) (r : Fin 256) (q : Fin 512) :
    G8 m c (ix2 (rrow s r) q) = out0_8 (F := Ideal) (grid0.coords (pt s)) (iblk m c 0 (pt s)) (iblk m c 1 (pt s)) (iblk m c 2 (pt s)) (iblk m c 3 (pt s)) (iblk m c 4 (pt s)) (ix2 r q) := by
  have e := congrFun ((Value.blocks8 m c (pt s) (flush_8 s)).trans (Value.flushed8 m c (pt s))) (ix2 r q)
  rw [View.read_apply] at e
  refine Eq.trans ?_ e
  show G8 m c _ = G8 m c _
  congr 1
  funext a
  apply Fin.ext
  match a with
  | ⟨0, _⟩ => blk_simp [place_8]; show 256 * s.val + r.val = s.val * 256 + r.val; omega
  | ⟨1, _⟩ => blk_simp [place_8]
/-- Output 8 over the stream: part 2 of the projection. -/
theorem G8_x (t : Fin 4096) (q : Fin 512) : G8 m c (ix2 (xr t) q) = (arrays m c).part ((arrays m c).hx t) 2 q := by
  obtain ⟨s, r, rfl⟩ := xr_row t
  exact (G8_row m c (px s) r q).trans ((out8_apply _ _ _ _ _ _ r q).trans (congrFun (zB_eq m c (px s) 2 r _ (hB_x m c s r)) q))
/-- Output 8 over the context. -/
theorem G8_c (r : Fin 256) (q : Fin 512) : G8 m c (ix2 (cr r) q) = (arrays m c).part ((arrays m c).hc r) 2 q :=
  (G8_row m c 16 r q).trans ((out8_apply _ _ _ _ _ _ r q).trans (congrFun (zB_eq m c 16 2 r _ (hB_c m c r)) q))

/-- Output 9's array after the run. -/
abbrev G9 : Vec Ideal S4352x512 .f32 := (dats m 0 c).arrAt 9 cfg0.N
theorem flush_9 : ∀ s : Fin 17, (cfg0.win 9).flush (pt s) = true := by decide +kernel
/-- A block of output 9 is what its point left. -/
theorem G9_row (s : Fin 17) (r : Fin 256) (q : Fin 512) :
    G9 m c (ix2 (rrow s r) q) = out0_9 (F := Ideal) (grid0.coords (pt s)) (iblk m c 0 (pt s)) (iblk m c 1 (pt s)) (iblk m c 2 (pt s)) (iblk m c 3 (pt s)) (iblk m c 4 (pt s)) (ix2 r q) := by
  have e := congrFun ((Value.blocks9 m c (pt s) (flush_9 s)).trans (Value.flushed9 m c (pt s))) (ix2 r q)
  rw [View.read_apply] at e
  refine Eq.trans ?_ e
  show G9 m c _ = G9 m c _
  congr 1
  funext a
  apply Fin.ext
  match a with
  | ⟨0, _⟩ => blk_simp [place_9]; show 256 * s.val + r.val = s.val * 256 + r.val; omega
  | ⟨1, _⟩ => blk_simp [place_9]
/-- Output 9 over the stream: part 3 of the projection. -/
theorem G9_x (t : Fin 4096) (q : Fin 512) : G9 m c (ix2 (xr t) q) = (arrays m c).part ((arrays m c).hx t) 3 q := by
  obtain ⟨s, r, rfl⟩ := xr_row t
  exact (G9_row m c (px s) r q).trans ((out9_apply _ _ _ _ _ _ r q).trans (congrFun (zB_eq m c (px s) 3 r _ (hB_x m c s r)) q))
/-- Output 9 over the context. -/
theorem G9_c (r : Fin 256) (q : Fin 512) : G9 m c (ix2 (cr r) q) = (arrays m c).part ((arrays m c).hc r) 3 q :=
  (G9_row m c 16 r q).trans ((out9_apply _ _ _ _ _ _ r q).trans (congrFun (zB_eq m c 16 3 r _ (hB_c m c r)) q))

/-- Output 10's array after the run. -/
abbrev G10 : Vec Ideal S4352x512 .f32 := (dats m 0 c).arrAt 10 cfg0.N
theorem flush_10 : ∀ s : Fin 17, (cfg0.win 10).flush (pt s) = true := by decide +kernel
/-- A block of output 10 is what its point left. -/
theorem G10_row (s : Fin 17) (r : Fin 256) (q : Fin 512) :
    G10 m c (ix2 (rrow s r) q) = out0_10 (F := Ideal) (grid0.coords (pt s)) (iblk m c 0 (pt s)) (iblk m c 1 (pt s)) (iblk m c 2 (pt s)) (iblk m c 3 (pt s)) (iblk m c 4 (pt s)) (ix2 r q) := by
  have e := congrFun ((Value.blocks10 m c (pt s) (flush_10 s)).trans (Value.flushed10 m c (pt s))) (ix2 r q)
  rw [View.read_apply] at e
  refine Eq.trans ?_ e
  show G10 m c _ = G10 m c _
  congr 1
  funext a
  apply Fin.ext
  match a with
  | ⟨0, _⟩ => blk_simp [place_10]; show 256 * s.val + r.val = s.val * 256 + r.val; omega
  | ⟨1, _⟩ => blk_simp [place_10]
/-- Output 10 over the stream: part 4 of the projection. -/
theorem G10_x (t : Fin 4096) (q : Fin 512) : G10 m c (ix2 (xr t) q) = (arrays m c).part ((arrays m c).hx t) 4 q := by
  obtain ⟨s, r, rfl⟩ := xr_row t
  exact (G10_row m c (px s) r q).trans ((out10_apply _ _ _ _ _ _ r q).trans (congrFun (zB_eq m c (px s) 4 r _ (hB_x m c s r)) q))
/-- Output 10 over the context. -/
theorem G10_c (r : Fin 256) (q : Fin 512) : G10 m c (ix2 (cr r) q) = (arrays m c).part ((arrays m c).hc r) 4 q :=
  (G10_row m c 16 r q).trans ((out10_apply _ _ _ _ _ _ r q).trans (congrFun (zB_eq m c 16 4 r _ (hB_c m c r)) q))

end Cert.N3

end
-- ==== Proof.N3.Ref.lean ====
/- The reference's stages at an index, as the functions of Spec.lean. -/
module

public import proofs.«01_k».proof.Proof.Gen.Reference3Ideal.Read
public import proofs.«01_k».proof.Proof.N3.Spec
public import Idealize.ShloMosaic.Lib.Pointwise

@[expose] public section

set_option maxRecDepth 16384

noncomputable section

namespace Cert.N3

open Idealize.ShloMosaic Cert.Reference3Ideal Cert.Reference3Ideal.Read Cert.N2 Cert.N1

variable (x0 : Vec Ideal S4096x1024 .f32) (x1 : Vec Ideal S256x1024 .f32) (x2 : Vec Ideal S8x1024 .f32) (x3 : Vec Ideal S1x1024 .f32)
  (x4 : Vec Ideal S1024x2560 .f32)

/-- The five arrays as the reference is given them. -/
def given : Arrays where
  x := fun p q => x0 (ix2 p q)
  ctx := fun p q => x1 (ix2 p q)
  md := fun p q => x2 (ix2 p q)
  g := fun q => x3 (ix2 0 q)
  w := fun p q => x4 (ix2 p q)

/-- The mean square of a row of the stream, and the small constant. -/
theorem hx_ms (t : Fin 4096) : val_main_v10 (F := Ideal) x0 (ix2 t 0) = Ideal.div (∑ k, (given x0 x1 x2 x3 x4).x t k * (given x0 x1 x2 x3 x4).x t k) lenC + epsC := by
  unfold val_main_v10
  unfold val_main_v8 val_main_v9 val_main_v7 val_main_v6 val_main_v5 val_main_v4 val_main_cst val_main_cst_0 val_main_cst_1
  pointwise
  rfl

/-- The normalised row of the stream. -/
theorem hx_xh (t : Fin 4096) (q : Fin 1024) : val_main_v13 (F := Ideal) x0 (ix2 t q) = xhR ((given x0 x1 x2 x3 x4).x t) q := by
  have h0 := hx_ms x0 x1 x2 x3 x4 t
  unfold val_main_v13
  unfold val_main_v12 val_main_v11
  generalize val_main_v10 (F := Ideal) x0 = y0 at h0 ⊢
  pointwise
  simp only [h0]
  rfl

/-- The modulated norm of the stream. -/
theorem hx_h (t : Fin 4096) (q : Fin 1024) : val_main_v21 (F := Ideal) x0 x2 x3 (ix2 t q) = (given x0 x1 x2 x3 x4).hx t q := by
  have h0 := hx_xh x0 x1 x2 x3 x4 t
  unfold val_main_v21
  unfold val_main_v20 val_main_v19 val_main_v18 val_main_v17 val_main_v16 val_main_v15 val_main_v14 val_main_cst_2 val_main_v0 val_main_v1
  generalize val_main_v13 (F := Ideal) x0 = y0 at h0 ⊢
  pointwise
  simp only [h0]
  rfl

/-- The projection of the stream, all columns. -/
theorem hx_z (t : Fin 4096) (q : Fin 2560) : val_main_v40 (F := Ideal) x0 x2 x3 x4 (ix2 t q) = ∑ k, (given x0 x1 x2 x3 x4).hx t k * (given x0 x1 x2 x3 x4).w k q := by
  have h0 := hx_h x0 x1 x2 x3 x4 t
  unfold val_main_v40
  generalize val_main_v21 (F := Ideal) x0 x2 x3 = y0 at h0 ⊢
  pointwise
  simp only [h0]
  rfl

/-- The mean square of a row of the context, and the small constant. -/
theorem hc_ms (t : Fin 256) : val_main_v28 (F := Ideal) x1 (ix2 t 0) = Ideal.div (∑ k, (given x0 x1 x2 x3 x4).ctx t k * (given x0 x1 x2 x3 x4).ctx t k) lenC + epsC := by
  unfold val_main_v28
  unfold val_main_v26 val_main_v27 val_main_v25 val_main_v24 val_main_v23 val_main_v22 val_main_cst_3 val_main_cst_4 val_main_cst_5
  pointwise
  rfl

/-- The normalised row of the context. -/
theorem hc_xh (t : Fin 256) (q : Fin 1024) : val_main_v31 (F := Ideal) x1 (ix2 t q) = xhR ((given x0 x1 x2 x3 x4).ctx t) q := by
  have h0 := hc_ms x0 x1 x2 x3 x4 t
  unfold val_main_v31
  unfold val_main_v30 val_main_v29
  generalize val_main_v28 (F := Ideal) x1 = y0 at h0 ⊢
  pointwise
  simp only [h0]
  rfl

/-- The modulated norm of the context. -/
theorem hc_h (t : Fin 256) (q : Fin 1024) : val_main_v39 (F := Ideal) x1 x2 x3 (ix2 t q) = (given x0 x1 x2 x3 x4).hc t q := by
  have h0 := hc_xh x0 x1 x2 x3 x4 t
  unfold val_main_v39
  unfold val_main_v38 val_main_v37 val_main_v36 val_main_v35 val_main_v34 val_main_v33 val_main_v32 val_main_cst_6 val_main_v2 val_main_v3
  generalize val_main_v31 (F := Ideal) x1 = y0 at h0 ⊢
  pointwise
  simp only [h0]
  rfl

/-- The projection of the context, all columns. -/
theorem hc_z (t : Fin 256) (q : Fin 2560) : val_main_v41 (F := Ideal) x1 x2 x3 x4 (ix2 t q) = ∑ k, (given x0 x1 x2 x3 x4).hc t k * (given x0 x1 x2 x3 x4).w k q := by
  have h0 := hc_h x0 x1 x2 x3 x4 t
  unfold val_main_v41
  generalize val_main_v39 (F := Ideal) x1 x2 x3 = y0 at h0 ⊢
  pointwise
  simp only [h0]
  rfl

/-- The modulated norms, over the stream. -/
theorem v57_x (t : Fin 4096) (q : Fin 1024) : val_main_v57 (F := Ideal) x0 x1 x2 x3 (ix2 (xr t) q) = (given x0 x1 x2 x3 x4).hx t q := by
  have h0 := hx_h x0 x1 x2 x3 x4
  unfold val_main_v57
  generalize val_main_v21 (F := Ideal) x0 x2 x3 = y0 at h0 ⊢
  generalize val_main_v39 (F := Ideal) x1 x2 x3 = y1
  pointwise
  exact h0 t q

/-- The modulated norms, over the context. -/
theorem v57_c (r : Fin 256) (q : Fin 1024) : val_main_v57 (F := Ideal) x0 x1 x2 x3 (ix2 (cr r) q) = (given x0 x1 x2 x3 x4).hc r q := by
  have h0 := hc_h x0 x1 x2 x3 x4
  unfold val_main_v57
  generalize val_main_v21 (F := Ideal) x0 x2 x3 = y0
  generalize val_main_v39 (F := Ideal) x1 x2 x3 = y1 at h0 ⊢
  pointwise
  exact h0 r q

/-- The queries, over the stream. -/
theorem v44_x (t : Fin 4096) (q : Fin 512) : val_main_v44 (F := Ideal) x0 x1 x2 x3 x4 (ix2 (xr t) q) = (given x0 x1 x2 x3 x4).part ((given x0 x1 x2 x3 x4).hx t) 0 q := by
  have h0 := hx_z x0 x1 x2 x3 x4
  unfold val_main_v44 val_main_v42 val_main_v43
  generalize val_main_v40 (F := Ideal) x0 x2 x3 x4 = y0 at h0 ⊢
  generalize val_main_v41 (F := Ideal) x1 x2 x3 x4 = y1
  pointwise
  exact (congrArg y0 (funext fun a => Fin.ext (by match a with | ⟨0, _⟩ => rfl | ⟨1, _⟩ => show q.val = 512 * 0 + q.val; omega))).trans (h0 t (seg 0 q))

/-- The queries, over the context. -/
theorem v44_c (r : Fin 256) (q : Fin 512) : val_main_v44 (F := Ideal) x0 x1 x2 x3 x4 (ix2 (cr r) q) = (given x0 x1 x2 x3 x4).part ((given x0 x1 x2 x3 x4).hc r) 0 q := by
  have h0 := hc_z x0 x1 x2 x3 x4
  unfold val_main_v44 val_main_v42 val_main_v43
  generalize val_main_v40 (F := Ideal) x0 x2 x3 x4 = y0
  generalize val_main_v41 (F := Ideal) x1 x2 x3 x4 = y1 at h0 ⊢
  pointwise
  refine Eq.trans ?_ (h0 r (seg 0 q))
  exact congrArg y1 (funext fun a => Fin.ext (by match a with | ⟨0, _⟩ => rfl | ⟨1, _⟩ => show q.val = 512 * 0 + q.val; omega))

/-- The keys, over the stream. -/
theorem v47_x (t : Fin 4096) (q : Fin 512) : val_main_v47 (F := Ideal) x0 x1 x2 x3 x4 (ix2 (xr t) q) = (given x0 x1 x2 x3 x4).part ((given x0 x1 x2 x3 x4).hx t) 1 q := by
  have h0 := hx_z x0 x1 x2 x3 x4
  unfold val_main_v47 val_main_v45 val_main_v46
  generalize val_main_v40 (F := Ideal) x0 x2 x3 x4 = y0 at h0 ⊢
  generalize val_main_v41 (F := Ideal) x1 x2 x3 x4 = y1
  pointwise
  exact (congrArg y0 (funext fun a => Fin.ext (by match a with | ⟨0, _⟩ => rfl | ⟨1, _⟩ => show 512 + q.val = 512 * 1 + q.val; omega))).trans (h0 t (seg 1 q))

/-- The keys, over the context. -/
theorem v47_c (r : Fin 256) (q : Fin 512) : val_main_v47 (F := Ideal) x0 x1 x2 x3 x4 (ix2 (cr r) q) = (given x0 x1 x2 x3 x4).part ((given x0 x1 x2 x3 x4).hc r) 1 q := by
  have h0 := hc_z x0 x1 x2 x3 x4
  unfold val_main_v47 val_main_v45 val_main_v46
  generalize val_main_v40 (F := Ideal) x0 x2 x3 x4 = y0
  generalize val_main_v41 (F := Ideal) x1 x2 x3 x4 = y1 at h0 ⊢
  pointwise
  refine Eq.trans ?_ (h0 r (seg 1 q))
  exact congrArg y1 (funext fun a => Fin.ext (by match a with | ⟨0, _⟩ => rfl | ⟨1, _⟩ => show 512 + q.val = 512 * 1 + q.val; omega))

/-- The values, over the stream. -/
theorem v50_x (t : Fin 4096) (q : Fin 512) : val_main_v50 (F := Ideal) x0 x1 x2 x3 x4 (ix2 (xr t) q) = (given x0 x1 x2 x3 x4).part ((given x0 x1 x2 x3 x4).hx t) 2 q := by
  have h0 := hx_z x0 x1 x2 x3 x4
  unfold val_main_v50 val_main_v48 val_main_v49
  generalize val_main_v40 (F := Ideal) x0 x2 x3 x4 = y0 at h0 ⊢
  generalize val_main_v41 (F := Ideal) x1 x2 x3 x4 = y1
  pointwise
  exact (congrArg y0 (funext fun a => Fin.ext (by match a with | ⟨0, _⟩ => rfl | ⟨1, _⟩ => show 1024 + q.val = 512 * 2 + q.val; omega))).trans (h0 t (seg 2 q))

/-- The values, over the context. -/
theorem v50_c (r : Fin 256) (q : Fin 512) : val_main_v50 (F := Ideal) x0 x1 x2 x3 x4 (ix2 (cr r) q) = (given x0 x1 x2 x3 x4).part ((given x0 x1 x2 x3 x4).hc r) 2 q := by
  have h0 := hc_z x0 x1 x2 x3 x4
  unfold val_main_v50 val_main_v48 val_main_v49
  generalize val_main_v40 (F := Ideal) x0 x2 x3 x4 = y0
  generalize val_main_v41 (F := Ideal) x1 x2 x3 x4 = y1 at h0 ⊢
  pointwise
  refine Eq.trans ?_ (h0 r (seg 2 q))
  exact congrArg y1 (funext fun a => Fin.ext (by match a with | ⟨0, _⟩ => rfl | ⟨1, _⟩ => show 1024 + q.val = 512 * 2 + q.val; omega))

/-- The convolution's input, over the stream. -/
theorem v53_x (t : Fin 4096) (q : Fin 512) : val_main_v53 (F := Ideal) x0 x1 x2 x3 x4 (ix2 (xr t) q) = (given x0 x1 x2 x3 x4).part ((given x0 x1 x2 x3 x4).hx t) 3 q := by
  have h0 := hx_z x0 x1 x2 x3 x4
  unfold val_main_v53 val_main_v51 val_main_v52
  generalize val_main_v40 (F := Ideal) x0 x2 x3 x4 = y0 at h0 ⊢
  generalize val_main_v41 (F := Ideal) x1 x2 x3 x4 = y1
  pointwise
  exact (congrArg y0 (funext fun a => Fin.ext (by match a with | ⟨0, _⟩ => rfl | ⟨1, _⟩ => show 1536 + q.val = 512 * 3 + q.val; omega))).trans (h0 t (seg 3 q))

/-- The convolution's input, over the context. -/
theorem v53_c (r : Fin 256) (q : Fin 512) : val_main_v53 (F := Ideal) x0 x1 x2 x3 x4 (ix2 (cr r) q) = (given x0 x1 x2 x3 x4).part ((given x0 x1 x2 x3 x4).hc r) 3 q := by
  have h0 := hc_z x0 x1 x2 x3 x4
  unfold val_main_v53 val_main_v51 val_main_v52
  generalize val_main_v40 (F := Ideal) x0 x2 x3 x4 = y0
  generalize val_main_v41 (F := Ideal) x1 x2 x3 x4 = y1 at h0 ⊢
  pointwise
  refine Eq.trans ?_ (h0 r (seg 3 q))
  exact congrArg y1 (funext fun a => Fin.ext (by match a with | ⟨0, _⟩ => rfl | ⟨1, _⟩ => show 1536 + q.val = 512 * 3 + q.val; omega))

/-- The convolution's gate, over the stream. -/
theorem v56_x (t : Fin 4096) (q : Fin 512) : val_main_v56 (F := Ideal) x0 x1 x2 x3 x4 (ix2 (xr t) q) = (given x0 x1 x2 x3 x4).part ((given x0 x1 x2 x3 x4).hx t) 4 q := by
  have h0 := hx_z x0 x1 x2 x3 x4
  unfold val_main_v56 val_main_v54 val_main_v55
  generalize val_main_v40 (F := Ideal) x0 x2 x3 x4 = y0 at h0 ⊢
  generalize val_main_v41 (F := Ideal) x1 x2 x3 x4 = y1
  pointwise
  exact (congrArg y0 (funext fun a => Fin.ext (by match a with | ⟨0, _⟩ => rfl | ⟨1, _⟩ => show 2048 + q.val = 512 * 4 + q.val; omega))).trans (h0 t (seg 4 q))

/-- The convolution's gate, over the context. -/
theorem v56_c (r : Fin 256) (q : Fin 512) : val_main_v56 (F := Ideal) x0 x1 x2 x3 x4 (ix2 (cr r) q) = (given x0 x1 x2 x3 x4).part ((given x0 x1 x2 x3 x4).hc r) 4 q := by
  have h0 := hc_z x0 x1 x2 x3 x4
  unfold val_main_v56 val_main_v54 val_main_v55
  generalize val_main_v40 (F := Ideal) x0 x2 x3 x4 = y0
  generalize val_main_v41 (F := Ideal) x1 x2 x3 x4 = y1 at h0 ⊢
  pointwise
  refine Eq.trans ?_ (h0 r (seg 4 q))
  exact congrArg y1 (funext fun a => Fin.ext (by match a with | ⟨0, _⟩ => rfl | ⟨1, _⟩ => show 2048 + q.val = 512 * 4 + q.val; omega))

end Cert.N3

end
-- ==== Proof.N3.Claim.lean ====
/- The value claim of the input projection: the kernel's six results are the reference's six results, at every argument. -/
module

public import proofs.«01_k».proof.Defs
public import proofs.«01_k».proof.Proof.Gen.Reference3Ideal.Run
public import proofs.«01_k».proof.Proof.N3.Results
public import proofs.«01_k».proof.Proof.N3.Ref

@[expose] public section

set_option maxRecDepth 16384

noncomputable section

namespace Cert.N3

open Idealize.ShloMosaic Idealize.SL.Sem Kernel3Ideal.Gen

variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev Kernel3Ideal.nD)

/-- The reference's argument 0: the stream. -/
abbrev a0 : Vec Ideal Reference3Ideal.S4096x1024 .f32 := m' ((c.tc : Thread Reference3Ideal.nD Reference3Ideal.τ).loc Reference3Ideal.main_arg0)
/-- The reference's argument 1: the context. -/
abbrev a1 : Vec Ideal Reference3Ideal.S256x1024 .f32 := m' ((c.tc : Thread Reference3Ideal.nD Reference3Ideal.τ).loc Reference3Ideal.main_arg1)
/-- The reference's argument 2: the rows of modulation. -/
abbrev a2 : Vec Ideal Reference3Ideal.S8x1024 .f32 := m' ((c.tc : Thread Reference3Ideal.nD Reference3Ideal.τ).loc Reference3Ideal.main_arg2)
/-- The reference's argument 3: the gain. -/
abbrev a3 : Vec Ideal Reference3Ideal.S1x1024 .f32 := m' ((c.tc : Thread Reference3Ideal.nD Reference3Ideal.τ).loc Reference3Ideal.main_arg3)
/-- The reference's argument 4: the weights. -/
abbrev a4 : Vec Ideal Reference3Ideal.S1024x2560 .f32 := m' ((c.tc : Thread Reference3Ideal.nD Reference3Ideal.τ).loc Reference3Ideal.main_arg4)

/-- The reference's five arrays, off its memory. -/
abbrev refArrays : Arrays := given (a0 m' c) (a1 m' c) (a2 m' c) (a3 m' c) (a4 m' c)

variable {m m' c}

/-- The modulated norms. -/
theorem equal_h (e : refArrays m' c = arrays m c) :
    Reference3Ideal.Read.val_main_v58 (F := Ideal) (a0 m' c) (a1 m' c) (a2 m' c) (a3 m' c) = G5 m c := by
  funext j
  idx_vars j
  refine (Reference3Ideal.Read.val_main_v58_apply _ _ _ _ _).trans ?_
  obtain ⟨t, rfl⟩ | ⟨t, rfl⟩ := eq_row j0
  · exact (v57_x _ _ _ _ (a4 m' c) _ _).trans ((congrArg (fun A : Arrays => A.hx _ _) e).trans (G5_x m c _ _).symm)
  · exact (v57_c _ _ _ _ (a4 m' c) _ _).trans ((congrArg (fun A : Arrays => A.hc _ _) e).trans (G5_c m c _ _).symm)

/-- Part 0 of the projection. -/
theorem equal_q (e : refArrays m' c = arrays m c) :
    Reference3Ideal.Read.val_main_v59 (F := Ideal) (a0 m' c) (a1 m' c) (a2 m' c) (a3 m' c) (a4 m' c) = G6 m c := by
  funext j
  idx_vars j
  refine (Reference3Ideal.Read.val_main_v59_apply _ _ _ _ _ _).trans ?_
  obtain ⟨t, rfl⟩ | ⟨t, rfl⟩ := eq_row j0
  · exact (v44_x _ _ _ _ _ _ _).trans ((congrArg (fun A : Arrays => A.part (A.hx _) 0 _) e).trans (G6_x m c _ _).symm)
  · exact (v44_c _ _ _ _ _ _ _).trans ((congrArg (fun A : Arrays => A.part (A.hc _) 0 _) e).trans (G6_c m c _ _).symm)

/-- Part 1 of the projection. -/
theorem equal_k (e : refArrays m' c = arrays m c) :
    Reference3Ideal.Read.val_main_v60 (F := Ideal) (a0 m' c) (a1 m' c) (a2 m' c) (a3 m' c) (a4 m' c) = G7 m c := by
  funext j
  idx_vars j
  refine (Reference3Ideal.Read.val_main_v60_apply _ _ _ _ _ _).trans ?_
  obtain ⟨t, rfl⟩ | ⟨t, rfl⟩ := eq_row j0
  · exact (v47_x _ _ _ _ _ _ _).trans ((congrArg (fun A : Arrays => A.part (A.hx _) 1 _) e).trans (G7_x m c _ _).symm)
  · exact (v47_c _ _ _ _ _ _ _).trans ((congrArg (fun A : Arrays => A.part (A.hc _) 1 _) e).trans (G7_c m c _ _).symm)

/-- Part 2 of the projection. -/
theorem equal_v (e : refArrays m' c = arrays m c) :
    Reference3Ideal.Read.val_main_v61 (F := Ideal) (a0 m' c) (a1 m' c) (a2 m' c) (a3 m' c) (a4 m' c) = G8 m c := by
  funext j
  idx_vars j
  refine (Reference3Ideal.Read.val_main_v61_apply _ _ _ _ _ _).trans ?_
  obtain ⟨t, rfl⟩ | ⟨t, rfl⟩ := eq_row j0
  · exact (v50_x _ _ _ _ _ _ _).trans ((congrArg (fun A : Arrays => A.part (A.hx _) 2 _) e).trans (G8_x m c _ _).symm)
  · exact (v50_c _ _ _ _ _ _ _).trans ((congrArg (fun A : Arrays => A.part (A.hc _) 2 _) e).trans (G8_c m c _ _).symm)

/-- Part 3 of the projection. -/
theorem equal_a (e : refArrays m' c = arrays m c) :
    Reference3Ideal.Read.val_main_v53 (F := Ideal) (a0 m' c) (a1 m' c) (a2 m' c) (a3 m' c) (a4 m' c) = G9 m c := by
  funext j
  idx_vars j
  obtain ⟨t, rfl⟩ | ⟨t, rfl⟩ := eq_row j0
  · exact (v53_x _ _ _ _ _ _ _).trans ((congrArg (fun A : Arrays => A.part (A.hx _) 3 _) e).trans (G9_x m c _ _).symm)
  · exact (v53_c _ _ _ _ _ _ _).trans ((congrArg (fun A : Arrays => A.part (A.hc _) 3 _) e).trans (G9_c m c _ _).symm)

/-- Part 4 of the projection. -/
theorem equal_g (e : refArrays m' c = arrays m c) :
    Reference3Ideal.Read.val_main_v56 (F := Ideal) (a0 m' c) (a1 m' c) (a2 m' c) (a3 m' c) (a4 m' c) = G10 m c := by
  funext j
  idx_vars j
  obtain ⟨t, rfl⟩ | ⟨t, rfl⟩ := eq_row j0
  · exact (v56_x _ _ _ _ _ _ _).trans ((congrArg (fun A : Arrays => A.part (A.hx _) 4 _) e).trans (G10_x m c _ _).symm)
  · exact (v56_c _ _ _ _ _ _ _).trans ((congrArg (fun A : Arrays => A.part (A.hc _) 4 _) e).trans (G10_c m c _ _).symm)

/-- The claim that both programs run and leave the same six arrays. -/
theorem value : algebraic_Kernel3Ideal_Reference3Ideal (hKernel3Ideal := Kernel3Ideal.Gen.facts) (hReference3Ideal := Reference3Ideal.Gen.facts) := by
  intro m g m' g' _ hag
  have e : ∀ c, refArrays m' c = arrays m c := fun c => by
    obtain ⟨h0, h1, h2, h3, h4⟩ := hag c
    rw [refArrays, a0, a1, a2, a3, a4, h0, h1, h2, h3, h4]
    rfl
  refine ⟨_, _, _, _, _, _, Kernel3Ideal.Value.run_blocks m g, ?_⟩
  exact (θ_run Reference3Ideal.defs _ _).mono (fun _ h c => ⟨
    (h c).1.trans ((Reference3Ideal.Read.val_main_v58_eq _ _ _ _).trans (equal_h (e c))),
    (h c).2.1.trans ((Reference3Ideal.Read.val_main_v59_eq _ _ _ _ _).trans (equal_q (e c))),
    (h c).2.2.1.trans ((Reference3Ideal.Read.val_main_v60_eq _ _ _ _ _).trans (equal_k (e c))),
    (h c).2.2.2.1.trans ((Reference3Ideal.Read.val_main_v61_eq _ _ _ _ _).trans (equal_v (e c))),
    (h c).2.2.2.2.1.trans ((Reference3Ideal.Read.val_main_v53_eq _ _ _ _ _).trans (equal_a (e c))),
    (h c).2.2.2.2.2.1.trans ((Reference3Ideal.Read.val_main_v56_eq _ _ _ _ _).trans (equal_g (e c))), (h c).2.2.2.2.2.2⟩)
    (Reference3Ideal.Value.run (F := Ideal) m' g')

end Cert.N3

end
-- ==== Proof.N4.Spec.lean ====
/- The output projection over the extended reals, as functions of the call's six arrays: what both the kernel's results and the
   reference's are shown to be. -/
module

public import proofs.«01_k».proof.Proof.N1.Spec

@[expose] public section

noncomputable section

namespace Cert.N4

open Idealize.ShloMosaic Cert.N2 Cert.N1

/-- Column `k` of the first branch, among the 1024 columns of both. -/
abbrev la (k : Fin 512) : Fin 1024 := ⟨k.val, by omega⟩
/-- Column `k` of the second branch. -/
abbrev lc (k : Fin 512) : Fin 1024 := ⟨512 + k.val, by omega⟩

/-- The projection of a row of the two branches. -/
def pR (w : Fin 1024 → Row 1024) (a b : Row 512) : Row 1024 := fun q => ∑ k, a k * w (la k) q + ∑ k, b k * w (lc k) q

/-- The gated addition to a row of the stream. -/
def x1R (x gt p : Row 1024) : Row 1024 := fun q => x q + gt q * p q

/-- The six arrays: the stream, the two branches, the weights, the rows of modulation and the gain. -/
structure Arrays where
  x : Fin 4096 → Row 1024
  na : Fin 4096 → Row 512
  cv : Fin 4096 → Row 512
  w : Fin 1024 → Row 1024
  md : Fin 8 → Row 1024
  g : Row 1024

namespace Arrays

variable (A : Arrays)

/-- The projection. -/
def proj (t : Fin 4096) : Row 1024 := pR A.w (A.na t) (A.cv t)
/-- The stream after the gated addition. -/
def x1 (t : Fin 4096) : Row 1024 := x1R (A.x t) (A.md 2) (A.proj t)
/-- The modulated norm of that. -/
def h2 (t : Fin 4096) : Row 1024 := hR (A.md 3) (A.md 4) A.g (A.x1 t)

end Arrays

end Cert.N4

end
-- ==== Proof.N4.Block.lean ====
/- One grid point of the output projection: what its three stores leave at an index of the block, over the extended reals. -/
module

public import proofs.«01_k».proof.Proof.Gen.Kernel4Ideal.Frame
public import proofs.«01_k».proof.Proof.Pieces
public import proofs.«01_k».proof.Proof.N4.Spec

@[expose] public section

set_option maxRecDepth 16384

noncomputable section

namespace Cert.N4

open Idealize.ShloMosaic Cert.Kernel4Ideal Cert.Kernel4Ideal.Gen Cert.Pieces Cert.N2 Cert.N1

variable (x0 : Vec Ideal S512x1024 .f32) (x1 x2 : Vec Ideal S512x512 .bf16) (x3 : Vec Ideal S1024x1024 .bf16)
  (x4 : Vec Ideal S8x1024 .f32) (x5 : Vec Ideal S1x1024 .f32)

/-- The sum of the two products. -/
theorem pay2_apply (a b : Vec Ideal S512x512 .bf16) (u v : Vec Ideal S512x1024 .bf16) (r : Fin 512) (q : Fin 1024) :
    k0_pay2 (F := Ideal) a u b v (ix2 r q) = ∑ k, a (ix2 r k) * u (ix2 k q) + ∑ k, b (ix2 r k) * v (ix2 k q) := by
  pointwise [k0_pay2]

/-- The gated addition. -/
theorem pay3_apply (a b : Vec Ideal S512x512 .bf16) (u v : Vec Ideal S512x1024 .bf16) (x : Vec Ideal S512x1024 .f32) (gt : Vec Ideal S1x1024 .f32)
    (r : Fin 512) (q : Fin 1024) :
    k0_pay3 (F := Ideal) a u b v x gt (ix2 r q) = x (ix2 r q) + gt (ix2 0 q) * k0_pay2 (F := Ideal) a u b v (ix2 r q) := by
  unfold k0_pay3
  generalize k0_pay2 (F := Ideal) a u b v = y
  pointwise

/-- The modulated norm. -/
theorem pay1_apply (a b : Vec Ideal S512x512 .bf16) (u v : Vec Ideal S512x1024 .bf16) (x : Vec Ideal S512x1024 .f32) (gt g sc sh : Vec Ideal S1x1024 .f32)
    (r : Fin 512) (q : Fin 1024) :
    k0_pay1 (F := Ideal) (k0_pay5 (F := Ideal) a u b v x gt g) sc (Scalar.ofBits .f32 0x3F800000#32) sh (ix2 r q) =
      hR (fun k => sh (ix2 0 k)) (fun k => sc (ix2 0 k)) (fun k => g (ix2 0 k)) (fun k => k0_pay3 (F := Ideal) a u b v x gt (ix2 r k)) q := by
  unfold k0_pay1 k0_pay5
  generalize k0_pay3 (F := Ideal) a u b v x gt = y
  pointwise
  rfl

theorem rowGt (i : Fin 1) (k : Fin 1024) : View.ld x4 r0_4 (ix2 i k) = x4 (ix2 2 k) := ld_rows x4 _ i k 2 (by simp)
theorem rowSc (i : Fin 1) (k : Fin 1024) : View.ld x4 r0_6 (ix2 i k) = x4 (ix2 4 k) := ld_rows x4 _ i k 4 (by simp)
theorem rowSh (i : Fin 1) (k : Fin 1024) : View.ld x4 r0_7 (ix2 i k) = x4 (ix2 3 k) := ld_rows x4 _ i k 3 (by simp)
theorem gain : View.ld x5 r0_5 = x5 := ld_whole x5 _
theorem wholeX : View.ld x0 r0_3 = x0 := ld_whole x0 _
theorem wholeB : View.ld x1 r0_0 = x1 := ld_whole x1 _
theorem wLo (k : Fin 512) (q : Fin 1024) : View.ld x3 r0_1 (ix2 k q) = x3 (ix2 (la k) q) :=
  ld_rows x3 _ k q (la k) (show k.val = 0 + k.val by omega)
theorem wHi (k : Fin 512) (q : Fin 1024) : View.ld x3 r0_2 (ix2 k q) = x3 (ix2 (lc k) q) :=
  ld_rows x3 _ k q (lc k) rfl

/-- A row of the block of the projection. -/
def pB (r : Fin 512) : Row 1024 := pR (fun k q => x3 (ix2 k q)) (fun k => x1 (ix2 r k)) (fun k => x2 (ix2 r k))
/-- A row of the block of the stream after the gated addition. -/
def x1B (r : Fin 512) : Row 1024 := x1R (fun k => x0 (ix2 r k)) (fun k => x4 (ix2 2 k)) (pB x1 x2 x3 r)

theorem p_apply (r : Fin 512) (q : Fin 1024) :
    k0_pay2 (F := Ideal) (View.ld x1 r0_0) (View.ld x3 r0_1) (View.ld x2 r0_0) (View.ld x3 r0_2) (ix2 r q) = pB x1 x2 x3 r q := by
  rw [pay2_apply]
  exact congrArg₂ (· + ·)
    (Finset.sum_congr rfl fun k _ => congrArg₂ (· * ·) (congrFun (wholeB x1) _) (wLo x3 k q))
    (Finset.sum_congr rfl fun k _ => congrArg₂ (· * ·) (congrFun (wholeB x2) _) (wHi x3 k q))

theorem x1_apply (r : Fin 512) (q : Fin 1024) :
    k0_pay3 (F := Ideal) (View.ld x1 r0_0) (View.ld x3 r0_1) (View.ld x2 r0_0) (View.ld x3 r0_2) (View.ld x0 r0_3) (View.ld x4 r0_4) (ix2 r q) =
      x1B x0 x1 x2 x3 x4 r q := by
  rw [pay3_apply]
  exact congrArg₂ (· + ·) (congrFun (wholeX x0) _) (congrArg₂ (· * ·) (rowGt x4 0 q) (p_apply x1 x2 x3 r q))

/-- The block of output 6. -/
theorem out6_apply (r : Fin 512) (q : Fin 1024) : out0_6 (F := Ideal) x0 x1 x2 x3 x4 x5 (ix2 r q) = x1B x0 x1 x2 x3 x4 r q := by
  unfold out0_6
  exact (congrFun (canon_whole _ _ _) _).trans (x1_apply x0 x1 x2 x3 x4 r q)

/-- The block of output 7. -/
theorem out7_apply (r : Fin 512) (q : Fin 1024) : out0_7 (F := Ideal) x0 x1 x2 x3 x4 x5 (ix2 r q) = pB x1 x2 x3 r q := by
  unfold out0_7
  exact (congrFun (canon_whole _ _ _) _).trans (p_apply x1 x2 x3 r q)

theorem hR_congr {a a' b b' g g' x x' : Row 1024} (ha : ∀ k, a k = a' k) (hb : ∀ k, b k = b' k) (hg : ∀ k, g k = g' k)
    (hx : ∀ k, x k = x' k) (q : Fin 1024) : hR a b g x q = hR a' b' g' x' q := by
  rw [funext ha, funext hb, funext hg, funext hx]

/-- The block of output 8. -/
theorem out8_apply (r : Fin 512) (q : Fin 1024) : out0_8 (F := Ideal) x0 x1 x2 x3 x4 x5 (ix2 r q) =
    hR (fun k => x4 (ix2 3 k)) (fun k => x4 (ix2 4 k)) (fun k => x5 (ix2 0 k)) (x1B x0 x1 x2 x3 x4 r) q := by
  unfold out0_8
  exact (congrFun (canon_whole _ _ _) _).trans ((pay1_apply _ _ _ _ _ _ _ _ _ r q).trans
    (hR_congr (rowSh x4 0) (rowSc x4 0) (fun _ => congrFun (gain x5) _) (x1_apply x0 x1 x2 x3 x4 r) q))

end Cert.N4

end
-- ==== Proof.N4.Results.lean ====
/- The output projection's three results: the blocks it reads as rows of the call's arrays, and the arrays it leaves as the
   functions of Spec.lean. -/
module

public import proofs.«01_k».proof.Proof.Gen.Kernel4Ideal.Value
public import proofs.«01_k».proof.Proof.N4.Block
public import Idealize.ShloMosaic.Lib.StableHlo.ReadAt
public import Idealize.ShloMosaic.Lib.Pipeline.ValueKit.Geometry

@[expose] public section

set_option maxRecDepth 16384

noncomputable section

namespace Cert.N4

open Idealize.ShloMosaic Cert.Kernel4Ideal Cert.Kernel4Ideal.Gen Cert.Pieces Idealize.ShloMosaic.TcCoe Cert.N2 Cert.N1

variable (m : (ℓ : Loc nD τ sig) → Buf (Elt Ideal) ℓ) (c : Dev nD)

/-- The six arrays as the kernel's program is given them. -/
def arrays : Arrays where
  x := fun p q => (m ((c : Thread nD τ).loc main_arg0) : Vec Ideal S4096x1024 .f32) (ix2 p q)
  na := fun p q => (m ((c : Thread nD τ).loc main_arg1) : Vec Ideal S4096x512 .bf16) (ix2 p q)
  cv := fun p q => (m ((c : Thread nD τ).loc main_arg2) : Vec Ideal S4096x512 .bf16) (ix2 p q)
  w := fun p q => (m ((c : Thread nD τ).loc main_arg3) : Vec Ideal S1024x1024 .f32) (ix2 p q)
  md := fun p q => (m ((c : Thread nD τ).loc main_arg4) : Vec Ideal S8x1024 .f32) (ix2 p q)
  g := fun q => (m ((c : Thread nD τ).loc main_arg5) : Vec Ideal S1x1024 .f32) (ix2 0 q)

/-- The weights after the cast. -/
theorem V0_apply (p q : Fin 1024) : (V m c main_v0 : Vec Ideal S1024x1024 .bf16) (ix2 p q) = (arrays m c).w p q := by
  unfold arrays V
  after_reads_at

/-- Point `s` of the grid. -/
abbrev pt (s : Fin 8) : Fin cfg0.N := ⟨s.val, lt_of_lt_of_eq s.isLt N_0.symm⟩
/-- Row `r` of block `s`. -/
abbrev row (s : Fin 8) (r : Fin 512) : Fin 4096 := ⟨512 * s.val + r.val, by omega⟩
theorem eq_row (t : Fin 4096) : ∃ (s : Fin 8) (r : Fin 512), t = row s r :=
  ⟨⟨t.val / 512, by omega⟩, ⟨t.val % 512, by omega⟩, Fin.ext (show t.val = 512 * (t.val / 512) + t.val % 512 by omega)⟩

theorem place_0 : ∀ s : Fin 8, win0_0.index (pt s) = ![s.val, 0] := by decide +kernel
theorem place_1 : ∀ s : Fin 8, win0_1.index (pt s) = ![s.val, 0] := by decide +kernel
theorem place_2 : ∀ s : Fin 8, win0_2.index (pt s) = ![s.val, 0] := by decide +kernel
theorem place_3 : ∀ s : Fin 8, win0_3.index (pt s) = ![0, 0] := by decide +kernel
theorem place_4 : ∀ s : Fin 8, win0_4.index (pt s) = ![0, 0] := by decide +kernel
theorem place_5 : ∀ s : Fin 8, win0_5.index (pt s) = ![0, 0] := by decide +kernel
theorem place_6 : ∀ s : Fin 8, win0_6.index (pt s) = ![s.val, 0] := by decide +kernel
theorem place_7 : ∀ s : Fin 8, win0_7.index (pt s) = ![s.val, 0] := by decide +kernel
theorem place_8 : ∀ s : Fin 8, win0_8.index (pt s) = ![s.val, 0] := by decide +kernel

/-- The stream's block, at a point. -/
theorem blk_0 (s : Fin 8) (r : Fin 512) (q : Fin 1024) : (iblk m c 0 (pt s) : Vec Ideal S512x1024 .f32) (ix2 r q) = (arrays m c).x (row s r) q := by
  unfold arrays
  show _ = m ((c : Thread nD τ).loc main_arg0) (ix2 (row s r) q)
  rw [← V_main_arg0 m c]
  unfold iblk
  rw [View.read_apply]
  show V m c main_arg0 _ = V m c main_arg0 _
  congr 1
  funext a
  apply Fin.ext
  match a with
  | ⟨0, _⟩ => blk_simp [place_0]; show s.val * 512 + r.val = 512 * s.val + r.val; omega
  | ⟨1, _⟩ => blk_simp [place_0]

/-- The first branch's block, at a point. -/
theorem blk_1 (s : Fin 8) (r : Fin 512) (q : Fin 512) : (iblk m c 1 (pt s) : Vec Ideal S512x512 .bf16) (ix2 r q) = (arrays m c).na (row s r) q := by
  unfold arrays
  show _ = m ((c : Thread nD τ).loc main_arg1) (ix2 (row s r) q)
  rw [← V_main_arg1 m c]
  unfold iblk
  rw [View.read_apply]
  show V m c main_arg1 _ = V m c main_arg1 _
  congr 1
  funext a
  apply Fin.ext
  match a with
  | ⟨0, _⟩ => blk_simp [place_1]; show s.val * 512 + r.val = 512 * s.val + r.val; omega
  | ⟨1, _⟩ => blk_simp [place_1]

/-- The second branch's block, at a point. -/
theorem blk_2 (s : Fin 8) (r : Fin 512) (q : Fin 512) : (iblk m c 2 (pt s) : Vec Ideal S512x512 .bf16) (ix2 r q) = (arrays m c).cv (row s r) q := by
  unfold arrays
  show _ = m ((c : Thread nD τ).loc main_arg2) (ix2 (row s r) q)
  rw [← V_main_arg2 m c]
  unfold iblk
  rw [View.read_apply]
  show V m c main_arg2 _ = V m c main_arg2 _
  congr 1
  funext a
  apply Fin.ext
  match a with
  | ⟨0, _⟩ => blk_simp [place_2]; show s.val * 512 + r.val = 512 * s.val + r.val; omega
  | ⟨1, _⟩ => blk_simp [place_2]

/-- The weights, at a point. -/
theorem blk_3 (s : Fin 8) (r : Fin 1024) (q : Fin 1024) : (iblk m c 3 (pt s) : Vec Ideal S1024x1024 .bf16) (ix2 r q) = (arrays m c).w r q := by
  rw [← V0_apply m c]
  unfold iblk
  rw [View.read_apply]
  show V m c main_v0 _ = V m c main_v0 _
  congr 1
  funext a
  apply Fin.ext
  match a with
  | ⟨0, _⟩ => blk_simp [place_3]
  | ⟨1, _⟩ => blk_simp [place_3]

/-- The rows of modulation, at a point. -/
theorem blk_4 (s : Fin 8) (r : Fin 8) (q : Fin 1024) : (iblk m c 4 (pt s) : Vec Ideal S8x1024 .f32) (ix2 r q) = (arrays m c).md r q := by
  unfold arrays
  show _ = m ((c : Thread nD τ).loc main_arg4) (ix2 r q)
  rw [← V_main_arg4 m c]
  unfold iblk
  rw [View.read_apply]
  show V m c main_arg4 _ = V m c main_arg4 _
  congr 1
  funext a
  apply Fin.ext
  match a with
  | ⟨0, _⟩ => blk_simp [place_4]
  | ⟨1, _⟩ => blk_simp [place_4]

/-- The gain, at a point. -/
theorem blk_5 (s : Fin 8)  (q : Fin 1024) : (iblk m c 5 (pt s) : Vec Ideal S1x1024 .f32) (ix2 0 q) = (arrays m c).g q := by
  unfold arrays
  show _ = m ((c : Thread nD τ).loc main_arg5) (ix2 0 q)
  rw [← V_main_arg5 m c]
  unfold iblk
  rw [View.read_apply]
  show V m c main_arg5 _ = V m c main_arg5 _
  congr 1
  funext a
  apply Fin.ext
  match a with
  | ⟨0, _⟩ => blk_simp [place_5]
  | ⟨1, _⟩ => blk_simp [place_5]

/-- A row of the projection, at a point. -/
theorem pB_eq (s : Fin 8) (r : Fin 512) : pB (iblk m c 1 (pt s)) (iblk m c 2 (pt s)) (iblk m c 3 (pt s)) r = (arrays m c).proj (row s r) := by
  funext q
  unfold pB Arrays.proj pR
  exact congrArg₂ (· + ·)
    (Finset.sum_congr rfl fun k _ => congrArg₂ (· * ·) (blk_1 m c s r k) (blk_3 m c s (la k) q))
    (Finset.sum_congr rfl fun k _ => congrArg₂ (· * ·) (blk_2 m c s r k) (blk_3 m c s (lc k) q))

/-- A row of the stream after the gated addition, at a point. -/
theorem x1B_eq (s : Fin 8) (r : Fin 512) :
    x1B (iblk m c 0 (pt s)) (iblk m c 1 (pt s)) (iblk m c 2 (pt s)) (iblk m c 3 (pt s)) (iblk m c 4 (pt s)) r = (arrays m c).x1 (row s r) := by
  funext q
  unfold x1B Arrays.x1 x1R
  rw [pB_eq]
  exact congrArg₂ (· + ·) (blk_0 m c s r q) (congrArg (· * (arrays m c).proj (row s r) q) (blk_4 m c s 2 q))

/-- Output 6's array after the run. -/
abbrev G6 : Vec Ideal S4096x1024 .f32 := (dats m 0 c).arrAt 6 cfg0.N
theorem flush_6 : ∀ s : Fin 8, (cfg0.win 6).flush (pt s) = true := by decide +kernel
/-- A block of output 6 is what its point left. -/
theorem G6_row (s : Fin 8) (r : Fin 512) (q : Fin 1024) :
    G6 m c (ix2 (row s r) q) = out0_6 (F := Ideal) (iblk m c 0 (pt s)) (iblk m c 1 (pt s)) (iblk m c 2 (pt s)) (iblk m c 3 (pt s)) (iblk m c 4 (pt s)) (iblk m c 5 (pt s)) (ix2 r q) := by
  have e := congrFun ((Value.blocks6 m c (pt s) (flush_6 s)).trans (Value.flushed6 m c (pt s))) (ix2 r q)
  rw [View.read_apply] at e
  refine Eq.trans ?_ e
  show G6 m c _ = G6 m c _
  congr 1
  funext a
  apply Fin.ext
  match a with
  | ⟨0, _⟩ => blk_simp [place_6]; show 512 * s.val + r.val = s.val * 512 + r.val; omega
  | ⟨1, _⟩ => blk_simp [place_6]
/-- Output 6, at an index. -/
theorem G6_apply (t : Fin 4096) (q : Fin 1024) : G6 m c (ix2 t q) = (arrays m c).x1 t q := by
  obtain ⟨s, r, rfl⟩ := eq_row t
  exact (G6_row m c s r q).trans ((out6_apply _ _ _ _ _ _ r q).trans (congrFun (x1B_eq m c s r) q))

/-- Output 7's array after the run. -/
abbrev G7 : Vec Ideal S4096x1024 .bf16 := (dats m 0 c).arrAt 7 cfg0.N
theorem flush_7 : ∀ s : Fin 8, (cfg0.win 7).flush (pt s) = true := by decide +kernel
/-- A block of output 7 is what its point left. -/
theorem G7_row (s : Fin 8) (r : Fin 512) (q : Fin 1024) :
    G7 m c (ix2 (row s r) q) = out0_7 (F := Ideal) (iblk m c 0 (pt s)) (iblk m c 1 (pt s)) (iblk m c 2 (pt s)) (iblk m c 3 (pt s)) (iblk m c 4 (pt s)) (iblk m c 5 (pt s)) (ix2 r q) := by
  have e := congrFun ((Value.blocks7 m c (pt s) (flush_7 s)).trans (Value.flushed7 m c (pt s))) (ix2 r q)
  rw [View.read_apply] at e
  refine Eq.trans ?_ e
  show G7 m c _ = G7 m c _
  congr 1
  funext a
  apply Fin.ext
  match a with
  | ⟨0, _⟩ => blk_simp [place_7]; show 512 * s.val + r.val = s.val * 512 + r.val; omega
  | ⟨1, _⟩ => blk_simp [place_7]
/-- Output 7, at an index. -/
theorem G7_apply (t : Fin 4096) (q : Fin 1024) : G7 m c (ix2 t q) = (arrays m c).proj t q := by
  obtain ⟨s, r, rfl⟩ := eq_row t
  exact (G7_row m c s r q).trans ((out7_apply _ _ _ _ _ _ r q).trans (congrFun (pB_eq m c s r) q))

/-- Output 8's array after the run. -/
abbrev G8 : Vec Ideal S4096x1024 .bf16 := (dats m 0 c).arrAt 8 cfg0.N
theorem flush_8 : ∀ s : Fin 8, (cfg0.win 8).flush (pt s) = true := by decide +kernel
/-- A block of output 8 is what its point left. -/
theorem G8_row (s : Fin 8) (r : Fin 512) (q : Fin 1024) :
    G8 m c (ix2 (row s r) q) = out0_8 (F := Ideal) (iblk m c 0 (pt s)) (iblk m c 1 (pt s)) (iblk m c 2 (pt s)) (iblk m c 3 (pt s)) (iblk m c 4 (pt s)) (iblk m c 5 (pt s)) (ix2 r q) := by
  have e := congrFun ((Value.blocks8 m c (pt s) (flush_8 s)).trans (Value.flushed8 m c (pt s))) (ix2 r q)
  rw [View.read_apply] at e
  refine Eq.trans ?_ e
  show G8 m c _ = G8 m c _
  congr 1
  funext a
  apply Fin.ext
  match a with
  | ⟨0, _⟩ => blk_simp [place_8]; show 512 * s.val + r.val = s.val * 512 + r.val; omega
  | ⟨1, _⟩ => blk_simp [place_8]
/-- Output 8, at an index. -/
theorem G8_apply (t : Fin 4096) (q : Fin 1024) : G8 m c (ix2 t q) = (arrays m c).h2 t q := by
  obtain ⟨s, r, rfl⟩ := eq_row t
  exact (G8_row m c s r q).trans ((out8_apply _ _ _ _ _ _ r q).trans (hR_congr (blk_4 m c s 3) (blk_4 m c s 4) (blk_5 m c s) (fun k => congrFun (x1B_eq m c s r) k) q))

end Cert.N4

end
-- ==== Proof.N4.Ref.lean ====
/- The reference's stages at an index, as the functions of Spec.lean. -/
module

public import proofs.«01_k».proof.Proof.Gen.Reference4Ideal.Read
public import proofs.«01_k».proof.Proof.N4.Spec
public import Idealize.ShloMosaic.Lib.Pointwise

@[expose] public section

set_option maxRecDepth 16384

noncomputable section

namespace Cert.N4

open Idealize.ShloMosaic Cert.Reference4Ideal Cert.Reference4Ideal.Read Cert.N2 Cert.N1

variable (x0 : Vec Ideal S4096x1024 .f32) (x1 x2 : Vec Ideal S4096x512 .bf16) (x3 : Vec Ideal S1024x1024 .f32)
  (x4 : Vec Ideal S8x1024 .f32) (x5 : Vec Ideal S1x1024 .f32)

/-- The six arrays as the reference is given them. -/
def given : Arrays where
  x := fun p q => x0 (ix2 p q)
  na := fun p q => x1 (ix2 p q)
  cv := fun p q => x2 (ix2 p q)
  w := fun p q => x3 (ix2 p q)
  md := fun p q => x4 (ix2 p q)
  g := fun q => x5 (ix2 0 q)

/-- The two branches side by side: the first. -/
theorem cat_a (t : Fin 4096) (k : Fin 512) : val_main_v4 (F := Ideal) x1 x2 (ix2 t (la k)) = x1 (ix2 t k) := by
  unfold val_main_v4 val_main_v3
  pointwise

/-- The two branches side by side: the second. -/
theorem cat_c (t : Fin 4096) (k : Fin 512) : val_main_v4 (F := Ideal) x1 x2 (ix2 t (lc k)) = x2 (ix2 t k) := by
  unfold val_main_v4 val_main_v3
  pointwise

/-- The projection. -/
theorem proj_apply (t : Fin 4096) (q : Fin 1024) :
    val_main_v5 (F := Ideal) x1 x2 x3 (ix2 t q) = (given x0 x1 x2 x3 x4 x5).proj t q := by
  have ha := cat_a x1 x2 t
  have hc := cat_c x1 x2 t
  unfold val_main_v5
  generalize val_main_v4 (F := Ideal) x1 x2 = y0 at ha hc ⊢
  pointwise
  refine (Fin.sum_univ_add (a := 512) (b := 512) _).trans ?_
  exact congrArg₂ (· + ·) (Finset.sum_congr rfl fun k _ => congrArg (· * x3 (ix2 (la k) q)) (ha k))
    (Finset.sum_congr rfl fun k _ => congrArg (· * x3 (ix2 (lc k) q)) (hc k))

/-- The gated addition. -/
theorem x1_apply' (t : Fin 4096) (q : Fin 1024) :
    val_main_v8 (F := Ideal) x0 x1 x2 x3 x4 (ix2 t q) = (given x0 x1 x2 x3 x4 x5).x1 t q := by
  have h0 := proj_apply x0 x1 x2 x3 x4 x5 t q
  unfold val_main_v8 val_main_v7 val_main_v6 val_main_v0
  generalize val_main_v5 (F := Ideal) x1 x2 x3 = y0 at h0 ⊢
  pointwise
  simp only [h0]
  rfl

/-- The normalised row. -/
theorem xh_apply (t : Fin 4096) (q : Fin 1024) :
    val_main_v19 (F := Ideal) x0 x1 x2 x3 x4 (ix2 t q) = xhR ((given x0 x1 x2 x3 x4 x5).x1 t) q := by
  have h0 := x1_apply' x0 x1 x2 x3 x4 x5 t
  unfold val_main_v19 val_main_v18 val_main_v17 val_main_v16 val_main_v15 val_main_v14 val_main_v13 val_main_v12 val_main_v11 val_main_v10 val_main_cst val_main_cst_0 val_main_cst_1
  generalize val_main_v8 (F := Ideal) x0 x1 x2 x3 x4 = y0 at h0 ⊢
  pointwise
  simp only [h0]
  rfl

/-- The modulated norm. -/
theorem h2_apply (t : Fin 4096) (q : Fin 1024) :
    val_main_v27 (F := Ideal) x0 x1 x2 x3 x4 x5 (ix2 t q) = (given x0 x1 x2 x3 x4 x5).h2 t q := by
  have h0 := xh_apply x0 x1 x2 x3 x4 x5 t
  unfold val_main_v27 val_main_v26 val_main_v25 val_main_v24 val_main_v23 val_main_v22 val_main_v21 val_main_v20 val_main_cst_2 val_main_v1 val_main_v2
  generalize val_main_v19 (F := Ideal) x0 x1 x2 x3 x4 = y0 at h0 ⊢
  pointwise
  simp only [h0]
  rfl

end Cert.N4

end
-- ==== Proof.N4.Claim.lean ====
/- The value claim of the output projection: the kernel's three results are the reference's three results, at every argument. -/
module

public import proofs.«01_k».proof.Defs
public import proofs.«01_k».proof.Proof.Gen.Reference4Ideal.Run
public import proofs.«01_k».proof.Proof.N4.Results
public import proofs.«01_k».proof.Proof.N4.Ref

@[expose] public section

set_option maxRecDepth 16384

noncomputable section

namespace Cert.N4

open Idealize.ShloMosaic Idealize.SL.Sem Kernel4Ideal.Gen

variable (m : (ℓ : Loc Kernel4Ideal.nD Kernel4Ideal.τ Kernel4Ideal.sig) → Buf (Elt Ideal) ℓ)
  (m' : (ℓ : Loc Reference4Ideal.nD Reference4Ideal.τ Reference4Ideal.sig) → Buf (Elt Ideal) ℓ) (c : Dev Kernel4Ideal.nD)

/-- The reference's argument 0: the stream. -/
abbrev a0 : Vec Ideal Reference4Ideal.S4096x1024 .f32 := m' ((c.tc : Thread Reference4Ideal.nD Reference4Ideal.τ).loc Reference4Ideal.main_arg0)
/-- The reference's argument 1: the first branch. -/
abbrev a1 : Vec Ideal Reference4Ideal.S4096x512 .bf16 := m' ((c.tc : Thread Reference4Ideal.nD Reference4Ideal.τ).loc Reference4Ideal.main_arg1)
/-- The reference's argument 2: the second branch. -/
abbrev a2 : Vec Ideal Reference4Ideal.S4096x512 .bf16 := m' ((c.tc : Thread Reference4Ideal.nD Reference4Ideal.τ).loc Reference4Ideal.main_arg2)
/-- The reference's argument 3: the weights. -/
abbrev a3 : Vec Ideal Reference4Ideal.S1024x1024 .f32 := m' ((c.tc : Thread Reference4Ideal.nD Reference4Ideal.τ).loc Reference4Ideal.main_arg3)
/-- The reference's argument 4: the rows of modulation. -/
abbrev a4 : Vec Ideal Reference4Ideal.S8x1024 .f32 := m' ((c.tc : Thread Reference4Ideal.nD Reference4Ideal.τ).loc Reference4Ideal.main_arg4)
/-- The reference's argument 5: the gain. -/
abbrev a5 : Vec Ideal Reference4Ideal.S1x1024 .f32 := m' ((c.tc : Thread Reference4Ideal.nD Reference4Ideal.τ).loc Reference4Ideal.main_arg5)

/-- The reference's six arrays, off its memory. -/
abbrev refArrays : Arrays := given (a0 m' c) (a1 m' c) (a2 m' c) (a3 m' c) (a4 m' c) (a5 m' c)

variable {m m' c}

/-- The stream after the gated addition. -/
theorem equal_x1 (e : refArrays m' c = arrays m c) :
    Reference4Ideal.Read.val_main_v8 (F := Ideal) (a0 m' c) (a1 m' c) (a2 m' c) (a3 m' c) (a4 m' c) = G6 m c := by
  funext j
  idx_vars j
  exact (x1_apply' _ _ _ _ _ (a5 m' c) _ _).trans ((congrArg (fun A : Arrays => A.x1 _ _) e).trans (G6_apply m c _ _).symm)

/-- The projection. -/
theorem equal_proj (e : refArrays m' c = arrays m c) :
    Reference4Ideal.Read.val_main_v9 (F := Ideal) (a1 m' c) (a2 m' c) (a3 m' c) = G7 m c := by
  funext j
  idx_vars j
  refine (Reference4Ideal.Read.val_main_v9_apply _ _ _ _).trans ?_
  exact (proj_apply (a0 m' c) _ _ _ (a4 m' c) (a5 m' c) _ _).trans ((congrArg (fun A : Arrays => A.proj _ _) e).trans (G7_apply m c _ _).symm)

/-- The modulated norm. -/
theorem equal_h2 (e : refArrays m' c = arrays m c) :
    Reference4Ideal.Read.val_main_v28 (F := Ideal) (a0 m' c) (a1 m' c) (a2 m' c) (a3 m' c) (a4 m' c) (a5 m' c) = G8 m c := by
  funext j
  idx_vars j
  refine (Reference4Ideal.Read.val_main_v28_apply _ _ _ _ _ _ _).trans ?_
  exact (h2_apply _ _ _ _ _ _ _ _).trans ((congrArg (fun A : Arrays => A.h2 _ _) e).trans (G8_apply m c _ _).symm)

/-- The claim that both programs run and leave the same three arrays. -/
theorem value : algebraic_Kernel4Ideal_Reference4Ideal (hKernel4Ideal := Kernel4Ideal.Gen.facts) (hReference4Ideal := Reference4Ideal.Gen.facts) := by
  intro m g m' g' _ hag
  have e : ∀ c, refArrays m' c = arrays m c := fun c => by
    obtain ⟨h0, h1, h2, h3, h4, h5⟩ := hag c
    rw [refArrays, a0, a1, a2, a3, a4, a5, h0, h1, h2, h3, h4, h5]
    rfl
  refine ⟨_, _, _, Kernel4Ideal.Value.run_blocks m g, ?_⟩
  exact (θ_run Reference4Ideal.defs _ _).mono (fun _ h c => ⟨
    (h c).1.trans ((Reference4Ideal.Read.val_main_v8_eq _ _ _ _ _).trans (equal_x1 (e c))),
    (h c).2.1.trans ((Reference4Ideal.Read.val_main_v9_eq _ _ _).trans (equal_proj (e c))),
    (h c).2.2.1.trans ((Reference4Ideal.Read.val_main_v28_eq _ _ _ _ _ _).trans (equal_h2 (e c))), (h c).2.2.2⟩)
    (Reference4Ideal.Value.run (F := Ideal) m' g')

end Cert.N4

end
-- ==== Proof.N5.Spec.lean ====
/- The gated MLP in plain terms: the up-projection, the convolution over neighbouring rows with zero rows beyond both ends,
   the gate, and the down-projection. -/
module

public import Idealize.ShloMosaic.PureOps.Ideal.Laws
public import Idealize.ShloMosaic.Lib.Pointwise

@[expose] public section

noncomputable section

namespace Cert.N5

open Idealize.ShloMosaic

/-- Three neighbouring values against the convolution's three taps, and the bias. -/
def conv3 (p u n w0 w1 w2 b : EReal) : EReal := p * w0 + u * w1 + n * w2 + b

theorem conv3_congr {p u n p' u' n' : EReal} (hp : p = p') (hu : u = u') (hn : n = n') (a b c d : EReal) :
    conv3 p u n a b c d = conv3 p' u' n' a b c d := by rw [hp, hu, hn]

/-- The gated unit. -/
def gated (g v : EReal) : EReal := g * Ideal.div 1 (1 + Ideal.exp (-g)) * v

/-- The call's five arrays: the modulated norm, the up-projection's weights, the convolution's taps and bias, and the
    down-projection's weights. -/
structure Arrays where
  h : Fin 4096 → Fin 1024 → EReal
  w : Fin 1024 → Fin 5632 → EReal
  cw : Fin 3 → Fin 5632 → EReal
  b : Fin 5632 → EReal
  wd : Fin 2816 → Fin 1024 → EReal

namespace Arrays

variable (A : Arrays)

/-- The up-projection. -/
def u (r : Fin 4096) (q : Fin 5632) : EReal := ∑ k : Fin 1024, A.h r k * A.w k q

/-- The rows of the up-projection with a zero row before them and one after. -/
def up (n : Fin 4098) (q : Fin 5632) : EReal := if hn : 1 ≤ n.val ∧ n.val ≤ 4096 then A.u ⟨n.val - 1, by omega⟩ q else 0

/-- The rows of the norm with a zero row before them and one after. -/
def hp (n : Fin 4098) (k : Fin 1024) : EReal := if hn : 1 ≤ n.val ∧ n.val ≤ 4096 then A.h ⟨n.val - 1, by omega⟩ k else 0

/-- A zero row projects to a zero row, whatever the weights are. -/
theorem hp_up (n : Fin 4098) (q : Fin 5632) : ∑ k : Fin 1024, A.hp n k * A.w k q = A.up n q := by
  unfold hp up
  by_cases hn : 1 ≤ n.val ∧ n.val ≤ 4096
  · simp only [dif_pos hn]
    rfl
  · simp only [dif_neg hn, zero_mul, Finset.sum_const_zero]

/-- The convolution over neighbouring rows. -/
def u2 (r : Fin 4096) (q : Fin 5632) : EReal :=
  conv3 (A.up ⟨r.val, by omega⟩ q) (A.up ⟨r.val + 1, by omega⟩ q) (A.up ⟨r.val + 2, by omega⟩ q) (A.cw 0 q) (A.cw 1 q) (A.cw 2 q) (A.b q)

/-- The gated unit. -/
def act (r : Fin 4096) (f : Fin 2816) : EReal := gated (A.u2 r ⟨f.val, by omega⟩) (A.u2 r ⟨f.val + 2816, by omega⟩)

/-- The down-projection. -/
def o (r : Fin 4096) (q : Fin 1024) : EReal := ∑ f : Fin 2816, A.act r f * A.wd f q

end Arrays

/-- Row `y` of tile `T`. -/
abbrev row (T : Fin 2) (y : Fin 2048) : Fin 4096 := ⟨2048 * T.val + y.val, by omega⟩
/-- Column `x` of block `C` in the tiled layout. -/
abbrev ocol (C : Fin 11) (x : Fin 512) : Fin 5632 := ⟨512 * C.val + x.val, by omega⟩
/-- The same column in the plain layout: the gate's first, and then the value's. -/
def col (C : Fin 11) (x : Fin 512) : Fin 5632 := if x.val < 256 then ⟨256 * C.val + x.val, by omega⟩ else ⟨2560 + 256 * C.val + x.val, by omega⟩
/-- Column `k` of block `C` of the gated unit. -/
abbrev fcol (C : Fin 11) (k : Fin 256) : Fin 2816 := ⟨256 * C.val + k.val, by omega⟩

/-- The sum over the gated unit's columns, block by block. -/
theorem sum_blocks (f : Fin 2816 → EReal) : ∑ C : Fin 11, ∑ k : Fin 256, f (fcol C k) = ∑ i : Fin 2816, f i := by
  refine (Fintype.sum_prod_type' (fun (C : Fin 11) (k : Fin 256) => f (fcol C k))).symm.trans ?_
  refine Fintype.sum_equiv (finProdFinEquiv : Fin 11 × Fin 256 ≃ Fin 2816) _ _ fun x => congrArg f (Fin.ext ?_)
  show 256 * x.1.val + x.2.val = x.2.val + 256 * x.1.val
  omega

end Cert.N5

end
-- ==== Proof.N5.Block.lean ====
/- What the stores of one grid point hold at an index, over the extended reals. -/
module

public import proofs.«01_k».proof.Proof.Gen.Kernel5Ideal.Skeleton
public import proofs.«01_k».proof.Proof.Pieces
public import proofs.«01_k».proof.Proof.N5.Spec

@[expose] public section

set_option maxRecDepth 16384

noncomputable section

namespace Cert.N5

open Idealize.ShloMosaic Cert.Kernel5Ideal Cert.Kernel5Ideal.Gen Cert.Pieces

/-- A block of 32 rows of the convolution: row `r` from rows `r + 7`, `r + 8` and `r + 9` of the 48 loaded. -/
theorem pay20_apply (cw : FVec Ideal S3x512 .f32) (cb : FVec Ideal S1x512 .f32) (v : Vec Ideal S48x512 .f32) (r : Fin 32) (q : Fin 512) :
    k0_pay20 (F := Ideal) cw cb v (ix2 r q) =
      conv3 (v (ix2 (⟨r.val + 7, by omega⟩ : Fin 48) q)) (v (ix2 (⟨r.val + 8, by omega⟩ : Fin 48) q)) (v (ix2 (⟨r.val + 9, by omega⟩ : Fin 48) q))
        (cw (ix2 0 q)) (cw (ix2 1 q)) (cw (ix2 2 q)) (cb (ix2 0 q)) := by
  unfold k0_pay20 k0_pay19
  pointwise
  have e : ∀ i j : Fin 48, i.val = j.val → v (ix2 i q) = v (ix2 j q) := fun i j h => by rw [Fin.ext h]
  refine conv3_congr (e _ _ ?_) (e _ _ ?_) (e _ _ ?_) _ _ _ _
  · show (8 + r.val + 48 - 1) % 48 = r.val + 7; omega
  · show 8 + r.val = r.val + 8; omega
  · show (8 + r.val + 48 - 47) % 48 = r.val + 9; omega

/-- A block of 32 rows of the up-projection: row `r` is row `r + 8` of the 48 loaded. -/
theorem pay21_apply (v : Vec Ideal S48x512 .f32) (r : Fin 32) (q : Fin 512) :
    k0_pay21 (F := Ideal) v (ix2 r q) = v (ix2 (⟨r.val + 8, by omega⟩ : Fin 48) q) := by
  unfold k0_pay21 k0_pay19
  pointwise
  exact congrArg (fun i => v (ix2 i q)) (Fin.ext (by show 8 + r.val = r.val + 8; omega))

/-- A block of 32 rows of the gated unit. -/
theorem pay23_apply (cw : FVec Ideal S3x512 .f32) (cb : FVec Ideal S1x512 .f32) (v : Vec Ideal S48x512 .f32) (r : Fin 32) (q : Fin 256) :
    k0_pay23 (F := Ideal) (k0_pay22 cw cb v) (ix2 r q) =
      gated (k0_pay20 (F := Ideal) cw cb v (ix2 r (⟨q.val, by omega⟩ : Fin 512))) (k0_pay20 (F := Ideal) cw cb v (ix2 r (⟨q.val + 256, by omega⟩ : Fin 512))) := by
  unfold k0_pay23 k0_pay22
  dsimp only
  generalize k0_pay20 (F := Ideal) cw cb v = w
  pointwise
  have h : (⟨256 + q.val, by omega⟩ : Fin 512) = ⟨q.val + 256, by omega⟩ := Fin.ext (by show 256 + q.val = q.val + 256; omega)
  rw [h, zero_sub]
  rfl

/-- The taps of the two halves, side by side. -/
theorem pay12_apply (a b : Vec Ideal S3x256 .f32) (r : Fin 3) (q : Fin 512) :
    k0_pay12 (F := Ideal) a b (ix2 r q) = if h : q.val < 256 then a (ix2 r ⟨q.val, h⟩) else b (ix2 r ⟨q.val - 256, by omega⟩) := by
  unfold k0_pay12
  pointwise

/-- The biases of the two halves, side by side. -/
theorem pay13_apply (a b : Vec Ideal S1x256 .f32) (q : Fin 512) :
    k0_pay13 (F := Ideal) a b (ix2 0 q) = if h : q.val < 256 then a (ix2 0 ⟨q.val, h⟩) else b (ix2 0 ⟨q.val - 256, by omega⟩) := by
  unfold k0_pay13
  pointwise

/-- The down-projection of half the rows, added to what was there. -/
theorem pay2_apply (o : Vec Ideal S1024x1024 .f32) (a : Vec Ideal S1024x256 .bf16) (w : Vec Ideal S256x1024 .bf16) (r : Fin 1024) (q : Fin 1024) :
    k0_pay2 (F := Ideal) o a w (ix2 r q) = o (ix2 r q) + ∑ k : Fin 256, (a (ix2 r k) : EReal) * w (ix2 k q) := by
  unfold k0_pay2
  pointwise

/-- The accumulator starts at zero. -/
theorem pay6_apply (r : Fin 2048) (q : Fin 1024) : k0_pay6 (F := Ideal) (ix2 r q) = (0 : EReal) := by
  unfold k0_pay6
  pointwise

/-- The up-projection of the first rows of the window, the gate's columns. -/
theorem pay7_apply (h : Vec Ideal S1056x1024 .bf16) (w : Vec Ideal S256x1024 .bf16) (r : Fin 1056) (q : Fin 256) :
    k0_pay7 (F := Ideal) h w (ix2 r q) = ∑ k : Fin 1024, (h (ix2 r k) : EReal) * w (ix2 q k) := by
  unfold k0_pay7
  pointwise

/-- The up-projection of the first rows of the window, the value's columns. -/
theorem pay8_apply (h : Vec Ideal S1056x1024 .bf16) (w : Vec Ideal S256x1024 .bf16) (r : Fin 1056) (q : Fin 256) :
    k0_pay8 (F := Ideal) h w (ix2 r q) = ∑ k : Fin 1024, (h (ix2 r k) : EReal) * w (ix2 q k) := by
  unfold k0_pay8
  pointwise

/-- The up-projection of the other rows of the window, the gate's columns. -/
theorem pay9_apply (h : Vec Ideal S1024x1024 .bf16) (w : Vec Ideal S256x1024 .bf16) (r : Fin 1024) (q : Fin 256) :
    k0_pay9 (F := Ideal) h w (ix2 r q) = ∑ k : Fin 1024, (h (ix2 r k) : EReal) * w (ix2 q k) := by
  unfold k0_pay9
  pointwise

/-- The up-projection of the other rows of the window, the value's columns. -/
theorem pay11_apply (h : Vec Ideal S1024x1024 .bf16) (w : Vec Ideal S256x1024 .bf16) (r : Fin 1024) (q : Fin 256) :
    k0_pay11 (F := Ideal) (k0_pay10 h w) (ix2 r q) = ∑ k : Fin 1024, (h (ix2 r k) : EReal) * w (ix2 q k) := by
  unfold k0_pay11 k0_pay10
  pointwise

/-- A column of the pair's 512 is one of the gate's or one of the value's. -/
def pairW (a b : Fin 256 → EReal) (q : Fin 512) : EReal := if h : q.val < 256 then a ⟨q.val, h⟩ else b ⟨q.val - 256, by omega⟩

/-- The up-projection of the window. -/
def uW (hw : Vec Ideal S2080x1024 .bf16) (wg wv : Vec Ideal S256x1024 .bf16) (i : Fin 2080) (q : Fin 512) : EReal :=
  pairW (fun p => ∑ k : Fin 1024, (hw (ix2 i k) : EReal) * wg (ix2 p k)) (fun p => ∑ k : Fin 1024, (hw (ix2 i k) : EReal) * wv (ix2 p k)) q

variable (hw : Vec Ideal S2080x1024 .bf16) (wg wv : Vec Ideal S256x1024 .bf16) (cg cv : Vec Ideal S3x256 .f32) (bg bv : Vec Ideal S1x256 .f32)

/-- The convolution of the tile. -/
def u2W (i : Fin 2048) (q : Fin 512) : EReal :=
  conv3 (uW hw wg wv ⟨i.val + 15, by omega⟩ q) (uW hw wg wv ⟨i.val + 16, by omega⟩ q) (uW hw wg wv ⟨i.val + 17, by omega⟩ q)
    (k0_pay12 (F := Ideal) cg cv (ix2 0 q)) (k0_pay12 (F := Ideal) cg cv (ix2 1 q)) (k0_pay12 (F := Ideal) cg cv (ix2 2 q)) (k0_pay13 (F := Ideal) bg bv (ix2 0 q))

/-- The gated unit of the tile. -/
def actW (i : Fin 2048) (q : Fin 256) : EReal :=
  gated (u2W hw wg wv cg cv bg bv i ⟨q.val, by omega⟩) (u2W hw wg wv cg cv bg bv i ⟨q.val + 256, by omega⟩)

/-- 48 loaded rows that are rows `32 k + 8` on of the window. -/
def Loads (U : Fin 2080 → Fin 512 → EReal) (o : Nat) (v : Vec Ideal S48x512 .f32) : Prop :=
  ∀ (r : Fin 48) (q : Fin 512) (y : Fin 2080), y.val = o + 8 + r.val → v (ix2 r q) = U y q

variable {o : Nat} {v : Vec Ideal S48x512 .f32} (hv : Loads (uW hw wg wv) o v) (r : Fin 32) (i : Fin 2048) (hi : i.val = o + r.val)
include hv hi

theorem blk21 (q : Fin 512) : k0_pay21 (F := Ideal) v (ix2 r q) = uW hw wg wv ⟨i.val + 16, by omega⟩ q :=
  (pay21_apply v r q).trans (hv _ _ _ (by show i.val + 16 = o + 8 + (r.val + 8); omega))

theorem blk20 (q : Fin 512) :
    k0_pay20 (F := Ideal) (k0_pay12 cg cv) (k0_pay13 bg bv) v (ix2 r q) = u2W hw wg wv cg cv bg bv i q := by
  rw [pay20_apply, u2W, hv (⟨r.val + 7, by omega⟩ : Fin 48) q ⟨i.val + 15, by omega⟩ (by show i.val + 15 = o + 8 + (r.val + 7); omega),
    hv (⟨r.val + 8, by omega⟩ : Fin 48) q ⟨i.val + 16, by omega⟩ (by show i.val + 16 = o + 8 + (r.val + 8); omega),
    hv (⟨r.val + 9, by omega⟩ : Fin 48) q ⟨i.val + 17, by omega⟩ (by show i.val + 17 = o + 8 + (r.val + 9); omega)]

theorem blk23 (q : Fin 256) :
    k0_pay23 (F := Ideal) (k0_pay22 (k0_pay12 cg cv) (k0_pay13 bg bv) v) (ix2 r q) = actW hw wg wv cg cv bg bv i q := by
  rw [pay23_apply, actW, blk20 hw wg wv cg cv bg bv hv r i hi, blk20 hw wg wv cg cv bg bv hv r i hi]

end Cert.N5

end
-- ==== Proof.N5.Stores.lean ====
/- The stores of one grid point, read back: the window's up-projection from its four stores, and what 32-row stores hold
   when each holds its rows of one function. -/
module

public import proofs.«01_k».proof.Proof.N5.Block

@[expose] public section

set_option maxRecDepth 16384

noncomputable section

namespace Cert.N5

open Idealize.ShloMosaic Cert.Kernel5Ideal Cert.Kernel5Ideal.Gen Cert.Pieces

section
variable {Val : EltTy → Type} {e : EltTy} {n k o h b o' k' : Nat} [∀ e, Nonempty (Val e)]

/-- An index under the newest store of a rectangle reads its payload. -/
theorem canon_in (inb) (w : (⟨2, ![h, k']⟩ : Shape).Idx → Val e) (L : List (View.Piece Val ⟨2, ![n, k]⟩ e)) (y : Fin n) (q : Fin k) (r : Fin h)
    (c : Fin k') (hy : y.val = o + r.val) (hq : q.val = o' + c.val) :
    View.canon ((⟨Rect.unit (s := ⟨2, ![n, k]⟩) ![o, o'] ![h, k'] inb, w⟩ : View.Piece Val ⟨2, ![n, k]⟩ e) :: L) (ix2 y q) = w (ix2 r c) := by
  have hi : (Rect.unit (s := ⟨2, ![n, k]⟩) ![o, o'] ![h, k'] inb).emb (ix2 r c) = ix2 y q := funext fun a => Fin.ext (by
    fin_cases a
    · show o + 1 * r.val = y.val; omega
    · show o' + 1 * c.val = q.val; omega)
  rw [← hi]
  exact View.canon_cons_emb _ _ _ _

/-- An index off the newest store reads what the older ones left. -/
theorem canon_off (inb) (w : (⟨2, ![h, k']⟩ : Shape).Idx → Val e) (L : List (View.Piece Val ⟨2, ![n, k]⟩ e)) (y : Fin n) (q : Fin k)
    (hy : y.val < o ∨ o + h ≤ y.val ∨ q.val < o' ∨ o' + k' ≤ q.val) :
    View.canon ((⟨Rect.unit (s := ⟨2, ![n, k]⟩) ![o, o'] ![h, k'] inb, w⟩ : View.Piece Val ⟨2, ![n, k]⟩ e) :: L) (ix2 y q) =
      View.canon L (ix2 y q) := by
  refine View.canon_cons_of_not_mem _ _ fun hm => ?_
  rw [Rect.mem_set_unit] at hm
  have h0 := hm 0
  have h1 := hm 1
  change o ≤ y.val ∧ y.val < o + h at h0
  change o' ≤ q.val ∧ q.val < o' + k' at h1
  omega

/-- One more store of rows, of the rows of `E`, on stores that hold the rows of `E` before it. -/
theorem canon_step {E : Fin n → Fin k → Val e} (inb) (w : (⟨2, ![h, k]⟩ : Shape).Idx → Val e) (L : List (View.Piece Val ⟨2, ![n, k]⟩ e))
    (hb : b = o + h) (hw : ∀ (r : Fin h) (c : Fin k) (y : Fin n), y.val = o + r.val → w (ix2 r c) = E y c)
    (hL : ∀ (y : Fin n) (c : Fin k), y.val < o → View.canon L (ix2 y c) = E y c) (y : Fin n) (c : Fin k) (hy : y.val < b) :
    View.canon ((⟨Rect.unit (s := ⟨2, ![n, k]⟩) ![o, 0] ![h, k] inb, w⟩ : View.Piece Val ⟨2, ![n, k]⟩ e) :: L) (ix2 y c) = E y c := by
  by_cases hc : y.val < o
  · rw [canon_not_mem inb w L y c (Or.inl hc)]; exact hL y c hc
  · rw [canon_mem inb w L y ⟨y.val - o, by omega⟩ c (by show y.val = o + (y.val - o); omega)]
    exact hw _ _ _ (by show y.val = o + (y.val - o); omega)
end

/-- The three stores of the window: the halo above, the tile, the halo below. -/
abbrev hP (i : grid0.Coords) (x0 : Vec Ideal S16x1024 .bf16) (x1 : Vec Ideal S2048x1024 .bf16) (x2 : Vec Ideal S16x1024 .bf16) : List (View.Piece (Elt Ideal) S2080x1024 .bf16) :=
  [⟨Rect.unit (s := S2080x1024) ![2064, 0] ![16, 1024] inb_S2080x1024_S16x1024_2064_0, k0_pay5 (F := Ideal) i x2⟩,
   ⟨Rect.unit (s := S2080x1024) ![16, 0] ![2048, 1024] inb_S2080x1024_S2048x1024_16_0, k0_pay4 (F := Ideal) x1⟩,
   ⟨Rect.unit (s := S2080x1024) ![0, 0] ![16, 1024] inb_S2080x1024_S16x1024_0_0, k0_pay3 (F := Ideal) i x0⟩]

/-- The window. -/
def hwA (i : grid0.Coords) (x0 : Vec Ideal S16x1024 .bf16) (x1 : Vec Ideal S2048x1024 .bf16) (x2 : Vec Ideal S16x1024 .bf16) : Vec Ideal S2080x1024 .bf16 :=
  View.canon (hP i x0 x1 x2)

/-- The four stores of the window's up-projection. -/
abbrev uP (a : Vec Ideal S1056x1024 .bf16) (b : Vec Ideal S1024x1024 .bf16) (wg wv : Vec Ideal S256x1024 .bf16) : List (View.Piece (Elt Ideal) S2080x512 .f32) :=
  [⟨Rect.unit (s := S2080x512) ![1056, 256] ![1024, 256] inb_S2080x512_S1024x256_1056_256, k0_pay11 (F := Ideal) (k0_pay10 b wv)⟩,
   ⟨Rect.unit (s := S2080x512) ![1056, 0] ![1024, 256] inb_S2080x512_S1024x256_1056_0, k0_pay9 (F := Ideal) b wg⟩,
   ⟨Rect.unit (s := S2080x512) ![0, 256] ![1056, 256] inb_S2080x512_S1056x256_0_256, k0_pay8 (F := Ideal) a wv⟩,
   ⟨Rect.unit (s := S2080x512) ![0, 0] ![1056, 256] inb_S2080x512_S1056x256_0_0, k0_pay7 (F := Ideal) a wg⟩]

variable {hw : Vec Ideal S2080x1024 .bf16} {a : Vec Ideal S1056x1024 .bf16} {b : Vec Ideal S1024x1024 .bf16} (wg wv : Vec Ideal S256x1024 .bf16)
  (ha : ∀ (r : Fin 1056) (k : Fin 1024) (y : Fin 2080), y.val = r.val → a (ix2 r k) = hw (ix2 y k))
  (hb : ∀ (r : Fin 1024) (k : Fin 1024) (y : Fin 2080), y.val = 1056 + r.val → b (ix2 r k) = hw (ix2 y k))
include ha hb

theorem uP_apply (y : Fin 2080) (q : Fin 512) : View.canon (uP a b wg wv) (ix2 y q) = uW hw wg wv y q := by
  unfold uW pairW
  by_cases hy : y.val < 1056
  · have e : ∀ k, a (ix2 (⟨y.val, hy⟩ : Fin 1056) k) = hw (ix2 y k) := fun k => ha _ k y rfl
    rw [uP, canon_off _ _ _ y q (Or.inl hy), canon_off _ _ _ y q (Or.inl hy)]
    by_cases hq : q.val < 256
    · rw [dif_pos hq, canon_off _ _ _ y q (by omega), canon_in _ _ _ y q ⟨y.val, hy⟩ ⟨q.val, hq⟩ (by show y.val = 0 + y.val; omega) (by show q.val = 0 + q.val; omega), pay7_apply]
      exact Finset.sum_congr rfl fun k _ => congrArg (· * (wg (ix2 ⟨q.val, hq⟩ k) : EReal)) (e k)
    · rw [dif_neg hq, canon_in _ _ _ y q ⟨y.val, hy⟩ ⟨q.val - 256, by omega⟩ (by show y.val = 0 + y.val; omega) (by show q.val = 256 + (q.val - 256); omega), pay8_apply]
      exact Finset.sum_congr rfl fun k _ => congrArg (· * (wv (ix2 ⟨q.val - 256, by omega⟩ k) : EReal)) (e k)
  · have e : ∀ k, b (ix2 (⟨y.val - 1056, by omega⟩ : Fin 1024) k) = hw (ix2 y k) := fun k => hb _ k y (by show y.val = 1056 + (y.val - 1056); omega)
    by_cases hq : q.val < 256
    · rw [dif_pos hq, uP, canon_off _ _ _ y q (by omega), canon_in _ _ _ y q ⟨y.val - 1056, by omega⟩ ⟨q.val, hq⟩ (by show y.val = 1056 + (y.val - 1056); omega) (by show q.val = 0 + q.val; omega), pay9_apply]
      exact Finset.sum_congr rfl fun k _ => congrArg (· * (wg (ix2 ⟨q.val, hq⟩ k) : EReal)) (e k)
    · rw [dif_neg hq, uP, canon_in _ _ _ y q ⟨y.val - 1056, by omega⟩ ⟨q.val - 256, by omega⟩ (by show y.val = 1056 + (y.val - 1056); omega) (by show q.val = 256 + (q.val - 256); omega), pay11_apply]
      exact Finset.sum_congr rfl fun k _ => congrArg (· * (wv (ix2 ⟨q.val - 256, by omega⟩ k) : EReal)) (e k)

omit ha hb in
/-- Half the rows of the down-projection, added to what was there. -/
theorem dn_hi {o : Vec Ideal S1024x1024 .f32} {a : Vec Ideal S1024x256 .bf16} {w : Vec Ideal S256x1024 .bf16} {O : Fin 2048 → Fin 1024 → EReal}
    {E : Fin 2048 → Fin 256 → EReal} (ho : ∀ (r : Fin 1024) (q : Fin 1024) (y : Fin 2048), y.val = 1024 + r.val → o (ix2 r q) = O y q)
    (hE : ∀ (r : Fin 1024) (q : Fin 256) (y : Fin 2048), y.val = 1024 + r.val → a (ix2 r q) = E y q)
    (r : Fin 1024) (q : Fin 1024) (y : Fin 2048) (hy : y.val = 1024 + r.val) :
    k0_pay2 (F := Ideal) o a w (ix2 r q) = O y q + ∑ k : Fin 256, E y k * w (ix2 k q) := by
  rw [pay2_apply, ho r q y hy]
  exact congrArg (O y q + ·) (Finset.sum_congr rfl fun k _ => congrArg (· * (w (ix2 k q) : EReal)) (hE r k y hy))

omit ha hb in
/-- The other half. -/
theorem dn_lo {o : Vec Ideal S1024x1024 .f32} {a : Vec Ideal S1024x256 .bf16} {w : Vec Ideal S256x1024 .bf16} {O : Fin 2048 → Fin 1024 → EReal}
    {E : Fin 2048 → Fin 256 → EReal} (ho : ∀ (r : Fin 1024) (q : Fin 1024) (y : Fin 2048), y.val = 0 + r.val → o (ix2 r q) = O y q)
    (hE : ∀ (r : Fin 1024) (q : Fin 256) (y : Fin 2048), y.val = 0 + r.val → a (ix2 r q) = E y q)
    (r : Fin 1024) (q : Fin 1024) (y : Fin 2048) (hy : y.val = 0 + r.val) :
    k0_pay180 (F := Ideal) o a w (ix2 r q) = O y q + ∑ k : Fin 256, E y k * w (ix2 k q) := by
  show k0_pay2 (F := Ideal) o a w (ix2 r q) = _
  rw [pay2_apply, ho r q y hy]
  exact congrArg (O y q + ·) (Finset.sum_congr rfl fun k _ => congrArg (· * (w (ix2 k q) : EReal)) (hE r k y hy))

/-- 48 rows loaded from the window's up-projection. -/
theorem loads {sig : RefSig} {κ : Kind} {sp : Space} (v : View sig κ sp S2080x512 .f32) (o : Nat) (inb) :
    Loads (uW hw wg wv) o (v.readCov (uP a b wg wv) (Rect.unit (s := S2080x512) ![o + 8, 0] ![48, 512] inb).toLoadRect) := fun r q y hy =>
  (readCov_rows v _ inb r q y hy).trans (uP_apply wg wv ha hb y q)

end Cert.N5

end
-- ==== Proof.N5.CaseA.lean ====
/- What the first point of a tile leaves in the three output blocks and in the window: 64 blocks of 32 rows of each. -/
module

public import proofs.«01_k».proof.Proof.Gen.Kernel5Ideal.Frame
public import proofs.«01_k».proof.Proof.N5.Stores

@[expose] public section

set_option maxRecDepth 65536
set_option maxHeartbeats 2000000

noncomputable section

namespace Cert.N5

open Idealize.ShloMosaic Cert.Kernel5Ideal Cert.Kernel5Ideal.Gen Cert.Pieces

variable (c : Dev nD) (i : grid0.Coords) (arg2 : Memref sig .tc .vmem S16x1024 .bf16) (harg2 : arg2.IsWhole) (arg3 : Memref sig .tc .vmem S2048x1024 .bf16) (harg3 : arg3.IsWhole) (arg4 : Memref sig .tc .vmem S16x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x1024 .bf16) (harg11 : arg11.IsWhole) (arg12 : Memref sig .tc .vmem S2048x1024 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2080x1024 .bf16) (harg15 : arg15.IsWhole) (arg16 : Memref sig .tc .vmem S2080x512 .f32) (harg16 : arg16.IsWhole) (arg17 : Memref sig .tc .vmem S2048x256 .bf16) (harg17 : arg17.IsWhole) (hc0 : cond0_0 i)
    (x0 : Vec Ideal S16x1024 .bf16) (x1 : Vec Ideal S2048x1024 .bf16) (x2 : Vec Ideal S16x1024 .bf16) (x3 : Vec Ideal S256x1024 .bf16) (x4 : Vec Ideal S256x1024 .bf16) (x5 : Vec Ideal S3x256 .f32) (x6 : Vec Ideal S3x256 .f32) (x7 : Vec Ideal S1x256 .f32) (x8 : Vec Ideal S1x256 .f32) (x9 : Vec Ideal S256x1024 .bf16)

/-- Output 11: the up-projection of the tile. -/
theorem out_A_11 (y : Fin 2048) (q : Fin 512) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 y q) = uW (hwA i x0 x1 x2) x3 x4 ⟨y.val + 16, by omega⟩ q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      arg15.view.readCov (hP i x0 x1 x2) (Rect.unit (s := S2080x1024) ![0, 0] ![1056, 1024] inb_S2080x1024_S1056x1024_0_0).toLoadRect (ix2 r k) = (hwA i x0 x1 x2) (ix2 y k) :=
    fun r k y hy => readCov_rows _ _ _ r k y (hy.trans (Nat.zero_add _).symm)
  have hb : ∀ (r : Fin 1024) (k : Fin 1024) (y : Fin 2080), y.val = 1056 + r.val →
      arg15.view.readCov (hP i x0 x1 x2) (Rect.unit (s := S2080x1024) ![1056, 0] ![1024, 1024] inb_S2080x1024_S1024x1024_1056_0).toLoadRect (ix2 r k) = (hwA i x0 x1 x2) (ix2 y k) :=
    fun r k y hy => readCov_rows _ _ _ r k y hy
  generalize arg15.view.readCov (hP i x0 x1 x2) (Rect.unit (s := S2080x1024) ![0, 0] ![1056, 1024] inb_S2080x1024_S1056x1024_0_0).toLoadRect = a at ha ⊢
  generalize arg15.view.readCov (hP i x0 x1 x2) (Rect.unit (s := S2080x1024) ![1056, 0] ![1024, 1024] inb_S2080x1024_S1024x1024_1056_0).toLoadRect = b at hb ⊢
  refine canon_step (Val := Elt Ideal) (e := .bf16) (b := 2048) (E := fun y q => uW (hwA i x0 x1 x2) x3 x4 ⟨y.val + 16, by omega⟩ q) _ _ _ ?_ ?_ ?_ y q y.isLt
  · rfl
  · exact fun r c y hy => blk21 _ _ _ (loads _ _ ha hb _ _ _) r y hy c
  iterate 62
    refine canon_step _ _ _ ?_ ?_ ?_
    · rfl
    · exact fun r c y hy => blk21 _ _ _ (loads _ _ ha hb _ _ _) r y hy c
  refine canon_step _ _ _ ?_ ?_ fun y c hy => absurd hy (Nat.not_lt_zero _)
  · rfl
  exact fun r c y hy => blk21 _ _ _ (loads _ _ ha hb _ _ _) r y hy c

/-- Output 12: the convolution of the tile. -/
theorem out_A_12 (y : Fin 2048) (q : Fin 512) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 y q) = u2W (hwA i x0 x1 x2) x3 x4 x5 x6 x7 x8 y q := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      arg15.view.readCov (hP i x0 x1 x2) (Rect.unit (s := S2080x1024) ![0, 0] ![1056, 1024] inb_S2080x1024_S1056x1024_0_0).toLoadRect (ix2 r k) = (hwA i x0 x1 x2) (ix2 y k) :=
    fun r k y hy => readCov_rows _ _ _ r k y (hy.trans (Nat.zero_add _).symm)
  have hb : ∀ (r : Fin 1024) (k : Fin 1024) (y : Fin 2080), y.val = 1056 + r.val →
      arg15.view.readCov (hP i x0 x1 x2) (Rect.unit (s := S2080x1024) ![1056, 0] ![1024, 1024] inb_S2080x1024_S1024x1024_1056_0).toLoadRect (ix2 r k) = (hwA i x0 x1 x2) (ix2 y k) :=
    fun r k y hy => readCov_rows _ _ _ r k y hy
  generalize arg15.view.readCov (hP i x0 x1 x2) (Rect.unit (s := S2080x1024) ![0, 0] ![1056, 1024] inb_S2080x1024_S1056x1024_0_0).toLoadRect = a at ha ⊢
  generalize arg15.view.readCov (hP i x0 x1 x2) (Rect.unit (s := S2080x1024) ![1056, 0] ![1024, 1024] inb_S2080x1024_S1024x1024_1056_0).toLoadRect = b at hb ⊢
  refine canon_step (Val := Elt Ideal) (e := .f32) (b := 2048) (E := u2W (hwA i x0 x1 x2) x3 x4 x5 x6 x7 x8) _ _ _ ?_ ?_ ?_ y q y.isLt
  · rfl
  · exact fun r c y hy => blk20 _ _ _ _ _ _ _ (loads _ _ ha hb _ _ _) r y hy c
  iterate 62
    refine canon_step _ _ _ ?_ ?_ ?_
    · rfl
    · exact fun r c y hy => blk20 _ _ _ _ _ _ _ (loads _ _ ha hb _ _ _) r y hy c
  refine canon_step _ _ _ ?_ ?_ fun y c hy => absurd hy (Nat.not_lt_zero _)
  · rfl
  exact fun r c y hy => blk20 _ _ _ _ _ _ _ (loads _ _ ha hb _ _ _) r y hy c

/-- Output 10: the down-projection of the gated unit. -/
theorem out_A_10 (y : Fin 2048) (q : Fin 1024) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 y q) =
    ∑ k : Fin 256, actW (hwA i x0 x1 x2) x3 x4 x5 x6 x7 x8 y k * x9 (ix2 k q) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      arg15.view.readCov (hP i x0 x1 x2) (Rect.unit (s := S2080x1024) ![0, 0] ![1056, 1024] inb_S2080x1024_S1056x1024_0_0).toLoadRect (ix2 r k) = (hwA i x0 x1 x2) (ix2 y k) :=
    fun r k y hy => readCov_rows _ _ _ r k y (hy.trans (Nat.zero_add _).symm)
  have hb : ∀ (r : Fin 1024) (k : Fin 1024) (y : Fin 2080), y.val = 1056 + r.val →
      arg15.view.readCov (hP i x0 x1 x2) (Rect.unit (s := S2080x1024) ![1056, 0] ![1024, 1024] inb_S2080x1024_S1024x1024_1056_0).toLoadRect (ix2 r k) = (hwA i x0 x1 x2) (ix2 y k) :=
    fun r k y hy => readCov_rows _ _ _ r k y hy
  generalize arg15.view.readCov (hP i x0 x1 x2) (Rect.unit (s := S2080x1024) ![0, 0] ![1056, 1024] inb_S2080x1024_S1056x1024_0_0).toLoadRect = a at ha ⊢
  generalize arg15.view.readCov (hP i x0 x1 x2) (Rect.unit (s := S2080x1024) ![1056, 0] ![1024, 1024] inb_S2080x1024_S1024x1024_1056_0).toLoadRect = b at hb ⊢
  refine Eq.trans ?_ (zero_add _)
  refine canon_step (Val := Elt Ideal) (e := .f32) (b := 2048) (E := fun y q => (fun _ _ => (0 : EReal)) y q + ∑ k : Fin 256, actW (hwA i x0 x1 x2) x3 x4 x5 x6 x7 x8 y k * x9 (ix2 k q)) _ _ _ ?_ ?_ ?_ y q y.isLt
  · rfl
  · refine dn_hi (fun r q y hy => (readCov_rows _ _ _ r q y hy).trans ((canon_not_mem _ _ _ y q (Or.inr (by omega))).trans ((congrFun (canon_whole _ _ _) _).trans (pay6_apply y q)))) fun r k y hy => ?_
    refine (readCov_rows _ _ _ r k y hy).trans ?_
    refine canon_step (Val := Elt Ideal) (e := .bf16) (b := 2048) (E := actW (hwA i x0 x1 x2) x3 x4 x5 x6 x7 x8) _ _ _ ?_ ?_ ?_ y k y.isLt
    · rfl
    · exact fun r c y hy => blk23 _ _ _ _ _ _ _ (loads _ _ ha hb _ _ _) r y hy c
    iterate 62
      refine canon_step _ _ _ ?_ ?_ ?_
      · rfl
      · exact fun r c y hy => blk23 _ _ _ _ _ _ _ (loads _ _ ha hb _ _ _) r y hy c
    refine canon_step _ _ _ ?_ ?_ fun y c hy => absurd hy (Nat.not_lt_zero _)
    · rfl
    exact fun r c y hy => blk23 _ _ _ _ _ _ _ (loads _ _ ha hb _ _ _) r y hy c
  refine canon_step _ _ _ ?_ ?_ fun y c hy => absurd hy (Nat.not_lt_zero _)
  · rfl
  · refine dn_lo (fun r q y hy => (readCov_rows _ _ _ r q y hy).trans ((congrFun (canon_whole _ _ _) _).trans (pay6_apply y q))) fun r k y hy => ?_
    refine (readCov_rows _ _ _ r k y hy).trans ?_
    refine canon_step (Val := Elt Ideal) (e := .bf16) (b := 1024) (E := actW (hwA i x0 x1 x2) x3 x4 x5 x6 x7 x8) _ _ _ ?_ ?_ ?_ y k (by have := r.isLt; omega)
    · rfl
    · exact fun r c y hy => blk23 _ _ _ _ _ _ _ (loads _ _ ha hb _ _ _) r y hy c
    iterate 30
      refine canon_step _ _ _ ?_ ?_ ?_
      · rfl
      · exact fun r c y hy => blk23 _ _ _ _ _ _ _ (loads _ _ ha hb _ _ _) r y hy c
    refine canon_step _ _ _ ?_ ?_ fun y c hy => absurd hy (Nat.not_lt_zero _)
    · rfl
    exact fun r c y hy => blk23 _ _ _ _ _ _ _ (loads _ _ ha hb _ _ _) r y hy c

/-- The window the first point leaves for the later ones. -/
theorem sout_A : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = hwA i x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  rfl

end Cert.N5

end
-- ==== Proof.N5.CaseB.lean ====
/- What a later point of a tile leaves in the three output blocks: 64 blocks of 32 rows of each. -/
module

public import proofs.«01_k».proof.Proof.Gen.Kernel5Ideal.Frame
public import proofs.«01_k».proof.Proof.N5.Stores

@[expose] public section

set_option maxRecDepth 65536
set_option maxHeartbeats 2000000

noncomputable section

namespace Cert.N5

open Idealize.ShloMosaic Cert.Kernel5Ideal Cert.Kernel5Ideal.Gen Cert.Pieces

variable (c : Dev nD) (i : grid0.Coords) (arg2 : Memref sig .tc .vmem S16x1024 .bf16) (harg2 : arg2.IsWhole) (arg3 : Memref sig .tc .vmem S2048x1024 .bf16) (harg3 : arg3.IsWhole) (arg4 : Memref sig .tc .vmem S16x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S3x256 .f32) (harg7 : arg7.IsWhole) (arg8 : Memref sig .tc .vmem S3x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x1024 .bf16) (harg11 : arg11.IsWhole) (arg12 : Memref sig .tc .vmem S2048x1024 .f32) (harg12 : arg12.IsWhole) (arg13 : Memref sig .tc .vmem S2048x512 .bf16) (harg13 : arg13.IsWhole) (arg14 : Memref sig .tc .vmem S2048x512 .f32) (harg14 : arg14.IsWhole) (arg15 : Memref sig .tc .vmem S2080x1024 .bf16) (harg15 : arg15.IsWhole) (arg16 : Memref sig .tc .vmem S2080x512 .f32) (harg16 : arg16.IsWhole) (arg17 : Memref sig .tc .vmem S2048x256 .bf16) (harg17 : arg17.IsWhole) (hc0 : ¬cond0_0 i)
    (x0 : Vec Ideal S16x1024 .bf16) (x1 : Vec Ideal S2048x1024 .bf16) (x2 : Vec Ideal S16x1024 .bf16) (x3 : Vec Ideal S256x1024 .bf16) (x4 : Vec Ideal S256x1024 .bf16) (x5 : Vec Ideal S3x256 .f32) (x6 : Vec Ideal S3x256 .f32) (x7 : Vec Ideal S1x256 .f32) (x8 : Vec Ideal S1x256 .f32) (x9 : Vec Ideal S256x1024 .bf16) (xo10 : Vec Ideal S2048x1024 .f32) (xs0 : Vec Ideal S2080x1024 .bf16)

/-- Output 11: the up-projection of the tile. -/
theorem out_B_11 (y : Fin 2048) (q : Fin 512) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0 (ix2 y q) = uW xs0 x3 x4 ⟨y.val + 16, by omega⟩ q := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      View.ld xs0 (Rect.unit (s := S2080x1024) ![0, 0] ![1056, 1024] inb_S2080x1024_S1056x1024_0_0) (ix2 r k) = xs0 (ix2 y k) :=
    fun r k y hy => ld_rows _ _ r k y (hy.trans (Nat.zero_add _).symm)
  have hb : ∀ (r : Fin 1024) (k : Fin 1024) (y : Fin 2080), y.val = 1056 + r.val →
      View.ld xs0 (Rect.unit (s := S2080x1024) ![1056, 0] ![1024, 1024] inb_S2080x1024_S1024x1024_1056_0) (ix2 r k) = xs0 (ix2 y k) :=
    fun r k y hy => ld_rows _ _ r k y hy
  generalize View.ld xs0 (Rect.unit (s := S2080x1024) ![0, 0] ![1056, 1024] inb_S2080x1024_S1056x1024_0_0) = a at ha ⊢
  generalize View.ld xs0 (Rect.unit (s := S2080x1024) ![1056, 0] ![1024, 1024] inb_S2080x1024_S1024x1024_1056_0) = b at hb ⊢
  refine canon_step (Val := Elt Ideal) (e := .bf16) (b := 2048) (E := fun y q => uW xs0 x3 x4 ⟨y.val + 16, by omega⟩ q) _ _ _ ?_ ?_ ?_ y q y.isLt
  · rfl
  · exact fun r c y hy => blk21 _ _ _ (loads _ _ ha hb _ _ _) r y hy c
  iterate 62
    refine canon_step _ _ _ ?_ ?_ ?_
    · rfl
    · exact fun r c y hy => blk21 _ _ _ (loads _ _ ha hb _ _ _) r y hy c
  refine canon_step _ _ _ ?_ ?_ fun y c hy => absurd hy (Nat.not_lt_zero _)
  · rfl
  exact fun r c y hy => blk21 _ _ _ (loads _ _ ha hb _ _ _) r y hy c

/-- Output 12: the convolution of the tile. -/
theorem out_B_12 (y : Fin 2048) (q : Fin 512) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0 (ix2 y q) = u2W xs0 x3 x4 x5 x6 x7 x8 y q := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      View.ld xs0 (Rect.unit (s := S2080x1024) ![0, 0] ![1056, 1024] inb_S2080x1024_S1056x1024_0_0) (ix2 r k) = xs0 (ix2 y k) :=
    fun r k y hy => ld_rows _ _ r k y (hy.trans (Nat.zero_add _).symm)
  have hb : ∀ (r : Fin 1024) (k : Fin 1024) (y : Fin 2080), y.val = 1056 + r.val →
      View.ld xs0 (Rect.unit (s := S2080x1024) ![1056, 0] ![1024, 1024] inb_S2080x1024_S1024x1024_1056_0) (ix2 r k) = xs0 (ix2 y k) :=
    fun r k y hy => ld_rows _ _ r k y hy
  generalize View.ld xs0 (Rect.unit (s := S2080x1024) ![0, 0] ![1056, 1024] inb_S2080x1024_S1056x1024_0_0) = a at ha ⊢
  generalize View.ld xs0 (Rect.unit (s := S2080x1024) ![1056, 0] ![1024, 1024] inb_S2080x1024_S1024x1024_1056_0) = b at hb ⊢
  refine canon_step (Val := Elt Ideal) (e := .f32) (b := 2048) (E := u2W xs0 x3 x4 x5 x6 x7 x8) _ _ _ ?_ ?_ ?_ y q y.isLt
  · rfl
  · exact fun r c y hy => blk20 _ _ _ _ _ _ _ (loads _ _ ha hb _ _ _) r y hy c
  iterate 62
    refine canon_step _ _ _ ?_ ?_ ?_
    · rfl
    · exact fun r c y hy => blk20 _ _ _ _ _ _ _ (loads _ _ ha hb _ _ _) r y hy c
  refine canon_step _ _ _ ?_ ?_ fun y c hy => absurd hy (Nat.not_lt_zero _)
  · rfl
  exact fun r c y hy => blk20 _ _ _ _ _ _ _ (loads _ _ ha hb _ _ _) r y hy c

/-- Output 10: the down-projection of the gated unit, over what was there. -/
theorem out_B_10 (y : Fin 2048) (q : Fin 1024) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0 (ix2 y q) =
    xo10 (ix2 y q) + ∑ k : Fin 256, actW xs0 x3 x4 x5 x6 x7 x8 y k * x9 (ix2 k q) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo10 xs0)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread, harg15.read_unread,
    ld_whole, shapeCast_self]
  have ha : ∀ (r : Fin 1056) (k : Fin 1024) (y : Fin 2080), y.val = r.val →
      View.ld xs0 (Rect.unit (s := S2080x1024) ![0, 0] ![1056, 1024] inb_S2080x1024_S1056x1024_0_0) (ix2 r k) = xs0 (ix2 y k) :=
    fun r k y hy => ld_rows _ _ r k y (hy.trans (Nat.zero_add _).symm)
  have hb : ∀ (r : Fin 1024) (k : Fin 1024) (y : Fin 2080), y.val = 1056 + r.val →
      View.ld xs0 (Rect.unit (s := S2080x1024) ![1056, 0] ![1024, 1024] inb_S2080x1024_S1024x1024_1056_0) (ix2 r k) = xs0 (ix2 y k) :=
    fun r k y hy => ld_rows _ _ r k y hy
  generalize View.ld xs0 (Rect.unit (s := S2080x1024) ![0, 0] ![1056, 1024] inb_S2080x1024_S1056x1024_0_0) = a at ha ⊢
  generalize View.ld xs0 (Rect.unit (s := S2080x1024) ![1056, 0] ![1024, 1024] inb_S2080x1024_S1024x1024_1056_0) = b at hb ⊢
  refine canon_step (Val := Elt Ideal) (e := .f32) (b := 2048) (E := fun y q => (fun y q => xo10 (ix2 y q)) y q + ∑ k : Fin 256, actW xs0 x3 x4 x5 x6 x7 x8 y k * x9 (ix2 k q)) _ _ _ ?_ ?_ ?_ y q y.isLt
  · rfl
  · refine dn_hi (fun r q y hy => ld_rows _ _ r q y hy) fun r k y hy => ?_
    refine (readCov_rows _ _ _ r k y hy).trans ?_
    refine canon_step (Val := Elt Ideal) (e := .bf16) (b := 2048) (E := actW xs0 x3 x4 x5 x6 x7 x8) _ _ _ ?_ ?_ ?_ y k y.isLt
    · rfl
    · exact fun r c y hy => blk23 _ _ _ _ _ _ _ (loads _ _ ha hb _ _ _) r y hy c
    iterate 62
      refine canon_step _ _ _ ?_ ?_ ?_
      · rfl
      · exact fun r c y hy => blk23 _ _ _ _ _ _ _ (loads _ _ ha hb _ _ _) r y hy c
    refine canon_step _ _ _ ?_ ?_ fun y c hy => absurd hy (Nat.not_lt_zero _)
    · rfl
    exact fun r c y hy => blk23 _ _ _ _ _ _ _ (loads _ _ ha hb _ _ _) r y hy c
  refine canon_step _ _ _ ?_ ?_ fun y c hy => absurd hy (Nat.not_lt_zero _)
  · rfl
  · refine dn_lo (fun r q y hy => ld_rows _ _ r q y hy) fun r k y hy => ?_
    refine (readCov_rows _ _ _ r k y hy).trans ?_
    refine canon_step (Val := Elt Ideal) (e := .bf16) (b := 1024) (E := actW xs0 x3 x4 x5 x6 x7 x8) _ _ _ ?_ ?_ ?_ y k (by have := r.isLt; omega)
    · rfl
    · exact fun r c y hy => blk23 _ _ _ _ _ _ _ (loads _ _ ha hb _ _ _) r y hy c
    iterate 30
      refine canon_step _ _ _ ?_ ?_ ?_
      · rfl
      · exact fun r c y hy => blk23 _ _ _ _ _ _ _ (loads _ _ ha hb _ _ _) r y hy c
    refine canon_step _ _ _ ?_ ?_ fun y c hy => absurd hy (Nat.not_lt_zero _)
    · rfl
    exact fun r c y hy => blk23 _ _ _ _ _ _ _ (loads _ _ ha hb _ _ _) r y hy c

end Cert.N5

end
-- ==== Proof.N5.Fold.lean ====
/- What the outputs and the scratch hold after each point, and what the three result arrays hold after the run: the window
   stays through a tile's eleven points, the down-projection is a sum over them, and the other two results are blocks. -/
module

public import proofs.«01_k».proof.Proof.N5.CaseA
public import proofs.«01_k».proof.Proof.N5.CaseB
public import Idealize.ShloMosaic.Lib.Pipeline.ValueKit.Geometry

@[expose] public section

set_option maxRecDepth 16384

noncomputable section

namespace Cert.N5

open Idealize.ShloMosaic Idealize.ShloMosaic.TcCoe Cert.Kernel5Ideal Cert.Kernel5Ideal.Gen Cert.Pieces
open Idealize.ShloMosaic.Pipeline (Dat)

variable (m : (ℓ : Loc nD τ sig) → Buf (Elt Ideal) ℓ) (c : Dev nD)

/-- There are twenty-two points. -/
theorem N_eq : cfg0.N = 22 := N_0
/-- Point `C` of tile `T`. -/
abbrev pt (T : Fin 2) (C : Fin 11) : Fin cfg0.N := ⟨11 * T.val + C.val, lt_of_lt_of_eq (show 11 * T.val + C.val < 22 by omega) N_eq.symm⟩

/-- Tile `T`'s window. -/
def H (T : Fin 2) : Vec Ideal S2080x1024 .bf16 := hwA (grid0.coords (pt T 0)) (iblk m c 0 (pt T 0)) (iblk m c 1 (pt T 0)) (iblk m c 2 (pt T 0))

/-- The up-projection of a point. -/
abbrev tU (T : Fin 2) (C : Fin 11) := uW (H m c T) (iblk m c 3 (pt T C)) (iblk m c 4 (pt T C))
/-- The convolution of a point. -/
abbrev tU2 (T : Fin 2) (C : Fin 11) := u2W (H m c T) (iblk m c 3 (pt T C)) (iblk m c 4 (pt T C)) (iblk m c 5 (pt T C)) (iblk m c 6 (pt T C)) (iblk m c 7 (pt T C)) (iblk m c 8 (pt T C))
/-- The gated unit of a point. -/
abbrev tAct (T : Fin 2) (C : Fin 11) := actW (H m c T) (iblk m c 3 (pt T C)) (iblk m c 4 (pt T C)) (iblk m c 5 (pt T C)) (iblk m c 6 (pt T C)) (iblk m c 7 (pt T C)) (iblk m c 8 (pt T C))
/-- What a point adds to the down-projection. -/
abbrev tD (T : Fin 2) (C : Fin 11) (y : Fin 2048) (q : Fin 1024) : EReal := ∑ k : Fin 256, tAct m c T C y k * (iblk m c 9 (pt T C) : Vec Ideal S256x1024 .bf16) (ix2 k q)

variable (T : Fin 2)

theorem mod_first : (pt T 0).val % 11 = 0 := by show (11 * T.val + 0) % 11 = 0; omega
theorem mod_next (C : Fin 11) (h : C.val ≠ 0) : ¬ (pt T C).val % 11 = 0 := by show ¬ (11 * T.val + C.val) % 11 = 0; omega

/-- The scratch holds the tile's window after each of the tile's points. -/
theorem scr (n : ℕ) (h : n < 11) : (outsAt0 m c (pt T ⟨n, h⟩).val (pt T ⟨n, h⟩).isLt).2.2.2 = H m c T := by
  induction n with
  | zero =>
    refine (congrArg (·.2.2.2) (outsAt0_A m c (pt T 0) (mod_first T))).trans ?_
    dsimp only
    exact sout_A ..
  | succ n ih =>
    refine (congrArg (·.2.2.2) (outsAt0_B m c (pt T ⟨n + 1, h⟩) (mod_next T _ (Nat.succ_ne_zero n)))).trans ?_
    dsimp only
    unfold sout0_B_0
    exact ih (by omega)

/-- What a later point of a tile finds in the scratch. -/
theorem prev (C : Fin 11) (h : C.val ≠ 0) : (outsAt0 m c ((pt T C).val - 1) (Nat.lt_of_le_of_lt (Nat.sub_le _ _) (pt T C).isLt)).2.2.2 = H m c T := by
  obtain ⟨n, hn⟩ := C
  cases n with
  | zero => exact absurd rfl h
  | succ n => exact scr m c T n (by omega)

variable (C : Fin 11)

/-- Every point leaves its block of the up-projection. -/
theorem outs_11 (y : Fin 2048) (q : Fin 512) : (outsAt0 m c (pt T C).val (pt T C).isLt).2.1 (ix2 y q) = tU m c T C ⟨y.val + 16, by omega⟩ q := by
  by_cases h : C.val = 0
  · obtain rfl : C = 0 := Fin.ext h
    refine (congrFun (congrArg (·.2.1) (outsAt0_A m c (pt T 0) (mod_first T))) _).trans ?_
    dsimp only
    exact out_A_11 ..
  · refine (congrFun (congrArg (·.2.1) (outsAt0_B m c (pt T C) (mod_next T C h))) _).trans ?_
    dsimp only
    refine (out_B_11 ..).trans ?_
    exact congrArg (fun X => uW X _ _ _ _) (prev m c T C h)

/-- Every point leaves its block of the convolution. -/
theorem outs_12 (y : Fin 2048) (q : Fin 512) : (outsAt0 m c (pt T C).val (pt T C).isLt).2.2.1 (ix2 y q) = tU2 m c T C y q := by
  by_cases h : C.val = 0
  · obtain rfl : C = 0 := Fin.ext h
    refine (congrFun (congrArg (·.2.2.1) (outsAt0_A m c (pt T 0) (mod_first T))) _).trans ?_
    dsimp only
    exact out_A_12 ..
  · refine (congrFun (congrArg (·.2.2.1) (outsAt0_B m c (pt T C) (mod_next T C h))) _).trans ?_
    dsimp only
    refine (out_B_12 ..).trans ?_
    exact congrArg (fun X => u2W X _ _ _ _ _ _ _ _) (prev m c T C h)

/-- After a tile's point `n` the block of the down-projection is the sum of what the points up to `n` add. -/
theorem outs_10 (n : ℕ) (h : n < 11) (y : Fin 2048) (q : Fin 1024) :
    (outsAt0 m c (pt T ⟨n, h⟩).val (pt T ⟨n, h⟩).isLt).1 (ix2 y q) = ∑ s : Fin (n + 1), tD m c T ⟨s.val, by omega⟩ y q := by
  induction n with
  | zero =>
    rw [Fin.sum_univ_one]
    refine (congrFun (congrArg (·.1) (outsAt0_A m c (pt T 0) (mod_first T))) _).trans ?_
    dsimp only
    exact out_A_10 ..
  | succ n ih =>
    rw [Fin.sum_univ_castSucc]
    refine (congrFun (congrArg (·.1) (outsAt0_B m c (pt T ⟨n + 1, h⟩) (mod_next T _ (Nat.succ_ne_zero n)))) _).trans ?_
    dsimp only
    refine (out_B_10 ..).trans ?_
    refine congrArg₂ (· + ·) (ih (by omega)) ?_
    exact congrArg (fun X => ∑ k : Fin 256, actW X _ _ _ _ _ _ y k * (iblk m c 9 (pt T ⟨n + 1, h⟩) : Vec Ideal S256x1024 .bf16) (ix2 k q)) (prev m c T ⟨n + 1, h⟩ (Nat.succ_ne_zero n))

/-! ## The arrays after the run -/

/-- The down-projection's array after the run. -/
abbrev G10 : Vec Ideal S4096x1024 .f32 := (dats m 0 c).arrAt 10 cfg0.N
/-- The up-projection's array after the run. -/
abbrev G11 : Vec Ideal S4096x5632 .bf16 := (dats m 0 c).arrAt 11 cfg0.N
/-- The convolution's array after the run. -/
abbrev G12 : Vec Ideal S4096x5632 .f32 := (dats m 0 c).arrAt 12 cfg0.N

/-- Points that write back write different blocks of output 10. -/
theorem index_10 : ∀ t t' : Fin cfg0.N, (cfg0.win 10).flush t = true → (cfg0.win 10).flush t' = true → win0_10.index t = win0_10.index t' → t = t' :=
  (by decide +kernel : ∀ t t' : Fin grid0.N, win0_10.flush t = true → win0_10.flush t' = true → win0_10.index t = win0_10.index t' → t = t')
/-- Points that write back write different blocks of output 11. -/
theorem index_11 : ∀ t t' : Fin cfg0.N, (cfg0.win 11).flush t = true → (cfg0.win 11).flush t' = true → win0_11.index t = win0_11.index t' → t = t' :=
  (by decide +kernel : ∀ t t' : Fin grid0.N, win0_11.flush t = true → win0_11.flush t' = true → win0_11.index t = win0_11.index t' → t = t')
/-- Points that write back write different blocks of output 12. -/
theorem index_12 : ∀ t t' : Fin cfg0.N, (cfg0.win 12).flush t = true → (cfg0.win 12).flush t' = true → win0_12.index t = win0_12.index t' → t = t' :=
  (by decide +kernel : ∀ t t' : Fin grid0.N, win0_12.flush t = true → win0_12.flush t' = true → win0_12.index t = win0_12.index t' → t = t')

/-- A block of output 10's array is what its point wrote back. -/
theorem blocks_10 (t : Fin cfg0.N) (hf : (cfg0.win 10).flush t = true) :
    ((cfg0.win 10).blk t).view.read (Elt Ideal) ((dats m 0 c).arrAt 10 cfg0.N) = (cfg0.win 10).cut (grid0.coords t) ((dats m 0 c).after 10 t) :=
  (dats m 0 c).read_blk_arrAt_eq_flushed 10 (fun t t' h h' hne => (cfg0.win 10).disjoint_blk fun e => hne (index_10 t t' h h' e)) cfg0.N t t.isLt hf
/-- A block of output 11's array is what its point wrote back. -/
theorem blocks_11 (t : Fin cfg0.N) (hf : (cfg0.win 11).flush t = true) :
    ((cfg0.win 11).blk t).view.read (Elt Ideal) ((dats m 0 c).arrAt 11 cfg0.N) = (cfg0.win 11).cut (grid0.coords t) ((dats m 0 c).after 11 t) :=
  (dats m 0 c).read_blk_arrAt_eq_flushed 11 (fun t t' h h' hne => (cfg0.win 11).disjoint_blk fun e => hne (index_11 t t' h h' e)) cfg0.N t t.isLt hf
/-- A block of output 12's array is what its point wrote back. -/
theorem blocks_12 (t : Fin cfg0.N) (hf : (cfg0.win 12).flush t = true) :
    ((cfg0.win 12).blk t).view.read (Elt Ideal) ((dats m 0 c).arrAt 12 cfg0.N) = (cfg0.win 12).cut (grid0.coords t) ((dats m 0 c).after 12 t) :=
  (dats m 0 c).read_blk_arrAt_eq_flushed 12 (fun t t' h h' hne => (cfg0.win 12).disjoint_blk fun e => hne (index_12 t t' h h' e)) cfg0.N t t.isLt hf

theorem flush_10 : ∀ T : Fin 2, (cfg0.win 10).flush (pt T 10) = true := by decide +kernel
theorem flush_11 : ∀ (T : Fin 2) (C : Fin 11), (cfg0.win 11).flush (pt T C) = true := by decide +kernel
theorem flush_12 : ∀ (T : Fin 2) (C : Fin 11), (cfg0.win 12).flush (pt T C) = true := by decide +kernel
theorem place_10 : ∀ T : Fin 2, win0_10.index (pt T 10) = ![T.val, 0] := by decide +kernel
theorem place_11 : ∀ (T : Fin 2) (C : Fin 11), win0_11.index (pt T C) = ![T.val, C.val] := by decide +kernel
theorem place_12 : ∀ (T : Fin 2) (C : Fin 11), win0_12.index (pt T C) = ![T.val, C.val] := by decide +kernel

/-- The down-projection after the run, by tiles. -/
theorem G10_row (y : Fin 2048) (q : Fin 1024) : G10 m c (ix2 (row T y) q) = ∑ C : Fin 11, tD m c T C y q := by
  have e := congrFun (blocks_10 m c (pt T 10) (flush_10 T)) (ix2 y q)
  rw [View.read_apply] at e
  refine Eq.trans ?_ (e.trans ((congrFun (after0_10 m c (pt T 10)) _).trans (outs_10 m c T 10 (by decide) y q)))
  show G10 m c _ = G10 m c _
  congr 1
  funext a
  apply Fin.ext
  match a with
  | ⟨0, _⟩ => blk_simp [place_10]; show 2048 * T.val + y.val = T.val * 2048 + y.val; omega
  | ⟨1, _⟩ => blk_simp [place_10]

/-- The up-projection after the run, by blocks. -/
theorem G11_blk (y : Fin 2048) (q : Fin 512) : G11 m c (ix2 (row T y) (ocol C q)) = tU m c T C ⟨y.val + 16, by omega⟩ q := by
  have e := congrFun (blocks_11 m c (pt T C) (flush_11 T C)) (ix2 y q)
  rw [View.read_apply] at e
  refine Eq.trans ?_ (e.trans ((congrFun (after0_11 m c (pt T C)) _).trans (outs_11 m c T C y q)))
  show G11 m c _ = G11 m c _
  congr 1
  funext a
  apply Fin.ext
  match a with
  | ⟨0, _⟩ => blk_simp [place_11]; show 2048 * T.val + y.val = T.val * 2048 + y.val; omega
  | ⟨1, _⟩ => blk_simp [place_11]; show 512 * C.val + q.val = C.val * 512 + q.val; omega

/-- The convolution after the run, by blocks. -/
theorem G12_blk (y : Fin 2048) (q : Fin 512) : G12 m c (ix2 (row T y) (ocol C q)) = tU2 m c T C y q := by
  have e := congrFun (blocks_12 m c (pt T C) (flush_12 T C)) (ix2 y q)
  rw [View.read_apply] at e
  refine Eq.trans ?_ (e.trans ((congrFun (after0_12 m c (pt T C)) _).trans (outs_12 m c T C y q)))
  show G12 m c _ = G12 m c _
  congr 1
  funext a
  apply Fin.ext
  match a with
  | ⟨0, _⟩ => blk_simp [place_12]; show 2048 * T.val + y.val = T.val * 2048 + y.val; omega
  | ⟨1, _⟩ => blk_simp [place_12]; show 512 * C.val + q.val = C.val * 512 + q.val; omega

end Cert.N5

end
-- ==== Proof.N5.Host.lean ====
/- The kernel's blocks as parts of the call's five arrays, and the tile's window as rows of the norm: the tile's own, the last
   row before it and the first after it, or zeros beyond the ends. -/
module

public import proofs.«01_k».proof.Proof.N5.Fold
public import Idealize.ShloMosaic.Lib.StableHlo.ReadAt
public import Idealize.ShloMosaic.Lib.Claim
public import Idealize.ShloMosaic.Lib.Pipeline.ValueKit.Geometry

@[expose] public section

set_option maxRecDepth 16384

noncomputable section

namespace Cert.N5

open Idealize.ShloMosaic Cert.Kernel5Ideal Cert.Kernel5Ideal.Gen Cert.Pieces Idealize.ShloMosaic.TcCoe

variable (m : (ℓ : Loc nD τ sig) → Buf (Elt Ideal) ℓ) (c : Dev nD)

/-- The five arrays as the kernel's program is given them. -/
def arrays : Arrays where
  h := fun p q => (m ((c : Thread nD τ).loc main_arg0) : Vec Ideal S4096x1024 .bf16) (ix2 p q)
  w := fun p q => (m ((c : Thread nD τ).loc main_arg1) : Vec Ideal S1024x5632 .f32) (ix2 p q)
  cw := fun p q => (m ((c : Thread nD τ).loc main_arg2) : Vec Ideal S3x5632 .f32) (ix2 p q)
  b := fun q => (m ((c : Thread nD τ).loc main_arg3) : Vec Ideal S1x5632 .f32) (ix2 0 q)
  wd := fun p q => (m ((c : Thread nD τ).loc main_arg4) : Vec Ideal S2816x1024 .f32) (ix2 p q)

/-- The up-projection's weights after the transpose and the cast. -/
theorem V1_apply (p : Fin 5632) (q : Fin 1024) : (V m c main_v1 : Vec Ideal S5632x1024 .bf16) (ix2 p q) = (arrays m c).w q p := by
  unfold arrays V
  after_reads_at

/-- The down-projection's weights after the cast. -/
theorem V2_apply (p : Fin 2816) (q : Fin 1024) : (V m c main_v2 : Vec Ideal S2816x1024 .bf16) (ix2 p q) = (arrays m c).wd p q := by
  unfold arrays V
  after_reads_at

/-- The gate's column of a block. -/
abbrev gcol (C : Fin 11) (k : Fin 256) : Fin 5632 := ⟨256 * C.val + k.val, by omega⟩
/-- The value's column of a block. -/
abbrev vcol (C : Fin 11) (k : Fin 256) : Fin 5632 := ⟨2816 + 256 * C.val + k.val, by omega⟩

theorem place_0 : win0_0.index (pt 1 0) = ![127, 0] := by decide +kernel
theorem place_1 : ∀ T : Fin 2, win0_1.index (pt T 0) = ![T.val, 0] := by decide +kernel
theorem place_2 : win0_2.index (pt 0 0) = ![128, 0] := by decide +kernel
theorem place_3 : ∀ (T : Fin 2) (C : Fin 11), win0_3.index (pt T C) = ![C.val, 0] := by decide +kernel
theorem place_4 : ∀ (T : Fin 2) (C : Fin 11), win0_4.index (pt T C) = ![C.val + 11, 0] := by decide +kernel
theorem place_5 : ∀ (T : Fin 2) (C : Fin 11), win0_5.index (pt T C) = ![0, C.val] := by decide +kernel
theorem place_6 : ∀ (T : Fin 2) (C : Fin 11), win0_6.index (pt T C) = ![0, C.val + 11] := by decide +kernel
theorem place_7 : ∀ (T : Fin 2) (C : Fin 11), win0_7.index (pt T C) = ![0, C.val] := by decide +kernel
theorem place_8 : ∀ (T : Fin 2) (C : Fin 11), win0_8.index (pt T C) = ![0, C.val + 11] := by decide +kernel
theorem place_9 : ∀ (T : Fin 2) (C : Fin 11), win0_9.index (pt T C) = ![C.val, 0] := by decide +kernel

/-- The last row of the halo above the second tile. -/
theorem blk_0 (k : Fin 1024) : (iblk m c 0 (pt 1 0) : Vec Ideal S16x1024 .bf16) (ix2 15 k) = (arrays m c).h 2047 k := by
  unfold arrays
  show _ = m ((c : Thread nD τ).loc main_arg0) (ix2 2047 k)
  rw [← V_main_arg0 m c]
  unfold iblk
  rw [View.read_apply]
  show V m c main_arg0 _ = V m c main_arg0 _
  congr 1
  funext a
  apply Fin.ext
  match a with
  | ⟨0, _⟩ => blk_simp [place_0]; rfl
  | ⟨1, _⟩ => blk_simp [place_0]

/-- The tile. -/
theorem blk_1 (T : Fin 2) (r : Fin 2048) (k : Fin 1024) : (iblk m c 1 (pt T 0) : Vec Ideal S2048x1024 .bf16) (ix2 r k) = (arrays m c).h (row T r) k := by
  unfold arrays
  show _ = m ((c : Thread nD τ).loc main_arg0) (ix2 (row T r) k)
  rw [← V_main_arg0 m c]
  unfold iblk
  rw [View.read_apply]
  show V m c main_arg0 _ = V m c main_arg0 _
  congr 1
  funext a
  apply Fin.ext
  match a with
  | ⟨0, _⟩ => blk_simp [place_1]; show T.val * 2048 + r.val = 2048 * T.val + r.val; omega
  | ⟨1, _⟩ => blk_simp [place_1]

/-- The first row of the halo below the first tile. -/
theorem blk_2 (k : Fin 1024) : (iblk m c 2 (pt 0 0) : Vec Ideal S16x1024 .bf16) (ix2 0 k) = (arrays m c).h 2048 k := by
  unfold arrays
  show _ = m ((c : Thread nD τ).loc main_arg0) (ix2 2048 k)
  rw [← V_main_arg0 m c]
  unfold iblk
  rw [View.read_apply]
  show V m c main_arg0 _ = V m c main_arg0 _
  congr 1
  funext a
  apply Fin.ext
  match a with
  | ⟨0, _⟩ => blk_simp [place_2]; rfl
  | ⟨1, _⟩ => blk_simp [place_2]

variable (T : Fin 2) (C : Fin 11)

/-- The gate's weights of a block. -/
theorem blk_3 (p : Fin 256) (k : Fin 1024) : (iblk m c 3 (pt T C) : Vec Ideal S256x1024 .bf16) (ix2 p k) = (arrays m c).w k (gcol C p) := by
  refine Eq.trans ?_ (V1_apply m c (gcol C p) k)
  unfold iblk
  rw [View.read_apply]
  show V m c main_v1 _ = V m c main_v1 _
  congr 1
  funext a
  apply Fin.ext
  match a with
  | ⟨0, _⟩ => blk_simp [place_3]; show C.val * 256 + p.val = 256 * C.val + p.val; omega
  | ⟨1, _⟩ => blk_simp [place_3]

/-- The value's weights of a block. -/
theorem blk_4 (p : Fin 256) (k : Fin 1024) : (iblk m c 4 (pt T C) : Vec Ideal S256x1024 .bf16) (ix2 p k) = (arrays m c).w k (vcol C p) := by
  refine Eq.trans ?_ (V1_apply m c (vcol C p) k)
  unfold iblk
  rw [View.read_apply]
  show V m c main_v1 _ = V m c main_v1 _
  congr 1
  funext a
  apply Fin.ext
  match a with
  | ⟨0, _⟩ => blk_simp [place_4]; show (C.val + 11) * 256 + p.val = 2816 + 256 * C.val + p.val; omega
  | ⟨1, _⟩ => blk_simp [place_4]

/-- The gate's taps of a block. -/
theorem blk_5 (r : Fin 3) (p : Fin 256) : (iblk m c 5 (pt T C) : Vec Ideal S3x256 .f32) (ix2 r p) = (arrays m c).cw r (gcol C p) := by
  unfold arrays
  show _ = m ((c : Thread nD τ).loc main_arg2) (ix2 r (gcol C p))
  rw [← V_main_arg2 m c]
  unfold iblk
  rw [View.read_apply]
  show V m c main_arg2 _ = V m c main_arg2 _
  congr 1
  funext a
  apply Fin.ext
  match a with
  | ⟨0, _⟩ => blk_simp [place_5]
  | ⟨1, _⟩ => blk_simp [place_5]; show C.val * 256 + p.val = 256 * C.val + p.val; omega

/-- The value's taps of a block. -/
theorem blk_6 (r : Fin 3) (p : Fin 256) : (iblk m c 6 (pt T C) : Vec Ideal S3x256 .f32) (ix2 r p) = (arrays m c).cw r (vcol C p) := by
  unfold arrays
  show _ = m ((c : Thread nD τ).loc main_arg2) (ix2 r (vcol C p))
  rw [← V_main_arg2 m c]
  unfold iblk
  rw [View.read_apply]
  show V m c main_arg2 _ = V m c main_arg2 _
  congr 1
  funext a
  apply Fin.ext
  match a with
  | ⟨0, _⟩ => blk_simp [place_6]
  | ⟨1, _⟩ => blk_simp [place_6]; show (C.val + 11) * 256 + p.val = 2816 + 256 * C.val + p.val; omega

/-- The gate's bias of a block. -/
theorem blk_7 (p : Fin 256) : (iblk m c 7 (pt T C) : Vec Ideal S1x256 .f32) (ix2 0 p) = (arrays m c).b (gcol C p) := by
  unfold arrays
  show _ = m ((c : Thread nD τ).loc main_arg3) (ix2 0 (gcol C p))
  rw [← V_main_arg3 m c]
  unfold iblk
  rw [View.read_apply]
  show V m c main_arg3 _ = V m c main_arg3 _
  congr 1
  funext a
  apply Fin.ext
  match a with
  | ⟨0, _⟩ => blk_simp [place_7]
  | ⟨1, _⟩ => blk_simp [place_7]; show C.val * 256 + p.val = 256 * C.val + p.val; omega

/-- The value's bias of a block. -/
theorem blk_8 (p : Fin 256) : (iblk m c 8 (pt T C) : Vec Ideal S1x256 .f32) (ix2 0 p) = (arrays m c).b (vcol C p) := by
  unfold arrays
  show _ = m ((c : Thread nD τ).loc main_arg3) (ix2 0 (vcol C p))
  rw [← V_main_arg3 m c]
  unfold iblk
  rw [View.read_apply]
  show V m c main_arg3 _ = V m c main_arg3 _
  congr 1
  funext a
  apply Fin.ext
  match a with
  | ⟨0, _⟩ => blk_simp [place_8]
  | ⟨1, _⟩ => blk_simp [place_8]; show (C.val + 11) * 256 + p.val = 2816 + 256 * C.val + p.val; omega

/-- The down-projection's weights of a block. -/
theorem blk_9 (k : Fin 256) (q : Fin 1024) : (iblk m c 9 (pt T C) : Vec Ideal S256x1024 .bf16) (ix2 k q) = (arrays m c).wd (fcol C k) q := by
  refine Eq.trans ?_ (V2_apply m c (fcol C k) q)
  unfold iblk
  rw [View.read_apply]
  show V m c main_v2 _ = V m c main_v2 _
  congr 1
  funext a
  apply Fin.ext
  match a with
  | ⟨0, _⟩ => blk_simp [place_9]; show C.val * 256 + k.val = 256 * C.val + k.val; omega
  | ⟨1, _⟩ => blk_simp [place_9]

/-! ## The window -/

theorem coord : ∀ T : Fin 2, ((grid0.coords (pt T 0)) 0).val = T.val := by decide +kernel

theorem sel0 {α : Type} (a b : α) : Scalar.select 0#1 a b = b := if_neg (by decide)
theorem sel1 {α : Type} (a b : α) : Scalar.select 1#1 a b = a := if_pos rfl

variable (i : grid0.Coords) (x : Vec Ideal S16x1024 .bf16) (r : Fin 16) (k : Fin 1024)

/-- Above the first tile there are zeros. -/
theorem pay3_end (hi : (i 0).val = 0) : k0_pay3 (F := Ideal) i x (ix2 r k) = (0 : EReal) := by
  have hb : Scalar.cmpi .sgt (BitVec.ofNat 32 (i 0).val) 0#32 = 0#1 := by rw [hi]; decide
  unfold k0_pay3
  dsimp only
  rw [hb]
  simp only [sel0]
  pointwise

/-- Above the second there is the halo. -/
theorem pay3_in (hi : (i 0).val = 1) : k0_pay3 (F := Ideal) i x (ix2 r k) = x (ix2 r k) := by
  have hb : Scalar.cmpi .sgt (BitVec.ofNat 32 (i 0).val) 0#32 = 1#1 := by rw [hi]; decide
  unfold k0_pay3
  dsimp only
  rw [hb]
  simp only [sel1]
  pointwise

/-- Below the last tile there are zeros. -/
theorem pay5_end (hi : (i 0).val = 1) : k0_pay5 (F := Ideal) i x (ix2 r k) = (0 : EReal) := by
  have hb : Scalar.cmpi .slt (BitVec.ofNat 32 (i 0).val) 1#32 = 0#1 := by rw [hi]; decide
  unfold k0_pay5
  dsimp only
  rw [hb]
  simp only [sel0]
  pointwise

/-- Below the first there is the halo. -/
theorem pay5_in (hi : (i 0).val = 0) : k0_pay5 (F := Ideal) i x (ix2 r k) = x (ix2 r k) := by
  have hb : Scalar.cmpi .slt (BitVec.ofNat 32 (i 0).val) 1#32 = 1#1 := by rw [hi]; decide
  unfold k0_pay5
  dsimp only
  rw [hb]
  simp only [sel1]
  pointwise

theorem pay4_apply (x : Vec Ideal S2048x1024 .bf16) (r : Fin 2048) (k : Fin 1024) : k0_pay4 (F := Ideal) x (ix2 r k) = x (ix2 r k) := by
  unfold k0_pay4
  pointwise

/-- The rows of the window that are used are the rows of the norm, from the one before the tile to the one after it. -/
theorem H_row (y : Fin 2080) (n : Fin 4098) (h0 : 15 ≤ y.val) (h1 : y.val ≤ 2064) (hn : n.val + 15 = 2048 * T.val + y.val) (k : Fin 1024) :
    H m c T (ix2 y k) = (arrays m c).hp n k := by
  unfold H hwA hP Arrays.hp
  have hT : T.val = 0 ∨ T.val = 1 := by omega
  by_cases ht : y.val = 2064
  · rw [canon_in _ _ _ y k (0 : Fin 16) k (by show y.val = 2064 + 0; omega) (by show k.val = 0 + k.val; omega)]
    rcases hT with h | h
    · obtain rfl : T = 0 := Fin.ext h
      rw [dif_pos (by constructor <;> simp at hn <;> omega)]
      refine (pay5_in _ _ _ _ (coord 0)).trans ((blk_2 m c k).trans (congrArg (fun a => (arrays m c).h a k) (Fin.ext ?_)))
      simp at hn
      show 2048 = n.val - 1
      omega
    · obtain rfl : T = 1 := Fin.ext h
      rw [dif_neg (by simp at hn; omega)]
      exact pay5_end _ _ _ _ (coord 1)
  · rw [canon_off _ _ _ y k (by omega)]
    by_cases hm : 16 ≤ y.val
    · rw [canon_in _ _ _ y k (⟨y.val - 16, by omega⟩ : Fin 2048) k (by show y.val = 16 + (y.val - 16); omega) (by show k.val = 0 + k.val; omega)]
      rw [dif_pos (by omega)]
      refine (pay4_apply _ _ _).trans ((blk_1 m c T _ k).trans (congrArg (fun a => (arrays m c).h a k) (Fin.ext ?_)))
      show 2048 * T.val + (y.val - 16) = n.val - 1
      omega
    · rw [canon_off _ _ _ y k (by omega)]
      rw [canon_in _ _ _ y k (15 : Fin 16) k (by show y.val = 0 + 15; omega) (by show k.val = 0 + k.val; omega)]
      rcases hT with h | h
      · obtain rfl : T = 0 := Fin.ext h
        rw [dif_neg (by simp at hn; omega)]
        exact pay3_end _ _ _ _ (coord 0)
      · obtain rfl : T = 1 := Fin.ext h
        rw [dif_pos (by simp at hn; omega)]
        refine (pay3_in _ _ _ _ (coord 1)).trans ((blk_0 m c k).trans (congrArg (fun a => (arrays m c).h a k) (Fin.ext ?_)))
        simp at hn
        show 2047 = n.val - 1
        omega

end Cert.N5

end
-- ==== Proof.N5.Results.lean ====
/- The kernel's three arrays after the run, at an index, in the terms of Spec.lean. -/
module

public import proofs.«01_k».proof.Proof.N5.Host

@[expose] public section

set_option maxRecDepth 16384

noncomputable section

namespace Cert.N5

open Idealize.ShloMosaic Cert.Kernel5Ideal Cert.Kernel5Ideal.Gen Cert.Pieces Idealize.ShloMosaic.TcCoe Idealize.SL.Sem

variable (m : (ℓ : Loc nD τ sig) → Buf (Elt Ideal) ℓ) (ρ : Dev nD → PrngReg) (c : Dev nD) (T : Fin 2) (C : Fin 11)

/-- A column of the pair's block is a column of the plain layout. -/
theorem pairW_col (f : Fin 5632 → EReal) (q : Fin 512) : pairW (fun p => f (gcol C p)) (fun p => f (vcol C p)) q = f (col C q) := by
  unfold pairW col
  by_cases h : q.val < 256
  · rw [dif_pos h, if_pos h]
  · rw [dif_neg h, if_neg h]
    exact congrArg f (Fin.ext (by show 2816 + 256 * C.val + (q.val - 256) = 2560 + 256 * C.val + q.val; omega))

/-- The window's rows that are used, projected. -/
theorem tU_apply (y : Fin 2080) (n : Fin 4098) (h0 : 15 ≤ y.val) (h1 : y.val ≤ 2064) (hn : n.val + 15 = 2048 * T.val + y.val) (q : Fin 512) :
    tU m c T C y q = (arrays m c).up n (col C q) := by
  unfold tU uW
  have hg : ∀ p : Fin 256, ∑ k : Fin 1024, (H m c T (ix2 y k) : EReal) * (iblk m c 3 (pt T C) : Vec Ideal S256x1024 .bf16) (ix2 p k) = (arrays m c).up n (gcol C p) :=
    fun p => (Finset.sum_congr rfl fun k _ => congrArg₂ (· * ·) (H_row m c T y n h0 h1 hn k) (blk_3 m c T C p k)).trans ((arrays m c).hp_up n _)
  have hv : ∀ p : Fin 256, ∑ k : Fin 1024, (H m c T (ix2 y k) : EReal) * (iblk m c 4 (pt T C) : Vec Ideal S256x1024 .bf16) (ix2 p k) = (arrays m c).up n (vcol C p) :=
    fun p => (Finset.sum_congr rfl fun k _ => congrArg₂ (· * ·) (H_row m c T y n h0 h1 hn k) (blk_4 m c T C p k)).trans ((arrays m c).hp_up n _)
  exact (congrArg₂ (fun a b => pairW a b q) (funext hg) (funext hv)).trans (pairW_col C (fun p => (arrays m c).up n p) q)

/-- The taps of the block's columns. -/
theorem taps (r : Fin 3) (q : Fin 512) :
    k0_pay12 (F := Ideal) (iblk m c 5 (pt T C) : Vec Ideal S3x256 .f32) (iblk m c 6 (pt T C) : Vec Ideal S3x256 .f32) (ix2 r q) = (arrays m c).cw r (col C q) := by
  refine (pay12_apply _ _ r q).trans ?_
  exact (congrArg₂ (fun a b => pairW a b q) (funext (blk_5 m c T C r)) (funext (blk_6 m c T C r))).trans (pairW_col C ((arrays m c).cw r) q)

/-- The biases of the block's columns. -/
theorem bias (q : Fin 512) :
    k0_pay13 (F := Ideal) (iblk m c 7 (pt T C) : Vec Ideal S1x256 .f32) (iblk m c 8 (pt T C) : Vec Ideal S1x256 .f32) (ix2 0 q) = (arrays m c).b (col C q) := by
  refine (pay13_apply _ _ q).trans ?_
  exact (congrArg₂ (fun a b => pairW a b q) (funext (blk_7 m c T C)) (funext (blk_8 m c T C))).trans (pairW_col C (arrays m c).b q)

/-- The convolution of a point, in plain terms. -/
theorem tU2_apply (y : Fin 2048) (q : Fin 512) : tU2 m c T C y q = (arrays m c).u2 (row T y) (col C q) := by
  have e0 := tU_apply m c T C ⟨y.val + 15, by omega⟩ ⟨(row T y).val, by omega⟩ (by show 15 ≤ y.val + 15; omega) (by show y.val + 15 ≤ 2064; omega) (by show 2048 * T.val + y.val + 15 = 2048 * T.val + (y.val + 15); omega) q
  have e1 := tU_apply m c T C ⟨y.val + 16, by omega⟩ ⟨(row T y).val + 1, by omega⟩ (by show 15 ≤ y.val + 16; omega) (by show y.val + 16 ≤ 2064; omega) (by show 2048 * T.val + y.val + 1 + 15 = 2048 * T.val + (y.val + 16); omega) q
  have e2 := tU_apply m c T C ⟨y.val + 17, by omega⟩ ⟨(row T y).val + 2, by omega⟩ (by show 15 ≤ y.val + 17; omega) (by show y.val + 17 ≤ 2064; omega) (by show 2048 * T.val + y.val + 2 + 15 = 2048 * T.val + (y.val + 17); omega) q
  unfold tU2 u2W Arrays.u2
  refine (conv3_congr e0 e1 e2 _ _ _ _).trans ?_
  rw [taps m c T C 0 q, taps m c T C 1 q, taps m c T C 2 q, bias m c T C q]

theorem col_g (k : Fin 256) : col C ⟨k.val, by omega⟩ = ⟨(fcol C k).val, by omega⟩ := by
  unfold col
  rw [if_pos (show k.val < 256 from k.isLt)]

theorem col_v (k : Fin 256) : col C ⟨k.val + 256, by omega⟩ = ⟨(fcol C k).val + 2816, by omega⟩ := by
  unfold col
  rw [if_neg (show ¬ k.val + 256 < 256 by omega)]
  exact Fin.ext (by show 2560 + 256 * C.val + (k.val + 256) = 256 * C.val + k.val + 2816; omega)

/-- The gated unit of a point, in plain terms. -/
theorem tAct_apply (y : Fin 2048) (k : Fin 256) : tAct m c T C y k = (arrays m c).act (row T y) (fcol C k) := by
  unfold tAct actW Arrays.act
  refine congrArg₂ gated ((tU2_apply m c T C y _).trans ?_) ((tU2_apply m c T C y _).trans ?_)
  · exact congrArg ((arrays m c).u2 (row T y)) (col_g C k)
  · exact congrArg ((arrays m c).u2 (row T y)) (col_v C k)

/-- The down-projection after the run. -/
theorem G10_tile (y : Fin 2048) (q : Fin 1024) : G10 m c (ix2 (row T y) q) = (arrays m c).o (row T y) q := by
  refine (G10_row m c T y q).trans ?_
  refine Eq.trans ?_ (sum_blocks fun f => (arrays m c).act (row T y) f * (arrays m c).wd f q)
  exact Finset.sum_congr rfl fun C _ => Finset.sum_congr rfl fun k _ => congrArg₂ (· * ·) (tAct_apply m c T C y k) (blk_9 m c T C k q)

/-- The up-projection after the run. -/
theorem G11_tile (y : Fin 2048) (q : Fin 512) : G11 m c (ix2 (row T y) (ocol C q)) = (arrays m c).u (row T y) (col C q) := by
  refine (G11_blk m c T C y q).trans ((tU_apply m c T C ⟨y.val + 16, by omega⟩ ⟨(row T y).val + 1, by omega⟩ (by show 15 ≤ y.val + 16; omega) (by show y.val + 16 ≤ 2064; omega) (by show 2048 * T.val + y.val + 1 + 15 = 2048 * T.val + (y.val + 16); omega) q).trans ?_)
  unfold Arrays.up
  exact dif_pos ⟨by show 1 ≤ (row T y).val + 1; omega, by show (row T y).val + 1 ≤ 4096; omega⟩

/-- The convolution after the run. -/
theorem G12_tile (y : Fin 2048) (q : Fin 512) : G12 m c (ix2 (row T y) (ocol C q)) = (arrays m c).u2 (row T y) (col C q) :=
  (G12_blk m c T C y q).trans (tU2_apply m c T C y q)

/-- Every row is one of a tile. -/
theorem row_split (t : Fin 4096) : ∃ (T : Fin 2) (y : Fin 2048), t = row T y :=
  ⟨⟨t.val / 2048, by omega⟩, ⟨t.val % 2048, by omega⟩, Fin.ext (by show t.val = 2048 * (t.val / 2048) + t.val % 2048; omega)⟩

/-- Every column of the tiled layout is one of a block. -/
theorem ocol_split (p : Fin 5632) : ∃ (C : Fin 11) (q : Fin 512), p = ocol C q :=
  ⟨⟨p.val / 512, by omega⟩, ⟨p.val % 512, by omega⟩, Fin.ext (by show p.val = 512 * (p.val / 512) + p.val % 512; omega)⟩

theorem G10_apply (t : Fin 4096) (q : Fin 1024) : G10 m c (ix2 t q) = (arrays m c).o t q := by
  obtain ⟨T, y, rfl⟩ := row_split t
  exact G10_tile m c T y q

theorem G11_apply (t : Fin 4096) (q : Fin 512) : G11 m c (ix2 t (ocol C q)) = (arrays m c).u t (col C q) := by
  obtain ⟨T, y, rfl⟩ := row_split t
  exact G11_tile m c T C y q

theorem G12_apply (t : Fin 4096) (q : Fin 512) : G12 m c (ix2 t (ocol C q)) = (arrays m c).u2 t (col C q) := by
  obtain ⟨T, y, rfl⟩ := row_split t
  exact G12_tile m c T C y q

end Cert.N5

end
-- ==== Proof.N5.Ref.lean ====
/- The reference's stages at an index, as the functions of Spec.lean. -/
module

public import proofs.«01_k».proof.Proof.Gen.Reference5Ideal.Read
public import proofs.«01_k».proof.Proof.N5.Spec
public import Idealize.ShloMosaic.Lib.Pointwise

@[expose] public section

set_option maxRecDepth 16384

noncomputable section

namespace Cert.N5

open Idealize.ShloMosaic Cert.Reference5Ideal Cert.Reference5Ideal.Read

variable (x0 : Vec Ideal S4096x1024 .bf16) (x1 : Vec Ideal S1024x5632 .f32) (x2 : Vec Ideal S3x5632 .f32) (x3 : Vec Ideal S1x5632 .f32)
  (x4 : Vec Ideal S2816x1024 .f32)

/-- The five arrays as the reference is given them. -/
def given : Arrays where
  h := fun p q => x0 (ix2 p q)
  w := fun p q => x1 (ix2 p q)
  cw := fun p q => x2 (ix2 p q)
  b := fun q => x3 (ix2 0 q)
  wd := fun p q => x4 (ix2 p q)

/-- The up-projection. -/
theorem u_apply (t : Fin 4096) (q : Fin 5632) : val_main_v1 (F := Ideal) x0 x1 (ix2 t q) = (given x0 x1 x2 x3 x4).u t q := by
  unfold val_main_v1 val_main_v0
  pointwise
  rfl

/-- The up-projection with a zero row before it and one after. -/
theorem up_apply (n : Fin 4098) (q : Fin 5632) : val_main_v2 (F := Ideal) x0 x1 (ix2 n q) = (given x0 x1 x2 x3 x4).up n q := by
  have h0 := fun t => u_apply x0 x1 x2 x3 x4 t q
  unfold val_main_v2 val_main_call0_v0 val_main_c
  generalize val_main_v1 (F := Ideal) x0 x1 = y0 at h0 ⊢
  pointwise
  unfold Arrays.up
  by_cases hn : 1 ≤ n.val ∧ n.val ≤ 4096
  · rw [dif_pos hn]
    exact (dif_pos ⟨hn.1, by omega⟩).trans (h0 _)
  · rw [dif_neg hn]
    refine (dif_neg fun h => hn ⟨h.1, by omega⟩).trans ?_
    show (((0#32 : BitVec 32).toInt : ℝ) : EReal) = 0
    simp

/-- The convolution. -/
theorem u2_apply (t : Fin 4096) (q : Fin 5632) : val_main_v18 (F := Ideal) x0 x1 x2 x3 (ix2 t q) = (given x0 x1 x2 x3 x4).u2 t q := by
  have h0 := fun n => up_apply x0 x1 x2 x3 x4 n q
  have e3 : val_main_v3 (F := Ideal) x0 x1 (ix2 t q) = (given x0 x1 x2 x3 x4).up ⟨t.val, by omega⟩ q := by
    refine (val_main_v3_apply _ _ _).trans ((congrArg (val_main_v2 (F := Ideal) x0 x1) ?_).trans (h0 ⟨t.val, by omega⟩))
    funext a; match a with | ⟨0, _⟩ => rfl | ⟨1, _⟩ => rfl
  have e7 : val_main_v7 (F := Ideal) x0 x1 (ix2 t q) = (given x0 x1 x2 x3 x4).up ⟨t.val + 1, by omega⟩ q := by
    refine (val_main_v7_apply _ _ _).trans ((congrArg (val_main_v2 (F := Ideal) x0 x1) ?_).trans (h0 ⟨t.val + 1, by omega⟩))
    funext a; match a with | ⟨0, _⟩ => exact Fin.ext (Nat.add_comm 1 t.val) | ⟨1, _⟩ => rfl
  have e12 : val_main_v12 (F := Ideal) x0 x1 (ix2 t q) = (given x0 x1 x2 x3 x4).up ⟨t.val + 2, by omega⟩ q := by
    refine (val_main_v12_apply _ _ _).trans ((congrArg (val_main_v2 (F := Ideal) x0 x1) ?_).trans (h0 ⟨t.val + 2, by omega⟩))
    funext a; match a with | ⟨0, _⟩ => exact Fin.ext (Nat.add_comm 2 t.val) | ⟨1, _⟩ => rfl
  unfold val_main_v18 val_main_v17 val_main_v16 val_main_v15 val_main_v14 val_main_v13 val_main_v11 val_main_v10 val_main_v9 val_main_v8 val_main_v6 val_main_v5 val_main_v4
  generalize val_main_v3 (F := Ideal) x0 x1 = y3 at e3 ⊢
  generalize val_main_v7 (F := Ideal) x0 x1 = y7 at e7 ⊢
  generalize val_main_v12 (F := Ideal) x0 x1 = y12 at e12 ⊢
  pointwise
  exact conv3_congr e3 e7 e12 _ _ _ _

/-- The gated unit. -/
theorem act_apply (t : Fin 4096) (f : Fin 2816) : val_main_v22 (F := Ideal) x0 x1 x2 x3 (ix2 t f) = (given x0 x1 x2 x3 x4).act t f := by
  have h0 := u2_apply x0 x1 x2 x3 x4 t
  have eg : val_main_v19 (F := Ideal) x0 x1 x2 x3 (ix2 t f) = (given x0 x1 x2 x3 x4).u2 t ⟨f.val, by omega⟩ := by
    refine (val_main_v19_apply _ _ _ _ _).trans ((congrArg (val_main_v18 (F := Ideal) x0 x1 x2 x3) ?_).trans (h0 ⟨f.val, by omega⟩))
    funext a; match a with | ⟨0, _⟩ => rfl | ⟨1, _⟩ => rfl
  have ev : val_main_v20 (F := Ideal) x0 x1 x2 x3 (ix2 t f) = (given x0 x1 x2 x3 x4).u2 t ⟨f.val + 2816, by omega⟩ := by
    refine (val_main_v20_apply _ _ _ _ _).trans ((congrArg (val_main_v18 (F := Ideal) x0 x1 x2 x3) ?_).trans (h0 ⟨f.val + 2816, by omega⟩))
    funext a; match a with | ⟨0, _⟩ => rfl | ⟨1, _⟩ => exact Fin.ext (Nat.add_comm 2816 f.val)
  unfold val_main_v22 val_main_v21 val_main_call1_v5 val_main_call1_v4 val_main_call1_cst_0 val_main_call1_v3 val_main_call1_v2 val_main_call1_cst val_main_call1_v1 val_main_call1_v0
  generalize val_main_v19 (F := Ideal) x0 x1 x2 x3 = yg at eg ⊢
  generalize val_main_v20 (F := Ideal) x0 x1 x2 x3 = yv at ev ⊢
  pointwise
  exact congrArg₂ gated eg ev

/-- The down-projection. -/
theorem o_apply (t : Fin 4096) (q : Fin 1024) : val_main_v23 (F := Ideal) x0 x1 x2 x3 x4 (ix2 t q) = (given x0 x1 x2 x3 x4).o t q := by
  have h0 := act_apply x0 x1 x2 x3 x4 t
  unfold val_main_v23
  generalize val_main_v22 (F := Ideal) x0 x1 x2 x3 = y0 at h0 ⊢
  pointwise
  exact Finset.sum_congr rfl fun k _ => congrArg (· * x4 (ix2 k q)) (h0 k)

/-- Where the tiled layout's column comes from. -/
theorem tiled_idx (t : Fin 4096) (C : Fin 11) (x : Fin 512) :
    idx_main_v24 (idx_main_v25 (idx_main_v26 (ix2 t (ocol C x)))) = ix2 t (col C x) := by
  have e0 : (t.val * 5632 + (512 * C.val + x.val)) / 5632 = t.val := by omega
  have e1 : (t.val * 5632 + (512 * C.val + x.val)) / 512 % 11 = C.val := by omega
  have e2 : (t.val * 5632 + (512 * C.val + x.val)) / 256 % 2 = x.val / 256 := by omega
  have e3 : (t.val * 5632 + (512 * C.val + x.val)) % 256 = x.val % 256 := by omega
  have hc : (col C x).val = x.val / 256 * 2816 + 256 * C.val + x.val % 256 := by
    unfold col
    by_cases h : x.val < 256
    · rw [if_pos h]; show 256 * C.val + x.val = _; omega
    · rw [if_neg h]; show 2560 + 256 * C.val + x.val = _; omega
  have hx : x.val / 256 < 2 := by omega
  funext a
  apply Fin.ext
  match a with
  | ⟨0, _⟩ =>
    show ((((t.val * 5632 + (512 * C.val + x.val)) / 5632 * 2 + (t.val * 5632 + (512 * C.val + x.val)) / 256 % 2) * 11 + (t.val * 5632 + (512 * C.val + x.val)) / 512 % 11) * 256 + (t.val * 5632 + (512 * C.val + x.val)) % 256) / 5632 = t.val
    rw [e0, e1, e2, e3]
    omega
  | ⟨1, _⟩ =>
    show ((((t.val * 5632 + (512 * C.val + x.val)) / 5632 * 2 + (t.val * 5632 + (512 * C.val + x.val)) / 256 % 2) * 11 + (t.val * 5632 + (512 * C.val + x.val)) / 512 % 11) * 256 + (t.val * 5632 + (512 * C.val + x.val)) % 256) % 5632 = (col C x).val
    rw [e0, e1, e2, e3, hc]
    omega

/-- The up-projection in the tiled layout. -/
theorem tiledu_apply (t : Fin 4096) (C : Fin 11) (x : Fin 512) :
    val_main_v27 (F := Ideal) x0 x1 (ix2 t (ocol C x)) = (given x0 x1 x2 x3 x4).u t (col C x) := by
  refine (val_main_v27_apply _ _ _).trans ?_
  refine ((val_main_v26_apply _ _ _).trans ((val_main_v25_apply _ _ _).trans (val_main_v24_apply _ _ _))).trans ?_
  exact (congrArg (val_main_v1 (F := Ideal) x0 x1) (tiled_idx t C x)).trans (u_apply x0 x1 x2 x3 x4 t (col C x))

/-- The convolution in the tiled layout. -/
theorem tiledu2_apply (t : Fin 4096) (C : Fin 11) (x : Fin 512) :
    val_main_v30 (F := Ideal) x0 x1 x2 x3 (ix2 t (ocol C x)) = (given x0 x1 x2 x3 x4).u2 t (col C x) := by
  refine ((val_main_v30_apply _ _ _ _ _).trans ((val_main_v29_apply _ _ _ _ _).trans (val_main_v28_apply _ _ _ _ _))).trans ?_
  exact (congrArg (val_main_v18 (F := Ideal) x0 x1 x2 x3) (tiled_idx t C x)).trans (u2_apply x0 x1 x2 x3 x4 t (col C x))

end Cert.N5

end
-- ==== Proof.N5.Claim.lean ====
/- The value claim of the gated MLP's forward call: the kernel's three results are the reference's three results, at every
   argument. -/
module

public import proofs.«01_k».proof.Defs
public import proofs.«01_k».proof.Proof.Gen.Reference5Ideal.Run
public import proofs.«01_k».proof.Proof.N5.Results
public import proofs.«01_k».proof.Proof.N5.Ref

@[expose] public section

set_option maxRecDepth 16384

noncomputable section

namespace Cert.N5

open Idealize.ShloMosaic Idealize.SL.Sem Idealize.ShloMosaic.TcCoe

section
open Kernel5Ideal Kernel5Ideal.Gen

/-- The kernel's program runs and leaves the three arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = G10 m c
      ∧ r.2.mem ((c.tc : Thread nD τ).loc main_v3_1) = G11 m c
      ∧ r.2.mem ((c.tc : Thread nD τ).loc main_v3_2) = G12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 10, (h.1 c).1 11, (h.1 c).1 12, h.2 c⟩) (θ_run_and (run_main m ρ) (unchanged m ρ))
end

variable (m : (ℓ : Loc Kernel5Ideal.nD Kernel5Ideal.τ Kernel5Ideal.sig) → Buf (Elt Ideal) ℓ)
  (m' : (ℓ : Loc Reference5Ideal.nD Reference5Ideal.τ Reference5Ideal.sig) → Buf (Elt Ideal) ℓ) (c : Dev Kernel5Ideal.nD)

/-- The reference's argument 0: the modulated norm. -/
abbrev a0 : Vec Ideal Reference5Ideal.S4096x1024 .bf16 := m' ((c.tc : Thread Reference5Ideal.nD Reference5Ideal.τ).loc Reference5Ideal.main_arg0)
/-- The reference's argument 1: the up-projection's weights. -/
abbrev a1 : Vec Ideal Reference5Ideal.S1024x5632 .f32 := m' ((c.tc : Thread Reference5Ideal.nD Reference5Ideal.τ).loc Reference5Ideal.main_arg1)
/-- The reference's argument 2: the convolution's taps. -/
abbrev a2 : Vec Ideal Reference5Ideal.S3x5632 .f32 := m' ((c.tc : Thread Reference5Ideal.nD Reference5Ideal.τ).loc Reference5Ideal.main_arg2)
/-- The reference's argument 3: the convolution's bias. -/
abbrev a3 : Vec Ideal Reference5Ideal.S1x5632 .f32 := m' ((c.tc : Thread Reference5Ideal.nD Reference5Ideal.τ).loc Reference5Ideal.main_arg3)
/-- The reference's argument 4: the down-projection's weights. -/
abbrev a4 : Vec Ideal Reference5Ideal.S2816x1024 .f32 := m' ((c.tc : Thread Reference5Ideal.nD Reference5Ideal.τ).loc Reference5Ideal.main_arg4)

/-- The reference's five arrays, off its memory. -/
abbrev refArrays : Arrays := given (a0 m' c) (a1 m' c) (a2 m' c) (a3 m' c) (a4 m' c)

variable {m m' c}

/-- The down-projection. -/
theorem equal_o (e : refArrays m' c = arrays m c) :
    Reference5Ideal.Read.val_main_v23 (F := Ideal) (a0 m' c) (a1 m' c) (a2 m' c) (a3 m' c) (a4 m' c) = G10 m c := by
  funext j
  idx_vars j
  exact (o_apply _ _ _ _ _ _ _).trans ((congrArg (fun A : Arrays => A.o _ _) e).trans (G10_apply m c _ _).symm)

/-- The up-projection. -/
theorem equal_u (e : refArrays m' c = arrays m c) :
    Reference5Ideal.Read.val_main_v27 (F := Ideal) (a0 m' c) (a1 m' c) = G11 m c := by
  funext j
  idx_vars j
  obtain ⟨C, x, rfl⟩ := ocol_split j1
  exact (tiledu_apply _ _ (a2 m' c) (a3 m' c) (a4 m' c) _ _ _).trans ((congrArg (fun A : Arrays => A.u _ _) e).trans (G11_apply m c C _ x).symm)

/-- The convolution. -/
theorem equal_u2 (e : refArrays m' c = arrays m c) :
    Reference5Ideal.Read.val_main_v30 (F := Ideal) (a0 m' c) (a1 m' c) (a2 m' c) (a3 m' c) = G12 m c := by
  funext j
  idx_vars j
  obtain ⟨C, x, rfl⟩ := ocol_split j1
  exact (tiledu2_apply _ _ _ _ (a4 m' c) _ _ _).trans ((congrArg (fun A : Arrays => A.u2 _ _) e).trans (G12_apply m c C _ x).symm)

/-- The claim that both programs run and leave the same three arrays. -/
theorem value : algebraic_Kernel5Ideal_Reference5Ideal (hKernel5Ideal := Kernel5Ideal.Gen.facts) (hReference5Ideal := Reference5Ideal.Gen.facts) := by
  intro m g m' g' _ hag
  have e : ∀ c, refArrays m' c = arrays m c := fun c => by
    obtain ⟨h0, h1, h2, h3, h4⟩ := hag c
    rw [refArrays, a0, a1, a2, a3, a4, h0, h1, h2, h3, h4]
    rfl
  refine ⟨_, _, _, run m g, ?_⟩
  exact (θ_run Reference5Ideal.defs _ _).mono (fun _ h c => ⟨
    (h c).1.trans ((Reference5Ideal.Read.val_main_v23_eq _ _).trans (equal_o (e c))),
    (h c).2.1.trans ((Reference5Ideal.Read.val_main_v27_eq _ _).trans (equal_u (e c))),
    (h c).2.2.1.trans ((Reference5Ideal.Read.val_main_v30_eq _ _ _ _).trans (equal_u2 (e c))), (h c).2.2.2⟩)
    (Reference5Ideal.Value.run (F := Ideal) m' g')

end Cert.N5

end
-- ==== Proof.N6.Spec.lean ====
/- The loss head and its gradient, row by row over the extended reals: the functions that both the kernel's blocks and the
   reference's arrays are shown to be. -/
module

public import proofs.«01_k».proof.Proof.N2.Spec
public import proofs.«01_k».proof.Proof.NormGrad

@[expose] public section

set_option maxRecDepth 16384

noncomputable section

namespace Cert.N6

open Idealize.ShloMosaic
open Cert.N2 (Row lenC epsC lenC_eq epsC_pos rstd xhR)

/-- The word of the reciprocal of the row length. -/
abbrev invC : EReal := Ideal.ofBits .f32 0x3A800000#32
/-- The word of half that reciprocal. -/
abbrev halfC : EReal := Ideal.ofBits .f32 0x3A000000#32

/-- The error of a row: the norm's output less the target. -/
def eR (g x t : Row 1024) : Row 1024 := fun c => xhR x c * g c - t c

/-- The gradient of the norm's output. -/
def dyR (g x t : Row 1024) : Row 1024 := fun c => eR g x t c * invC

/-- The gradient of the normalised row. -/
def dxhR (g x t : Row 1024) : Row 1024 := fun c => dyR g x t c * g c

/-- The gradient of the row. -/
def dxR (g x t : Row 1024) : Row 1024 := fun c =>
  rstd x * (dxhR g x t c - xhR x c * Ideal.div (∑ k, dxhR g x t k * xhR x k) lenC)

/-- The reciprocal of the row length is 1/1024. -/
theorem invC_eq : invC = ((1 / 1024 : ℝ) : EReal) := by
  show Ideal.ofBits .f32 0x3A800000#32 = _
  rw [show (1 / 1024 : ℝ) = 8388608 * (2 ^ 33)⁻¹ by norm_num, EReal.coe_mul]
  simp [Ideal.ofBits, Ideal.ieee]

/-- Half of it is 1/2048. -/
theorem halfC_eq : halfC = ((1 / 2048 : ℝ) : EReal) := by
  show Ideal.ofBits .f32 0x3A000000#32 = _
  rw [show (1 / 2048 : ℝ) = 8388608 * (2 ^ 34)⁻¹ by norm_num, EReal.coe_mul]
  simp [Ideal.ofBits, Ideal.ieee]

/-- The word of one half. -/
theorem c05_eq : Ideal.ofBits .f32 0x3F000000#32 = ((1 / 2 : ℝ) : EReal) := by
  rw [show (1 / 2 : ℝ) = 8388608 * (2 ^ 24)⁻¹ by norm_num, EReal.coe_mul]
  simp [Ideal.ofBits, Ideal.ieee]

/-- The word of two. -/
theorem c2_eq : Ideal.ofBits .f32 0x40000000#32 = ((2 : ℝ) : EReal) := by
  rw [show (2 : ℝ) = 8388608 * (2 ^ 22)⁻¹ by norm_num, EReal.coe_mul]
  simp [Ideal.ofBits, Ideal.ieee]

/-- Half the sum of the rows' means is the sum of the columns' sums, over twice the row length. -/
theorem loss_eq (E : Fin 4096 → Row 1024) :
    ((1 / 2 : ℝ) : EReal) * ∑ t, Ideal.div (∑ k, E t k) lenC = (∑ k, ∑ t, E t k) * halfC := by
  have h : ∀ t, Ideal.div (∑ k, E t k) lenC = ((1 / 1024 : ℝ) : EReal) * ∑ k, E t k := fun t => by
    rw [lenC_eq, Ideal.div_coe (by norm_num), mul_comm]
  simp only [h]
  rw [← NormGrad.mul_sum _ (by norm_num), ← mul_assoc, ← EReal.coe_mul, halfC_eq, Finset.sum_comm, mul_comm]
  norm_num

/-- Half of one over the row length, times twice an error, is the error over the row length. -/
theorem dy_eq (e : EReal) :
    Ideal.div (Ideal.ofBits .f32 0x3F000000#32) lenC * (Ideal.ofBits .f32 0x40000000#32 * e) = e * invC := by
  rw [c05_eq, c2_eq, lenC_eq, Ideal.div_coe (by norm_num), ← mul_assoc, ← EReal.coe_mul, ← EReal.coe_mul, invC_eq, mul_comm]
  norm_num

/-- The five arrays of the call. -/
structure Arrays where
  /-- The gated MLP's output. -/
  f : Fin 4096 → Row 1024
  /-- The stream before the gated addition. -/
  x : Fin 4096 → Row 1024
  /-- The target. -/
  tg : Fin 4096 → Row 1024
  /-- The modulation rows: the gate is row 5. -/
  md : Fin 8 → Row 1024
  /-- The last norm's gain. -/
  g : Row 1024

namespace Arrays

variable (A : Arrays)

/-- The stream after the gated addition. -/
def x2 (t : Fin 4096) : Row 1024 := fun q => A.x t q + A.md 5 q * A.f t q

/-- The error. -/
def e (t : Fin 4096) : Row 1024 := eR A.g (A.x2 t) (A.tg t)

/-- The gradient of the norm's output. -/
def dy (t : Fin 4096) : Row 1024 := dyR A.g (A.x2 t) (A.tg t)

/-- The gradient of the stream. -/
def dx (t : Fin 4096) : Row 1024 := dxR A.g (A.x2 t) (A.tg t)

/-- The gradient of the gated MLP's output. -/
def df (t : Fin 4096) : Row 1024 := fun q => A.dx t q * A.md 5 q

/-- The sums over the rows: the gradients of the gain and of the gate, the squared error, and the loss in every column. -/
def sums (p : Fin 8) : Row 1024 := fun q => match p with
  | 0 => ∑ t, A.dy t q * xhR (A.x2 t) q
  | 1 => ∑ t, A.dx t q * A.f t q
  | 2 => ∑ t, A.e t q * A.e t q
  | 3 => (∑ k, ∑ t, A.e t k * A.e t k) * halfC
  | _ => 0

end Arrays

end Cert.N6

end
-- ==== Proof.N6.Block.lean ====
/- One grid point of the kernel: what the payloads of its body are at an index of the block, over the extended reals,
   as the row functions of Spec.lean. -/
module

public import proofs.«01_k».proof.Proof.Gen.Kernel6Ideal.Skeleton
public import Idealize.ShloMosaic.Lib.Pipeline.ValueKit.Tiles
public import proofs.«01_k».proof.Proof.N6.Spec

@[expose] public section

set_option maxRecDepth 16384

noncomputable section

namespace Cert.N6

open Idealize.ShloMosaic Cert.Kernel6Ideal Cert.Kernel6Ideal.Gen
open Cert.N2 (Row lenC epsC rstd xhR)

section Blocks

variable {F : FTy → Type} [FloatOps F] (x0 x1 x2 : Vec F S1024x1024 .f32) (x3 : Vec F S8x1024 .f32) (x4 : Vec F S1x1024 .f32)

/-- The gate's row of the modulation. -/
abbrev gtRow : Vec F S1x1024 .f32 := View.ld x3 (Rect.unit (s := S8x1024) ![5, 0] ![1, 1024] inb_S8x1024_S1x1024_5_0)
/-- The normalised block. -/
abbrev bXh : FVec F S1024x1024 .f32 := k0_pay9 x0 (gtRow x3) x1
/-- The block of errors. -/
abbrev bE : FVec F S1024x1024 .f32 := k0_pay10 x0 (gtRow x3) x1 x4 x2
/-- The block of the gradient of the norm's output. -/
abbrev bDy : FVec F S1024x1024 .f32 := k0_pay11 x0 (gtRow x3) x1 x4 x2
/-- The block of the stream's gradient. -/
abbrev bDx : FVec F S1024x1024 .f32 := k0_pay12 x0 (gtRow x3) x1 x4 x2
/-- The block of the gradient of the gated MLP's output. -/
abbrev bDf : FVec F S1024x1024 .bf16 := k0_pay1 (gtRow x3) (bDx x0 x1 x2 x3 x4)

end Blocks

section Apply

variable (x0 x1 x2 : Vec Ideal S1024x1024 .f32) (x3 : Vec Ideal S8x1024 .f32) (x4 : Vec Ideal S1x1024 .f32)

/-- The stream after the gated addition in row `r` of the block. -/
abbrev xB (r : Fin 1024) : Row 1024 := fun k => x1 (ix2 r k) + x3 (ix2 5 k) * x0 (ix2 r k)
/-- The target in row `r` of the block. -/
abbrev tB (r : Fin 1024) : Row 1024 := fun k => x2 (ix2 r k)
/-- The gain. -/
abbrev gB : Row 1024 := fun k => x4 (ix2 0 k)

theorem gtRow_apply (i : Fin 1) (c : Fin 1024) : gtRow x3 (ix2 i c) = x3 (ix2 5 c) :=
  View.ld_unit_apply_of x3 _ _ _ _ _ fun a => by fin_cases a <;> simp

theorem x_apply (r c : Fin 1024) : k0_pay7 x0 (gtRow x3) x1 (ix2 r c) = xB x0 x1 x3 r c := by
  have h := gtRow_apply x3
  generalize gtRow x3 = y at h ⊢
  pointwise [k0_pay7]
  simp only [h]

theorem rstd_apply (r : Fin 1024) : k0_pay8 x0 (gtRow x3) x1 (ix2 r 0) = rstd (xB x0 x1 x3 r) := by
  have h := x_apply x0 x1 x3 r
  unfold k0_pay8
  generalize k0_pay7 x0 (gtRow x3) x1 = y at h ⊢
  pointwise
  simp only [h]
  rfl

theorem bXh_apply (r c : Fin 1024) : bXh x0 x1 x3 (ix2 r c) = xhR (xB x0 x1 x3 r) c := by
  have h := x_apply x0 x1 x3 r
  have h' := rstd_apply x0 x1 x3 r
  unfold bXh k0_pay9
  generalize k0_pay7 x0 (gtRow x3) x1 = y at h ⊢
  generalize k0_pay8 x0 (gtRow x3) x1 = y' at h' ⊢
  pointwise
  simp only [h, h']
  rfl

theorem bE_apply (r c : Fin 1024) : bE x0 x1 x2 x3 x4 (ix2 r c) = eR (gB x4) (xB x0 x1 x3 r) (tB x2 r) c := by
  have h := bXh_apply x0 x1 x3 r
  unfold bXh at h
  unfold bE k0_pay10
  generalize k0_pay9 x0 (gtRow x3) x1 = y at h ⊢
  pointwise
  simp only [h]
  rfl

theorem bDy_apply (r c : Fin 1024) : bDy x0 x1 x2 x3 x4 (ix2 r c) = dyR (gB x4) (xB x0 x1 x3 r) (tB x2 r) c := by
  have h := bE_apply x0 x1 x2 x3 x4 r
  unfold bE at h
  unfold bDy k0_pay11
  generalize k0_pay10 x0 (gtRow x3) x1 x4 x2 = y at h ⊢
  pointwise
  simp only [h]
  rfl

theorem bDx_apply (r c : Fin 1024) : bDx x0 x1 x2 x3 x4 (ix2 r c) = dxR (gB x4) (xB x0 x1 x3 r) (tB x2 r) c := by
  have h := bDy_apply x0 x1 x2 x3 x4 r
  have h' := bXh_apply x0 x1 x3 r
  have h'' := rstd_apply x0 x1 x3 r
  unfold bDy at h
  unfold bXh at h'
  unfold bDx k0_pay12
  generalize k0_pay11 x0 (gtRow x3) x1 x4 x2 = y at h ⊢
  generalize k0_pay9 x0 (gtRow x3) x1 = y' at h' ⊢
  generalize k0_pay8 x0 (gtRow x3) x1 = y'' at h'' ⊢
  pointwise
  simp only [h, h', h'']
  rfl

theorem bDf_apply (r c : Fin 1024) :
    bDf x0 x1 x2 x3 x4 (ix2 r c) = dxR (gB x4) (xB x0 x1 x3 r) (tB x2 r) c * x3 (ix2 5 c) := by
  have h := bDx_apply x0 x1 x2 x3 x4 r
  have h' := gtRow_apply x3
  unfold bDf
  generalize bDx x0 x1 x2 x3 x4 = y at h ⊢
  generalize gtRow x3 = y' at h' ⊢
  pointwise [k0_pay1]
  simp only [h, h']

/-- The block's column sums: of the gain's gradient, the gate's and the squared error; nothing in the other rows. -/
def sAdd (ρ : Fin 8) (c : Fin 1024) : EReal := match ρ with
  | 0 => ∑ r : Fin 1024, dyR (gB x4) (xB x0 x1 x3 r) (tB x2 r) c * xhR (xB x0 x1 x3 r) c
  | 1 => ∑ r : Fin 1024, dxR (gB x4) (xB x0 x1 x3 r) (tB x2 r) c * x0 (ix2 r c)
  | 2 => ∑ r : Fin 1024, eR (gB x4) (xB x0 x1 x3 r) (tB x2 r) c * eR (gB x4) (xB x0 x1 x3 r) (tB x2 r) c
  | _ => 0

theorem s0_apply (y : FVec Ideal S1x1024 .f32) (i : Fin 1) (c : Fin 1024) :
    k0_pay2 (bXh x0 x1 x3) (bDy x0 x1 x2 x3 x4) y (ix2 i c) = y (ix2 i c) + sAdd x0 x1 x2 x3 x4 0 c := by
  have h := fun r => bXh_apply x0 x1 x3 r
  have h' := fun r => bDy_apply x0 x1 x2 x3 x4 r
  generalize bXh x0 x1 x3 = z at h ⊢
  generalize bDy x0 x1 x2 x3 x4 = z' at h' ⊢
  pointwise [k0_pay2]
  simp only [h, h']
  rfl

theorem s1_apply (y : FVec Ideal S1x1024 .f32) (i : Fin 1) (c : Fin 1024) :
    k0_pay3 x0 (bDx x0 x1 x2 x3 x4) y (ix2 i c) = y (ix2 i c) + sAdd x0 x1 x2 x3 x4 1 c := by
  have h := fun r => bDx_apply x0 x1 x2 x3 x4 r
  generalize bDx x0 x1 x2 x3 x4 = z at h ⊢
  pointwise [k0_pay3]
  simp only [h]
  rfl

theorem s2_apply (y : FVec Ideal S1x1024 .f32) (i : Fin 1) (c : Fin 1024) :
    k0_pay4 (bE x0 x1 x2 x3 x4) y (ix2 i c) = y (ix2 i c) + sAdd x0 x1 x2 x3 x4 2 c := by
  have h := fun r => bE_apply x0 x1 x2 x3 x4 r
  generalize bE x0 x1 x2 x3 x4 = z at h ⊢
  pointwise [k0_pay4]
  simp only [h]
  rfl

theorem loss_apply (y : FVec Ideal S1x1024 .f32) (i : Fin 1) (c : Fin 1024) :
    k0_pay5 y (ix2 i c) = (∑ k, y (ix2 0 k)) * halfC := by
  pointwise [k0_pay5]

theorem zero_apply (p : Fin 8) (q : Fin 1024) : k0_pay6 (F := Ideal) (ix2 p q) = 0 := by pointwise [k0_pay6]

/-- Rows three to seven get no addend. -/
theorem sAdd_rest (p : Fin 8) (q : Fin 1024) (hp : 3 ≤ p.val) : sAdd x0 x1 x2 x3 x4 p q = 0 := by
  unfold sAdd
  split
  · exact absurd hp (by decide)
  · exact absurd hp (by decide)
  · exact absurd hp (by decide)
  · rfl

end Apply

end Cert.N6

end
-- ==== Proof.N6.Stores.lean ====
/- The stores of the kernel's body read back at an index: the rows of column sums. -/
module

public import proofs.«01_k».proof.Proof.Pieces
public import proofs.«01_k».proof.Proof.N6.Block

@[expose] public section

set_option maxRecDepth 16384

noncomputable section

namespace Cert.N6

open Idealize.ShloMosaic Cert.Kernel6Ideal Cert.Kernel6Ideal.Gen Cert.Pieces

/-- Three stores of a row each over what `L` left. -/
theorem rows3 {sig : RefSig} {κ : Kind} {sp : Space} (v : View sig κ sp S8x1024 .f32) (f : v.ty.Contents (Elt Ideal))
    (i2 i1 i0) (w2 w1 w0 : S1x1024.Idx → EReal) (L : List (View.Piece (Elt Ideal) S8x1024 .f32)) (g : Fin 8 → Fin 1024 → EReal)
    (h2 : ∀ q, w2 (ix2 0 q) = g 2 q) (h1 : ∀ q, w1 (ix2 0 q) = g 1 q) (h0 : ∀ q, w0 (ix2 0 q) = g 0 q)
    (hL : ∀ q (p : Fin 8), 3 ≤ p.val → v.read (Elt Ideal) (v.writes (Elt Ideal) f L) (ix2 p q) = g p q) (p : Fin 8) (q : Fin 1024) :
    v.read (Elt Ideal) (v.writes (Elt Ideal) f (⟨Rect.unit (s := S8x1024) ![2, 0] ![1, 1024] i2, w2⟩ ::
      ⟨Rect.unit (s := S8x1024) ![1, 0] ![1, 1024] i1, w1⟩ :: ⟨Rect.unit (s := S8x1024) ![0, 0] ![1, 1024] i0, w0⟩ :: L)) (ix2 p q) = g p q := by
  by_cases e2 : p = 2
  · subst e2
    rw [View.read_writes_cons_rows_of_mem v f i2 w2 _ (ix2 2 q) (ix2 0 q) rfl rfl rfl, h2]
  rw [View.read_writes_cons_rows_of_not_mem v f i2 w2 _ (ix2 p q) rfl rfl (show p.val < 2 ∨ 2 + 1 ≤ p.val by omega)]
  by_cases e1 : p = 1
  · subst e1
    rw [View.read_writes_cons_rows_of_mem v f i1 w1 _ (ix2 1 q) (ix2 0 q) rfl rfl rfl, h1]
  rw [View.read_writes_cons_rows_of_not_mem v f i1 w1 _ (ix2 p q) rfl rfl (show p.val < 1 ∨ 1 + 1 ≤ p.val by omega)]
  by_cases e0 : p = 0
  · subst e0
    rw [View.read_writes_cons_rows_of_mem v f i0 w0 _ (ix2 0 q) (ix2 0 q) rfl rfl rfl, h0]
  rw [View.read_writes_cons_rows_of_not_mem v f i0 w0 _ (ix2 p q) rfl rfl (show p.val < 0 ∨ 0 + 1 ≤ p.val by omega)]
  exact hL q p (by omega)

/-- Four stores of a row each over what `L` left. -/
theorem rows4 {sig : RefSig} {κ : Kind} {sp : Space} (v : View sig κ sp S8x1024 .f32) (f : v.ty.Contents (Elt Ideal))
    (i3 i2 i1 i0) (w3 w2 w1 w0 : S1x1024.Idx → EReal) (L : List (View.Piece (Elt Ideal) S8x1024 .f32)) (g g' : Fin 8 → Fin 1024 → EReal)
    (h3 : ∀ q, w3 (ix2 0 q) = g' 3 q) (hg : ∀ p q, p ≠ 3 → g' p q = g p q)
    (h2 : ∀ q, w2 (ix2 0 q) = g 2 q) (h1 : ∀ q, w1 (ix2 0 q) = g 1 q) (h0 : ∀ q, w0 (ix2 0 q) = g 0 q)
    (hL : ∀ q (p : Fin 8), 3 ≤ p.val → v.read (Elt Ideal) (v.writes (Elt Ideal) f L) (ix2 p q) = g p q) (p : Fin 8) (q : Fin 1024) :
    v.read (Elt Ideal) (v.writes (Elt Ideal) f (⟨Rect.unit (s := S8x1024) ![3, 0] ![1, 1024] i3, w3⟩ ::
      ⟨Rect.unit (s := S8x1024) ![2, 0] ![1, 1024] i2, w2⟩ ::
      ⟨Rect.unit (s := S8x1024) ![1, 0] ![1, 1024] i1, w1⟩ :: ⟨Rect.unit (s := S8x1024) ![0, 0] ![1, 1024] i0, w0⟩ :: L)) (ix2 p q) = g' p q := by
  by_cases e3 : p = 3
  · subst e3
    rw [View.read_writes_cons_rows_of_mem v f i3 w3 _ (ix2 3 q) (ix2 0 q) rfl rfl rfl, h3]
  rw [View.read_writes_cons_rows_of_not_mem v f i3 w3 _ (ix2 p q) rfl rfl (show p.val < 3 ∨ 3 + 1 ≤ p.val by omega), hg p q e3]
  exact rows3 v f i2 i1 i0 w2 w1 w0 L g h2 h1 h0 hL p q

/-- Rows of sums with the fourth taken from the third: its sum over the columns, over twice the row length. -/
def closed (g : Fin 8 → Fin 1024 → EReal) (p : Fin 8) (q : Fin 1024) : EReal := if p = 3 then (∑ k, g 2 k) * halfC else g p q

end Cert.N6

end
-- ==== Proof.N6.CaseA.lean ====
/- What the first point of the grid leaves in each output block. -/
module

public import proofs.«01_k».proof.Proof.Gen.Kernel6Ideal.Frame
public import proofs.«01_k».proof.Proof.N6.Stores

@[expose] public section

set_option maxRecDepth 16384

noncomputable section

namespace Cert.N6

open Idealize.ShloMosaic Cert.Kernel6Ideal Cert.Kernel6Ideal.Gen Cert.Pieces

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S8x1024 .f32) (harg8 : arg8.IsWhole)
  (hc0 : cond0_0 i) (hc1 : ¬cond0_1 i)
  (x0 x1 x2 : Vec Ideal S1024x1024 .f32) (x3 : Vec Ideal S8x1024 .f32) (x4 : Vec Ideal S1x1024 .f32) (xo7 : Vec Ideal S8x1024 .f32)

/-- Output 5: the block of the stream's gradient. -/
theorem out_A_5 : out0_A_5 c i arg1 harg1 arg2 harg2 arg3 harg3 arg4 harg4 arg5 harg5 arg6 harg6 arg7 harg7 arg8 harg8 hc0 hc1 x0 x1 x2 x3 x4 = bDx x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3 x4)]
  unfold kernelRun0_A
  dsimp only
  rw [canon_whole]
  sl_unfold_words
  simp only [View.readAt_eq_ld, harg1.read_unread, harg2.read_unread, harg3.read_unread, harg4.read_unread, harg5.read_unread, harg8.read_unread,
    ld_whole, shapeCast_self]

/-- Output 6: the block of the gradient of the gated MLP's output. -/
theorem out_A_6 : out0_A_6 c i arg1 harg1 arg2 harg2 arg3 harg3 arg4 harg4 arg5 harg5 arg6 harg6 arg7 harg7 arg8 harg8 hc0 hc1 x0 x1 x2 x3 x4 = bDf x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4)]
  unfold kernelRun0_A
  dsimp only
  rw [canon_whole]
  sl_unfold_words
  simp only [View.readAt_eq_ld, harg1.read_unread, harg2.read_unread, harg3.read_unread, harg4.read_unread, harg5.read_unread, harg8.read_unread,
    ld_whole, shapeCast_self]

/-- Output 7: the block's column sums, over zero. -/
theorem out_A_7 (ρ : Fin 8) (q : Fin 1024) : out0_A_7 c i arg1 harg1 arg2 harg2 arg3 harg3 arg4 harg4 arg5 harg5 arg6 harg6 arg7 harg7 arg8 harg8 hc0 hc1 x0 x1 x2 x3 x4 (ix2 ρ q) = sAdd x0 x1 x2 x3 x4 ρ q := by
  unfold out0_A_7
  unfold kernelRun0_A
  dsimp only
  sl_unfold_words
  simp only [View.readAt_eq_ld, harg1.read_unread, harg2.read_unread, harg3.read_unread, harg4.read_unread, harg5.read_unread, harg8.read_unread,
    ld_whole, shapeCast_self]
  refine rows3 _ _ _ _ _ _ _ _ _ (sAdd x0 x1 x2 x3 x4) ?_ ?_ ?_ ?_ ρ q <;> intro q
  · rw [s2_apply x0 x1 x2 x3 x4, readCov_rows _ _ _ 0 q 2 rfl, canon_not_mem _ _ _ _ _ (by decide), canon_not_mem _ _ _ _ _ (by decide), canon_whole, zero_apply, zero_add]
  · rw [s1_apply x0 x1 x2 x3 x4, readCov_rows _ _ _ 0 q 1 rfl, canon_not_mem _ _ _ _ _ (by decide), canon_whole, zero_apply, zero_add]
  · rw [s0_apply x0 x1 x2 x3 x4, readCov_rows _ _ _ 0 q 0 rfl, canon_whole, zero_apply, zero_add]
  · intro p hp
    rw [View.read_writes_junk_eq_canon, canon_whole, zero_apply, sAdd_rest _ _ _ _ _ _ _ hp]

end Cert.N6

end
-- ==== Proof.N6.CaseB.lean ====
/- What a point between of the grid leaves in each output block. -/
module

public import proofs.«01_k».proof.Proof.Gen.Kernel6Ideal.Frame
public import proofs.«01_k».proof.Proof.N6.Stores

@[expose] public section

set_option maxRecDepth 16384

noncomputable section

namespace Cert.N6

open Idealize.ShloMosaic Cert.Kernel6Ideal Cert.Kernel6Ideal.Gen Cert.Pieces

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S8x1024 .f32) (harg8 : arg8.IsWhole)
  (hc0 : ¬cond0_0 i) (hc1 : ¬cond0_1 i)
  (x0 x1 x2 : Vec Ideal S1024x1024 .f32) (x3 : Vec Ideal S8x1024 .f32) (x4 : Vec Ideal S1x1024 .f32) (xo7 : Vec Ideal S8x1024 .f32)

/-- Output 5: the block of the stream's gradient. -/
theorem out_B_5 : out0_B_5 c i arg1 harg1 arg2 harg2 arg3 harg3 arg4 harg4 arg5 harg5 arg6 harg6 arg7 harg7 arg8 harg8 hc0 hc1 x0 x1 x2 x3 x4 xo7 = bDx x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 x4 xo7)]
  unfold kernelRun0_B
  dsimp only
  rw [canon_whole]
  sl_unfold_words
  simp only [View.readAt_eq_ld, harg1.read_unread, harg2.read_unread, harg3.read_unread, harg4.read_unread, harg5.read_unread, harg8.read_unread,
    ld_whole, shapeCast_self]

/-- Output 6: the block of the gradient of the gated MLP's output. -/
theorem out_B_6 : out0_B_6 c i arg1 harg1 arg2 harg2 arg3 harg3 arg4 harg4 arg5 harg5 arg6 harg6 arg7 harg7 arg8 harg8 hc0 hc1 x0 x1 x2 x3 x4 xo7 = bDf x0 x1 x2 x3 x4 := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 xo7)]
  unfold kernelRun0_B
  dsimp only
  rw [canon_whole]
  sl_unfold_words
  simp only [View.readAt_eq_ld, harg1.read_unread, harg2.read_unread, harg3.read_unread, harg4.read_unread, harg5.read_unread, harg8.read_unread,
    ld_whole, shapeCast_self]

/-- Output 7: the block's column sums, over what was there. -/
theorem out_B_7 (ρ : Fin 8) (q : Fin 1024) : out0_B_7 c i arg1 harg1 arg2 harg2 arg3 harg3 arg4 harg4 arg5 harg5 arg6 harg6 arg7 harg7 arg8 harg8 hc0 hc1 x0 x1 x2 x3 x4 xo7 (ix2 ρ q) = xo7 (ix2 ρ q) + sAdd x0 x1 x2 x3 x4 ρ q := by
  unfold out0_B_7
  unfold kernelRun0_B
  dsimp only
  sl_unfold_words
  simp only [View.readAt_eq_ld, harg1.read_unread, harg2.read_unread, harg3.read_unread, harg4.read_unread, harg5.read_unread, harg8.read_unread,
    ld_whole, shapeCast_self]
  refine rows3 _ _ _ _ _ _ _ _ _ (fun ρ q => xo7 (ix2 ρ q) + sAdd x0 x1 x2 x3 x4 ρ q) ?_ ?_ ?_ ?_ ρ q <;> intro q
  · rw [s2_apply x0 x1 x2 x3 x4, ld_rows _ _ 0 q 2 rfl]
  · rw [s1_apply x0 x1 x2 x3 x4, ld_rows _ _ 0 q 1 rfl]
  · rw [s0_apply x0 x1 x2 x3 x4, ld_rows _ _ 0 q 0 rfl]
  · intro p hp
    rw [sAdd_rest _ _ _ _ _ _ _ hp, add_zero, View.writes_nil, harg8.read_unread]

end Cert.N6

end
-- ==== Proof.N6.CaseC.lean ====
/- What the last point of the grid leaves in each output block. -/
module

public import proofs.«01_k».proof.Proof.Gen.Kernel6Ideal.Frame
public import proofs.«01_k».proof.Proof.N6.Stores

@[expose] public section

set_option maxRecDepth 16384

noncomputable section

namespace Cert.N6

open Idealize.ShloMosaic Cert.Kernel6Ideal Cert.Kernel6Ideal.Gen Cert.Pieces

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S8x1024 .f32) (harg8 : arg8.IsWhole)
  (hc0 : ¬cond0_0 i) (hc1 : cond0_1 i)
  (x0 x1 x2 : Vec Ideal S1024x1024 .f32) (x3 : Vec Ideal S8x1024 .f32) (x4 : Vec Ideal S1x1024 .f32) (xo7 : Vec Ideal S8x1024 .f32)

/-- Output 5: the block of the stream's gradient. -/
theorem out_C_5 : out0_C_5 c i arg1 harg1 arg2 harg2 arg3 harg3 arg4 harg4 arg5 harg5 arg6 harg6 arg7 harg7 arg8 harg8 hc0 hc1 x0 x1 x2 x3 x4 xo7 = bDx x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 x4 xo7)]
  unfold kernelRun0_C
  dsimp only
  rw [canon_whole]
  sl_unfold_words
  simp only [View.readAt_eq_ld, harg1.read_unread, harg2.read_unread, harg3.read_unread, harg4.read_unread, harg5.read_unread, harg8.read_unread,
    ld_whole, shapeCast_self]

/-- Output 6: the block of the gradient of the gated MLP's output. -/
theorem out_C_6 : out0_C_6 c i arg1 harg1 arg2 harg2 arg3 harg3 arg4 harg4 arg5 harg5 arg6 harg6 arg7 harg7 arg8 harg8 hc0 hc1 x0 x1 x2 x3 x4 xo7 = bDf x0 x1 x2 x3 x4 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 xo7)]
  unfold kernelRun0_C
  dsimp only
  rw [canon_whole]
  sl_unfold_words
  simp only [View.readAt_eq_ld, harg1.read_unread, harg2.read_unread, harg3.read_unread, harg4.read_unread, harg5.read_unread, harg8.read_unread,
    ld_whole, shapeCast_self]

/-- Output 7: the block's column sums, over what was there, and the loss from the third row. -/
theorem out_C_7 (ρ : Fin 8) (q : Fin 1024) : out0_C_7 c i arg1 harg1 arg2 harg2 arg3 harg3 arg4 harg4 arg5 harg5 arg6 harg6 arg7 harg7 arg8 harg8 hc0 hc1 x0 x1 x2 x3 x4 xo7 (ix2 ρ q) = closed (fun ρ q => xo7 (ix2 ρ q) + sAdd x0 x1 x2 x3 x4 ρ q) ρ q := by
  unfold out0_C_7
  unfold kernelRun0_C
  dsimp only
  sl_unfold_words
  simp only [View.readAt_eq_ld, harg1.read_unread, harg2.read_unread, harg3.read_unread, harg4.read_unread, harg5.read_unread, harg8.read_unread,
    ld_whole, shapeCast_self]
  refine rows4 _ _ _ _ _ _ _ _ _ _ _ (fun ρ q => xo7 (ix2 ρ q) + sAdd x0 x1 x2 x3 x4 ρ q) (closed (fun ρ q => xo7 (ix2 ρ q) + sAdd x0 x1 x2 x3 x4 ρ q)) ?_ ?_ ?_ ?_ ?_ ?_ ρ q
  · intro q
    rw [loss_apply]
    refine congrArg (· * halfC) (Finset.sum_congr rfl fun k _ => ?_)
    rw [readCov_rows _ _ _ 0 k 2 rfl, canon_mem _ _ _ 2 0 k rfl, s2_apply x0 x1 x2 x3 x4, ld_rows _ _ 0 k 2 rfl]
  · intro p q hp
    exact if_neg hp
  all_goals intro q
  · rw [s2_apply x0 x1 x2 x3 x4, ld_rows _ _ 0 q 2 rfl]
  · rw [s1_apply x0 x1 x2 x3 x4, ld_rows _ _ 0 q 1 rfl]
  · rw [s0_apply x0 x1 x2 x3 x4, ld_rows _ _ 0 q 0 rfl]
  · intro p hp
    rw [sAdd_rest _ _ _ _ _ _ _ hp, add_zero, View.writes_nil, harg8.read_unread]

end Cert.N6

end
-- ==== Proof.N6.Fold.lean ====
/- What the outputs hold after each of the four points, and what the three result arrays hold after the run. -/
module

public import proofs.«01_k».proof.Proof.N6.CaseA
public import proofs.«01_k».proof.Proof.N6.CaseB
public import proofs.«01_k».proof.Proof.N6.CaseC
public import Idealize.ShloMosaic.Lib.Pipeline.ValueKit.Geometry

@[expose] public section

set_option maxRecDepth 16384

noncomputable section

namespace Cert.N6

open Idealize.ShloMosaic Idealize.ShloMosaic.TcCoe Cert.Kernel6Ideal Cert.Kernel6Ideal.Gen Cert.Pieces
open Idealize.ShloMosaic.Pipeline (Dat)

variable (m : (ℓ : Loc nD τ sig) → Buf (Elt Ideal) ℓ) (c : Dev nD)

/-- There are four points. -/
theorem N_eq : cfg0.N = 4 := N_0
/-- Point `s` of the grid. -/
abbrev pt (s : Fin 4) : Fin cfg0.N := ⟨s.val, lt_of_lt_of_eq s.isLt N_eq.symm⟩
/-- Row `r` of block `s`. -/
abbrev row (s : Fin 4) (r : Fin 1024) : Fin 4096 := ⟨1024 * s.val + r.val, by omega⟩

/-- A point's block of the stream's gradient. -/
abbrev tDx (s : Fin 4) := bDx (F := Ideal) (iblk m c 0 (pt s)) (iblk m c 1 (pt s)) (iblk m c 2 (pt s)) (iblk m c 3 (pt s)) (iblk m c 4 (pt s))
/-- A point's block of the gradient of the gated MLP's output. -/
abbrev tDf (s : Fin 4) := bDf (F := Ideal) (iblk m c 0 (pt s)) (iblk m c 1 (pt s)) (iblk m c 2 (pt s)) (iblk m c 3 (pt s)) (iblk m c 4 (pt s))
/-- A point's column sums. -/
abbrev tS (s : Fin 4) := sAdd (iblk m c 0 (pt s)) (iblk m c 1 (pt s)) (iblk m c 2 (pt s)) (iblk m c 3 (pt s)) (iblk m c 4 (pt s))

theorem mod_zero {n : ℕ} (h : n < 4) (e : n % 4 = 0) : n = 0 := by omega

/-- Every point leaves its block of the stream's gradient. -/
theorem outs_5 (s : Fin 4) : (outsAt0 m c (pt s).val (pt s).isLt).1 = tDx m c s := by
  by_cases h0 : (pt s).val % 4 = 0
  · refine (congrArg (·.1) (outsAt0_A m c (pt s) h0 (by omega))).trans ?_
    dsimp only
    exact out_A_5 ..
  by_cases h1 : (pt s).val % 4 = 3
  · refine (congrArg (·.1) (outsAt0_C m c (pt s) h0 h1)).trans ?_
    dsimp only
    exact out_C_5 ..
  · refine (congrArg (·.1) (outsAt0_B m c (pt s) h0 h1)).trans ?_
    dsimp only
    exact out_B_5 ..

/-- Every point leaves its block of the gradient of the gated MLP's output. -/
theorem outs_6 (s : Fin 4) : (outsAt0 m c (pt s).val (pt s).isLt).2.1 = tDf m c s := by
  by_cases h0 : (pt s).val % 4 = 0
  · refine (congrArg (·.2.1) (outsAt0_A m c (pt s) h0 (by omega))).trans ?_
    dsimp only
    exact out_A_6 ..
  by_cases h1 : (pt s).val % 4 = 3
  · refine (congrArg (·.2.1) (outsAt0_C m c (pt s) h0 h1)).trans ?_
    dsimp only
    exact out_C_6 ..
  · refine (congrArg (·.2.1) (outsAt0_B m c (pt s) h0 h1)).trans ?_
    dsimp only
    exact out_B_6 ..

/-- After a point before the last the block of sums holds what the points up to it add. -/
theorem outs_7 (n : ℕ) (h : n < 3) (p : Fin 8) (q : Fin 1024) :
    (outsAt0 m c n (lt_of_lt_of_eq (show n < 4 by omega) N_eq.symm)).2.2 (ix2 p q) = ∑ s : Fin (n + 1), tS m c ⟨s.val, by omega⟩ p q := by
  induction n with
  | zero =>
    rw [Fin.sum_univ_one]
    refine (congrFun (congrArg (·.2.2) (outsAt0_A m c (pt 0) (by decide) (by decide))) _).trans ?_
    dsimp only
    exact out_A_7 ..
  | succ n ih =>
    rw [Fin.sum_univ_castSucc]
    refine (congrFun (congrArg (·.2.2) (outsAt0_B m c (pt ⟨n + 1, by omega⟩) (by show ¬ (n + 1) % 4 = 0; omega) (by show ¬ (n + 1) % 4 = 3; omega))) _).trans ?_
    dsimp only
    refine (out_B_7 ..).trans ?_
    exact congrArg (· + _) (ih (by omega))

/-- After the last point the block of sums holds what all four add, and the loss. -/
theorem outs_last (p : Fin 8) (q : Fin 1024) :
    (outsAt0 m c (pt 3).val (pt 3).isLt).2.2 (ix2 p q) = closed (fun p q => ∑ s : Fin 4, tS m c s p q) p q := by
  refine (congrFun (congrArg (·.2.2) (outsAt0_C m c (pt 3) (by decide) (by decide))) _).trans ?_
  dsimp only
  refine (out_C_7 ..).trans ?_
  have e : (fun p q => (outsAt0 m c 2 (lt_of_lt_of_eq (show 2 < 4 by omega) N_eq.symm)).2.2 (ix2 p q) + tS m c 3 p q) =
      fun p q => ∑ s : Fin 4, tS m c s p q := funext fun p => funext fun q => by
    rw [outs_7 m c 2 (by decide) p q]
    exact (Fin.sum_univ_castSucc fun s : Fin 4 => tS m c s p q).symm
  exact congrArg (fun g => closed g p q) e

/-! ## The arrays after the run -/

/-- The array of the stream's gradient after the run. -/
abbrev G5 : Vec Ideal S4096x1024 .f32 := (dats m 0 c).arrAt 5 cfg0.N
/-- Points that write back write different blocks of output 5. -/
theorem index_5 : ∀ t t' : Fin cfg0.N, (cfg0.win 5).flush t = true → (cfg0.win 5).flush t' = true → win0_5.index t = win0_5.index t' → t = t' :=
  (by decide +kernel : ∀ t t' : Fin grid0.N, win0_5.flush t = true → win0_5.flush t' = true → win0_5.index t = win0_5.index t' → t = t')
/-- A block of output 5's array is what its point wrote back. -/
theorem blocks_5 (t : Fin cfg0.N) (hf : (cfg0.win 5).flush t = true) :
    ((cfg0.win 5).blk t).view.read (Elt Ideal) ((dats m 0 c).arrAt 5 cfg0.N) = (cfg0.win 5).cut (grid0.coords t) ((dats m 0 c).after 5 t) :=
  (dats m 0 c).read_blk_arrAt_eq_flushed 5 (fun t t' h h' hne => (cfg0.win 5).disjoint_blk fun e => hne (index_5 t t' h h' e)) cfg0.N t t.isLt hf

/-- The array of the gradient of the gated MLP's output after the run. -/
abbrev G6 : Vec Ideal S4096x1024 .bf16 := (dats m 0 c).arrAt 6 cfg0.N
/-- Points that write back write different blocks of output 6. -/
theorem index_6 : ∀ t t' : Fin cfg0.N, (cfg0.win 6).flush t = true → (cfg0.win 6).flush t' = true → win0_6.index t = win0_6.index t' → t = t' :=
  (by decide +kernel : ∀ t t' : Fin grid0.N, win0_6.flush t = true → win0_6.flush t' = true → win0_6.index t = win0_6.index t' → t = t')
/-- A block of output 6's array is what its point wrote back. -/
theorem blocks_6 (t : Fin cfg0.N) (hf : (cfg0.win 6).flush t = true) :
    ((cfg0.win 6).blk t).view.read (Elt Ideal) ((dats m 0 c).arrAt 6 cfg0.N) = (cfg0.win 6).cut (grid0.coords t) ((dats m 0 c).after 6 t) :=
  (dats m 0 c).read_blk_arrAt_eq_flushed 6 (fun t t' h h' hne => (cfg0.win 6).disjoint_blk fun e => hne (index_6 t t' h h' e)) cfg0.N t t.isLt hf

/-- The array of the sums after the run. -/
abbrev G7 : Vec Ideal S8x1024 .f32 := (dats m 0 c).arrAt 7 cfg0.N
/-- Points that write back write different blocks of output 7. -/
theorem index_7 : ∀ t t' : Fin cfg0.N, (cfg0.win 7).flush t = true → (cfg0.win 7).flush t' = true → win0_7.index t = win0_7.index t' → t = t' :=
  (by decide +kernel : ∀ t t' : Fin grid0.N, win0_7.flush t = true → win0_7.flush t' = true → win0_7.index t = win0_7.index t' → t = t')
/-- A block of output 7's array is what its point wrote back. -/
theorem blocks_7 (t : Fin cfg0.N) (hf : (cfg0.win 7).flush t = true) :
    ((cfg0.win 7).blk t).view.read (Elt Ideal) ((dats m 0 c).arrAt 7 cfg0.N) = (cfg0.win 7).cut (grid0.coords t) ((dats m 0 c).after 7 t) :=
  (dats m 0 c).read_blk_arrAt_eq_flushed 7 (fun t t' h h' hne => (cfg0.win 7).disjoint_blk fun e => hne (index_7 t t' h h' e)) cfg0.N t t.isLt hf

theorem flush_5 : ∀ s : Fin 4, (cfg0.win 5).flush (pt s) = true := by decide +kernel
theorem flush_6 : ∀ s : Fin 4, (cfg0.win 6).flush (pt s) = true := by decide +kernel
theorem flush_7 : (cfg0.win 7).flush (pt 3) = true := by decide +kernel
theorem place_5 : ∀ s : Fin 4, win0_5.index (pt s) = ![s.val, 0] := by decide +kernel
theorem place_6 : ∀ s : Fin 4, win0_6.index (pt s) = ![s.val, 0] := by decide +kernel
theorem place_7 : win0_7.index (pt 3) = ![0, 0] := by decide +kernel

/-- The stream's gradient after the run, by blocks. -/
theorem G5_blk (s : Fin 4) (r q : Fin 1024) : G5 m c (ix2 (row s r) q) = tDx m c s (ix2 r q) := by
  have e := congrFun (blocks_5 m c (pt s) (flush_5 s)) (ix2 r q)
  rw [View.read_apply] at e
  refine Eq.trans ?_ (e.trans ((congrFun (after0_5 m c (pt s)) _).trans (congrFun (outs_5 m c s) _)))
  show G5 m c _ = G5 m c _
  congr 1
  funext a
  apply Fin.ext
  match a with
  | ⟨0, _⟩ => blk_simp [place_5]; show 1024 * s.val + r.val = s.val * 1024 + r.val; omega
  | ⟨1, _⟩ => blk_simp [place_5]

/-- The gradient of the gated MLP's output after the run, by blocks. -/
theorem G6_blk (s : Fin 4) (r q : Fin 1024) : G6 m c (ix2 (row s r) q) = tDf m c s (ix2 r q) := by
  have e := congrFun (blocks_6 m c (pt s) (flush_6 s)) (ix2 r q)
  rw [View.read_apply] at e
  refine Eq.trans ?_ (e.trans ((congrFun (after0_6 m c (pt s)) _).trans (congrFun (outs_6 m c s) _)))
  show G6 m c _ = G6 m c _
  congr 1
  funext a
  apply Fin.ext
  match a with
  | ⟨0, _⟩ => blk_simp [place_6]; show 1024 * s.val + r.val = s.val * 1024 + r.val; omega
  | ⟨1, _⟩ => blk_simp [place_6]

/-- The sums after the run. -/
theorem G7_blk (p : Fin 8) (q : Fin 1024) : G7 m c (ix2 p q) = closed (fun p q => ∑ s : Fin 4, tS m c s p q) p q := by
  have e := congrFun (blocks_7 m c (pt 3) flush_7) (ix2 p q)
  rw [View.read_apply] at e
  refine Eq.trans ?_ (e.trans ((congrFun (after0_7 m c (pt 3)) _).trans (outs_last m c p q)))
  show G7 m c _ = G7 m c _
  congr 1
  funext a
  apply Fin.ext
  match a with
  | ⟨0, _⟩ => blk_simp [place_7]
  | ⟨1, _⟩ => blk_simp [place_7]

end Cert.N6

end
-- ==== Proof.N6.Results.lean ====
/- The kernel's blocks as rows of the call's five arrays, and its three result arrays at an index in the terms of
   Spec.lean. -/
module

public import proofs.«01_k».proof.Proof.N6.Fold
public import Idealize.ShloMosaic.Lib.Claim

@[expose] public section

set_option maxRecDepth 16384

noncomputable section

namespace Cert.N6

open Idealize.ShloMosaic Cert.Kernel6Ideal Cert.Kernel6Ideal.Gen Cert.Pieces Idealize.ShloMosaic.TcCoe
open Cert.N2 (Row lenC epsC rstd xhR)

variable (m : (ℓ : Loc nD τ sig) → Buf (Elt Ideal) ℓ) (c : Dev nD)

/-- The five arrays as the kernel's program is given them. -/
def arrays : Arrays where
  f := fun p q => (m ((c : Thread nD τ).loc main_arg0) : Vec Ideal S4096x1024 .f32) (ix2 p q)
  x := fun p q => (m ((c : Thread nD τ).loc main_arg1) : Vec Ideal S4096x1024 .f32) (ix2 p q)
  tg := fun p q => (m ((c : Thread nD τ).loc main_arg2) : Vec Ideal S4096x1024 .f32) (ix2 p q)
  md := fun p q => (m ((c : Thread nD τ).loc main_arg3) : Vec Ideal S8x1024 .f32) (ix2 p q)
  g := fun q => (m ((c : Thread nD τ).loc main_arg4) : Vec Ideal S1x1024 .f32) (ix2 0 q)

variable (s : Fin 4)

/-- Window 0's place in its array. -/
theorem place_0 : ∀ t : Fin cfg0.N, win0_0.index t = ![t.val, 0] := (by decide +kernel : ∀ t : Fin grid0.N, _)
/-- Window 0's block at a point, at an index. -/
theorem blk_0 (r q : Fin 1024) : (iblk m c 0 (pt s) : Vec Ideal S1024x1024 .f32) (ix2 r q) = (arrays m c).f (row s r) q := by
  unfold arrays
  show _ = m ((c : Thread nD τ).loc main_arg0) (ix2 (row s r) q)
  rw [← V_main_arg0 m c]
  unfold iblk
  rw [View.read_apply]
  show V m c main_arg0 _ = V m c main_arg0 _
  congr 1
  funext a
  apply Fin.ext
  match a with
  | ⟨0, _⟩ => blk_simp [place_0]; show s.val * 1024 + r.val = 1024 * s.val + r.val; omega
  | ⟨1, _⟩ => blk_simp [place_0]

/-- Window 1's place in its array. -/
theorem place_1 : ∀ t : Fin cfg0.N, win0_1.index t = ![t.val, 0] := (by decide +kernel : ∀ t : Fin grid0.N, _)
/-- Window 1's block at a point, at an index. -/
theorem blk_1 (r q : Fin 1024) : (iblk m c 1 (pt s) : Vec Ideal S1024x1024 .f32) (ix2 r q) = (arrays m c).x (row s r) q := by
  unfold arrays
  show _ = m ((c : Thread nD τ).loc main_arg1) (ix2 (row s r) q)
  rw [← V_main_arg1 m c]
  unfold iblk
  rw [View.read_apply]
  show V m c main_arg1 _ = V m c main_arg1 _
  congr 1
  funext a
  apply Fin.ext
  match a with
  | ⟨0, _⟩ => blk_simp [place_1]; show s.val * 1024 + r.val = 1024 * s.val + r.val; omega
  | ⟨1, _⟩ => blk_simp [place_1]

/-- Window 2's place in its array. -/
theorem place_2 : ∀ t : Fin cfg0.N, win0_2.index t = ![t.val, 0] := (by decide +kernel : ∀ t : Fin grid0.N, _)
/-- Window 2's block at a point, at an index. -/
theorem blk_2 (r q : Fin 1024) : (iblk m c 2 (pt s) : Vec Ideal S1024x1024 .f32) (ix2 r q) = (arrays m c).tg (row s r) q := by
  unfold arrays
  show _ = m ((c : Thread nD τ).loc main_arg2) (ix2 (row s r) q)
  rw [← V_main_arg2 m c]
  unfold iblk
  rw [View.read_apply]
  show V m c main_arg2 _ = V m c main_arg2 _
  congr 1
  funext a
  apply Fin.ext
  match a with
  | ⟨0, _⟩ => blk_simp [place_2]; show s.val * 1024 + r.val = 1024 * s.val + r.val; omega
  | ⟨1, _⟩ => blk_simp [place_2]

/-- Window 3's place in its array. -/
theorem place_3 : ∀ t : Fin cfg0.N, win0_3.index t = ![0, 0] := (by decide +kernel : ∀ t : Fin grid0.N, _)
/-- Window 3's block at a point, at an index. -/
theorem blk_3 (r : Fin 8) (q : Fin 1024) : (iblk m c 3 (pt s) : Vec Ideal S8x1024 .f32) (ix2 r q) = (arrays m c).md r q := by
  unfold arrays
  show _ = m ((c : Thread nD τ).loc main_arg3) (ix2 r q)
  rw [← V_main_arg3 m c]
  unfold iblk
  rw [View.read_apply]
  show V m c main_arg3 _ = V m c main_arg3 _
  congr 1
  funext a
  apply Fin.ext
  match a with
  | ⟨0, _⟩ => blk_simp [place_3]
  | ⟨1, _⟩ => blk_simp [place_3]

/-- Window 4's place in its array. -/
theorem place_4 : ∀ t : Fin cfg0.N, win0_4.index t = ![0, 0] := (by decide +kernel : ∀ t : Fin grid0.N, _)
/-- Window 4's block at a point, at an index. -/
theorem blk_4 (q : Fin 1024) : (iblk m c 4 (pt s) : Vec Ideal S1x1024 .f32) (ix2 0 q) = (arrays m c).g q := by
  unfold arrays
  show _ = m ((c : Thread nD τ).loc main_arg4) (ix2 0 q)
  rw [← V_main_arg4 m c]
  unfold iblk
  rw [View.read_apply]
  show V m c main_arg4 _ = V m c main_arg4 _
  congr 1
  funext a
  apply Fin.ext
  match a with
  | ⟨0, _⟩ => blk_simp [place_4]
  | ⟨1, _⟩ => blk_simp [place_4]

/-- A sum over the 4096 rows by blocks of 1024. -/
theorem sum_rows (f : Fin 4096 → EReal) : ∑ t, f t = ∑ s : Fin 4, ∑ r : Fin 1024, f (row s r) := by
  rw [← Fintype.sum_prod_type']
  refine (Fintype.sum_equiv (finProdFinEquiv : Fin 4 × Fin 1024 ≃ Fin 4096) (fun p => f (row p.1 p.2)) f fun p => ?_).symm
  congr 1
  exact Fin.ext (show 1024 * p.1.val + p.2.val = p.2.val + 1024 * p.1.val from Nat.add_comm _ _)

/-- The gain. -/
theorem gB_eq : gB (iblk m c 4 (pt s)) = (arrays m c).g := funext (blk_4 m c s)
/-- A block's row of the target. -/
theorem tB_eq (r : Fin 1024) : tB (iblk m c 2 (pt s)) r = (arrays m c).tg (row s r) := funext (blk_2 m c s r)
/-- A block's row of the stream after the gated addition. -/
theorem xB_eq (r : Fin 1024) : xB (iblk m c 0 (pt s)) (iblk m c 1 (pt s)) (iblk m c 3 (pt s)) r = (arrays m c).x2 (row s r) :=
  funext fun q => congrArg₂ (· + ·) (blk_1 m c s r q) (congrArg₂ (· * ·) (blk_3 m c s 5 q) (blk_0 m c s r q))

/-- The stream's gradient after the run. -/
theorem G5_row (r q : Fin 1024) : G5 m c (ix2 (row s r) q) = (arrays m c).dx (row s r) q := by
  rw [G5_blk, tDx, bDx_apply, gB_eq, tB_eq, xB_eq]
  rfl

/-- The gradient of the gated MLP's output after the run. -/
theorem G6_row (r q : Fin 1024) : G6 m c (ix2 (row s r) q) = (arrays m c).df (row s r) q := by
  rw [G6_blk, tDf, bDf_apply, gB_eq, tB_eq, xB_eq, blk_3]
  rfl

/-- A row is a row of a block. -/
theorem row_split (t : Fin 4096) : ∃ s r, t = row s r :=
  ⟨⟨t.val / 1024, by omega⟩, ⟨t.val % 1024, by omega⟩, Fin.ext (show t.val = 1024 * (t.val / 1024) + t.val % 1024 by omega)⟩

/-- The stream's gradient after the run, at an index. -/
theorem G5_apply (t : Fin 4096) (q : Fin 1024) : G5 m c (ix2 t q) = (arrays m c).dx t q := by
  obtain ⟨s, r, rfl⟩ := row_split t
  exact G5_row m c s r q

/-- The gradient of the gated MLP's output after the run, at an index. -/
theorem G6_apply (t : Fin 4096) (q : Fin 1024) : G6 m c (ix2 t q) = (arrays m c).df t q := by
  obtain ⟨s, r, rfl⟩ := row_split t
  exact G6_row m c s r q

/-- The points' sums for the gain's gradient. -/
theorem tS_0 (q : Fin 1024) : ∑ s : Fin 4, tS m c s 0 q = ∑ t, (arrays m c).dy t q * xhR ((arrays m c).x2 t) q := by
  rw [sum_rows]
  refine Finset.sum_congr rfl fun s _ => Finset.sum_congr rfl fun r _ => ?_
  rw [gB_eq, tB_eq, xB_eq]
  rfl

/-- The points' sums for the gate's gradient. -/
theorem tS_1 (q : Fin 1024) : ∑ s : Fin 4, tS m c s 1 q = ∑ t, (arrays m c).dx t q * (arrays m c).f t q := by
  rw [sum_rows]
  refine Finset.sum_congr rfl fun s _ => Finset.sum_congr rfl fun r _ => ?_
  rw [gB_eq, tB_eq, xB_eq, blk_0]
  rfl

/-- The points' sums of the squared error. -/
theorem tS_2 (q : Fin 1024) : ∑ s : Fin 4, tS m c s 2 q = ∑ t, (arrays m c).e t q * (arrays m c).e t q := by
  rw [sum_rows]
  refine Finset.sum_congr rfl fun s _ => Finset.sum_congr rfl fun r _ => ?_
  rw [gB_eq, tB_eq, xB_eq]
  rfl

/-- The other rows get nothing. -/
theorem tS_rest (p : Fin 8) (hp : 3 ≤ p.val) (q : Fin 1024) : ∑ s : Fin 4, tS m c s p q = 0 :=
  Finset.sum_eq_zero fun _ _ => sAdd_rest _ _ _ _ _ p q hp

/-- The sums after the run, at an index. -/
theorem G7_apply (p : Fin 8) (q : Fin 1024) : G7 m c (ix2 p q) = (arrays m c).sums p q := by
  rw [G7_blk]
  match p with
  | 0 => exact tS_0 m c q
  | 1 => exact tS_1 m c q
  | 2 => exact tS_2 m c q
  | 3 => exact congrArg (· * halfC) (Finset.sum_congr rfl fun k _ => tS_2 m c k)
  | 4 => exact tS_rest m c 4 (by decide) q
  | 5 => exact tS_rest m c 5 (by decide) q
  | 6 => exact tS_rest m c 6 (by decide) q
  | 7 => exact tS_rest m c 7 (by decide) q

end Cert.N6

end
-- ==== Proof.N6.Ref.lean ====
/- The reference's stages at an index, as the terms of Spec.lean. -/
module

public import proofs.«01_k».proof.Proof.Gen.Reference6Ideal.Read
public import proofs.«01_k».proof.Proof.N6.Spec
public import Idealize.ShloMosaic.Lib.Pointwise

@[expose] public section

set_option maxRecDepth 16384

noncomputable section

namespace Cert.N6

open Idealize.ShloMosaic Cert.Reference6Ideal Cert.Reference6Ideal.Read
open Cert.N2 (Row lenC epsC lenC_eq epsC_pos rstd xhR)

variable (x0 x1 x2 : Vec Ideal S4096x1024 .f32) (x3 : Vec Ideal S8x1024 .f32) (x4 : Vec Ideal S1x1024 .f32)

/-- The five arrays as the reference is given them. -/
def given : Arrays where
  f := fun p q => x0 (ix2 p q)
  x := fun p q => x1 (ix2 p q)
  tg := fun p q => x2 (ix2 p q)
  md := fun p q => x3 (ix2 p q)
  g := fun q => x4 (ix2 0 q)

/-- The stream after the gated addition. -/
theorem stage_3 (t : Fin 4096) (q : Fin 1024) : val_main_v3 (F := Ideal) x0 x1 x3 (ix2 t q) = (given x0 x1 x2 x3 x4).x2 t q := by
  unfold val_main_v3 val_main_v2 val_main_v1 val_main_v0
  pointwise
  rfl

/-- The mean square of a row, and the small constant. -/
theorem stage_10 (t : Fin 4096) : val_main_v10 (F := Ideal) x0 x1 x3 (ix2 t 0) = Ideal.div (∑ k, (given x0 x1 x2 x3 x4).x2 t k * (given x0 x1 x2 x3 x4).x2 t k) lenC + epsC := by
  have h0 := stage_3 x0 x1 x2 x3 x4 t
  unfold val_main_v10 val_main_v9 val_main_v8 val_main_v7 val_main_v6 val_main_v5 val_main_v4 val_main_cst val_main_cst_0 val_main_cst_1
  generalize val_main_v3 (F := Ideal) x0 x1 x3 = y0 at h0 ⊢
  pointwise
  simp only [h0]

/-- The reciprocal root of the mean square. -/
theorem stage_11 (t : Fin 4096) : val_main_v11 (F := Ideal) x0 x1 x3 (ix2 t 0) = rstd ((given x0 x1 x2 x3 x4).x2 t) := by
  have h0 := stage_10 x0 x1 x2 x3 x4 t
  unfold val_main_v11
  generalize val_main_v10 (F := Ideal) x0 x1 x3 = y0 at h0 ⊢
  pointwise
  simp only [h0]
  rfl

/-- The normalised row. -/
theorem stage_16 (t : Fin 4096) (q : Fin 1024) : val_main_v16 (F := Ideal) x0 x1 x3 (ix2 t q) = xhR ((given x0 x1 x2 x3 x4).x2 t) q := by
  have h0 := stage_3 x0 x1 x2 x3 x4 t
  have h1 := stage_11 x0 x1 x2 x3 x4 t
  unfold val_main_v16 val_main_v15
  generalize val_main_v3 (F := Ideal) x0 x1 x3 = y0 at h0 ⊢
  generalize val_main_v11 (F := Ideal) x0 x1 x3 = y1 at h1 ⊢
  pointwise
  simp only [h0, h1]
  rfl

/-- The error. -/
theorem stage_19 (t : Fin 4096) (q : Fin 1024) : val_main_v19 (F := Ideal) x0 x1 x2 x3 x4 (ix2 t q) = (given x0 x1 x2 x3 x4).e t q := by
  have h0 := stage_16 x0 x1 x2 x3 x4 t
  unfold val_main_v19 val_main_v18 val_main_v17
  generalize val_main_v16 (F := Ideal) x0 x1 x3 = y0 at h0 ⊢
  pointwise
  simp only [h0]
  rfl

/-- The gradient of the norm's output. -/
theorem stage_33 (t : Fin 4096) (q : Fin 1024) : val_main_v33 (F := Ideal) x0 x1 x2 x3 x4 (ix2 t q) = (given x0 x1 x2 x3 x4).dy t q := by
  have h0 := stage_19 x0 x1 x2 x3 x4 t
  unfold val_main_v33 val_main_v32 val_main_v31 val_main_v30 val_main_v29 val_main_v28 val_main_v22 val_main_v21 val_main_cst_3 val_main_cst_8 val_main_cst_9 val_main_cst_10
  generalize val_main_v19 (F := Ideal) x0 x1 x2 x3 x4 = y0 at h0 ⊢
  pointwise
  simp only [h0]
  exact dy_eq _

/-- The gradient of the normalised row. -/
theorem stage_38 (t : Fin 4096) (q : Fin 1024) : val_main_v38 (F := Ideal) x0 x1 x2 x3 x4 (ix2 t q) = dxhR (given x0 x1 x2 x3 x4).g ((given x0 x1 x2 x3 x4).x2 t) ((given x0 x1 x2 x3 x4).tg t) q := by
  have h0 := stage_33 x0 x1 x2 x3 x4 t
  unfold val_main_v38 val_main_v37
  generalize val_main_v33 (F := Ideal) x0 x1 x2 x3 x4 = y0 at h0 ⊢
  pointwise
  simp only [h0]
  rfl

/-- The row's product with the gradient of its normal form. -/
theorem stage_41 (t : Fin 4096) : val_main_v41 (F := Ideal) x0 x1 x2 x3 x4 (ix2 t 0) = ∑ k, (given x0 x1 x2 x3 x4).x2 t k * dxhR (given x0 x1 x2 x3 x4).g ((given x0 x1 x2 x3 x4).x2 t) ((given x0 x1 x2 x3 x4).tg t) k := by
  have h0 := stage_3 x0 x1 x2 x3 x4 t
  have h1 := stage_38 x0 x1 x2 x3 x4 t
  unfold val_main_v41 val_main_v40 val_main_v39 val_main_cst_12
  generalize val_main_v3 (F := Ideal) x0 x1 x3 = y0 at h0 ⊢
  generalize val_main_v38 (F := Ideal) x0 x1 x2 x3 x4 = y1 at h1 ⊢
  pointwise
  simp only [h0, h1]

/-- The coefficient of the row in its own gradient. -/
theorem stage_48 (t : Fin 4096) (q : Fin 1024) : val_main_v48 (F := Ideal) x0 x1 x2 x3 x4 (ix2 t q) = Ideal.div ((∑ k, (given x0 x1 x2 x3 x4).x2 t k * dxhR (given x0 x1 x2 x3 x4).g ((given x0 x1 x2 x3 x4).x2 t) ((given x0 x1 x2 x3 x4).tg t) k) *
    ((((-(1 / 2) : ℝ) : EReal)) * Ideal.div (rstd ((given x0 x1 x2 x3 x4).x2 t)) (Ideal.div (∑ k, (given x0 x1 x2 x3 x4).x2 t k * (given x0 x1 x2 x3 x4).x2 t k) lenC + epsC))) lenC := by
  have h0 := stage_41 x0 x1 x2 x3 x4 t
  have h1 := stage_11 x0 x1 x2 x3 x4 t
  have h2 := stage_10 x0 x1 x2 x3 x4 t
  have e : Ideal.ofBits .f32 0xBF000000#32 = ((-(1 / 2) : ℝ) : EReal) := by
    rw [show (-(1 / 2) : ℝ) = -(8388608 * (2 ^ 24)⁻¹) by norm_num, EReal.coe_neg, EReal.coe_mul]
    simp [Ideal.ofBits, Ideal.ieee]
  unfold val_main_v48 val_main_v47 val_main_v46 val_main_v45 val_main_v44 val_main_v14 val_main_v13 val_main_v12 val_main_cst_13 val_main_cst_14 val_main_cst_2
  generalize val_main_v41 (F := Ideal) x0 x1 x2 x3 x4 = y0 at h0 ⊢
  generalize val_main_v11 (F := Ideal) x0 x1 x3 = y1 at h1 ⊢
  generalize val_main_v10 (F := Ideal) x0 x1 x3 = y2 at h2 ⊢
  pointwise
  rw [Fin.sum_univ_one, h0, h1, h2, e]

/-- The gradient of the stream. -/
theorem stage_52 (t : Fin 4096) (q : Fin 1024) : val_main_v52 (F := Ideal) x0 x1 x2 x3 x4 (ix2 t q) = (given x0 x1 x2 x3 x4).dx t q := by
  have h0 := stage_3 x0 x1 x2 x3 x4 t
  have h1 := stage_38 x0 x1 x2 x3 x4 t
  have h2 := stage_11 x0 x1 x2 x3 x4 t
  have h3 := stage_48 x0 x1 x2 x3 x4 t
  unfold val_main_v52 val_main_v51 val_main_v50 val_main_v49 val_main_v43 val_main_v42
  generalize val_main_v3 (F := Ideal) x0 x1 x3 = y0 at h0 ⊢
  generalize val_main_v38 (F := Ideal) x0 x1 x2 x3 x4 = y1 at h1 ⊢
  generalize val_main_v11 (F := Ideal) x0 x1 x3 = y2 at h2 ⊢
  generalize val_main_v48 (F := Ideal) x0 x1 x2 x3 x4 = y3 at h3 ⊢
  pointwise
  simp only [h0, h1, h2, h3]
  obtain ⟨ε, hε, e⟩ := epsC_pos
  have k := NormGrad.norm_grad ((given x0 x1 x2 x3 x4).x2 t) (dxhR (given x0 x1 x2 x3 x4).g ((given x0 x1 x2 x3 x4).x2 t) ((given x0 x1 x2 x3 x4).tg t)) 0 1024 ε (by norm_num) hε q
    (Ideal.div (∑ k, (given x0 x1 x2 x3 x4).x2 t k * (given x0 x1 x2 x3 x4).x2 t k) lenC + epsC) (rstd ((given x0 x1 x2 x3 x4).x2 t)) _ (by rw [lenC_eq, e]) rfl rfl
  rw [← lenC_eq, zero_add, zero_add] at k
  exact k.symm

/-- The gradient of the gated MLP's output. -/
theorem stage_63 (t : Fin 4096) (q : Fin 1024) : val_main_v63 (F := Ideal) x0 x1 x2 x3 x4 (ix2 t q) = (given x0 x1 x2 x3 x4).df t q := by
  have h0 := stage_52 x0 x1 x2 x3 x4 t
  unfold val_main_v63 val_main_v54 val_main_v53 val_main_v0
  generalize val_main_v52 (F := Ideal) x0 x1 x2 x3 x4 = y0 at h0 ⊢
  pointwise
  simp only [h0]
  exact mul_comm _ _

/-- The gain's gradient. -/
theorem stage_36 (q : Fin 1024) : val_main_v36 (F := Ideal) x0 x1 x2 x3 x4 (ix2 0 q) = ∑ t, (given x0 x1 x2 x3 x4).dy t q * xhR ((given x0 x1 x2 x3 x4).x2 t) q := by
  have h0 := stage_16 x0 x1 x2 x3 x4
  have h1 := stage_33 x0 x1 x2 x3 x4
  unfold val_main_v36 val_main_v35 val_main_v34 val_main_cst_11
  generalize val_main_v16 (F := Ideal) x0 x1 x3 = y0 at h0 ⊢
  generalize val_main_v33 (F := Ideal) x0 x1 x2 x3 x4 = y1 at h1 ⊢
  pointwise
  simp only [h0, h1]
  exact Finset.sum_congr rfl fun t _ => mul_comm _ _

/-- The gate's gradient. -/
theorem stage_57 (q : Fin 1024) : val_main_v57 (F := Ideal) x0 x1 x2 x3 x4 (ix2 0 q) = ∑ t, (given x0 x1 x2 x3 x4).dx t q * (given x0 x1 x2 x3 x4).f t q := by
  have h0 := stage_52 x0 x1 x2 x3 x4
  unfold val_main_v57 val_main_v56 val_main_v55 val_main_cst_15
  generalize val_main_v52 (F := Ideal) x0 x1 x2 x3 x4 = y0 at h0 ⊢
  pointwise
  simp only [h0]
  rfl

/-- The squared error, summed over the rows. -/
theorem stage_59 (q : Fin 1024) : val_main_v59 (F := Ideal) x0 x1 x2 x3 x4 (ix2 0 q) = ∑ t, (given x0 x1 x2 x3 x4).e t q * (given x0 x1 x2 x3 x4).e t q := by
  have h0 := stage_19 x0 x1 x2 x3 x4
  unfold val_main_v59 val_main_v58 val_main_v20 val_main_cst_16
  generalize val_main_v19 (F := Ideal) x0 x1 x2 x3 x4 = y0 at h0 ⊢
  pointwise
  simp only [h0]

/-- The loss. -/
theorem stage_60 (q : Fin 1024) : val_main_v60 (F := Ideal) x0 x1 x2 x3 x4 (ix2 0 q) = (∑ k, ∑ t, (given x0 x1 x2 x3 x4).e t k * (given x0 x1 x2 x3 x4).e t k) * halfC := by
  have h0 := stage_19 x0 x1 x2 x3 x4
  unfold val_main_v60 val_main_v27 val_main_v26 val_main_v25 val_main_v24 val_main_v23 val_main_v20 val_main_cst_4 val_main_cst_5 val_main_cst_6 val_main_cst_7
  generalize val_main_v19 (F := Ideal) x0 x1 x2 x3 x4 = y0 at h0 ⊢
  pointwise
  simp only [h0]
  rw [c05_eq]
  exact loss_eq fun t k => (given x0 x1 x2 x3 x4).e t k * (given x0 x1 x2 x3 x4).e t k

/-- The sums over the rows, row by row. -/
theorem stage_62 (p : Fin 8) (q : Fin 1024) : val_main_v62 (F := Ideal) x0 x1 x2 x3 x4 (ix2 p q) = (given x0 x1 x2 x3 x4).sums p q := by
  have h0 := stage_36 x0 x1 x2 x3 x4 q
  have h1 := stage_57 x0 x1 x2 x3 x4 q
  have h2 := stage_59 x0 x1 x2 x3 x4 q
  have h3 := stage_60 x0 x1 x2 x3 x4 q
  unfold val_main_v62
  generalize val_main_v36 (F := Ideal) x0 x1 x2 x3 x4 = y0 at h0 ⊢
  generalize val_main_v57 (F := Ideal) x0 x1 x2 x3 x4 = y1 at h1 ⊢
  generalize val_main_v59 (F := Ideal) x0 x1 x2 x3 x4 = y2 at h2 ⊢
  generalize val_main_v60 (F := Ideal) x0 x1 x2 x3 x4 = y3 at h3 ⊢
  match p with
  | 0 => pointwise; exact h0
  | 1 => pointwise; exact h1
  | 2 => pointwise; exact h2
  | 3 => pointwise; exact h3
  | 4 => pointwise [val_main_v61, val_main_cst_17]; rfl
  | 5 => pointwise [val_main_v61, val_main_cst_17]; rfl
  | 6 => pointwise [val_main_v61, val_main_cst_17]; rfl
  | 7 => pointwise [val_main_v61, val_main_cst_17]; rfl

end Cert.N6

end
-- ==== Proof.N6.Claim.lean ====
/- The value claim of the loss head's backward call: the kernel's three results are the reference's three results, at
   every argument. -/
module

public import proofs.«01_k».proof.Defs
public import proofs.«01_k».proof.Proof.Gen.Reference6Ideal.Run
public import proofs.«01_k».proof.Proof.N6.Results
public import proofs.«01_k».proof.Proof.N6.Ref

@[expose] public section

set_option maxRecDepth 16384

noncomputable section

namespace Cert.N6

open Idealize.ShloMosaic Idealize.SL.Sem Idealize.ShloMosaic.TcCoe

section
open Kernel6Ideal Kernel6Ideal.Gen

/-- The kernel's program runs and leaves the three arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = G5 m c
      ∧ r.2.mem ((c.tc : Thread nD τ).loc main_v0_1) = G6 m c
      ∧ r.2.mem ((c.tc : Thread nD τ).loc main_v0_2) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, (h.1 c).1 7, h.2 c⟩) (θ_run_and (run_main m ρ) (unchanged m ρ))
end

variable (m : (ℓ : Loc Kernel6Ideal.nD Kernel6Ideal.τ Kernel6Ideal.sig) → Buf (Elt Ideal) ℓ)
  (m' : (ℓ : Loc Reference6Ideal.nD Reference6Ideal.τ Reference6Ideal.sig) → Buf (Elt Ideal) ℓ) (c : Dev Kernel6Ideal.nD)

/-- The reference's argument 0: the gated MLP's output. -/
abbrev a0 : Vec Ideal Reference6Ideal.S4096x1024 .f32 := m' ((c.tc : Thread Reference6Ideal.nD Reference6Ideal.τ).loc Reference6Ideal.main_arg0)
/-- The reference's argument 1: the stream. -/
abbrev a1 : Vec Ideal Reference6Ideal.S4096x1024 .f32 := m' ((c.tc : Thread Reference6Ideal.nD Reference6Ideal.τ).loc Reference6Ideal.main_arg1)
/-- The reference's argument 2: the target. -/
abbrev a2 : Vec Ideal Reference6Ideal.S4096x1024 .f32 := m' ((c.tc : Thread Reference6Ideal.nD Reference6Ideal.τ).loc Reference6Ideal.main_arg2)
/-- The reference's argument 3: the modulation rows. -/
abbrev a3 : Vec Ideal Reference6Ideal.S8x1024 .f32 := m' ((c.tc : Thread Reference6Ideal.nD Reference6Ideal.τ).loc Reference6Ideal.main_arg3)
/-- The reference's argument 4: the last norm's gain. -/
abbrev a4 : Vec Ideal Reference6Ideal.S1x1024 .f32 := m' ((c.tc : Thread Reference6Ideal.nD Reference6Ideal.τ).loc Reference6Ideal.main_arg4)

/-- The reference's five arrays, off its memory. -/
abbrev refArrays : Arrays := given (a0 m' c) (a1 m' c) (a2 m' c) (a3 m' c) (a4 m' c)

variable {m m' c}

/-- The stream's gradient. -/
theorem equal_dx (e : refArrays m' c = arrays m c) :
    Reference6Ideal.Read.val_main_v52 (F := Ideal) (a0 m' c) (a1 m' c) (a2 m' c) (a3 m' c) (a4 m' c) = G5 m c := by
  funext j
  idx_vars j
  exact (stage_52 _ _ _ _ _ _ _).trans ((congrArg (fun A : Arrays => A.dx _ _) e).trans (G5_apply m c _ _).symm)

/-- The gradient of the gated MLP's output. -/
theorem equal_df (e : refArrays m' c = arrays m c) :
    Reference6Ideal.Read.val_main_v63 (F := Ideal) (a0 m' c) (a1 m' c) (a2 m' c) (a3 m' c) (a4 m' c) = G6 m c := by
  funext j
  idx_vars j
  exact (stage_63 _ _ _ _ _ _ _).trans ((congrArg (fun A : Arrays => A.df _ _) e).trans (G6_apply m c _ _).symm)

/-- The sums. -/
theorem equal_sums (e : refArrays m' c = arrays m c) :
    Reference6Ideal.Read.val_main_v62 (F := Ideal) (a0 m' c) (a1 m' c) (a2 m' c) (a3 m' c) (a4 m' c) = G7 m c := by
  funext j
  idx_vars j
  exact (stage_62 _ _ _ _ _ _ _).trans ((congrArg (fun A : Arrays => A.sums _ _) e).trans (G7_apply m c _ _).symm)

/-- The claim that both programs run and leave the same three arrays. -/
theorem value : algebraic_Kernel6Ideal_Reference6Ideal (hKernel6Ideal := Kernel6Ideal.Gen.facts) (hReference6Ideal := Reference6Ideal.Gen.facts) := by
  intro m g m' g' _ hag
  have e : ∀ c, refArrays m' c = arrays m c := fun c => by
    obtain ⟨h0, h1, h2, h3, h4⟩ := hag c
    rw [refArrays, a0, a1, a2, a3, a4, h0, h1, h2, h3, h4]
    rfl
  refine ⟨_, _, _, run m g, ?_⟩
  exact (θ_run Reference6Ideal.defs _ _).mono (fun _ h c => ⟨
    (h c).1.trans ((Reference6Ideal.Read.val_main_v52_eq _ _).trans (equal_dx (e c))),
    (h c).2.1.trans ((Reference6Ideal.Read.val_main_v63_eq _ _).trans (equal_df (e c))),
    (h c).2.2.1.trans ((Reference6Ideal.Read.val_main_v62_eq _ _).trans (equal_sums (e c))), (h c).2.2.2⟩)
    (Reference6Ideal.Value.run (F := Ideal) m' g')

end Cert.N6

end
-- ==== Proof.N7.Claim.lean ====
/- The value claim of the modulation's backward call: the kernel's two results (the gradient of the modulation's weight, and
   the gradient of the activated rows 8 to 15) are the reference's two results, at every argument. Each is a product of
   matrices, contracted over one axis in both programs, so they are equal term by term. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Pieces

@[expose] public section

set_option maxRecDepth 16384

noncomputable section

namespace Cert.N7

open Idealize.ShloMosaic Idealize.SL.Sem Idealize.ShloMosaic.TcCoe Cert.Pieces
open Kernel7Ideal Kernel7Ideal.Gen

variable (x : Vec Ideal S16x1024 .f32) (dm : Vec Ideal S16x768 .f32) (w : Vec Ideal S1024x768 .f32)

/-- The activation, in the reference. -/
theorem act_apply (p : Fin 16) (q : Fin 1024) :
    Reference7Ideal.Read.val_main_v0 (F := Ideal) x (ix2 p q) = x (ix2 p q) * Ideal.div 1 (1 + Ideal.exp (-x (ix2 p q))) := by
  pointwise [Reference7Ideal.Read.val_main_v0, Reference7Ideal.Read.val_main_call0_v5, Reference7Ideal.Read.val_main_call0_v4,
    Reference7Ideal.Read.val_main_call0_v3, Reference7Ideal.Read.val_main_call0_v2, Reference7Ideal.Read.val_main_call0_v1,
    Reference7Ideal.Read.val_main_call0_v0, Reference7Ideal.Read.val_main_call0_cst, Reference7Ideal.Read.val_main_call0_cst_0]

/-- The gradient of the weight, in the kernel. -/
theorem pay1_apply (p : Fin 1024) (q : Fin 768) :
    k0_pay1 (F := Ideal) x dm (ix2 p q) = ∑ k : Fin 16, Reference7Ideal.Read.val_main_v0 (F := Ideal) x (ix2 k p) * dm (ix2 k q) := by
  pointwise [k0_pay1]
  exact Finset.sum_congr rfl fun k _ => by rw [act_apply, zero_sub]

/-- The gradient of the activated rows, in the kernel. -/
theorem pay2_apply (d : Vec Ideal S8x768 .f32) (p : Fin 8) (q : Fin 1024) :
    k0_pay2 (F := Ideal) d w (ix2 p q) = ∑ k : Fin 768, d (ix2 p k) * w (ix2 q k) := by
  pointwise [k0_pay2]

/-- The gradient of the weight. -/
theorem equal_dw : Reference7Ideal.Read.val_main_v3 (F := Ideal) x dm = Kernel7Ideal.Value.G3 (F := Ideal) x dm w := by
  funext j
  idx_vars j
  refine Eq.trans ?_ (pay1_apply x dm j0 j1).symm
  rw [Reference7Ideal.Read.val_main_v3_apply, Reference7Ideal.Read.val_main_v2_apply]
  refine Finset.sum_congr rfl fun k _ => (mul_comm _ _).trans ?_
  exact congrArg₂ (· * ·) (congrArg _ (funext fun a => Fin.ext (by match a with | ⟨0, _⟩ => rfl | ⟨1, _⟩ => rfl)))
    (congrArg dm (funext fun a => Fin.ext (by match a with | ⟨0, _⟩ => rfl | ⟨1, _⟩ => rfl)))

/-- The gradient of the activated rows. -/
theorem equal_dact : Reference7Ideal.Read.val_main_v5 (F := Ideal) dm w = Kernel7Ideal.Value.G4 (F := Ideal) x dm w := by
  funext j
  idx_vars j
  refine Eq.trans ?_ (pay2_apply w _ j0 j1).symm
  rw [Reference7Ideal.Read.val_main_v5_apply, Reference7Ideal.Read.val_main_v4_apply]
  refine Finset.sum_congr rfl fun k _ => ?_
  refine congrArg₂ (· * ·) ((ld_rows dm _ j0 k ⟨8 + j0.val, by omega⟩ rfl).trans (congrArg dm ?_)).symm (congrArg w ?_)
  · exact funext fun a => Fin.ext (by match a with | ⟨0, _⟩ => rfl | ⟨1, _⟩ => rfl)
  · exact funext fun a => Fin.ext (by match a with | ⟨0, _⟩ => rfl | ⟨1, _⟩ => rfl)

/-- The claim that both programs run and leave the same two arrays. -/
theorem value : algebraic_Kernel7Ideal_Reference7Ideal (hKernel7Ideal := Kernel7Ideal.Gen.facts) (hReference7Ideal := Reference7Ideal.Gen.facts) := by
  intro m g m' g' _ hag
  refine ⟨_, _, Kernel7Ideal.Value.run (F := Ideal) m g, ?_⟩
  refine (θ_run Reference7Ideal.defs _ _).mono (fun _ h c => ?_) (Reference7Ideal.Value.run (F := Ideal) m' g')
  obtain ⟨h0, h1, h2⟩ := hag c
  refine ⟨(h c).1.trans ((Reference7Ideal.Read.val_main_v3_eq _ _).trans ?_),
    (h c).2.1.trans ((Reference7Ideal.Read.val_main_v5_eq _ _).trans ?_), (h c).2.2⟩
  · rw [h0, h1]; exact equal_dw _ _ _
  · rw [h1, h2]; exact equal_dact _ _ _

end Cert.N7

end
-- ==== Proof.N8.Update.lean ====
/- One element of AdamW's update, two ways: with the bias corrections as divisions by `1 - β₁¹⁰` and `1 - β₂¹⁰`, as the
   reference writes it, and as multiplications by the reciprocals of those numbers, as the kernel does. They are equal at
   every extended real. -/
module

public import Idealize.ShloMosaic.PureOps.Ideal
public import Idealize.ShloMosaic.PureOps.IdealRules

@[expose] public section

noncomputable section

namespace Cert.Adam

open Idealize.ShloMosaic

/-- The divisor of the first moment: the word of `1 - 0.9¹⁰`. -/
theorem word_c1 : Ideal.ofBits .f32 0x3F26BD02#32 = ((5463681 / 8388608 : ℝ) : EReal) := by
  rw [show (5463681 / 8388608 : ℝ) = 10927362 * (2^24)⁻¹ by norm_num, EReal.coe_mul]
  simp [Ideal.ofBits, Ideal.ieee]

/-- The divisor of the second moment: the word of `1 - 0.999¹⁰`. -/
theorem word_c2 : Ideal.ofBits .f32 0x3C231ACC#32 = ((2672307 / 268435456 : ℝ) : EReal) := by
  rw [show (2672307 / 268435456 : ℝ) = 10689228 * (2^30)⁻¹ by norm_num, EReal.coe_mul]
  simp [Ideal.ofBits, Ideal.ieee]

variable (κ : String → Option EReal)

/-- The two named constants stand for their words. -/
theorem preserves (h1 : κ "inv_c1" = some ((8388608 / 5463681 : ℝ) : EReal)) (h2 : κ "inv_c2" = some ((268435456 / 2672307 : ℝ) : EReal)) :
    IdealRules.named_const.Statement κ "inv_c1" .f32 0x3FC48605#32 ((8388608 / 5463681 : ℝ) : EReal)
    ∧ IdealRules.named_const.Statement κ "inv_c2" .f32 0x42C8E6D3#32 ((268435456 / 2672307 : ℝ) : EReal) :=
  ⟨IdealRules.named_const.statement κ "inv_c1" .f32 0x3FC48605#32 _ h1, IdealRules.named_const.statement κ "inv_c2" .f32 0x42C8E6D3#32 _ h2⟩

/-- Multiplying by the first named constant, the reciprocal of the first divisor, divides by it. -/
theorem mul_c1 (h : κ "inv_c1" = some ((8388608 / 5463681 : ℝ) : EReal)) (x : Ideal .f32) :
    FloatOps.mulf x (Named.named (F := Ideal) κ "inv_c1" (φ := .f32) 0x3FC48605#32) = FloatOps.hostDivf x (FloatOps.ofBits .f32 0x3F26BD02#32) := by
  rw [IdealRules.named_const.ideal_named_scalar _ _ _ _ h]
  show x * ((8388608 / 5463681 : ℝ) : EReal) = Ideal.div x (Ideal.ofBits .f32 0x3F26BD02#32)
  rw [word_c1, Ideal.div_coe (by norm_num)]
  norm_num

/-- Multiplying by the second, the reciprocal of the second divisor, divides by it. -/
theorem mul_c2 (h : κ "inv_c2" = some ((268435456 / 2672307 : ℝ) : EReal)) (x : Ideal .f32) :
    FloatOps.mulf x (Named.named (F := Ideal) κ "inv_c2" (φ := .f32) 0x42C8E6D3#32) = FloatOps.hostDivf x (FloatOps.ofBits .f32 0x3C231ACC#32) := by
  rw [IdealRules.named_const.ideal_named_scalar _ _ _ _ h]
  show x * ((268435456 / 2672307 : ℝ) : EReal) = Ideal.div x (Ideal.ofBits .f32 0x3C231ACC#32)
  rw [word_c2, Ideal.div_coe (by norm_num)]
  norm_num

end Cert.Adam

end
-- ==== Proof.N8.Claim.lean ====
/- The value claim of AdamW's call for the modulation's weight: the kernel's three results (the update, the new first moment, the new
   second moment) are the reference's three results, at every argument. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.N8.Update

@[expose] public section

noncomputable section

namespace Cert.N8

open Idealize.ShloMosaic Idealize.SL.Sem Idealize.ShloMosaic.TcCoe
open Kernel8Ideal (S1024x768)

/-- The claim that the two named constants stand for their words. -/
theorem preserves : preserves_Kernel8_Kernel8Ideal :=
  Adam.preserves _ rfl rfl

variable (w g m v : S1024x768.Idx → Elt Ideal .f32)

/-- The update. -/
theorem equal_delta : Reference8Ideal.Read.val_main_v23 (F := Ideal) w g m v = Kernel8Ideal.Value.G4 (F := Ideal) w g m v := by
  funext i
  simp only [Kernel8Ideal.Value.G4, Adam.mul_c1 Kernel8Ideal.κ rfl, Adam.mul_c2 Kernel8Ideal.κ rfl]
  rfl

/-- The new first moment. -/
theorem equal_m : Reference8Ideal.Read.val_main_v4 (F := Ideal) g m = Kernel8Ideal.Value.G5 (F := Ideal) g m := rfl

/-- The new second moment. -/
theorem equal_v : Reference8Ideal.Read.val_main_v10 (F := Ideal) g v = Kernel8Ideal.Value.G6 (F := Ideal) g v := rfl

/-- The claim that both programs run and leave the same three arrays. -/
theorem value : algebraic_Kernel8Ideal_Reference8Ideal (hKernel8Ideal := Kernel8Ideal.Gen.facts) (hReference8Ideal := Reference8Ideal.Gen.facts) := by
  intro m g m' g' _ hag
  refine ⟨_, _, _, Kernel8Ideal.Value.run (F := Ideal) m g, ?_⟩
  refine (θ_run Reference8Ideal.defs _ _).mono (fun _ h c => ?_) (Reference8Ideal.Value.run (F := Ideal) m' g')
  obtain ⟨h0, h1, h2, h3⟩ := hag c
  refine ⟨(h c).1.trans ((Reference8Ideal.Read.val_main_v23_eq _ _ _ _).trans ?_),
    (h c).2.1.trans ((Reference8Ideal.Read.val_main_v4_eq _ _).trans ?_),
    (h c).2.2.1.trans ((Reference8Ideal.Read.val_main_v10_eq _ _).trans ?_), (h c).2.2.2⟩
  · rw [h0, h1, h2, h3]; exact equal_delta _ _ _ _
  · rw [h1, h2]; exact equal_m _ _
  · rw [h1, h3]; exact equal_v _ _

end Cert.N8

end
-- ==== Proof.N9.Results.lean ====
/- AdamW's call for the up projection's weight: one element of the update, what one grid point leaves, and the four result
   arrays after the run, index by index. Each of the two grid points takes 352 of the 704 rows, of the weight, of the two
   moments and of each of the gradient's eight addends. -/
module

public import proofs.«01_k».proof.Proof.Gen.Kernel9Ideal.Value
public import proofs.«01_k».proof.Proof.N8.Update
public import proofs.«01_k».proof.Proof.Pieces
public import Idealize.ShloMosaic.Lib.Pipeline.ValueKit.Geometry

@[expose] public section

set_option maxRecDepth 16384

noncomputable section

namespace Cert.N9

open Idealize.ShloMosaic Cert.Kernel9Ideal Cert.Kernel9Ideal.Gen Cert.Pieces Idealize.ShloMosaic.TcCoe

/-- The new first moment of an element. -/
def newM (g m : Ideal .f32) : Ideal .f32 :=
  FloatOps.addf (FloatOps.mulf (Scalar.ofBits .f32 0x3F666666#32) m) (FloatOps.mulf (Scalar.ofBits .f32 0x3DCCCCCD#32) g)

/-- The new second moment of an element. -/
def newV (g v : Ideal .f32) : Ideal .f32 :=
  FloatOps.addf (FloatOps.mulf (Scalar.ofBits .f32 0x3F7FBE77#32) v) (FloatOps.mulf (Scalar.ofBits .f32 0x3A83126F#32) (FloatOps.mulf g g))

/-- The update of an element, with the bias corrections as divisions. -/
def delta (w g m v : Ideal .f32) : Ideal .f32 :=
  FloatOps.mulf (Scalar.ofBits .f32 0xBA83126F#32) (FloatOps.addf
    (FloatOps.hostDivf (FloatOps.hostDivf (newM g m) (FloatOps.ofBits .f32 0x3F26BD02#32))
      (FloatOps.addf (FloatOps.sqrt (FloatOps.hostDivf (newV g v) (FloatOps.ofBits .f32 0x3C231ACC#32)))
        (Scalar.ofBits .f32 0x322BCC77#32)))
    (FloatOps.mulf (Scalar.ofBits .f32 0x3C23D70A#32) w))

section
variable (x0 : Vec Ideal S352x1024 .f32) (x1 : Vec Ideal S8x352x1024 .bf16) (x2 x3 : Vec Ideal S352x1024 .f32)

/-- One addend of eight, at an index. -/
theorem part (o : Nat) (k : Fin 8) (h : k.val = o) (inb) (i : Fin 1) (r : Fin 352) (q : Fin 1024) :
    View.ld x1 (Rect.unit (s := S8x352x1024) ![o, 0, 0] ![1, 352, 1024] inb) (ix3 i r q) = x1 (ix3 k r q) :=
  View.ld_unit_apply_of x1 _ _ _ _ _ fun a => by fin_cases a <;> simp [h]

/-- The gradient: the eight addends one after another. -/
theorem pay4_apply (a b c d e f g h : Vec Ideal S1x352x1024 .bf16) (r : Fin 352) (q : Fin 1024) :
    k0_pay4 (F := Ideal) a b c d e f g h (ix2 r q) =
      a (ix3 0 r q) + b (ix3 0 r q) + c (ix3 0 r q) + d (ix3 0 r q) + e (ix3 0 r q) + f (ix3 0 r q) + g (ix3 0 r q) + h (ix3 0 r q) := by
  pointwise [k0_pay4]

/-- The gradient, as a sum. -/
theorem grad_apply (r : Fin 352) (q : Fin 1024) : k0_pay5 (F := Ideal) x0 x1 x2 x3 (ix2 r q) = ∑ k : Fin 8, x1 (ix3 k r q) := by
  unfold k0_pay5
  rw [pay4_apply]
  unfold r0_0 r0_1 r0_2 r0_3 r0_4 r0_5 r0_6 r0_7
  rw [part x1 0 0 rfl, part x1 1 1 rfl, part x1 2 2 rfl, part x1 3 3 rfl, part x1 4 4 rfl, part x1 5 5 rfl, part x1 6 6 rfl, part x1 7 7 rfl,
    Fin.sum_univ_eight]

/-- The update's vector, at an index. -/
theorem pay3_apply (y w m v : Vec Ideal S352x1024 .f32) (i : S352x1024.Idx) :
    k0_pay3 (F := Ideal) y w m v i = delta (w i) (y i) (m i) (v i) := by
  unfold delta
  rw [← Adam.mul_c1 Kernel9Ideal.κ rfl, ← Adam.mul_c2 Kernel9Ideal.κ rfl]
  rfl

/-- The block of output 4: the gradient. -/
theorem out4_apply (r : Fin 352) (q : Fin 1024) : out0_4 (F := Ideal) x0 x1 x2 x3 (ix2 r q) = ∑ k : Fin 8, x1 (ix3 k r q) :=
  (congrFun (canon_whole _ _ _) _).trans (grad_apply x0 x1 x2 x3 r q)

/-- The block of output 5: the update. -/
theorem out5_apply (r : Fin 352) (q : Fin 1024) : out0_5 (F := Ideal) x0 x1 x2 x3 (ix2 r q) =
    delta (x0 (ix2 r q)) (∑ k : Fin 8, x1 (ix3 k r q)) (x2 (ix2 r q)) (x3 (ix2 r q)) := by
  refine (congrFun (canon_whole _ _ _) _).trans ((pay3_apply _ _ _ _ _).trans ?_)
  rw [grad_apply, ld_whole, ld_whole, ld_whole]

/-- The block of output 6: the new first moment. -/
theorem out6_apply (r : Fin 352) (q : Fin 1024) : out0_6 (F := Ideal) x0 x1 x2 x3 (ix2 r q) =
    newM (∑ k : Fin 8, x1 (ix3 k r q)) (x2 (ix2 r q)) := by
  refine (congrFun (canon_whole _ _ _) _).trans (show _ = _ from ?_)
  rw [ld_whole, ← grad_apply x0 x1 x2 x3]
  rfl

/-- The block of output 7: the new second moment. -/
theorem out7_apply (r : Fin 352) (q : Fin 1024) : out0_7 (F := Ideal) x0 x1 x2 x3 (ix2 r q) =
    newV (∑ k : Fin 8, x1 (ix3 k r q)) (x3 (ix2 r q)) := by
  refine (congrFun (canon_whole _ _ _) _).trans (show _ = _ from ?_)
  rw [ld_whole, ← grad_apply x0 x1 x2 x3]
  rfl
end

variable (m : (ℓ : Loc nD τ sig) → Buf (Elt Ideal) ℓ) (c : Dev nD)

/-- Point `s` of the grid. -/
abbrev pt (s : Fin 2) : Fin cfg0.N := ⟨s.val, lt_of_lt_of_eq s.isLt N_0.symm⟩
/-- Row `r` of block `s`. -/
abbrev row (s : Fin 2) (r : Fin 352) : Fin 704 := ⟨352 * s.val + r.val, by omega⟩
theorem eq_row (t : Fin 704) : ∃ (s : Fin 2) (r : Fin 352), t = row s r :=
  ⟨⟨t.val / 352, by omega⟩, ⟨t.val % 352, by omega⟩, Fin.ext (show t.val = 352 * (t.val / 352) + t.val % 352 by omega)⟩

theorem place_1 : ∀ s : Fin 2, win0_1.index (pt s) = ![0, s.val, 0] := by decide +kernel
theorem place_0 : ∀ s : Fin 2, win0_0.index (pt s) = ![s.val, 0] := by decide +kernel
theorem place_2 : ∀ s : Fin 2, win0_2.index (pt s) = ![s.val, 0] := by decide +kernel
theorem place_3 : ∀ s : Fin 2, win0_3.index (pt s) = ![s.val, 0] := by decide +kernel
theorem place_4 : ∀ s : Fin 2, win0_4.index (pt s) = ![s.val, 0] := by decide +kernel
theorem place_5 : ∀ s : Fin 2, win0_5.index (pt s) = ![s.val, 0] := by decide +kernel
theorem place_6 : ∀ s : Fin 2, win0_6.index (pt s) = ![s.val, 0] := by decide +kernel
theorem place_7 : ∀ s : Fin 2, win0_7.index (pt s) = ![s.val, 0] := by decide +kernel

/-- The weight as the kernel's program is given it. -/
abbrev kw : Vec Ideal S704x1024 .f32 := m ((c : Thread nD τ).loc main_arg0)
/-- The gradient's addends. -/
abbrev kp : Vec Ideal S8x704x1024 .bf16 := m ((c : Thread nD τ).loc main_arg1)
/-- The first moment. -/
abbrev km : Vec Ideal S704x1024 .f32 := m ((c : Thread nD τ).loc main_arg2)
/-- The second moment. -/
abbrev kv : Vec Ideal S704x1024 .f32 := m ((c : Thread nD τ).loc main_arg3)

/-- The addends, at a point. -/
theorem blk_1 (s : Fin 2) (k : Fin 8) (r : Fin 352) (q : Fin 1024) :
    (iblk m c 1 (pt s) : Vec Ideal S8x352x1024 .bf16) (ix3 k r q) = kp m c (ix3 k (row s r) q) := by
  unfold kp
  rw [← V_main_arg1 m c]
  unfold iblk
  rw [View.read_apply]
  show V m c main_arg1 _ = V m c main_arg1 _
  congr 1
  funext a
  apply Fin.ext
  match a with
  | ⟨0, _⟩ => blk_simp [place_1]
  | ⟨1, _⟩ => blk_simp [place_1]; show s.val * 352 + r.val = 352 * s.val + r.val; omega
  | ⟨2, _⟩ => blk_simp [place_1]

/-- The weight, at a point. -/
theorem blk_0 (s : Fin 2) (r : Fin 352) (q : Fin 1024) :
    (iblk m c 0 (pt s) : Vec Ideal S352x1024 .f32) (ix2 r q) = kw m c (ix2 (row s r) q) := by
  unfold kw
  rw [← V_main_arg0 m c]
  unfold iblk
  rw [View.read_apply]
  show V m c main_arg0 _ = V m c main_arg0 _
  congr 1
  funext a
  apply Fin.ext
  match a with
  | ⟨0, _⟩ => blk_simp [place_0]; show s.val * 352 + r.val = 352 * s.val + r.val; omega
  | ⟨1, _⟩ => blk_simp [place_0]

/-- The first moment, at a point. -/
theorem blk_2 (s : Fin 2) (r : Fin 352) (q : Fin 1024) :
    (iblk m c 2 (pt s) : Vec Ideal S352x1024 .f32) (ix2 r q) = km m c (ix2 (row s r) q) := by
  unfold km
  rw [← V_main_arg2 m c]
  unfold iblk
  rw [View.read_apply]
  show V m c main_arg2 _ = V m c main_arg2 _
  congr 1
  funext a
  apply Fin.ext
  match a with
  | ⟨0, _⟩ => blk_simp [place_2]; show s.val * 352 + r.val = 352 * s.val + r.val; omega
  | ⟨1, _⟩ => blk_simp [place_2]

/-- The second moment, at a point. -/
theorem blk_3 (s : Fin 2) (r : Fin 352) (q : Fin 1024) :
    (iblk m c 3 (pt s) : Vec Ideal S352x1024 .f32) (ix2 r q) = kv m c (ix2 (row s r) q) := by
  unfold kv
  rw [← V_main_arg3 m c]
  unfold iblk
  rw [View.read_apply]
  show V m c main_arg3 _ = V m c main_arg3 _
  congr 1
  funext a
  apply Fin.ext
  match a with
  | ⟨0, _⟩ => blk_simp [place_3]; show s.val * 352 + r.val = 352 * s.val + r.val; omega
  | ⟨1, _⟩ => blk_simp [place_3]

/-- The gradient, at a point. -/
theorem sum_blk (s : Fin 2) (x : Vec Ideal S8x352x1024 .bf16) (h : x = iblk m c 1 (pt s)) (r : Fin 352) (q : Fin 1024) :
    ∑ k : Fin 8, x (ix3 k r q) = ∑ k : Fin 8, kp m c (ix3 k (row s r) q) := by
  subst h
  exact Finset.sum_congr rfl fun k _ => blk_1 m c s k r q

/-- Output 4's array after the run. -/
abbrev G4 : Vec Ideal S704x1024 .f32 := (dats m 0 c).arrAt 4 cfg0.N
theorem flush_4 : ∀ s : Fin 2, (cfg0.win 4).flush (pt s) = true := by decide +kernel
/-- A block of output 4 is what its point left. -/
theorem G4_row (s : Fin 2) (r : Fin 352) (q : Fin 1024) :
    G4 m c (ix2 (row s r) q) = out0_4 (F := Ideal) (iblk m c 0 (pt s)) (iblk m c 1 (pt s)) (iblk m c 2 (pt s)) (iblk m c 3 (pt s)) (ix2 r q) := by
  have e := congrFun ((Value.blocks4 m c (pt s) (flush_4 s)).trans (Value.flushed4 m c (pt s))) (ix2 r q)
  rw [View.read_apply] at e
  refine Eq.trans ?_ e
  show G4 m c _ = G4 m c _
  congr 1
  funext a
  apply Fin.ext
  match a with
  | ⟨0, _⟩ => blk_simp [place_4]; show 352 * s.val + r.val = s.val * 352 + r.val; omega
  | ⟨1, _⟩ => blk_simp [place_4]
/-- The gradient after the run, at an index. -/
theorem G4_apply (t : Fin 704) (q : Fin 1024) : G4 m c (ix2 t q) = ∑ k : Fin 8, kp m c (ix3 k t q) := by
  obtain ⟨s, r, rfl⟩ := eq_row t
  rw [G4_row, out4_apply, sum_blk m c s _ rfl]

/-- Output 5's array after the run. -/
abbrev G5 : Vec Ideal S704x1024 .f32 := (dats m 0 c).arrAt 5 cfg0.N
theorem flush_5 : ∀ s : Fin 2, (cfg0.win 5).flush (pt s) = true := by decide +kernel
/-- A block of output 5 is what its point left. -/
theorem G5_row (s : Fin 2) (r : Fin 352) (q : Fin 1024) :
    G5 m c (ix2 (row s r) q) = out0_5 (F := Ideal) (iblk m c 0 (pt s)) (iblk m c 1 (pt s)) (iblk m c 2 (pt s)) (iblk m c 3 (pt s)) (ix2 r q) := by
  have e := congrFun ((Value.blocks5 m c (pt s) (flush_5 s)).trans (Value.flushed5 m c (pt s))) (ix2 r q)
  rw [View.read_apply] at e
  refine Eq.trans ?_ e
  show G5 m c _ = G5 m c _
  congr 1
  funext a
  apply Fin.ext
  match a with
  | ⟨0, _⟩ => blk_simp [place_5]; show 352 * s.val + r.val = s.val * 352 + r.val; omega
  | ⟨1, _⟩ => blk_simp [place_5]
/-- The update after the run, at an index. -/
theorem G5_apply (t : Fin 704) (q : Fin 1024) : G5 m c (ix2 t q) = delta (kw m c (ix2 t q)) (∑ k : Fin 8, kp m c (ix3 k t q)) (km m c (ix2 t q)) (kv m c (ix2 t q)) := by
  obtain ⟨s, r, rfl⟩ := eq_row t
  rw [G5_row, out5_apply, sum_blk m c s _ rfl, blk_0, blk_2, blk_3]

/-- Output 6's array after the run. -/
abbrev G6 : Vec Ideal S704x1024 .f32 := (dats m 0 c).arrAt 6 cfg0.N
theorem flush_6 : ∀ s : Fin 2, (cfg0.win 6).flush (pt s) = true := by decide +kernel
/-- A block of output 6 is what its point left. -/
theorem G6_row (s : Fin 2) (r : Fin 352) (q : Fin 1024) :
    G6 m c (ix2 (row s r) q) = out0_6 (F := Ideal) (iblk m c 0 (pt s)) (iblk m c 1 (pt s)) (iblk m c 2 (pt s)) (iblk m c 3 (pt s)) (ix2 r q) := by
  have e := congrFun ((Value.blocks6 m c (pt s) (flush_6 s)).trans (Value.flushed6 m c (pt s))) (ix2 r q)
  rw [View.read_apply] at e
  refine Eq.trans ?_ e
  show G6 m c _ = G6 m c _
  congr 1
  funext a
  apply Fin.ext
  match a with
  | ⟨0, _⟩ => blk_simp [place_6]; show 352 * s.val + r.val = s.val * 352 + r.val; omega
  | ⟨1, _⟩ => blk_simp [place_6]
/-- The new first moment after the run, at an index. -/
theorem G6_apply (t : Fin 704) (q : Fin 1024) : G6 m c (ix2 t q) = newM (∑ k : Fin 8, kp m c (ix3 k t q)) (km m c (ix2 t q)) := by
  obtain ⟨s, r, rfl⟩ := eq_row t
  rw [G6_row, out6_apply, sum_blk m c s _ rfl, blk_2]

/-- Output 7's array after the run. -/
abbrev G7 : Vec Ideal S704x1024 .f32 := (dats m 0 c).arrAt 7 cfg0.N
theorem flush_7 : ∀ s : Fin 2, (cfg0.win 7).flush (pt s) = true := by decide +kernel
/-- A block of output 7 is what its point left. -/
theorem G7_row (s : Fin 2) (r : Fin 352) (q : Fin 1024) :
    G7 m c (ix2 (row s r) q) = out0_7 (F := Ideal) (iblk m c 0 (pt s)) (iblk m c 1 (pt s)) (iblk m c 2 (pt s)) (iblk m c 3 (pt s)) (ix2 r q) := by
  have e := congrFun ((Value.blocks7 m c (pt s) (flush_7 s)).trans (Value.flushed7 m c (pt s))) (ix2 r q)
  rw [View.read_apply] at e
  refine Eq.trans ?_ e
  show G7 m c _ = G7 m c _
  congr 1
  funext a
  apply Fin.ext
  match a with
  | ⟨0, _⟩ => blk_simp [place_7]; show 352 * s.val + r.val = s.val * 352 + r.val; omega
  | ⟨1, _⟩ => blk_simp [place_7]
/-- The new second moment after the run, at an index. -/
theorem G7_apply (t : Fin 704) (q : Fin 1024) : G7 m c (ix2 t q) = newV (∑ k : Fin 8, kp m c (ix3 k t q)) (kv m c (ix2 t q)) := by
  obtain ⟨s, r, rfl⟩ := eq_row t
  rw [G7_row, out7_apply, sum_blk m c s _ rfl, blk_3]

end Cert.N9

end
-- ==== Proof.N9.Claim.lean ====
/- The value claim of AdamW's call for the up projection's weight, whose gradient comes as the eight devices' addends: the
   kernel's four results (the gradient, the update, the new first moment, the new second moment) are the reference's four
   results, at every argument. -/
module

public import proofs.«01_k».proof.Defs
public import proofs.«01_k».proof.Proof.Gen.Reference9Ideal.Run
public import proofs.«01_k».proof.Proof.Gen.Reference9Ideal.Read
public import proofs.«01_k».proof.Proof.N9.Results

@[expose] public section

set_option maxRecDepth 16384

noncomputable section

namespace Cert.N9

open Idealize.ShloMosaic Idealize.SL.Sem Idealize.ShloMosaic.TcCoe Kernel9Ideal

/-- The claim that the two named constants stand for their words. -/
theorem preserves : preserves_Kernel9_Kernel9Ideal :=
  Adam.preserves _ rfl rfl

variable (w : Vec Ideal S704x1024 .f32) (p : Vec Ideal S8x704x1024 .bf16) (m v : Vec Ideal S704x1024 .f32) (t : Fin 704) (q : Fin 1024)

/-- The reference's gradient, at an index. -/
theorem ref_g : Reference9Ideal.Read.val_main_v1 (F := Ideal) p (ix2 t q) = ∑ k : Fin 8, p (ix3 k t q) := by
  have z : ∀ i, Reference9Ideal.Read.val_main_cst (F := Ideal) i = 0 := fun i => by pointwise [Reference9Ideal.Read.val_main_cst]
  rw [Reference9Ideal.Read.val_main_v1_apply, z, zero_add]
  exact Finset.sum_congr rfl fun k _ => congrArg p (funext fun b => Fin.ext (by match b with | ⟨0, _⟩ => rfl | ⟨1, _⟩ => rfl | ⟨2, _⟩ => rfl))

/-- The reference's update, at an index. -/
theorem ref_delta : Reference9Ideal.Read.val_main_v25 (F := Ideal) w p m v (ix2 t q) =
    delta (w (ix2 t q)) (∑ k : Fin 8, p (ix3 k t q)) (m (ix2 t q)) (v (ix2 t q)) := by
  rw [← ref_g]
  rfl

/-- The reference's new first moment, at an index. -/
theorem ref_m : Reference9Ideal.Read.val_main_v6 (F := Ideal) p m (ix2 t q) = newM (∑ k : Fin 8, p (ix3 k t q)) (m (ix2 t q)) := by
  rw [← ref_g]
  rfl

/-- The reference's new second moment, at an index. -/
theorem ref_v : Reference9Ideal.Read.val_main_v12 (F := Ideal) p v (ix2 t q) = newV (∑ k : Fin 8, p (ix3 k t q)) (v (ix2 t q)) := by
  rw [← ref_g]
  rfl

/-- The claim that both programs run and leave the same four arrays. -/
theorem value : algebraic_Kernel9Ideal_Reference9Ideal (hKernel9Ideal := Kernel9Ideal.Gen.facts) (hReference9Ideal := Reference9Ideal.Gen.facts) := by
  intro m g m' g' _ hag
  refine ⟨_, _, _, _, Kernel9Ideal.Value.run_blocks (F := Ideal) m g, ?_⟩
  refine (θ_run Reference9Ideal.defs _ _).mono (fun _ h c => ?_) (Reference9Ideal.Value.run (F := Ideal) m' g')
  obtain ⟨h0, h1, h2, h3⟩ := hag c
  refine ⟨(h c).1.trans ((Reference9Ideal.Read.val_main_v1_eq _).trans ?_),
    (h c).2.1.trans ((Reference9Ideal.Read.val_main_v25_eq _ _ _ _).trans ?_),
    (h c).2.2.1.trans ((Reference9Ideal.Read.val_main_v6_eq _ _).trans ?_),
    (h c).2.2.2.1.trans ((Reference9Ideal.Read.val_main_v12_eq _ _).trans ?_), (h c).2.2.2.2⟩
  · rw [h1]; funext j; idx_vars j; exact (ref_g _ _ _).trans (G4_apply m c _ _).symm
  · rw [h0, h1, h2, h3]; funext j; idx_vars j; exact (ref_delta _ _ _ _ _ _).trans (G5_apply m c _ _).symm
  · rw [h1, h2]; funext j; idx_vars j; exact (ref_m _ _ _ _).trans (G6_apply m c _ _).symm
  · rw [h1, h3]; funext j; idx_vars j; exact (ref_v _ _ _ _).trans (G7_apply m c _ _).symm

end Cert.N9

end
-- ==== Proof.N10.Claim.lean ====
/- The value claim of AdamW's call for the in projection's weight: the kernel's three results (the update, the new first moment, the new
   second moment) are the reference's three results, at every argument. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.N8.Update

@[expose] public section

noncomputable section

namespace Cert.N10

open Idealize.ShloMosaic Idealize.SL.Sem Idealize.ShloMosaic.TcCoe
open Kernel10Ideal (S320x1024)

/-- The claim that the two named constants stand for their words. -/
theorem preserves : preserves_Kernel10_Kernel10Ideal :=
  Adam.preserves _ rfl rfl

variable (w g m v : S320x1024.Idx → Elt Ideal .f32)

/-- The update. -/
theorem equal_delta : Reference10Ideal.Read.val_main_v23 (F := Ideal) w g m v = Kernel10Ideal.Value.G4 (F := Ideal) w g m v := by
  funext i
  simp only [Kernel10Ideal.Value.G4, Adam.mul_c1 Kernel10Ideal.κ rfl, Adam.mul_c2 Kernel10Ideal.κ rfl]
  rfl

/-- The new first moment. -/
theorem equal_m : Reference10Ideal.Read.val_main_v4 (F := Ideal) g m = Kernel10Ideal.Value.G5 (F := Ideal) g m := rfl

/-- The new second moment. -/
theorem equal_v : Reference10Ideal.Read.val_main_v10 (F := Ideal) g v = Kernel10Ideal.Value.G6 (F := Ideal) g v := rfl

/-- The claim that both programs run and leave the same three arrays. -/
theorem value : algebraic_Kernel10Ideal_Reference10Ideal (hKernel10Ideal := Kernel10Ideal.Gen.facts) (hReference10Ideal := Reference10Ideal.Gen.facts) := by
  intro m g m' g' _ hag
  refine ⟨_, _, _, Kernel10Ideal.Value.run (F := Ideal) m g, ?_⟩
  refine (θ_run Reference10Ideal.defs _ _).mono (fun _ h c => ?_) (Reference10Ideal.Value.run (F := Ideal) m' g')
  obtain ⟨h0, h1, h2, h3⟩ := hag c
  refine ⟨(h c).1.trans ((Reference10Ideal.Read.val_main_v23_eq _ _ _ _).trans ?_),
    (h c).2.1.trans ((Reference10Ideal.Read.val_main_v4_eq _ _).trans ?_),
    (h c).2.2.1.trans ((Reference10Ideal.Read.val_main_v10_eq _ _).trans ?_), (h c).2.2.2⟩
  · rw [h0, h1, h2, h3]; exact equal_delta _ _ _ _
  · rw [h1, h2]; exact equal_m _ _
  · rw [h1, h3]; exact equal_v _ _

end Cert.N10

end
-- ==== Proof.N11.Claim.lean ====
/- The value claim of AdamW's call for the out projection's weight: the kernel's three results (the update, the new first moment, the new
   second moment) are the reference's three results, at every argument. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.N8.Update

@[expose] public section

noncomputable section

namespace Cert.N11

open Idealize.ShloMosaic Idealize.SL.Sem Idealize.ShloMosaic.TcCoe
open Kernel11Ideal (S128x1024)

/-- The claim that the two named constants stand for their words. -/
theorem preserves : preserves_Kernel11_Kernel11Ideal :=
  Adam.preserves _ rfl rfl

variable (w g m v : S128x1024.Idx → Elt Ideal .f32)

/-- The update. -/
theorem equal_delta : Reference11Ideal.Read.val_main_v23 (F := Ideal) w g m v = Kernel11Ideal.Value.G4 (F := Ideal) w g m v := by
  funext i
  simp only [Kernel11Ideal.Value.G4, Adam.mul_c1 Kernel11Ideal.κ rfl, Adam.mul_c2 Kernel11Ideal.κ rfl]
  rfl

/-- The new first moment. -/
theorem equal_m : Reference11Ideal.Read.val_main_v4 (F := Ideal) g m = Kernel11Ideal.Value.G5 (F := Ideal) g m := rfl

/-- The new second moment. -/
theorem equal_v : Reference11Ideal.Read.val_main_v10 (F := Ideal) g v = Kernel11Ideal.Value.G6 (F := Ideal) g v := rfl

/-- The claim that both programs run and leave the same three arrays. -/
theorem value : algebraic_Kernel11Ideal_Reference11Ideal (hKernel11Ideal := Kernel11Ideal.Gen.facts) (hReference11Ideal := Reference11Ideal.Gen.facts) := by
  intro m g m' g' _ hag
  refine ⟨_, _, _, Kernel11Ideal.Value.run (F := Ideal) m g, ?_⟩
  refine (θ_run Reference11Ideal.defs _ _).mono (fun _ h c => ?_) (Reference11Ideal.Value.run (F := Ideal) m' g')
  obtain ⟨h0, h1, h2, h3⟩ := hag c
  refine ⟨(h c).1.trans ((Reference11Ideal.Read.val_main_v23_eq _ _ _ _).trans ?_),
    (h c).2.1.trans ((Reference11Ideal.Read.val_main_v4_eq _ _).trans ?_),
    (h c).2.2.1.trans ((Reference11Ideal.Read.val_main_v10_eq _ _).trans ?_), (h c).2.2.2⟩
  · rw [h0, h1, h2, h3]; exact equal_delta _ _ _ _
  · rw [h1, h2]; exact equal_m _ _
  · rw [h1, h3]; exact equal_v _ _

end Cert.N11

end
-- ==== Proof.N12.Claim.lean ====
/- The value claim of AdamW's call for the down projection's weight, whose gradient comes as the eight devices' addends: the
   kernel's four results (the gradient, the update, the new first moment, the new second moment) are the reference's four
   results, at every argument. The kernel adds the addends one after another; the reference sums them. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.N8.Update
public import proofs.«01_k».proof.Proof.Pieces

@[expose] public section

set_option maxRecDepth 16384

noncomputable section

namespace Cert.N12

open Idealize.ShloMosaic Idealize.SL.Sem Idealize.ShloMosaic.TcCoe
open Kernel12Ideal Kernel12Ideal.Gen Cert.Pieces

/-- The claim that the two named constants stand for their words. -/
theorem preserves : preserves_Kernel12_Kernel12Ideal :=
  Adam.preserves _ rfl rfl

variable (w : Vec Ideal S352x1024 .f32) (p : Vec Ideal S8x352x1024 .bf16) (m v : Vec Ideal S352x1024 .f32)

/-- One addend of eight, at an index. -/
theorem part (o : Nat) (k : Fin 8) (h : k.val = o) (inb) (i : Fin 1) (r : Fin 352) (q : Fin 1024) :
    View.ld p (Rect.unit (s := S8x352x1024) ![o, 0, 0] ![1, 352, 1024] inb) (ix3 i r q) = p (ix3 k r q) :=
  View.ld_unit_apply_of p _ _ _ _ _ fun a => by fin_cases a <;> simp [h]

/-- The gradient in the kernel: the eight addends' sum. -/
theorem pay4_apply (a b c d e f g h : Vec Ideal S1x352x1024 .bf16) (r : Fin 352) (q : Fin 1024) :
    k0_pay4 (F := Ideal) a b c d e f g h (ix2 r q) =
      a (ix3 0 r q) + b (ix3 0 r q) + c (ix3 0 r q) + d (ix3 0 r q) + e (ix3 0 r q) + f (ix3 0 r q) + g (ix3 0 r q) + h (ix3 0 r q) := by
  pointwise [k0_pay4]

/-- The gradient. -/
theorem equal_g : Reference12Ideal.Read.val_main_v1 (F := Ideal) p = Kernel12Ideal.Value.G4 (F := Ideal) w p m v := by
  funext j
  idx_vars j
  refine Eq.trans ?_ (pay4_apply _ _ _ _ _ _ _ _ j0 j1).symm
  rw [Reference12Ideal.Read.val_main_v1_apply, Fin.sum_univ_eight]
  unfold r0_0 r0_1 r0_2 r0_3 r0_4 r0_5 r0_6 r0_7
  rw [part p 0 0 rfl, part p 1 1 rfl, part p 2 2 rfl, part p 3 3 rfl, part p 4 4 rfl, part p 5 5 rfl, part p 6 6 rfl, part p 7 7 rfl]
  have z : ∀ i, Reference12Ideal.Read.val_main_cst (F := Ideal) i = 0 := fun i => by pointwise [Reference12Ideal.Read.val_main_cst]
  rw [z, zero_add]
  have a (k : Fin 8) : Reference12Ideal.Read.val_main_v0 (F := Ideal) p (Reference12Ideal.Read.idx_main_v1 (ix2 j0 j1) k) = p (ix3 k j0 j1) :=
    congrArg p (funext fun b => Fin.ext (by match b with | ⟨0, _⟩ => rfl | ⟨1, _⟩ => rfl | ⟨2, _⟩ => rfl))
  simp only [a]

/-- The gradient as the other three results read it. -/
theorem equal_g' : Reference12Ideal.Read.val_main_v1 (F := Ideal) p = k0_pay5 (F := Ideal) w p m v := equal_g w p m v

/-- The update in the kernel, at an index. -/
theorem pay3_apply (y w m v : Vec Ideal S352x1024 .f32) (i : S352x1024.Idx) :
    k0_pay3 (F := Ideal) y w m v i = FloatOps.mulf (Scalar.ofBits .f32 0xBA83126F#32) (FloatOps.addf
      (FloatOps.hostDivf (FloatOps.hostDivf (k0_pay1 (F := Ideal) y m i) (FloatOps.ofBits .f32 0x3F26BD02#32))
        (FloatOps.addf (FloatOps.sqrt (FloatOps.hostDivf (k0_pay2 (F := Ideal) y v i) (FloatOps.ofBits .f32 0x3C231ACC#32)))
          (Scalar.ofBits .f32 0x322BCC77#32)))
      (FloatOps.mulf (Scalar.ofBits .f32 0x3C23D70A#32) (w i))) := by
  rw [← Adam.mul_c1 Kernel12Ideal.κ rfl, ← Adam.mul_c2 Kernel12Ideal.κ rfl]
  rfl

/-- The update. -/
theorem equal_delta : Reference12Ideal.Read.val_main_v25 (F := Ideal) w p m v = Kernel12Ideal.Value.G5 (F := Ideal) w p m v := by
  unfold Kernel12Ideal.Value.G5
  rw [← equal_g']
  funext i
  exact (pay3_apply _ w m v i).symm

/-- The new first moment. -/
theorem equal_m : Reference12Ideal.Read.val_main_v6 (F := Ideal) p m = Kernel12Ideal.Value.G6 (F := Ideal) w p m v := by
  unfold Kernel12Ideal.Value.G6
  rw [← equal_g']
  rfl

/-- The new second moment. -/
theorem equal_v : Reference12Ideal.Read.val_main_v12 (F := Ideal) p v = Kernel12Ideal.Value.G7 (F := Ideal) w p m v := by
  unfold Kernel12Ideal.Value.G7
  rw [← equal_g']
  rfl

/-- The claim that both programs run and leave the same four arrays. -/
theorem value : algebraic_Kernel12Ideal_Reference12Ideal (hKernel12Ideal := Kernel12Ideal.Gen.facts) (hReference12Ideal := Reference12Ideal.Gen.facts) := by
  intro m g m' g' _ hag
  refine ⟨_, _, _, _, Kernel12Ideal.Value.run (F := Ideal) m g, ?_⟩
  refine (θ_run Reference12Ideal.defs _ _).mono (fun _ h c => ?_) (Reference12Ideal.Value.run (F := Ideal) m' g')
  obtain ⟨h0, h1, h2, h3⟩ := hag c
  refine ⟨(h c).1.trans ((Reference12Ideal.Read.val_main_v1_eq _).trans ?_),
    (h c).2.1.trans ((Reference12Ideal.Read.val_main_v25_eq _ _ _ _).trans ?_),
    (h c).2.2.1.trans ((Reference12Ideal.Read.val_main_v6_eq _ _).trans ?_),
    (h c).2.2.2.1.trans ((Reference12Ideal.Read.val_main_v12_eq _ _).trans ?_), (h c).2.2.2.2⟩
  · rw [h1]; exact equal_g _ _ _ _
  · rw [h0, h1, h2, h3]; exact equal_delta _ _ _ _
  · rw [h1, h2]; exact equal_m _ _ _ _
  · rw [h1, h3]; exact equal_v _ _ _ _

end Cert.N12

end
-- ==== Proof.N13.Claim.lean ====
/- The value claim of AdamW's call for the packed small weights: the kernel's three results (the update, the new first moment, the new
   second moment) are the reference's three results, at every argument. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.N8.Update

@[expose] public section

noncomputable section

namespace Cert.N13

open Idealize.ShloMosaic Idealize.SL.Sem Idealize.ShloMosaic.TcCoe
open Kernel13Ideal (S200x128)

/-- The claim that the two named constants stand for their words. -/
theorem preserves : preserves_Kernel13_Kernel13Ideal :=
  Adam.preserves _ rfl rfl

variable (w g m v : S200x128.Idx → Elt Ideal .f32)

/-- The update. -/
theorem equal_delta : Reference13Ideal.Read.val_main_v23 (F := Ideal) w g m v = Kernel13Ideal.Value.G4 (F := Ideal) w g m v := by
  funext i
  simp only [Kernel13Ideal.Value.G4, Adam.mul_c1 Kernel13Ideal.κ rfl, Adam.mul_c2 Kernel13Ideal.κ rfl]
  rfl

/-- The new first moment. -/
theorem equal_m : Reference13Ideal.Read.val_main_v4 (F := Ideal) g m = Kernel13Ideal.Value.G5 (F := Ideal) g m := rfl

/-- The new second moment. -/
theorem equal_v : Reference13Ideal.Read.val_main_v10 (F := Ideal) g v = Kernel13Ideal.Value.G6 (F := Ideal) g v := rfl

/-- The claim that both programs run and leave the same three arrays. -/
theorem value : algebraic_Kernel13Ideal_Reference13Ideal (hKernel13Ideal := Kernel13Ideal.Gen.facts) (hReference13Ideal := Reference13Ideal.Gen.facts) := by
  intro m g m' g' _ hag
  refine ⟨_, _, _, Kernel13Ideal.Value.run (F := Ideal) m g, ?_⟩
  refine (θ_run Reference13Ideal.defs _ _).mono (fun _ h c => ?_) (Reference13Ideal.Value.run (F := Ideal) m' g')
  obtain ⟨h0, h1, h2, h3⟩ := hag c
  refine ⟨(h c).1.trans ((Reference13Ideal.Read.val_main_v23_eq _ _ _ _).trans ?_),
    (h c).2.1.trans ((Reference13Ideal.Read.val_main_v4_eq _ _).trans ?_),
    (h c).2.2.1.trans ((Reference13Ideal.Read.val_main_v10_eq _ _).trans ?_), (h c).2.2.2⟩
  · rw [h0, h1, h2, h3]; exact equal_delta _ _ _ _
  · rw [h1, h2]; exact equal_m _ _
  · rw [h1, h3]; exact equal_v _ _

end Cert.N13

end
-- ==== Proof.N14.Claim.lean ====
/- The value claim of the call that sums the devices' packed addends to the loss and to the small weights' gradients:
   the kernel's result is the reference's, at every argument. The kernel adds the eight addends one after another; the
   reference sums them. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Pieces

@[expose] public section

set_option maxRecDepth 16384

noncomputable section

namespace Cert.N14

open Idealize.ShloMosaic Idealize.SL.Sem Idealize.ShloMosaic.TcCoe
open Kernel14Ideal Kernel14Ideal.Gen Cert.Pieces

variable (p : Vec Ideal S8x176x128 .f32)

/-- One addend of eight, at an index. -/
theorem part (o : Nat) (k : Fin 8) (h : k.val = o) (inb) (i : Fin 1) (r : Fin 176) (q : Fin 128) :
    View.ld p (Rect.unit (s := S8x176x128) ![o, 0, 0] ![1, 176, 128] inb) (ix3 i r q) = p (ix3 k r q) :=
  View.ld_unit_apply_of p _ _ _ _ _ fun a => by fin_cases a <;> simp [h]

/-- The kernel's payload: the eight addends' sum. -/
theorem pay1_apply (a b c d e f g h : Vec Ideal S1x176x128 .f32) (r : Fin 176) (q : Fin 128) :
    k0_pay1 (F := Ideal) a b c d e f g h (ix2 r q) =
      a (ix3 0 r q) + b (ix3 0 r q) + c (ix3 0 r q) + d (ix3 0 r q) + e (ix3 0 r q) + f (ix3 0 r q) + g (ix3 0 r q) + h (ix3 0 r q) := by
  pointwise [k0_pay1]

/-- The sum. -/
theorem equal : Reference14Ideal.Read.val_main_v0 (F := Ideal) p = Kernel14Ideal.Value.G1 (F := Ideal) p := by
  funext j
  idx_vars j
  refine Eq.trans ?_ (pay1_apply _ _ _ _ _ _ _ _ j0 j1).symm
  rw [Reference14Ideal.Read.val_main_v0_apply, Fin.sum_univ_eight]
  unfold r0_0 r0_1 r0_2 r0_3 r0_4 r0_5 r0_6 r0_7
  rw [part p 0 0 rfl, part p 1 1 rfl, part p 2 2 rfl, part p 3 3 rfl, part p 4 4 rfl, part p 5 5 rfl, part p 6 6 rfl, part p 7 7 rfl]
  have z : ∀ i, Reference14Ideal.Read.val_main_cst (F := Ideal) i = 0 := fun i => by pointwise [Reference14Ideal.Read.val_main_cst]
  rw [z, zero_add]
  have a (k : Fin 8) : p (Reference14Ideal.Read.idx_main_v0 (ix2 j0 j1) k) = p (ix3 k j0 j1) :=
    congrArg p (funext fun b => Fin.ext (by match b with | ⟨0, _⟩ => rfl | ⟨1, _⟩ => rfl | ⟨2, _⟩ => rfl))
  simp only [a]

/-- The claim that both programs run and leave the same array. -/
theorem value : algebraic_Kernel14Ideal_Reference14Ideal (hKernel14Ideal := Kernel14Ideal.Gen.facts) (hReference14Ideal := Reference14Ideal.Gen.facts) := by
  intro m g m' g' _ hag
  refine ⟨_, Kernel14Ideal.Value.run (F := Ideal) m g, ?_⟩
  refine (θ_run Reference14Ideal.defs _ _).mono (fun _ h c => ?_) (Reference14Ideal.Value.run (F := Ideal) m' g')
  refine ⟨(h c).1.trans ((Reference14Ideal.Read.val_main_v0_eq _).trans ?_), (h c).2⟩
  rw [hag c]
  exact equal _

end Cert.N14

end
-- ==== Proof.N15.Claim.lean ====
/- The value claim of the call that sums the devices' addends to the gradient of the activated `c_ctx`:
   the kernel's result is the reference's, at every argument. The kernel adds the eight addends one after another; the
   reference sums them. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Pieces

@[expose] public section

set_option maxRecDepth 16384

noncomputable section

namespace Cert.N15

open Idealize.ShloMosaic Idealize.SL.Sem Idealize.ShloMosaic.TcCoe
open Kernel15Ideal Kernel15Ideal.Gen Cert.Pieces

variable (p : Vec Ideal S8x8x128 .f32)

/-- One addend of eight, at an index. -/
theorem part (o : Nat) (k : Fin 8) (h : k.val = o) (inb) (i : Fin 1) (r : Fin 8) (q : Fin 128) :
    View.ld p (Rect.unit (s := S8x8x128) ![o, 0, 0] ![1, 8, 128] inb) (ix3 i r q) = p (ix3 k r q) :=
  View.ld_unit_apply_of p _ _ _ _ _ fun a => by fin_cases a <;> simp [h]

/-- The kernel's payload: the eight addends' sum. -/
theorem pay1_apply (a b c d e f g h : Vec Ideal S1x8x128 .f32) (r : Fin 8) (q : Fin 128) :
    k0_pay1 (F := Ideal) a b c d e f g h (ix2 r q) =
      a (ix3 0 r q) + b (ix3 0 r q) + c (ix3 0 r q) + d (ix3 0 r q) + e (ix3 0 r q) + f (ix3 0 r q) + g (ix3 0 r q) + h (ix3 0 r q) := by
  pointwise [k0_pay1]

/-- The sum. -/
theorem equal : Reference15Ideal.Read.val_main_v0 (F := Ideal) p = Kernel15Ideal.Value.G1 (F := Ideal) p := by
  funext j
  idx_vars j
  refine Eq.trans ?_ (pay1_apply _ _ _ _ _ _ _ _ j0 j1).symm
  rw [Reference15Ideal.Read.val_main_v0_apply, Fin.sum_univ_eight]
  unfold r0_0 r0_1 r0_2 r0_3 r0_4 r0_5 r0_6 r0_7
  rw [part p 0 0 rfl, part p 1 1 rfl, part p 2 2 rfl, part p 3 3 rfl, part p 4 4 rfl, part p 5 5 rfl, part p 6 6 rfl, part p 7 7 rfl]
  have z : ∀ i, Reference15Ideal.Read.val_main_cst (F := Ideal) i = 0 := fun i => by pointwise [Reference15Ideal.Read.val_main_cst]
  rw [z, zero_add]
  have a (k : Fin 8) : p (Reference15Ideal.Read.idx_main_v0 (ix2 j0 j1) k) = p (ix3 k j0 j1) :=
    congrArg p (funext fun b => Fin.ext (by match b with | ⟨0, _⟩ => rfl | ⟨1, _⟩ => rfl | ⟨2, _⟩ => rfl))
  simp only [a]

/-- The claim that both programs run and leave the same array. -/
theorem value : algebraic_Kernel15Ideal_Reference15Ideal (hKernel15Ideal := Kernel15Ideal.Gen.facts) (hReference15Ideal := Reference15Ideal.Gen.facts) := by
  intro m g m' g' _ hag
  refine ⟨_, Kernel15Ideal.Value.run (F := Ideal) m g, ?_⟩
  refine (θ_run Reference15Ideal.defs _ _).mono (fun _ h c => ?_) (Reference15Ideal.Value.run (F := Ideal) m' g')
  refine ⟨(h c).1.trans ((Reference15Ideal.Read.val_main_v0_eq _).trans ?_), (h c).2⟩
  rw [hag c]
  exact equal _

end Cert.N15

end
-- ==== Proof.lean ====
/- The claims about the two modulated norms, the projections about them, the gated MLP, the loss head, the modulation, the
   optimiser and the sums over the devices: of each call, the kernel's program and its idealization run and end quiet, so does the reference's, and the
   idealized kernel's results are the idealized reference's results at every argument. `N2/` proves the value claim of the
   second norm's backward call; `N1/` the frame, the run and the value claim of the first norm's; `N3/` the value claim of the
   input projection, `N4/` that of the output projection, `N5/` that of the gated MLP's forward call, `N6/` that of the loss
   head's, `N7/` that of the modulation's backward call; `N8/` to `N13/` those of AdamW's six calls; and `N14/` and `N15/` those
   of the two calls that sum over the devices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.N2.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.N1.Claim
public import proofs.«01_k».proof.Proof.N1.Same
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.N3.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.N4.Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.N5.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.N6.Claim
public import proofs.«01_k».proof.Proof.N7.Claim
public import proofs.«01_k».proof.Proof.N8.Claim
public import proofs.«01_k».proof.Proof.N9.Claim
public import proofs.«01_k».proof.Proof.N10.Claim
public import proofs.«01_k».proof.Proof.N11.Claim
public import proofs.«01_k».proof.Proof.N12.Claim
public import proofs.«01_k».proof.Proof.N13.Claim
public import proofs.«01_k».proof.Proof.N14.Claim
public import proofs.«01_k».proof.Proof.N15.Claim
public import Idealize.ShloMosaic.Adequacy
public import Idealize.ShloMosaic.Init

@[expose] public section

noncomputable section

namespace Cert.Proof

open Idealize.ShloMosaic Idealize.SL.Sem Cert.Kernel

/-- The idealized reference of the first call runs, keeps its arguments and ends quiet: it has no semaphore. -/
theorem frame_reference : quiescent_ReferenceIdeal (hReferenceIdeal := ReferenceIdeal.Gen.facts) := fun m ρ _ =>
  (θ_run ReferenceIdeal.defs _ _).mono (fun r h => ⟨fun c => (h c).2.2.2.2.2, sem_eq_zero_of_no_sems (by decide) r.2⟩)
    (ReferenceIdeal.Value.run (F := Ideal) m ρ)

/-- The first norm's program runs, keeps its arguments and ends quiet: it has the text of its idealization, whose run is
    stated over any floats. -/
theorem frame_kernel2 : quiescent_Kernel2 (hKernel2 := Kernel2.Gen.facts) := fun m ρ _ =>
  N1.run_same m ρ _ (N1.frame (F := Bits) m ρ)

/-- So does its idealization. -/
theorem frame_ideal2 : quiescent_Kernel2Ideal (hKernel2Ideal := Kernel2Ideal.Gen.facts) := fun m ρ _ => N1.frame m ρ

/-- So does its idealized reference. -/
theorem frame_reference2 : quiescent_Reference2Ideal (hReference2Ideal := Reference2Ideal.Gen.facts) := fun m ρ _ =>
  (θ_run Reference2Ideal.defs _ _).mono (fun r h => ⟨fun c => (h c).2.2.2, sem_eq_zero_of_no_sems (by decide) r.2⟩)
    (Reference2Ideal.Value.run (F := Ideal) m ρ)

/-- So does that of the third call. -/
theorem frame_reference3 : quiescent_Reference3Ideal (hReference3Ideal := Reference3Ideal.Gen.facts) := fun m ρ _ =>
  (θ_run Reference3Ideal.defs _ _).mono (fun r h => ⟨fun c => (h c).2.2.2.2.2.2, sem_eq_zero_of_no_sems (by decide) r.2⟩)
    (Reference3Ideal.Value.run (F := Ideal) m ρ)

/-- So does that of the fourth call. -/
theorem frame_reference4 : quiescent_Reference4Ideal (hReference4Ideal := Reference4Ideal.Gen.facts) := fun m ρ _ =>
  (θ_run Reference4Ideal.defs _ _).mono (fun r h => ⟨fun c => (h c).2.2.2, sem_eq_zero_of_no_sems (by decide) r.2⟩)
    (Reference4Ideal.Value.run (F := Ideal) m ρ)

/-- So does that of the fifth call. -/
theorem frame_reference5 : quiescent_Reference5Ideal (hReference5Ideal := Reference5Ideal.Gen.facts) := fun m ρ _ =>
  (θ_run Reference5Ideal.defs _ _).mono (fun r h => ⟨fun c => (h c).2.2.2, sem_eq_zero_of_no_sems (by decide) r.2⟩)
    (Reference5Ideal.Value.run (F := Ideal) m ρ)

/-- So does that of the sixth call. -/
theorem frame_reference6 : quiescent_Reference6Ideal (hReference6Ideal := Reference6Ideal.Gen.facts) := fun m ρ _ =>
  (θ_run Reference6Ideal.defs _ _).mono (fun r h => ⟨fun c => (h c).2.2.2, sem_eq_zero_of_no_sems (by decide) r.2⟩)
    (Reference6Ideal.Value.run (F := Ideal) m ρ)

/-- So does that of the seventh call. -/
theorem frame_reference7 : quiescent_Reference7Ideal (hReference7Ideal := Reference7Ideal.Gen.facts) := fun m ρ _ =>
  (θ_run Reference7Ideal.defs _ _).mono (fun r h => ⟨fun c => (h c).2.2, sem_eq_zero_of_no_sems (by decide) r.2⟩)
    (Reference7Ideal.Value.run (F := Ideal) m ρ)

/-- So does that of the eighth call. -/
theorem frame_reference8 : quiescent_Reference8Ideal (hReference8Ideal := Reference8Ideal.Gen.facts) := fun m ρ _ =>
  (θ_run Reference8Ideal.defs _ _).mono (fun r h => ⟨fun c => (h c).2.2.2, sem_eq_zero_of_no_sems (by decide) r.2⟩)
    (Reference8Ideal.Value.run (F := Ideal) m ρ)

/-- So does that of the ninth call. -/
theorem frame_reference9 : quiescent_Reference9Ideal (hReference9Ideal := Reference9Ideal.Gen.facts) := fun m ρ _ =>
  (θ_run Reference9Ideal.defs _ _).mono (fun r h => ⟨fun c => (h c).2.2.2.2, sem_eq_zero_of_no_sems (by decide) r.2⟩)
    (Reference9Ideal.Value.run (F := Ideal) m ρ)

/-- So does that of the tenth call. -/
theorem frame_reference10 : quiescent_Reference10Ideal (hReference10Ideal := Reference10Ideal.Gen.facts) := fun m ρ _ =>
  (θ_run Reference10Ideal.defs _ _).mono (fun r h => ⟨fun c => (h c).2.2.2, sem_eq_zero_of_no_sems (by decide) r.2⟩)
    (Reference10Ideal.Value.run (F := Ideal) m ρ)

/-- So does that of the eleventh call. -/
theorem frame_reference11 : quiescent_Reference11Ideal (hReference11Ideal := Reference11Ideal.Gen.facts) := fun m ρ _ =>
  (θ_run Reference11Ideal.defs _ _).mono (fun r h => ⟨fun c => (h c).2.2.2, sem_eq_zero_of_no_sems (by decide) r.2⟩)
    (Reference11Ideal.Value.run (F := Ideal) m ρ)

/-- So does that of the twelfth call. -/
theorem frame_reference12 : quiescent_Reference12Ideal (hReference12Ideal := Reference12Ideal.Gen.facts) := fun m ρ _ =>
  (θ_run Reference12Ideal.defs _ _).mono (fun r h => ⟨fun c => (h c).2.2.2.2, sem_eq_zero_of_no_sems (by decide) r.2⟩)
    (Reference12Ideal.Value.run (F := Ideal) m ρ)

/-- So does that of the thirteenth call. -/
theorem frame_reference13 : quiescent_Reference13Ideal (hReference13Ideal := Reference13Ideal.Gen.facts) := fun m ρ _ =>
  (θ_run Reference13Ideal.defs _ _).mono (fun r h => ⟨fun c => (h c).2.2.2, sem_eq_zero_of_no_sems (by decide) r.2⟩)
    (Reference13Ideal.Value.run (F := Ideal) m ρ)

/-- So does that of the fourteenth call. -/
theorem frame_reference14 : quiescent_Reference14Ideal (hReference14Ideal := Reference14Ideal.Gen.facts) := fun m ρ _ =>
  (θ_run Reference14Ideal.defs _ _).mono (fun r h => ⟨fun c => (h c).2, sem_eq_zero_of_no_sems (by decide) r.2⟩)
    (Reference14Ideal.Value.run (F := Ideal) m ρ)

/-- So does that of the fifteenth call. -/
theorem frame_reference15 : quiescent_Reference15Ideal (hReference15Ideal := Reference15Ideal.Gen.facts) := fun m ρ _ =>
  (θ_run Reference15Ideal.defs _ _).mono (fun r h => ⟨fun c => (h c).2, sem_eq_zero_of_no_sems (by decide) r.2⟩)
    (Reference15Ideal.Value.run (F := Ideal) m ρ)

/-- The seventy-five claims: the facts, the frames call by call, and then of each call that the idealization is of its kernel and
    the value claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  fun m ρ _ => Kernel.Gen.frame m ρ, fun m ρ _ => KernelIdeal.Gen.frame m ρ, frame_reference,
  frame_kernel2, frame_ideal2, frame_reference2,
  fun m ρ _ => Kernel3.Gen.frame m ρ, fun m ρ _ => Kernel3Ideal.Gen.frame m ρ, frame_reference3,
  fun m ρ _ => Kernel4.Gen.frame m ρ, fun m ρ _ => Kernel4Ideal.Gen.frame m ρ, frame_reference4,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, frame_reference8,
  fun m ρ _ => Kernel9.Gen.frame m ρ, fun m ρ _ => Kernel9Ideal.Gen.frame m ρ, frame_reference9,
  fun m ρ _ => Kernel10.Gen.frame m ρ, fun m ρ _ => Kernel10Ideal.Gen.frame m ρ, frame_reference10,
  fun m ρ _ => Kernel11.Gen.frame m ρ, fun m ρ _ => Kernel11Ideal.Gen.frame m ρ, frame_reference11,
  fun m ρ _ => Kernel12.Gen.frame m ρ, fun m ρ _ => Kernel12Ideal.Gen.frame m ρ, frame_reference12,
  fun m ρ _ => Kernel13.Gen.frame m ρ, fun m ρ _ => Kernel13Ideal.Gen.frame m ρ, frame_reference13,
  fun m ρ _ => Kernel14.Gen.frame m ρ, fun m ρ _ => Kernel14Ideal.Gen.frame m ρ, frame_reference14,
  fun m ρ _ => Kernel15.Gen.frame m ρ, fun m ρ _ => Kernel15Ideal.Gen.frame m ρ, frame_reference15,
  trivial, N2.value, trivial, N1.value, trivial, N3.value, trivial, N4.value, trivial, N5.value,
  trivial, N6.value, trivial, N7.value, N8.preserves, N8.value,
  N9.preserves, N9.value, N10.preserves, N10.value, N11.preserves, N11.value,
  N12.preserves, N12.value, N13.preserves, N13.value, trivial, N14.value, trivial, N15.value⟩

end Cert.Proof

end
